-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "start" .f32 0xF149F2CA#32 ⊥
  ∧ IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x8192x64x128 : S_.BroadcastsInDim S1x8192x64x128 (![] : Fin 0 → Fin S1x8192x64x128.rank)
  reducesTo_S1x8192x64x128_S_d0_1_2_3 : S1x8192x64x128.ReducesTo [0, 1, 2, 3] S_

variable [Facts]

def fn {F : FTy → Type} [FloatOps F] (main_arg0 : FVec F S1x1024x1024 .f32) (main_arg1 : FVec F S1024x8192 .f32) (main_arg2 : FVec F S1x8192x64x128 .f32) (main_arg3 : FVec F S1x8192x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x8192x64x128 .f32 := Host.absf main_arg2
  let main_cst_2 : FVec F S_ .f32 := constant S_ .f32 0x7F800000#32
  let main_v10 : FVec F S1x8192x64x128 .f32 := broadcastInDim S1x8192x64x128 ![] bcast_S_S1x8192x64x128 main_cst_2
  let main_v11 : IVec S1x8192x64x128 1 := cmpf .olt main_v9 main_v10
  let main_c_3 : IVec S_ 1 := constantI S_ 1 1#1
  let main_v12 : IVec S_ 1 := (fun x v => Host.reduce IntOp.andi x v reducesTo_S1x8192x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩
abbrev S1024x8x128 : Shape := ⟨3, ![1024, 8, 128]⟩
abbrev S8x1024x128 : Shape := ⟨3, ![8, 1024, 128]⟩
abbrev S1024x64x128 : Shape := ⟨3, ![1024, 64, 128]⟩
abbrev S1024x8x8x128 : Shape := ⟨4, ![1024, 8, 8, 128]⟩
abbrev S8x8x1024x128 : Shape := ⟨4, ![8, 8, 1024, 128]⟩
abbrev S8 : Shape := ⟨1, ![8]⟩
abbrev S8x1 : Shape := ⟨2, ![8, 1]⟩
abbrev S1 : Shape := ⟨1, ![1]⟩
abbrev S1x1 : Shape := ⟨2, ![1, 1]⟩
abbrev S1024x16 : Shape := ⟨2, ![1024, 16]⟩
abbrev S2x128x1024 : Shape := ⟨3, ![2, 128, 1024]⟩
abbrev S2 : Shape := ⟨1, ![2]⟩
abbrev S7 : Shape := ⟨1, ![7]⟩
abbrev S14 : Shape := ⟨1, ![14]⟩
abbrev S1x8x1024x128 : Shape := ⟨4, ![1, 8, 1024, 128]⟩
abbrev S1024x8 : Shape := ⟨2, ![1024, 8]⟩
abbrev S1x1x1024x128 : Shape := ⟨4, ![1, 1, 1024, 128]⟩
abbrev S1024x128 : Shape := ⟨2, ![1024, 128]⟩
abbrev S1x1024x128 : Shape := ⟨3, ![1, 1024, 128]⟩
abbrev S1024x1 : Shape := ⟨2, ![1024, 1]⟩
abbrev S1024 : Shape := ⟨1, ![1024]⟩
abbrev S128x1024 : Shape := ⟨2, ![128, 1024]⟩
abbrev S1x128x1024 : Shape := ⟨3, ![1, 128, 1024]⟩

abbrev nBuf : Space → Nat
  | .hbm => 126
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x8x128, .f32⟩
  | .hbm, ⟨17, _⟩ => ⟨S8x1024x128, .f32⟩
  | .hbm, ⟨18, _⟩ => ⟨S8x1024x128, .bf16⟩
  | .hbm, ⟨19, _⟩ => ⟨S1024x1024, .bf16⟩
  | .hbm, ⟨20, _⟩ => ⟨S1024x64x128, .f32⟩
  | .hbm, ⟨21, _⟩ => ⟨S1024x8x8x128, .f32⟩
  | .hbm, ⟨22, _⟩ => ⟨S8x8x1024x128, .f32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S_, .i32⟩
  | .hbm, ⟨41, _⟩ => ⟨S_, .i1⟩
  | .hbm, ⟨42, _⟩ => ⟨S8, .i1⟩
  | .hbm, ⟨43, _⟩ => ⟨S8, .i1⟩
  | .hbm, ⟨44, _⟩ => ⟨S8, .i1⟩
  | .hbm, ⟨45, _⟩ => ⟨S8, .i32⟩
  | .hbm, ⟨46, _⟩ => ⟨S8, .i32⟩
  | .hbm, ⟨47, _⟩ => ⟨S8, .i32⟩
  | .hbm, ⟨48, _⟩ => ⟨S_, .i32⟩
  | .hbm, ⟨49, _⟩ => ⟨S8, .i32⟩
  | .hbm, ⟨50, _⟩ => ⟨S8, .i1⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S8, .i32⟩
  | .hbm, ⟨55, _⟩ => ⟨S8x1, .i32⟩
  | .hbm, ⟨56, _⟩ => ⟨S1, .i32⟩
  | .hbm, ⟨57, _⟩ => ⟨S_, .i32⟩
  | .hbm, ⟨58, _⟩ => ⟨S8x1, .i32⟩
  | .hbm, ⟨59, _⟩ => ⟨S8x1, .i1⟩
  | .hbm, ⟨60, _⟩ => ⟨S1x1, .i32⟩
  | .hbm, ⟨61, _⟩ => ⟨S8x1, .i32⟩
  | .hbm, ⟨62, _⟩ => ⟨S8x1, .i1⟩
  | .hbm, ⟨63, _⟩ => ⟨S8x1, .i1⟩
  | .hbm, ⟨64, _⟩ => ⟨S_, .i1⟩
  | .hbm, ⟨65, _⟩ => ⟨S8, .i1⟩
  | .hbm, ⟨66, _⟩ => ⟨S8x8x1024x128, .f32⟩
  | .hbm, ⟨67, _⟩ => ⟨S8x8x1024x128, .i1⟩
  | .hbm, ⟨68, _⟩ => ⟨S_, .f32⟩
  | .hbm, ⟨69, _⟩ => ⟨S8x8x1024x128, .f32⟩
  | .hbm, ⟨70, _⟩ => ⟨S8x8x1024x128, .f32⟩
  | .hbm, ⟨71, _⟩ => ⟨S8x8x1024x128, .bf16⟩
  | .hbm, ⟨72, _⟩ => ⟨S1024x64x128, .f32⟩
  | .hbm, ⟨73, _⟩ => ⟨S1024x8x8x128, .f32⟩
  | .hbm, ⟨74, _⟩ => ⟨S8x8x1024x128, .f32⟩
  | .hbm, ⟨75, _⟩ => ⟨S8, .i32⟩
  | .hbm, ⟨76, _⟩ => ⟨S8, .i32⟩
  | .hbm, ⟨77, _⟩ => ⟨S8, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S8, .i32⟩
  | .hbm, ⟨85, _⟩ => ⟨S8, .i32⟩
  | .hbm, ⟨86, _⟩ => ⟨S_, .i32⟩
  | .hbm, ⟨87, _⟩ => ⟨S8, .i32⟩
  | .hbm, ⟨88, _⟩ => ⟨S8, .i1⟩
  | .hbm, ⟨89, _⟩ => ⟨S_, .i32⟩
  | .hbm, ⟨90, _⟩ => ⟨S8, .i32⟩
  | .hbm, ⟨91, _⟩ => ⟨S8, .i1⟩
  | .hbm, ⟨92, _⟩ => ⟨S_, .i32⟩
  | .hbm, ⟨93, _⟩ => ⟨S_, .i1⟩
  | .hbm, ⟨94, _⟩ => ⟨S8, .i1⟩
  | .hbm, ⟨95, _⟩ => ⟨S8, .i1⟩
  | .hbm, ⟨96, _⟩ => ⟨S8, .i1⟩
  | .hbm, ⟨97, _⟩ => ⟨S8, .i32⟩
  | .hbm, ⟨98, _⟩ => ⟨S8, .i32⟩
  | .hbm, ⟨99, _⟩ => ⟨S8, .i32⟩
  | .hbm, ⟨100, _⟩ => ⟨S_, .i32⟩
  | .hbm, ⟨101, _⟩ => ⟨S8, .i32⟩
  | .hbm, ⟨102, _⟩ => ⟨S8, .i1⟩
  | .hbm, ⟨103, _⟩ => ⟨S_, .i32⟩
  | .hbm, ⟨104, _⟩ => ⟨S8, .i32⟩
  | .hbm, ⟨105, _⟩ => ⟨S8, .i32⟩
  | .hbm, ⟨106, _⟩ => ⟨S8, .i32⟩
  | .hbm, ⟨107, _⟩ => ⟨S8x1, .i32⟩
  | .hbm, ⟨108, _⟩ => ⟨S1, .i32⟩
  | .hbm, ⟨109, _⟩ => ⟨S_, .i32⟩
  | .hbm, ⟨110, _⟩ => ⟨S8x1, .i32⟩
  | .hbm, ⟨111, _⟩ => ⟨S8x1, .i1⟩
  | .hbm, ⟨112, _⟩ => ⟨S1x1, .i32⟩
  | .hbm, ⟨113, _⟩ => ⟨S8x1, .i32⟩
  | .hbm, ⟨114, _⟩ => ⟨S8x1, .i1⟩
  | .hbm, ⟨115, _⟩ => ⟨S8x1, .i1⟩
  | .hbm, ⟨116, _⟩ => ⟨S_, .i1⟩
  | .hbm, ⟨117, _⟩ => ⟨S8, .i1⟩
  | .hbm, ⟨118, _⟩ => ⟨S8x8x1024x128, .f32⟩
  | .hbm, ⟨119, _⟩ => ⟨S8x8x1024x128, .i1⟩
  | .hbm, ⟨120, _⟩ => ⟨S_, .f32⟩
  | .hbm, ⟨121, _⟩ => ⟨S8x8x1024x128, .f32⟩
  | .hbm, ⟨122, _⟩ => ⟨S8x8x1024x128, .f32⟩
  | .hbm, ⟨123, _⟩ => ⟨S8x8x1024x128, .bf16⟩
  | .hbm, ⟨124, _⟩ => ⟨S1024x1024, .f32⟩
  | .hbm, ⟨125, _⟩ => ⟨S1x1024x1024, .f32⟩
  | .local _ .vmem, ⟨0, _⟩ => ⟨S8x1024x128, .bf16⟩
  | .local _ .vmem, ⟨1, _⟩ => ⟨S1024x1024, .bf16⟩
  | .local _ .vmem, ⟨2, _⟩ => ⟨S1024x1024, .f32⟩
  | .local _ .vmem, ⟨3, _⟩ => ⟨S8x8x1024x128, .bf16⟩
  | .local _ .vmem, ⟨4, _⟩ => ⟨S8x8x1024x128, .bf16⟩
  | .local _ .vmem, ⟨5, _⟩ => ⟨S8x1024x128, .f32⟩
  | .local _ .vmem, ⟨6, _⟩ => ⟨S1024x16, .f32⟩
  | .local _ .vmem, ⟨7, _⟩ => ⟨S1024x1024, .f32⟩
  | .local _ .vmem, ⟨8, _⟩ => ⟨S1024x1024, .bf16⟩
  | .local _ .vmem, ⟨9, _⟩ => ⟨S2x128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 3 61 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v19 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_c_2 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v28 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_82 : BitVec 32 := 1#32
  let v107 : BitVec 32 := Scalar.addi v2 c1_i32_82
  let c8_i32_83 : BitVec 32 := 8#32
  let c0_i32_84 : BitVec 32 := 0#32
  let v108 : BitVec 1 := Scalar.cmpi .eq c8_i32_83 c0_i32_84
  let c1_i32_85 : BitVec 32 := 1#32
  let v109 : BitVec 32 := Scalar.select v108 c1_i32_85 c8_i32_83
  let v110 : BitVec 32 := Scalar.remsi v107 v109
  let c0_i32_87 : BitVec 32 := 0#32
  let v112 : BitVec 1 := Scalar.cmpi .slt v110 c0_i32_87
  let c0_i32_88 : BitVec 32 := 0#32
  let v113 : BitVec 1 := Scalar.cmpi .slt v109 c0_i32_88
  let v114 : BitVec 1 := Scalar.xori v112 v113
  let c0_i32_86 : BitVec 32 := 0#32
  let v111 : BitVec 1 := Scalar.cmpi .ne v110 c0_i32_86
  let v115 : BitVec 1 := Scalar.andi v114 v111
  let v116 : BitVec 32 := Scalar.addi v110 v109
  let v117 : BitVec 32 := Scalar.select v115 v116 v110
  let c1_i32_93 : BitVec 32 := 1#32
  let v118 : BitVec 32 := Scalar.muli v117 c1_i32_93
  let v119 : BitVec 32 := Scalar.addi c0_i32_94 v118
  v119.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_82 : BitVec 32 := 1#32
  let v107 : BitVec 32 := Scalar.addi v2 c1_i32_82
  let c8_i32_83 : BitVec 32 := 8#32
  let c0_i32_84 : BitVec 32 := 0#32
  let v108 : BitVec 1 := Scalar.cmpi .eq c8_i32_83 c0_i32_84
  let c1_i32_85 : BitVec 32 := 1#32
  let v109 : BitVec 32 := Scalar.select v108 c1_i32_85 c8_i32_83
  let v110 : BitVec 32 := Scalar.remsi v107 v109
  let c0_i32_87 : BitVec 32 := 0#32
  let v112 : BitVec 1 := Scalar.cmpi .slt v110 c0_i32_87
  let c0_i32_88 : BitVec 32 := 0#32
  let v113 : BitVec 1 := Scalar.cmpi .slt v109 c0_i32_88
  let v114 : BitVec 1 := Scalar.xori v112 v113
  let c0_i32_86 : BitVec 32 := 0#32
  let v111 : BitVec 1 := Scalar.cmpi .ne v110 c0_i32_86
  let v115 : BitVec 1 := Scalar.andi v114 v111
  let v116 : BitVec 32 := Scalar.addi v110 v109
  let v117 : BitVec 32 := Scalar.select v115 v116 v110
  let c1_i32_105 : BitVec 32 := 1#32
  let v128 : BitVec 32 := Scalar.muli v117 c1_i32_105
  let v129 : BitVec 32 := Scalar.addi c0_i32_106 v128
  v129.toNat
def k0_dev10 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_113 : BitVec 32 := 2#32
  let v138 : BitVec 32 := Scalar.addi v2 c2_i32_113
  let c8_i32_114 : BitVec 32 := 8#32
  let c0_i32_115 : BitVec 32 := 0#32
  let v139 : BitVec 1 := Scalar.cmpi .eq c8_i32_114 c0_i32_115
  let c1_i32_116 : BitVec 32 := 1#32
  let v140 : BitVec 32 := Scalar.select v139 c1_i32_116 c8_i32_114
  let v141 : BitVec 32 := Scalar.remsi v138 v140
  let c0_i32_118 : BitVec 32 := 0#32
  let v143 : BitVec 1 := Scalar.cmpi .slt v141 c0_i32_118
  let c0_i32_119 : BitVec 32 := 0#32
  let v144 : BitVec 1 := Scalar.cmpi .slt v140 c0_i32_119
  let v145 : BitVec 1 := Scalar.xori v143 v144
  let c0_i32_117 : BitVec 32 := 0#32
  let v142 : BitVec 1 := Scalar.cmpi .ne v141 c0_i32_117
  let v146 : BitVec 1 := Scalar.andi v145 v142
  let v147 : BitVec 32 := Scalar.addi v141 v140
  let v148 : BitVec 32 := Scalar.select v146 v147 v141
  let c1_i32_124 : BitVec 32 := 1#32
  let v149 : BitVec 32 := Scalar.muli v148 c1_i32_124
  let v150 : BitVec 32 := Scalar.addi c0_i32_125 v149
  v150.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_113 : BitVec 32 := 2#32
  let v138 : BitVec 32 := Scalar.addi v2 c2_i32_113
  let c8_i32_114 : BitVec 32 := 8#32
  let c0_i32_115 : BitVec 32 := 0#32
  let v139 : BitVec 1 := Scalar.cmpi .eq c8_i32_114 c0_i32_115
  let c1_i32_116 : BitVec 32 := 1#32
  let v140 : BitVec 32 := Scalar.select v139 c1_i32_116 c8_i32_114
  let v141 : BitVec 32 := Scalar.remsi v138 v140
  let c0_i32_118 : BitVec 32 := 0#32
  let v143 : BitVec 1 := Scalar.cmpi .slt v141 c0_i32_118
  let c0_i32_119 : BitVec 32 := 0#32
  let v144 : BitVec 1 := Scalar.cmpi .slt v140 c0_i32_119
  let v145 : BitVec 1 := Scalar.xori v143 v144
  let c0_i32_117 : BitVec 32 := 0#32
  let v142 : BitVec 1 := Scalar.cmpi .ne v141 c0_i32_117
  let v146 : BitVec 1 := Scalar.andi v145 v142
  let v147 : BitVec 32 := Scalar.addi v141 v140
  let v148 : BitVec 32 := Scalar.select v146 v147 v141
  let c1_i32_136 : BitVec 32 := 1#32
  let v159 : BitVec 32 := Scalar.muli v148 c1_i32_136
  let v160 : BitVec 32 := Scalar.addi c0_i32_137 v159
  v160.toNat
def k0_dev12 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_144 : BitVec 32 := 3#32
  let v169 : BitVec 32 := Scalar.addi v2 c3_i32_144
  let c8_i32_145 : BitVec 32 := 8#32
  let c0_i32_146 : BitVec 32 := 0#32
  let v170 : BitVec 1 := Scalar.cmpi .eq c8_i32_145 c0_i32_146
  let c1_i32_147 : BitVec 32 := 1#32
  let v171 : BitVec 32 := Scalar.select v170 c1_i32_147 c8_i32_145
  let v172 : BitVec 32 := Scalar.remsi v169 v171
  let c0_i32_149 : BitVec 32 := 0#32
  let v174 : BitVec 1 := Scalar.cmpi .slt v172 c0_i32_149
  let c0_i32_150 : BitVec 32 := 0#32
  let v175 : BitVec 1 := Scalar.cmpi .slt v171 c0_i32_150
  let v176 : BitVec 1 := Scalar.xori v174 v175
  let c0_i32_148 : BitVec 32 := 0#32
  let v173 : BitVec 1 := Scalar.cmpi .ne v172 c0_i32_148
  let v177 : BitVec 1 := Scalar.andi v176 v173
  let v178 : BitVec 32 := Scalar.addi v172 v171
  let v179 : BitVec 32 := Scalar.select v177 v178 v172
  let c1_i32_155 : BitVec 32 := 1#32
  let v180 : BitVec 32 := Scalar.muli v179 c1_i32_155
  let v181 : BitVec 32 := Scalar.addi c0_i32_156 v180
  v181.toNat
def k0_dev13 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_144 : BitVec 32 := 3#32
  let v169 : BitVec 32 := Scalar.addi v2 c3_i32_144
  let c8_i32_145 : BitVec 32 := 8#32
  let c0_i32_146 : BitVec 32 := 0#32
  let v170 : BitVec 1 := Scalar.cmpi .eq c8_i32_145 c0_i32_146
  let c1_i32_147 : BitVec 32 := 1#32
  let v171 : BitVec 32 := Scalar.select v170 c1_i32_147 c8_i32_145
  let v172 : BitVec 32 := Scalar.remsi v169 v171
  let c0_i32_149 : BitVec 32 := 0#32
  let v174 : BitVec 1 := Scalar.cmpi .slt v172 c0_i32_149
  let c0_i32_150 : BitVec 32 := 0#32
  let v175 : BitVec 1 := Scalar.cmpi .slt v171 c0_i32_150
  let v176 : BitVec 1 := Scalar.xori v174 v175
  let c0_i32_148 : BitVec 32 := 0#32
  let v173 : BitVec 1 := Scalar.cmpi .ne v172 c0_i32_148
  let v177 : BitVec 1 := Scalar.andi v176 v173
  let v178 : BitVec 32 := Scalar.addi v172 v171
  let v179 : BitVec 32 := Scalar.select v177 v178 v172
  let c1_i32_167 : BitVec 32 := 1#32
  let v190 : BitVec 32 := Scalar.muli v179 c1_i32_167
  let v191 : BitVec 32 := Scalar.addi c0_i32_168 v190
  v191.toNat
def k0_dev14 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_175 : BitVec 32 := 4#32
  let v200 : BitVec 32 := Scalar.addi v2 c4_i32_175
  let c8_i32_176 : BitVec 32 := 8#32
  let c0_i32_177 : BitVec 32 := 0#32
  let v201 : BitVec 1 := Scalar.cmpi .eq c8_i32_176 c0_i32_177
  let c1_i32_178 : BitVec 32 := 1#32
  let v202 : BitVec 32 := Scalar.select v201 c1_i32_178 c8_i32_176
  let v203 : BitVec 32 := Scalar.remsi v200 v202
  let c0_i32_180 : BitVec 32 := 0#32
  let v205 : BitVec 1 := Scalar.cmpi .slt v203 c0_i32_180
  let c0_i32_181 : BitVec 32 := 0#32
  let v206 : BitVec 1 := Scalar.cmpi .slt v202 c0_i32_181
  let v207 : BitVec 1 := Scalar.xori v205 v206
  let c0_i32_179 : BitVec 32 := 0#32
  let v204 : BitVec 1 := Scalar.cmpi .ne v203 c0_i32_179
  let v208 : BitVec 1 := Scalar.andi v207 v204
  let v209 : BitVec 32 := Scalar.addi v203 v202
  let v210 : BitVec 32 := Scalar.select v208 v209 v203
  let c1_i32_186 : BitVec 32 := 1#32
  let v211 : BitVec 32 := Scalar.muli v210 c1_i32_186
  let v212 : BitVec 32 := Scalar.addi c0_i32_187 v211
  v212.toNat
def k0_dev15 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_175 : BitVec 32 := 4#32
  let v200 : BitVec 32 := Scalar.addi v2 c4_i32_175
  let c8_i32_176 : BitVec 32 := 8#32
  let c0_i32_177 : BitVec 32 := 0#32
  let v201 : BitVec 1 := Scalar.cmpi .eq c8_i32_176 c0_i32_177
  let c1_i32_178 : BitVec 32 := 1#32
  let v202 : BitVec 32 := Scalar.select v201 c1_i32_178 c8_i32_176
  let v203 : BitVec 32 := Scalar.remsi v200 v202
  let c0_i32_180 : BitVec 32 := 0#32
  let v205 : BitVec 1 := Scalar.cmpi .slt v203 c0_i32_180
  let c0_i32_181 : BitVec 32 := 0#32
  let v206 : BitVec 1 := Scalar.cmpi .slt v202 c0_i32_181
  let v207 : BitVec 1 := Scalar.xori v205 v206
  let c0_i32_179 : BitVec 32 := 0#32
  let v204 : BitVec 1 := Scalar.cmpi .ne v203 c0_i32_179
  let v208 : BitVec 1 := Scalar.andi v207 v204
  let v209 : BitVec 32 := Scalar.addi v203 v202
  let v210 : BitVec 32 := Scalar.select v208 v209 v203
  let c1_i32_198 : BitVec 32 := 1#32
  let v221 : BitVec 32 := Scalar.muli v210 c1_i32_198
  let v222 : BitVec 32 := Scalar.addi c0_i32_199 v221
  v222.toNat
def k0_dev16 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_206 : BitVec 32 := 5#32
  let v231 : BitVec 32 := Scalar.addi v2 c5_i32_206
  let c8_i32_207 : BitVec 32 := 8#32
  let c0_i32_208 : BitVec 32 := 0#32
  let v232 : BitVec 1 := Scalar.cmpi .eq c8_i32_207 c0_i32_208
  let c1_i32_209 : BitVec 32 := 1#32
  let v233 : BitVec 32 := Scalar.select v232 c1_i32_209 c8_i32_207
  let v234 : BitVec 32 := Scalar.remsi v231 v233
  let c0_i32_211 : BitVec 32 := 0#32
  let v236 : BitVec 1 := Scalar.cmpi .slt v234 c0_i32_211
  let c0_i32_212 : BitVec 32 := 0#32
  let v237 : BitVec 1 := Scalar.cmpi .slt v233 c0_i32_212
  let v238 : BitVec 1 := Scalar.xori v236 v237
  let c0_i32_210 : BitVec 32 := 0#32
  let v235 : BitVec 1 := Scalar.cmpi .ne v234 c0_i32_210
  let v239 : BitVec 1 := Scalar.andi v238 v235
  let v240 : BitVec 32 := Scalar.addi v234 v233
  let v241 : BitVec 32 := Scalar.select v239 v240 v234
  let c1_i32_217 : BitVec 32 := 1#32
  let v242 : BitVec 32 := Scalar.muli v241 c1_i32_217
  let v243 : BitVec 32 := Scalar.addi c0_i32_218 v242
  v243.toNat
def k0_dev17 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_206 : BitVec 32 := 5#32
  let v231 : BitVec 32 := Scalar.addi v2 c5_i32_206
  let c8_i32_207 : BitVec 32 := 8#32
  let c0_i32_208 : BitVec 32 := 0#32
  let v232 : BitVec 1 := Scalar.cmpi .eq c8_i32_207 c0_i32_208
  let c1_i32_209 : BitVec 32 := 1#32
  let v233 : BitVec 32 := Scalar.select v232 c1_i32_209 c8_i32_207
  let v234 : BitVec 32 := Scalar.remsi v231 v233
  let c0_i32_211 : BitVec 32 := 0#32
  let v236 : BitVec 1 := Scalar.cmpi .slt v234 c0_i32_211
  let c0_i32_212 : BitVec 32 := 0#32
  let v237 : BitVec 1 := Scalar.cmpi .slt v233 c0_i32_212
  let v238 : BitVec 1 := Scalar.xori v236 v237
  let c0_i32_210 : BitVec 32 := 0#32
  let v235 : BitVec 1 := Scalar.cmpi .ne v234 c0_i32_210
  let v239 : BitVec 1 := Scalar.andi v238 v235
  let v240 : BitVec 32 := Scalar.addi v234 v233
  let v241 : BitVec 32 := Scalar.select v239 v240 v234
  let c1_i32_229 : BitVec 32 := 1#32
  let v252 : BitVec 32 := Scalar.muli v241 c1_i32_229
  let v253 : BitVec 32 := Scalar.addi c0_i32_230 v252
  v253.toNat
def k0_dev18 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_237 : BitVec 32 := 6#32
  let v262 : BitVec 32 := Scalar.addi v2 c6_i32_237
  let c8_i32_238 : BitVec 32 := 8#32
  let c0_i32_239 : BitVec 32 := 0#32
  let v263 : BitVec 1 := Scalar.cmpi .eq c8_i32_238 c0_i32_239
  let c1_i32_240 : BitVec 32 := 1#32
  let v264 : BitVec 32 := Scalar.select v263 c1_i32_240 c8_i32_238
  let v265 : BitVec 32 := Scalar.remsi v262 v264
  let c0_i32_242 : BitVec 32 := 0#32
  let v267 : BitVec 1 := Scalar.cmpi .slt v265 c0_i32_242
  let c0_i32_243 : BitVec 32 := 0#32
  let v268 : BitVec 1 := Scalar.cmpi .slt v264 c0_i32_243
  let v269 : BitVec 1 := Scalar.xori v267 v268
  let c0_i32_241 : BitVec 32 := 0#32
  let v266 : BitVec 1 := Scalar.cmpi .ne v265 c0_i32_241
  let v270 : BitVec 1 := Scalar.andi v269 v266
  let v271 : BitVec 32 := Scalar.addi v265 v264
  let v272 : BitVec 32 := Scalar.select v270 v271 v265
  let c1_i32_248 : BitVec 32 := 1#32
  let v273 : BitVec 32 := Scalar.muli v272 c1_i32_248
  let v274 : BitVec 32 := Scalar.addi c0_i32_249 v273
  v274.toNat
def k0_dev19 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_237 : BitVec 32 := 6#32
  let v262 : BitVec 32 := Scalar.addi v2 c6_i32_237
  let c8_i32_238 : BitVec 32 := 8#32
  let c0_i32_239 : BitVec 32 := 0#32
  let v263 : BitVec 1 := Scalar.cmpi .eq c8_i32_238 c0_i32_239
  let c1_i32_240 : BitVec 32 := 1#32
  let v264 : BitVec 32 := Scalar.select v263 c1_i32_240 c8_i32_238
  let v265 : BitVec 32 := Scalar.remsi v262 v264
  let c0_i32_242 : BitVec 32 := 0#32
  let v267 : BitVec 1 := Scalar.cmpi .slt v265 c0_i32_242
  let c0_i32_243 : BitVec 32 := 0#32
  let v268 : BitVec 1 := Scalar.cmpi .slt v264 c0_i32_243
  let v269 : BitVec 1 := Scalar.xori v267 v268
  let c0_i32_241 : BitVec 32 := 0#32
  let v266 : BitVec 1 := Scalar.cmpi .ne v265 c0_i32_241
  let v270 : BitVec 1 := Scalar.andi v269 v266
  let v271 : BitVec 32 := Scalar.addi v265 v264
  let v272 : BitVec 32 := Scalar.select v270 v271 v265
  let c1_i32_260 : BitVec 32 := 1#32
  let v283 : BitVec 32 := Scalar.muli v272 c1_i32_260
  let v284 : BitVec 32 := Scalar.addi c0_i32_261 v283
  v284.toNat
def k0_dev20 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_268 : BitVec 32 := 7#32
  let v293 : BitVec 32 := Scalar.addi v2 c7_i32_268
  let c8_i32_269 : BitVec 32 := 8#32
  let c0_i32_270 : BitVec 32 := 0#32
  let v294 : BitVec 1 := Scalar.cmpi .eq c8_i32_269 c0_i32_270
  let c1_i32_271 : BitVec 32 := 1#32
  let v295 : BitVec 32 := Scalar.select v294 c1_i32_271 c8_i32_269
  let v296 : BitVec 32 := Scalar.remsi v293 v295
  let c0_i32_273 : BitVec 32 := 0#32
  let v298 : BitVec 1 := Scalar.cmpi .slt v296 c0_i32_273
  let c0_i32_274 : BitVec 32 := 0#32
  let v299 : BitVec 1 := Scalar.cmpi .slt v295 c0_i32_274
  let v300 : BitVec 1 := Scalar.xori v298 v299
  let c0_i32_272 : BitVec 32 := 0#32
  let v297 : BitVec 1 := Scalar.cmpi .ne v296 c0_i32_272
  let v301 : BitVec 1 := Scalar.andi v300 v297
  let v302 : BitVec 32 := Scalar.addi v296 v295
  let v303 : BitVec 32 := Scalar.select v301 v302 v296
  let c1_i32_279 : BitVec 32 := 1#32
  let v304 : BitVec 32 := Scalar.muli v303 c1_i32_279
  let v305 : BitVec 32 := Scalar.addi c0_i32_280 v304
  v305.toNat
def k0_dev21 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_268 : BitVec 32 := 7#32
  let v293 : BitVec 32 := Scalar.addi v2 c7_i32_268
  let c8_i32_269 : BitVec 32 := 8#32
  let c0_i32_270 : BitVec 32 := 0#32
  let v294 : BitVec 1 := Scalar.cmpi .eq c8_i32_269 c0_i32_270
  let c1_i32_271 : BitVec 32 := 1#32
  let v295 : BitVec 32 := Scalar.select v294 c1_i32_271 c8_i32_269
  let v296 : BitVec 32 := Scalar.remsi v293 v295
  let c0_i32_273 : BitVec 32 := 0#32
  let v298 : BitVec 1 := Scalar.cmpi .slt v296 c0_i32_273
  let c0_i32_274 : BitVec 32 := 0#32
  let v299 : BitVec 1 := Scalar.cmpi .slt v295 c0_i32_274
  let v300 : BitVec 1 := Scalar.xori v298 v299
  let c0_i32_272 : BitVec 32 := 0#32
  let v297 : BitVec 1 := Scalar.cmpi .ne v296 c0_i32_272
  let v301 : BitVec 1 := Scalar.andi v300 v297
  let v302 : BitVec 32 := Scalar.addi v296 v295
  let v303 : BitVec 32 := Scalar.select v301 v302 v296
  let c1_i32_291 : BitVec 32 := 1#32
  let v314 : BitVec 32 := Scalar.muli v303 c1_i32_291
  let v315 : BitVec 32 := Scalar.addi c0_i32_292 v314
  v315.toNat
@[reducible] def k0_t1_loop : Scf.Loop 32 :=
  let c0_i32_380 : BitVec 32 := 0#32
  let c8_i32_381 : BitVec 32 := 8#32
  let v348 : BitVec 32 := Scalar.addi c0_i32_380 c8_i32_381
  let c1_i32_382 : BitVec 32 := 1#32
  ⟨c0_i32_380, v348, c1_i32_382⟩
def k0_off1 (k0_t1 : Fin k0_t1_loop.trips) : Fin 4 → Nat :=
  let c8_i32_1333 : BitVec 32 := 8#32
  let c0_i32_380 : BitVec 32 := 0#32
  let c1_i32_382 : BitVec 32 := 1#32
  let arg20 : BitVec 32 := Scf.iv c0_i32_380 c1_i32_382 k0_t1
  let v1363 : BitVec 32 := Scalar.subi c8_i32_1333 arg20
  let c8_i32_1334 : BitVec 32 := 8#32
  let c0_i32_1335 : BitVec 32 := 0#32
  let v1364 : BitVec 1 := Scalar.cmpi .eq c8_i32_1334 c0_i32_1335
  let c1_i32_1336 : BitVec 32 := 1#32
  let v1365 : BitVec 32 := Scalar.select v1364 c1_i32_1336 c8_i32_1334
  let v1366 : BitVec 32 := Scalar.remsi v1363 v1365
  let c0_i32_1338 : BitVec 32 := 0#32
  let v1368 : BitVec 1 := Scalar.cmpi .slt v1366 c0_i32_1338
  let c0_i32_1339 : BitVec 32 := 0#32
  let v1369 : BitVec 1 := Scalar.cmpi .slt v1365 c0_i32_1339
  let v1370 : BitVec 1 := Scalar.xori v1368 v1369
  let c0_i32_1337 : BitVec 32 := 0#32
  let v1367 : BitVec 1 := Scalar.cmpi .ne v1366 c0_i32_1337
  let v1371 : BitVec 1 := Scalar.andi v1370 v1367
  let v1372 : BitVec 32 := Scalar.addi v1366 v1365
  let v1373 : BitVec 32 := Scalar.select v1371 v1372 v1366
  let v1490 : Index := Scalar.indexCast v1373
  let c0_1385 : Index := 0#32
  let c0_1386 : Index := 0#32
  let c0_1387 : Index := 0#32
  ![v1490.toNat, 0, 0, 0]
def k0_off2 (k0_t1 : Fin k0_t1_loop.trips) : Fin 4 → Nat :=
  let c8_i32_1333 : BitVec 32 := 8#32
  let c0_i32_380 : BitVec 32 := 0#32
  let c1_i32_382 : BitVec 32 := 1#32
  let arg20 : BitVec 32 := Scf.iv c0_i32_380 c1_i32_382 k0_t1
  let v1363 : BitVec 32 := Scalar.subi c8_i32_1333 arg20
  let c8_i32_1334 : BitVec 32 := 8#32
  let c0_i32_1335 : BitVec 32 := 0#32
  let v1364 : BitVec 1 := Scalar.cmpi .eq c8_i32_1334 c0_i32_1335
  let c1_i32_1336 : BitVec 32 := 1#32
  let v1365 : BitVec 32 := Scalar.select v1364 c1_i32_1336 c8_i32_1334
  let v1366 : BitVec 32 := Scalar.remsi v1363 v1365
  let c0_i32_1338 : BitVec 32 := 0#32
  let v1368 : BitVec 1 := Scalar.cmpi .slt v1366 c0_i32_1338
  let c0_i32_1339 : BitVec 32 := 0#32
  let v1369 : BitVec 1 := Scalar.cmpi .slt v1365 c0_i32_1339
  let v1370 : BitVec 1 := Scalar.xori v1368 v1369
  let c0_i32_1337 : BitVec 32 := 0#32
  let v1367 : BitVec 1 := Scalar.cmpi .ne v1366 c0_i32_1337
  let v1371 : BitVec 1 := Scalar.andi v1370 v1367
  let v1372 : BitVec 32 := Scalar.addi v1366 v1365
  let v1373 : BitVec 32 := Scalar.select v1371 v1372 v1366
  let v1542 : Index := Scalar.indexCast v1373
  let c1_1426 : Index := 1#32
  let c0_1427 : Index := 0#32
  let c0_1428 : Index := 0#32
  ![v1542.toNat, 1, 0, 0]
def k0_off3 (k0_t1 : Fin k0_t1_loop.trips) : Fin 4 → Nat :=
  let c8_i32_1333 : BitVec 32 := 8#32
  let c0_i32_380 : BitVec 32 := 0#32
  let c1_i32_382 : BitVec 32 := 1#32
  let arg20 : BitVec 32 := Scf.iv c0_i32_380 c1_i32_382 k0_t1
  let v1363 : BitVec 32 := Scalar.subi c8_i32_1333 arg20
  let c8_i32_1334 : BitVec 32 := 8#32
  let c0_i32_1335 : BitVec 32 := 0#32
  let v1364 : BitVec 1 := Scalar.cmpi .eq c8_i32_1334 c0_i32_1335
  let c1_i32_1336 : BitVec 32 := 1#32
  let v1365 : BitVec 32 := Scalar.select v1364 c1_i32_1336 c8_i32_1334
  let v1366 : BitVec 32 := Scalar.remsi v1363 v1365
  let c0_i32_1338 : BitVec 32 := 0#32
  let v1368 : BitVec 1 := Scalar.cmpi .slt v1366 c0_i32_1338
  let c0_i32_1339 : BitVec 32 := 0#32
  let v1369 : BitVec 1 := Scalar.cmpi .slt v1365 c0_i32_1339
  let v1370 : BitVec 1 := Scalar.xori v1368 v1369
  let c0_i32_1337 : BitVec 32 := 0#32
  let v1367 : BitVec 1 := Scalar.cmpi .ne v1366 c0_i32_1337
  let v1371 : BitVec 1 := Scalar.andi v1370 v1367
  let v1372 : BitVec 32 := Scalar.addi v1366 v1365
  let v1373 : BitVec 32 := Scalar.select v1371 v1372 v1366
  let v1594 : Index := Scalar.indexCast v1373
  let c2_1467 : Index := 2#32
  let c0_1468 : Index := 0#32
  let c0_1469 : Index := 0#32
  ![v1594.toNat, 2, 0, 0]
def k0_off4 (k0_t1 : Fin k0_t1_loop.trips) : Fin 4 → Nat :=
  let c8_i32_1333 : BitVec 32 := 8#32
  let c0_i32_380 : BitVec 32 := 0#32
  let c1_i32_382 : BitVec 32 := 1#32
  let arg20 : BitVec 32 := Scf.iv c0_i32_380 c1_i32_382 k0_t1
  let v1363 : BitVec 32 := Scalar.subi c8_i32_1333 arg20
  let c8_i32_1334 : BitVec 32 := 8#32
  let c0_i32_1335 : BitVec 32 := 0#32
  let v1364 : BitVec 1 := Scalar.cmpi .eq c8_i32_1334 c0_i32_1335
  let c1_i32_1336 : BitVec 32 := 1#32
  let v1365 : BitVec 32 := Scalar.select v1364 c1_i32_1336 c8_i32_1334
  let v1366 : BitVec 32 := Scalar.remsi v1363 v1365
  let c0_i32_1338 : BitVec 32 := 0#32
  let v1368 : BitVec 1 := Scalar.cmpi .slt v1366 c0_i32_1338
  let c0_i32_1339 : BitVec 32 := 0#32
  let v1369 : BitVec 1 := Scalar.cmpi .slt v1365 c0_i32_1339
  let v1370 : BitVec 1 := Scalar.xori v1368 v1369
  let c0_i32_1337 : BitVec 32 := 0#32
  let v1367 : BitVec 1 := Scalar.cmpi .ne v1366 c0_i32_1337
  let v1371 : BitVec 1 := Scalar.andi v1370 v1367
  let v1372 : BitVec 32 := Scalar.addi v1366 v1365
  let v1373 : BitVec 32 := Scalar.select v1371 v1372 v1366
  let v1646 : Index := Scalar.indexCast v1373
  let c3_1508 : Index := 3#32
  let c0_1509 : Index := 0#32
  let c0_1510 : Index := 0#32
  ![v1646.toNat, 3, 0, 0]
def k0_off5 (k0_t1 : Fin k0_t1_loop.trips) : Fin 4 → Nat :=
  let c8_i32_1333 : BitVec 32 := 8#32
  let c0_i32_380 : BitVec 32 := 0#32
  let c1_i32_382 : BitVec 32 := 1#32
  let arg20 : BitVec 32 := Scf.iv c0_i32_380 c1_i32_382 k0_t1
  let v1363 : BitVec 32 := Scalar.subi c8_i32_1333 arg20
  let c8_i32_1334 : BitVec 32 := 8#32
  let c0_i32_1335 : BitVec 32 := 0#32
  let v1364 : BitVec 1 := Scalar.cmpi .eq c8_i32_1334 c0_i32_1335
  let c1_i32_1336 : BitVec 32 := 1#32
  let v1365 : BitVec 32 := Scalar.select v1364 c1_i32_1336 c8_i32_1334
  let v1366 : BitVec 32 := Scalar.remsi v1363 v1365
  let c0_i32_1338 : BitVec 32 := 0#32
  let v1368 : BitVec 1 := Scalar.cmpi .slt v1366 c0_i32_1338
  let c0_i32_1339 : BitVec 32 := 0#32
  let v1369 : BitVec 1 := Scalar.cmpi .slt v1365 c0_i32_1339
  let v1370 : BitVec 1 := Scalar.xori v1368 v1369
  let c0_i32_1337 : BitVec 32 := 0#32
  let v1367 : BitVec 1 := Scalar.cmpi .ne v1366 c0_i32_1337
  let v1371 : BitVec 1 := Scalar.andi v1370 v1367
  let v1372 : BitVec 32 := Scalar.addi v1366 v1365
  let v1373 : BitVec 32 := Scalar.select v1371 v1372 v1366
  let v1698 : Index := Scalar.indexCast v1373
  let c4_1549 : Index := 4#32
  let c0_1550 : Index := 0#32
  let c0_1551 : Index := 0#32
  ![v1698.toNat, 4, 0, 0]
def k0_off6 (k0_t1 : Fin k0_t1_loop.trips) : Fin 4 → Nat :=
  let c8_i32_1333 : BitVec 32 := 8#32
  let c0_i32_380 : BitVec 32 := 0#32
  let c1_i32_382 : BitVec 32 := 1#32
  let arg20 : BitVec 32 := Scf.iv c0_i32_380 c1_i32_382 k0_t1
  let v1363 : BitVec 32 := Scalar.subi c8_i32_1333 arg20
  let c8_i32_1334 : BitVec 32 := 8#32
  let c0_i32_1335 : BitVec 32 := 0#32
  let v1364 : BitVec 1 := Scalar.cmpi .eq c8_i32_1334 c0_i32_1335
  let c1_i32_1336 : BitVec 32 := 1#32
  let v1365 : BitVec 32 := Scalar.select v1364 c1_i32_1336 c8_i32_1334
  let v1366 : BitVec 32 := Scalar.remsi v1363 v1365
  let c0_i32_1338 : BitVec 32 := 0#32
  let v1368 : BitVec 1 := Scalar.cmpi .slt v1366 c0_i32_1338
  let c0_i32_1339 : BitVec 32 := 0#32
  let v1369 : BitVec 1 := Scalar.cmpi .slt v1365 c0_i32_1339
  let v1370 : BitVec 1 := Scalar.xori v1368 v1369
  let c0_i32_1337 : BitVec 32 := 0#32
  let v1367 : BitVec 1 := Scalar.cmpi .ne v1366 c0_i32_1337
  let v1371 : BitVec 1 := Scalar.andi v1370 v1367
  let v1372 : BitVec 32 := Scalar.addi v1366 v1365
  let v1373 : BitVec 32 := Scalar.select v1371 v1372 v1366
  let v1750 : Index := Scalar.indexCast v1373
  let c5_1590 : Index := 5#32
  let c0_1591 : Index := 0#32
  let c0_1592 : Index := 0#32
  ![v1750.toNat, 5, 0, 0]
def k0_off7 (k0_t1 : Fin k0_t1_loop.trips) : Fin 4 → Nat :=
  let c8_i32_1333 : BitVec 32 := 8#32
  let c0_i32_380 : BitVec 32 := 0#32
  let c1_i32_382 : BitVec 32 := 1#32
  let arg20 : BitVec 32 := Scf.iv c0_i32_380 c1_i32_382 k0_t1
  let v1363 : BitVec 32 := Scalar.subi c8_i32_1333 arg20
  let c8_i32_1334 : BitVec 32 := 8#32
  let c0_i32_1335 : BitVec 32 := 0#32
  let v1364 : BitVec 1 := Scalar.cmpi .eq c8_i32_1334 c0_i32_1335
  let c1_i32_1336 : BitVec 32 := 1#32
  let v1365 : BitVec 32 := Scalar.select v1364 c1_i32_1336 c8_i32_1334
  let v1366 : BitVec 32 := Scalar.remsi v1363 v1365
  let c0_i32_1338 : BitVec 32 := 0#32
  let v1368 : BitVec 1 := Scalar.cmpi .slt v1366 c0_i32_1338
  let c0_i32_1339 : BitVec 32 := 0#32
  let v1369 : BitVec 1 := Scalar.cmpi .slt v1365 c0_i32_1339
  let v1370 : BitVec 1 := Scalar.xori v1368 v1369
  let c0_i32_1337 : BitVec 32 := 0#32
  let v1367 : BitVec 1 := Scalar.cmpi .ne v1366 c0_i32_1337
  let v1371 : BitVec 1 := Scalar.andi v1370 v1367
  let v1372 : BitVec 32 := Scalar.addi v1366 v1365
  let v1373 : BitVec 32 := Scalar.select v1371 v1372 v1366
  let v1802 : Index := Scalar.indexCast v1373
  let c6_1631 : Index := 6#32
  let c0_1632 : Index := 0#32
  let c0_1633 : Index := 0#32
  ![v1802.toNat, 6, 0, 0]
def k0_off8 (k0_t1 : Fin k0_t1_loop.trips) : Fin 4 → Nat :=
  let c8_i32_1333 : BitVec 32 := 8#32
  let c0_i32_380 : BitVec 32 := 0#32
  let c1_i32_382 : BitVec 32 := 1#32
  let arg20 : BitVec 32 := Scf.iv c0_i32_380 c1_i32_382 k0_t1
  let v1363 : BitVec 32 := Scalar.subi c8_i32_1333 arg20
  let c8_i32_1334 : BitVec 32 := 8#32
  let c0_i32_1335 : BitVec 32 := 0#32
  let v1364 : BitVec 1 := Scalar.cmpi .eq c8_i32_1334 c0_i32_1335
  let c1_i32_1336 : BitVec 32 := 1#32
  let v1365 : BitVec 32 := Scalar.select v1364 c1_i32_1336 c8_i32_1334
  let v1366 : BitVec 32 := Scalar.remsi v1363 v1365
  let c0_i32_1338 : BitVec 32 := 0#32
  let v1368 : BitVec 1 := Scalar.cmpi .slt v1366 c0_i32_1338
  let c0_i32_1339 : BitVec 32 := 0#32
  let v1369 : BitVec 1 := Scalar.cmpi .slt v1365 c0_i32_1339
  let v1370 : BitVec 1 := Scalar.xori v1368 v1369
  let c0_i32_1337 : BitVec 32 := 0#32
  let v1367 : BitVec 1 := Scalar.cmpi .ne v1366 c0_i32_1337
  let v1371 : BitVec 1 := Scalar.andi v1370 v1367
  let v1372 : BitVec 32 := Scalar.addi v1366 v1365
  let v1373 : BitVec 32 := Scalar.select v1371 v1372 v1366
  let v1854 : Index := Scalar.indexCast v1373
  let c7_1672 : Index := 7#32
  let c0_1673 : Index := 0#32
  let c0_1674 : Index := 0#32
  ![v1854.toNat, 7, 0, 0]
def k0_off9 (d0 : Dev nD) (c0_i32_471 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v472 : BitVec 32 := Scalar.subi v2 c0_i32_471
  let c8_i32_472 : BitVec 32 := 8#32
  let c0_i32_473 : BitVec 32 := 0#32
  let v473 : BitVec 1 := Scalar.cmpi .eq c8_i32_472 c0_i32_473
  let c1_i32_474 : BitVec 32 := 1#32
  let v474 : BitVec 32 := Scalar.select v473 c1_i32_474 c8_i32_472
  let v475 : BitVec 32 := Scalar.remsi v472 v474
  let c0_i32_476 : BitVec 32 := 0#32
  let v477 : BitVec 1 := Scalar.cmpi .slt v475 c0_i32_476
  let c0_i32_477 : BitVec 32 := 0#32
  let v478 : BitVec 1 := Scalar.cmpi .slt v474 c0_i32_477
  let v479 : BitVec 1 := Scalar.xori v477 v478
  let c0_i32_475 : BitVec 32 := 0#32
  let v476 : BitVec 1 := Scalar.cmpi .ne v475 c0_i32_475
  let v480 : BitVec 1 := Scalar.andi v479 v476
  let v481 : BitVec 32 := Scalar.addi v475 v474
  let v482 : BitVec 32 := Scalar.select v480 v481 v475
  let c128_i32 : BitVec 32 := 128#32
  let v495 : BitVec 32 := Scalar.muli v482 c128_i32
  let c0_i32_493 : BitVec 32 := 0#32
  ![v495.toNat, 0]
def k0_dev22 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_489 : BitVec 32 := 1#32
  let v496 : BitVec 32 := Scalar.muli v460 c1_i32_489
  let v497 : BitVec 32 := Scalar.addi c0_i32_490 v496
  v497.toNat
def k0_off10 (d0 : Dev nD) (c0_i32_478 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v483 : BitVec 32 := Scalar.subi v2 c0_i32_478
  let c1_i32_479 : BitVec 32 := 1#32
  let v484 : BitVec 32 := Scalar.subi v483 c1_i32_479
  let c8_i32_480 : BitVec 32 := 8#32
  let c0_i32_481 : BitVec 32 := 0#32
  let v485 : BitVec 1 := Scalar.cmpi .eq c8_i32_480 c0_i32_481
  let c1_i32_482 : BitVec 32 := 1#32
  let v486 : BitVec 32 := Scalar.select v485 c1_i32_482 c8_i32_480
  let v487 : BitVec 32 := Scalar.remsi v484 v486
  let c0_i32_484 : BitVec 32 := 0#32
  let v489 : BitVec 1 := Scalar.cmpi .slt v487 c0_i32_484
  let c0_i32_485 : BitVec 32 := 0#32
  let v490 : BitVec 1 := Scalar.cmpi .slt v486 c0_i32_485
  let v491 : BitVec 1 := Scalar.xori v489 v490
  let c0_i32_483 : BitVec 32 := 0#32
  let v488 : BitVec 1 := Scalar.cmpi .ne v487 c0_i32_483
  let v492 : BitVec 1 := Scalar.andi v491 v488
  let v493 : BitVec 32 := Scalar.addi v487 v486
  let v494 : BitVec 32 := Scalar.select v492 v493 v487
  let c128_i32_502 : BitVec 32 := 128#32
  let v512 : BitVec 32 := Scalar.muli v494 c128_i32_502
  let v513 : Index := Scalar.indexCast v512
  let c0_503 : Index := 0#32
  ![v513.toNat, 0]
def k0_dev23 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_511 : BitVec 32 := 1#32
  let v524 : BitVec 32 := Scalar.muli v471 c1_i32_511
  let v525 : BitVec 32 := Scalar.addi c0_i32_512 v524
  v525.toNat
def k0_dev24 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_532 : BitVec 32 := 1#32
  let v550 : BitVec 32 := Scalar.muli v460 c1_i32_532
  let v551 : BitVec 32 := Scalar.addi c0_i32_533 v550
  v551.toNat
def k0_dev25 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_554 : BitVec 32 := 1#32
  let v578 : BitVec 32 := Scalar.muli v471 c1_i32_554
  let v579 : BitVec 32 := Scalar.addi c0_i32_555 v578
  v579.toNat
def k0_dev26 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_578 : BitVec 32 := 1#32
  let v606 : BitVec 32 := Scalar.muli v460 c1_i32_578
  let v607 : BitVec 32 := Scalar.addi c0_i32_579 v606
  v607.toNat
def k0_dev27 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_600 : BitVec 32 := 1#32
  let v634 : BitVec 32 := Scalar.muli v471 c1_i32_600
  let v635 : BitVec 32 := Scalar.addi c0_i32_601 v634
  v635.toNat
def k0_dev28 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_624 : BitVec 32 := 1#32
  let v662 : BitVec 32 := Scalar.muli v460 c1_i32_624
  let v663 : BitVec 32 := Scalar.addi c0_i32_625 v662
  v663.toNat
def k0_dev29 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_646 : BitVec 32 := 1#32
  let v690 : BitVec 32 := Scalar.muli v471 c1_i32_646
  let v691 : BitVec 32 := Scalar.addi c0_i32_647 v690
  v691.toNat
def k0_dev30 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_670 : BitVec 32 := 1#32
  let v718 : BitVec 32 := Scalar.muli v460 c1_i32_670
  let v719 : BitVec 32 := Scalar.addi c0_i32_671 v718
  v719.toNat
def k0_dev31 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_692 : BitVec 32 := 1#32
  let v746 : BitVec 32 := Scalar.muli v471 c1_i32_692
  let v747 : BitVec 32 := Scalar.addi c0_i32_693 v746
  v747.toNat
def k0_dev32 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_716 : BitVec 32 := 1#32
  let v774 : BitVec 32 := Scalar.muli v460 c1_i32_716
  let v775 : BitVec 32 := Scalar.addi c0_i32_717 v774
  v775.toNat
def k0_dev33 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_738 : BitVec 32 := 1#32
  let v802 : BitVec 32 := Scalar.muli v471 c1_i32_738
  let v803 : BitVec 32 := Scalar.addi c0_i32_739 v802
  v803.toNat
def k0_dev34 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_762 : BitVec 32 := 1#32
  let v830 : BitVec 32 := Scalar.muli v460 c1_i32_762
  let v831 : BitVec 32 := Scalar.addi c0_i32_763 v830
  v831.toNat
def k0_dev35 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_784 : BitVec 32 := 1#32
  let v858 : BitVec 32 := Scalar.muli v471 c1_i32_784
  let v859 : BitVec 32 := Scalar.addi c0_i32_785 v858
  v859.toNat
def k0_off11 (d0 : Dev nD) (c0_i32_787 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_786 : BitVec 32 := 1#32
  let v860 : BitVec 32 := Scalar.addi v2 c1_i32_786
  let v861 : BitVec 32 := Scalar.subi v860 c0_i32_787
  let c8_i32_788 : BitVec 32 := 8#32
  let c0_i32_789 : BitVec 32 := 0#32
  let v862 : BitVec 1 := Scalar.cmpi .eq c8_i32_788 c0_i32_789
  let c1_i32_790 : BitVec 32 := 1#32
  let v863 : BitVec 32 := Scalar.select v862 c1_i32_790 c8_i32_788
  let v864 : BitVec 32 := Scalar.remsi v861 v863
  let c0_i32_792 : BitVec 32 := 0#32
  let v866 : BitVec 1 := Scalar.cmpi .slt v864 c0_i32_792
  let c0_i32_793 : BitVec 32 := 0#32
  let v867 : BitVec 1 := Scalar.cmpi .slt v863 c0_i32_793
  let v868 : BitVec 1 := Scalar.xori v866 v867
  let c0_i32_791 : BitVec 32 := 0#32
  let v865 : BitVec 1 := Scalar.cmpi .ne v864 c0_i32_791
  let v869 : BitVec 1 := Scalar.andi v868 v865
  let v870 : BitVec 32 := Scalar.addi v864 v863
  let v871 : BitVec 32 := Scalar.select v869 v870 v864
  let c128_i32_804 : BitVec 32 := 128#32
  let v885 : BitVec 32 := Scalar.muli v871 c128_i32_804
  let c0_i32_812 : BitVec 32 := 0#32
  ![v885.toNat, 0]
def k0_dev36 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_808 : BitVec 32 := 1#32
  let v886 : BitVec 32 := Scalar.muli v460 c1_i32_808
  let v887 : BitVec 32 := Scalar.addi c0_i32_809 v886
  v887.toNat
def k0_off12 (d0 : Dev nD) (c0_i32_794 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v872 : BitVec 32 := Scalar.subi v2 c0_i32_794
  let c8_i32_795 : BitVec 32 := 8#32
  let c0_i32_796 : BitVec 32 := 0#32
  let v873 : BitVec 1 := Scalar.cmpi .eq c8_i32_795 c0_i32_796
  let c1_i32_797 : BitVec 32 := 1#32
  let v874 : BitVec 32 := Scalar.select v873 c1_i32_797 c8_i32_795
  let v875 : BitVec 32 := Scalar.remsi v872 v874
  let c0_i32_799 : BitVec 32 := 0#32
  let v877 : BitVec 1 := Scalar.cmpi .slt v875 c0_i32_799
  let c0_i32_800 : BitVec 32 := 0#32
  let v878 : BitVec 1 := Scalar.cmpi .slt v874 c0_i32_800
  let v879 : BitVec 1 := Scalar.xori v877 v878
  let c0_i32_798 : BitVec 32 := 0#32
  let v876 : BitVec 1 := Scalar.cmpi .ne v875 c0_i32_798
  let v880 : BitVec 1 := Scalar.andi v879 v876
  let v881 : BitVec 32 := Scalar.addi v875 v874
  let v882 : BitVec 32 := Scalar.select v880 v881 v875
  let c128_i32_824 : BitVec 32 := 128#32
  let v904 : BitVec 32 := Scalar.muli v882 c128_i32_824
  let v905 : Index := Scalar.indexCast v904
  let c0_825 : Index := 0#32
  ![v905.toNat, 0]
def k0_dev37 (d0 : Dev nD) : Nat :=
  let c0_i32_829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_828 : BitVec 32 := 1#32
  let v909 : BitVec 32 := Scalar.muli v471 c1_i32_828
  let v910 : BitVec 32 := Scalar.addi c0_i32_829 v909
  v910.toNat
def k0_dev38 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_852 : BitVec 32 := 1#32
  let v937 : BitVec 32 := Scalar.muli v460 c1_i32_852
  let v938 : BitVec 32 := Scalar.addi c0_i32_853 v937
  v938.toNat
def k0_dev39 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_872 : BitVec 32 := 1#32
  let v960 : BitVec 32 := Scalar.muli v471 c1_i32_872
  let v961 : BitVec 32 := Scalar.addi c0_i32_873 v960
  v961.toNat
def k0_dev40 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_895 : BitVec 32 := 1#32
  let v988 : BitVec 32 := Scalar.muli v460 c1_i32_895
  let v989 : BitVec 32 := Scalar.addi c0_i32_896 v988
  v989.toNat
def k0_dev41 (d0 : Dev nD) : Nat :=
  let c0_i32_916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_915 : BitVec 32 := 1#32
  let v1011 : BitVec 32 := Scalar.muli v471 c1_i32_915
  let v1012 : BitVec 32 := Scalar.addi c0_i32_916 v1011
  v1012.toNat
def k0_dev42 (d0 : Dev nD) : Nat :=
  let c0_i32_939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_938 : BitVec 32 := 1#32
  let v1039 : BitVec 32 := Scalar.muli v460 c1_i32_938
  let v1040 : BitVec 32 := Scalar.addi c0_i32_939 v1039
  v1040.toNat
def k0_dev43 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_958 : BitVec 32 := 1#32
  let v1062 : BitVec 32 := Scalar.muli v471 c1_i32_958
  let v1063 : BitVec 32 := Scalar.addi c0_i32_959 v1062
  v1063.toNat
def k0_dev44 (d0 : Dev nD) : Nat :=
  let c0_i32_982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_981 : BitVec 32 := 1#32
  let v1090 : BitVec 32 := Scalar.muli v460 c1_i32_981
  let v1091 : BitVec 32 := Scalar.addi c0_i32_982 v1090
  v1091.toNat
def k0_dev45 (d0 : Dev nD) : Nat :=
  let c0_i32_1002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v461 : BitVec 32 := Scalar.subi v2 c1_i32_464
  let c8_i32_465 : BitVec 32 := 8#32
  let c0_i32_466 : BitVec 32 := 0#32
  let v462 : BitVec 1 := Scalar.cmpi .eq c8_i32_465 c0_i32_466
  let c1_i32_467 : BitVec 32 := 1#32
  let v463 : BitVec 32 := Scalar.select v462 c1_i32_467 c8_i32_465
  let v464 : BitVec 32 := Scalar.remsi v461 v463
  let c0_i32_469 : BitVec 32 := 0#32
  let v466 : BitVec 1 := Scalar.cmpi .slt v464 c0_i32_469
  let c0_i32_470 : BitVec 32 := 0#32
  let v467 : BitVec 1 := Scalar.cmpi .slt v463 c0_i32_470
  let v468 : BitVec 1 := Scalar.xori v466 v467
  let c0_i32_468 : BitVec 32 := 0#32
  let v465 : BitVec 1 := Scalar.cmpi .ne v464 c0_i32_468
  let v469 : BitVec 1 := Scalar.andi v468 v465
  let v470 : BitVec 32 := Scalar.addi v464 v463
  let v471 : BitVec 32 := Scalar.select v469 v470 v464
  let c1_i32_1001 : BitVec 32 := 1#32
  let v1113 : BitVec 32 := Scalar.muli v471 c1_i32_1001
  let v1114 : BitVec 32 := Scalar.addi c0_i32_1002 v1113
  v1114.toNat
def k0_dev46 (d0 : Dev nD) : Nat :=
  let c0_i32_1025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_1024 : BitVec 32 := 1#32
  let v1141 : BitVec 32 := Scalar.muli v460 c1_i32_1024
  let v1142 : BitVec 32 := Scalar.addi c0_i32_1025 v1141
  v1142.toNat
def k0_dev47 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_457 : BitVec 32 := 1#32
  let v450 : BitVec 32 := Scalar.addi v2 c1_i32_457
  let c8_i32_458 : BitVec 32 := 8#32
  let c0_i32_459 : BitVec 32 := 0#32
  let v451 : BitVec 1 := Scalar.cmpi .eq c8_i32_458 c0_i32_459
  let c1_i32_460 : BitVec 32 := 1#32
  let v452 : BitVec 32 := Scalar.select v451 c1_i32_460 c8_i32_458
  let v453 : BitVec 32 := Scalar.remsi v450 v452
  let c0_i32_462 : BitVec 32 := 0#32
  let v455 : BitVec 1 := Scalar.cmpi .slt v453 c0_i32_462
  let c0_i32_463 : BitVec 32 := 0#32
  let v456 : BitVec 1 := Scalar.cmpi .slt v452 c0_i32_463
  let v457 : BitVec 1 := Scalar.xori v455 v456
  let c0_i32_461 : BitVec 32 := 0#32
  let v454 : BitVec 1 := Scalar.cmpi .ne v453 c0_i32_461
  let v458 : BitVec 1 := Scalar.andi v457 v454
  let v459 : BitVec 32 := Scalar.addi v453 v452
  let v460 : BitVec 32 := Scalar.select v458 v459 v453
  let c1_i32_1063 : BitVec 32 := 1#32
  let v1188 : BitVec 32 := Scalar.muli v460 c1_i32_1063
  let v1189 : BitVec 32 := Scalar.addi c0_i32_1064 v1188
  v1189.toNat
abbrev stage0_0 : Fin 1 → Memref sig .tc .vmem S8x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "start" => some ⊥
  | _ => none
-- ==== ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S1x1024x8192 : Shape := ⟨3, ![1, 1024, 8192]⟩
abbrev S1x1024x64x128 : Shape := ⟨4, ![1, 1024, 64, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1x64x1024x8192 : Shape := ⟨4, ![1, 64, 1024, 8192]⟩
abbrev S1x1x1024x8192 : Shape := ⟨4, ![1, 1, 1024, 8192]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x8192x64x128, .f32⟩
  | .hbm, ⟨3, _⟩ => ⟨S1x8192x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S1x8192, .i32⟩
  | .hbm, ⟨47, _⟩ => ⟨S1024x8192, .i32⟩
  | .hbm, ⟨48, _⟩ => ⟨S1024x8192, .i32⟩
  | .hbm, ⟨49, _⟩ => ⟨S1024x8192, .i1⟩
  | .hbm, ⟨50, _⟩ => ⟨S_, .i32⟩
  | .hbm, ⟨51, _⟩ => ⟨S1x8192, .i32⟩
  | .hbm, ⟨52, _⟩ => ⟨S1x8192, .i1⟩
  | .hbm, ⟨53, _⟩ => ⟨S1024x8192, .i1⟩
  | .hbm, ⟨54, _⟩ => ⟨S1024x8192, .i1⟩
  | .hbm, ⟨55, _⟩ => ⟨S1024x8192, .i32⟩
  | .hbm, ⟨56, _⟩ => ⟨S1024x8192, .i32⟩
  | .hbm, ⟨57, _⟩ => ⟨S1024x8192, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x8192, .i32⟩
  | .hbm, ⟨65, _⟩ => ⟨S1024x8192, .i32⟩
  | .hbm, ⟨66, _⟩ => ⟨S_, .i32⟩
  | .hbm, ⟨67, _⟩ => ⟨S1024x8192, .i32⟩
  | .hbm, ⟨68, _⟩ => ⟨S1024x8192, .i1⟩
  | .hbm, ⟨69, _⟩ => ⟨S_, .i32⟩
  | .hbm, ⟨70, _⟩ => ⟨S1024x8192, .i32⟩
  | .hbm, ⟨71, _⟩ => ⟨S1024x8192, .i1⟩
  | .hbm, ⟨72, _⟩ => ⟨S_, .i32⟩
  | .hbm, ⟨73, _⟩ => ⟨S_, .i1⟩
  | .hbm, ⟨74, _⟩ => ⟨S1024x8192, .i1⟩
  | .hbm, ⟨75, _⟩ => ⟨S1024x8192, .i1⟩
  | .hbm, ⟨76, _⟩ => ⟨S1024x8192, .i1⟩
  | .hbm, ⟨77, _⟩ => ⟨S1024x8192, .i32⟩
  | .hbm, ⟨78, _⟩ => ⟨S1024x8192, .i32⟩
  | .hbm, ⟨79, _⟩ => ⟨S1024x8192, .i32⟩
  | .hbm, ⟨80, _⟩ => ⟨S_, .i32⟩
  | .hbm, ⟨81, _⟩ => ⟨S1024x8192, .i32⟩
  | .hbm, ⟨82, _⟩ => ⟨S1024x8192, .i1⟩
  | .hbm, ⟨83, _⟩ => ⟨S1024x8192, .i1⟩
  | .hbm, ⟨84, _⟩ => ⟨S1x64x1024x8192, .f32⟩
  | .hbm, ⟨85, _⟩ => ⟨S_, .f32⟩
  | .hbm, ⟨86, _⟩ => ⟨S1x64x1024x8192, .f32⟩
  | .hbm, ⟨87, _⟩ => ⟨S1x64x1024x8192, .f32⟩
  | .hbm, ⟨88, _⟩ => ⟨S1x1x1024x8192, .i1⟩
  | .hbm, ⟨89, _⟩ => ⟨S_, .f32⟩
  | .hbm, ⟨90, _⟩ => ⟨S_, .f32⟩
  | .hbm, ⟨91, _⟩ => ⟨S1x64x1024x8192, .i1⟩
  | .hbm, ⟨92, _⟩ => ⟨S1x64x1024x8192, .f32⟩
  | .hbm, ⟨93, _⟩ => ⟨S1x64x1024x8192, .f32⟩
  | .hbm, ⟨94, _⟩ => ⟨S_, .f32⟩
  | .hbm, ⟨95, _⟩ => ⟨S1x64x1024, .f32⟩
  | .hbm, ⟨96, _⟩ => ⟨S1x64x1024x1, .f32⟩
  | .hbm, ⟨97, _⟩ => ⟨S1x64x1024x8192, .f32⟩
  | .hbm, ⟨98, _⟩ => ⟨S1x64x1024x8192, .f32⟩
  | .hbm, ⟨99, _⟩ => ⟨S1x64x1024x8192, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x64x1024, .f32⟩
  | .hbm, ⟨105, _⟩ => ⟨S1x64x1024x1, .f32⟩
  | .hbm, ⟨106, _⟩ => ⟨S_, .f32⟩
  | .hbm, ⟨107, _⟩ => ⟨S_, .f32⟩
  | .hbm, ⟨108, _⟩ => ⟨S1x64x1024x1, .i1⟩
  | .hbm, ⟨109, _⟩ => ⟨S1x64x1024x1, .f32⟩
  | .hbm, ⟨110, _⟩ => ⟨S1x64x1024x1, .f32⟩
  | .hbm, ⟨111, _⟩ => ⟨S1x64x1024x8192, .f32⟩
  | .hbm, ⟨112, _⟩ => ⟨S1x64x1024x8192, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x64x1024x8192, .i1⟩
  | .hbm, ⟨117, _⟩ => ⟨S1x64x1024x8192, .f32⟩
  | .hbm, ⟨118, _⟩ => ⟨S1x64x1024x8192, .f32⟩
  | .hbm, ⟨119, _⟩ => ⟨S1x64x128x1024, .f32⟩
  | .hbm, ⟨120, _⟩ => ⟨S1x1024x64x128, .f32⟩
  | .hbm, ⟨121, _⟩ => ⟨S1x1024x8192, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Online.lean ====
/-
  The softmax taken in pieces, over the extended reals.

  A row of scores comes in pieces. A running maximum, a running sum of weights and a running weighted sum of values are kept; a piece
  rescales the two sums to the new maximum and adds its own part. At the end the weighted sum over the sum of weights is the softmax
  of the whole row applied to the values. A score may be −∞ (a masked one), as long as every piece has one that is not.
-/
module

public import Idealize.ShloMosaic.PureOps.Ideal
public import Idealize.ShloMosaic.PureOps.IdealRules
public import Mathlib.Algebra.BigOperators.Fin

@[expose] public section

namespace Cert.Value

open Idealize.ShloMosaic

/-- The weight of a score against a maximum. -/
noncomputable def wt (s M : EReal) : EReal := Ideal.exp (s - M)

theorem wt_coe (s M : ℝ) : wt (s : EReal) (M : EReal) = ((Real.exp (s - M) : ℝ) : EReal) := by
  unfold wt; rw [← EReal.coe_sub]; rfl

theorem wt_bot (M : EReal) : wt ⊥ M = 0 := by
  unfold wt; rw [EReal.bot_sub]; rfl

/-- A weight is a nonnegative real. -/
theorem wt_real {s : EReal} (hs : s ≠ ⊤) (M : ℝ) : ∃ r : ℝ, 0 ≤ r ∧ wt s M = r := by
  induction s with
  | bot => exact ⟨0, le_rfl, by rw [wt_bot]; rfl⟩
  | coe s => exact ⟨_, (Real.exp_pos _).le, wt_coe s M⟩
  | top => exact absurd rfl hs

theorem wt_nonneg {s : EReal} (hs : s ≠ ⊤) (M : ℝ) : 0 ≤ wt s M := by
  obtain ⟨r, h0, h⟩ := wt_real hs M
  rw [h]; exact_mod_cast h0

/-- The weight against one maximum, rescaled, is the weight against another. -/
theorem wt_mul {s : EReal} (hs : s ≠ ⊤) (M N : ℝ) : wt s M * wt (M : EReal) (N : EReal) = wt s N := by
  induction s with
  | bot => rw [wt_bot, wt_bot, zero_mul]
  | coe s => rw [wt_coe, wt_coe, wt_coe, ← EReal.coe_mul, ← Real.exp_add, sub_add_sub_cancel]
  | top => exact absurd rfl hs

/-- A nonnegative real factor goes into a sum. -/
theorem sum_mul_real {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
      rw [Finset.sum_insert ha, Finset.sum_insert ha, ← ih]
      exact EReal.right_distrib_of_nonneg_of_ne_top (by exact_mod_cast hc) (EReal.coe_ne_top c) _ _

section
variable {ι : Type*} [Fintype ι]

/-- The greatest score of the first `t` pieces. -/
noncomputable def topOf (S : ℕ → ι → EReal) (t : ℕ) : EReal := (Finset.range t).sup fun u => Finset.univ.sup (S u)

/-- The running results are these: of the pieces so far, against the maximum so far. -/
structure Upto (S V : ℕ → ι → EReal) (t : ℕ) (m l a : EReal) : Prop where
  m_eq : m = topOf S t
  l_eq : l = ∑ u ∈ Finset.range t, ∑ j, wt (S u j) m
  a_eq : a = ∑ u ∈ Finset.range t, ∑ j, wt (S u j) m * V u j

theorem upto_zero (S V : ℕ → ι → EReal) : Upto S V 0 ⊥ 0 0 := ⟨rfl, rfl, rfl⟩

theorem sup_ne_top [Nonempty ι] (f : ι → EReal) (h : ∀ j, f j ≠ ⊤) : Finset.univ.sup f ≠ ⊤ :=
  ((Finset.sup_lt_iff (by exact bot_lt_top)).mpr fun j _ => (h j).lt_top).ne

theorem topOf_real [Nonempty ι] (S : ℕ → ι → EReal) (t : ℕ) (h1 : ∀ u j, S u j ≠ ⊤) (h2 : ∀ u, ∃ j, S u j ≠ ⊥) (ht : 0 < t) :
    ∃ M : ℝ, topOf S t = M := by
  have a : topOf S t ≠ ⊤ := ((Finset.sup_lt_iff (by exact bot_lt_top)).mpr fun u _ => (sup_ne_top _ (h1 u)).lt_top).ne
  have b : topOf S t ≠ ⊥ := by
    obtain ⟨j, hj⟩ := h2 0
    intro hb
    have : S 0 j ≤ topOf S t := (Finset.le_sup (f := S 0) (Finset.mem_univ j)).trans
      (Finset.le_sup (f := fun u => Finset.univ.sup (S u)) (Finset.mem_range.mpr ht))
    rw [hb] at this
    exact hj (le_bot_iff.mp this)
  exact ⟨(topOf S t).toReal, (EReal.coe_toReal a b).symm⟩

theorem topOf_succ (S : ℕ → ι → EReal) (t : ℕ) : topOf S (t + 1) = max (topOf S t) (Finset.univ.sup (S t)) := by
  unfold topOf; rw [Finset.range_add_one, Finset.sup_insert, sup_comm]

/-- One more piece. -/
theorem upto_succ [Nonempty ι] (S V : ℕ → ι → EReal) (h1 : ∀ u j, S u j ≠ ⊤) (h2 : ∀ u, ∃ j, S u j ≠ ⊥) {t : ℕ} {m l a : EReal}
    (h : Upto S V t m l a) : Upto S V (t + 1) (max m (Finset.univ.sup (S t)))
      (l * wt m (max m (Finset.univ.sup (S t))) + ∑ j, wt (S t j) (max m (Finset.univ.sup (S t))))
      (a * wt m (max m (Finset.univ.sup (S t))) + ∑ j, wt (S t j) (max m (Finset.univ.sup (S t))) * V t j) := by
  obtain ⟨hm, hl, ha⟩ := h
  have hm' : max m (Finset.univ.sup (S t)) = topOf S (t + 1) := by rw [topOf_succ, hm]
  obtain ⟨N, hN⟩ := topOf_real S (t + 1) h1 h2 (Nat.succ_pos t)
  rw [hm', hN]
  refine ⟨hN.symm, ?_, ?_⟩
  · rw [Finset.sum_range_succ]
    congr 1
    rcases Nat.eq_zero_or_pos t with rfl | ht
    · rw [hl]; simp
    · obtain ⟨M, hM⟩ := topOf_real S t h1 h2 ht
      rw [hl, hm, hM, wt_coe, sum_mul_real _ _ (Real.exp_pos _).le, ← wt_coe]
      refine Finset.sum_congr rfl fun u _ => ?_
      rw [wt_coe, sum_mul_real _ _ (Real.exp_pos _).le, ← wt_coe]
      exact Finset.sum_congr rfl fun j _ => wt_mul (h1 u j) M N
  · rw [Finset.sum_range_succ]
    congr 1
    rcases Nat.eq_zero_or_pos t with rfl | ht
    · rw [ha]; simp
    · obtain ⟨M, hM⟩ := topOf_real S t h1 h2 ht
      rw [ha, hm, hM, wt_coe, sum_mul_real _ _ (Real.exp_pos _).le, ← wt_coe]
      refine Finset.sum_congr rfl fun u _ => ?_
      rw [wt_coe, sum_mul_real _ _ (Real.exp_pos _).le, ← wt_coe]
      refine Finset.sum_congr rfl fun j _ => ?_
      rw [mul_assoc, mul_comm (V u j), ← mul_assoc, wt_mul (h1 u j) M N]

omit [Fintype ι] in
/-- A sum of reals, among the extended reals. -/
theorem coe_sum_real (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The sum of weights is a positive real. -/
theorem sum_wt_pos [Nonempty ι] (S : ι → EReal) (M : ℝ) (h1 : ∀ j, S j ≠ ⊤) (h2 : ∃ j, S j ≠ ⊥) : ∃ L : ℝ, 0 < L ∧ ∑ j, wt (S j) M = L := by
  choose r h0 hr using fun j => wt_real (h1 j) M
  refine ⟨∑ j, r j, ?_, by rw [coe_sum_real]; exact Finset.sum_congr rfl fun j _ => hr j⟩
  obtain ⟨j, hj⟩ := h2
  refine Finset.sum_pos' (fun i _ => h0 i) ⟨j, Finset.mem_univ j, ?_⟩
  have : wt ((S j).toReal : EReal) M = r j := by rw [EReal.coe_toReal (h1 j) hj]; exact hr j
  rw [wt_coe] at this
  have e : Real.exp ((S j).toReal - M) = r j := by exact_mod_cast this
  rw [← e]; exact Real.exp_pos _

theorem div_pos_real (x : EReal) {L : ℝ} (hL : 0 < L) : Ideal.div x (L : EReal) = x * ((L⁻¹ : ℝ) : EReal) := by
  unfold Ideal.div
  rw [if_neg (by exact_mod_cast hL.ne'), EReal.coe_inv]

/-- The quotient of the weighted sum by the sum of weights, as the sum of the values by the weights over their sum. -/
theorem softmax_div [Nonempty ι] (S V : ι → EReal) (M : ℝ) (h1 : ∀ j, S j ≠ ⊤) (h2 : ∃ j, S j ≠ ⊥) :
    Ideal.div (∑ j, wt (S j) M * V j) (∑ j, wt (S j) M) = ∑ j, Ideal.div (wt (S j) M) (∑ j, wt (S j) M) * V j := by
  obtain ⟨L, hL, e⟩ := sum_wt_pos S M h1 h2
  rw [e, div_pos_real _ hL, sum_mul_real _ _ (inv_pos.mpr hL).le]
  refine Finset.sum_congr rfl fun j _ => ?_
  rw [div_pos_real _ hL, mul_assoc, mul_comm (V j), ← mul_assoc]

end

section
variable {ι : Type*} [Fintype ι] [Nonempty ι]

/-- The row in eight pieces, taken in any order, against the row as a whole. -/
theorem online (S V : Fin 8 → ι → EReal) (σ : Fin 8 ≃ Fin 8) (h1 : ∀ p j, S p j ≠ ⊤) (h2 : ∀ p, ∃ j, S p j ≠ ⊥) {m l a : EReal}
    (h : Upto (fun t => S (σ (Fin.ofNat 8 t))) (fun t => V (σ (Fin.ofNat 8 t))) 8 m l a) :
    Ideal.div a l = ∑ x : Fin 8 × ι, Ideal.div (wt (S x.1 x.2) (Finset.univ.sup fun y : Fin 8 × ι => S y.1 y.2))
      (∑ y : Fin 8 × ι, wt (S y.1 y.2) (Finset.univ.sup fun y : Fin 8 × ι => S y.1 y.2)) * V x.1 x.2 := by
  obtain ⟨hm, hl, ha⟩ := h
  have r : ∀ f : Fin 8 → EReal, (∑ u ∈ Finset.range 8, f (σ (Fin.ofNat 8 u))) = ∑ p, f p := by
    intro f
    rw [Finset.sum_range, ← Equiv.sum_comp σ f]
    refine Finset.sum_congr rfl fun i _ => congrArg (fun k => f (σ k)) ?_
    exact Fin.ext (Nat.mod_eq_of_lt i.isLt)
  have hM : m = Finset.univ.sup fun y : Fin 8 × ι => S y.1 y.2 := by
    rw [hm]
    apply le_antisymm
    · refine Finset.sup_le fun u _ => Finset.sup_le fun j _ => ?_
      exact Finset.le_sup (f := fun y : Fin 8 × ι => S y.1 y.2) (Finset.mem_univ (σ (Fin.ofNat 8 u), j))
    · refine Finset.sup_le fun y _ => ?_
      have e : σ (Fin.ofNat 8 (σ.symm y.1).val) = y.1 := by
        rw [show Fin.ofNat 8 (σ.symm y.1).val = σ.symm y.1 from Fin.ext (Nat.mod_eq_of_lt (σ.symm y.1).isLt)]; simp
      have hle : S (σ (Fin.ofNat 8 (σ.symm y.1).val)) y.2 ≤ topOf (fun t => S (σ (Fin.ofNat 8 t))) 8 :=
        (Finset.le_sup (f := S (σ (Fin.ofNat 8 (σ.symm y.1).val))) (Finset.mem_univ y.2)).trans
          (Finset.le_sup (f := fun u => Finset.univ.sup (S (σ (Fin.ofNat 8 u)))) (Finset.mem_range.mpr (σ.symm y.1).isLt))
      rwa [e] at hle
  obtain ⟨M, hMr⟩ := topOf_real (fun t => S (σ (Fin.ofNat 8 t))) 8 (fun u j => h1 _ j) (fun u => h2 _) (by decide)
  rw [← hM, hl, ha, r fun p => ∑ j, wt (S p j) m * V p j, r fun p => ∑ j, wt (S p j) m]
  rw [← Fintype.sum_prod_type (f := fun x : Fin 8 × ι => wt (S x.1 x.2) m * V x.1 x.2),
    ← Fintype.sum_prod_type (f := fun x : Fin 8 × ι => wt (S x.1 x.2) m)]
  rw [hm, hMr]
  obtain ⟨j, hj⟩ := h2 0
  exact softmax_div (fun x : Fin 8 × ι => S x.1 x.2) (fun x => V x.1 x.2) M (fun x => h1 _ _) ⟨(0, j), hj⟩

end

end Cert.Value
-- ==== Proof.Program.lean ====
/-
  The kernel's program, written over its repeated pieces: the seven barrier signals, the seven sends of key and value
  blocks, the head step that every trip of the loop runs eight times, the projection of each head, and the fourteen
  steps of the ring. `body_eq` says that the printed body is this program, `loop_eq` that the printed loop body is.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points

@[expose] public section

noncomputable section

namespace Cert.KernelIdeal.Hand

open Cert.KernelIdeal Cert.KernelIdeal.Gen
open Idealize.ShloMosaic
open Idealize.ShloMosaic.TcCoe
open Idealize.SL Idealize.SL.Sem

variable {F : FTy → Type} [FloatOps F] [Named F]

/-- A program of the kernel. -/
abbrev KProg (F : FTy → Type) [FloatOps F] := Prog (TpuEff nD τ sig (Elt F) Λ₀ .tc) PUnit

/-- The programs `f 0`, …, `f (n-1)`, one after the other. -/
def seqN : (n : ℕ) → (Fin n → KProg F) → KProg F
  | 0, _ => pure ⟨⟩
  | n + 1, f => f 0 >>= fun _ => seqN n fun i => f i.succ

/-! ## The buffers -/

abbrev mQ : Memref sig .tc .vmem S8x1024x128 .bf16 := Memref.whole cc0_stg0_0
abbrev mW : Memref sig .tc .vmem S1024x1024 .bf16 := Memref.whole cc0_stg1_0
abbrev mKS : Memref sig .tc .hbm S8x8x1024x128 .bf16 := Memref.whole main_v21
abbrev mVS : Memref sig .tc .hbm S8x8x1024x128 .bf16 := Memref.whole main_v30
abbrev mO : Memref sig .tc .vmem S1024x1024 .f32 := Memref.whole cc0_stg2_0
abbrev mKG : Memref sig .tc .vmem S8x8x1024x128 .bf16 := Memref.whole cc0_scratch0
abbrev mVG : Memref sig .tc .vmem S8x8x1024x128 .bf16 := Memref.whole cc0_scratch1
abbrev mA : Memref sig .tc .vmem S8x1024x128 .f32 := Memref.whole cc0_scratch2
abbrev mML : Memref sig .tc .vmem S1024x16 .f32 := Memref.whole cc0_scratch3
abbrev mS : Memref sig .tc .vmem S1024x1024 .f32 := Memref.whole cc0_scratch4
abbrev mB : Memref sig .tc .vmem S1024x1024 .bf16 := Memref.whole cc0_scratch5
abbrev mR : Memref sig .tc .vmem S2x128x1024 .f32 := Memref.whole cc0_scratch6

/-! ## Their rectangles -/

theorem inbSlot (s : Fin 8) : ∀ a, (![s.val, 0, 0, 0] : Fin 4 → Nat) a + S1x8x1024x128.size a ≤ S8x8x1024x128.size a := by
  revert s; decide
/-- Block `s` of a gathered key or value buffer. -/
abbrev slotR (s : Fin 8) : Rect S8x8x1024x128 := Rect.unit (s := S8x8x1024x128) ![s.val, 0, 0, 0] S1x8x1024x128.size (inbSlot s)
theorem slotWords : ∀ s : Fin 8, (slotR s).WholeWords (EltTy.packing .bf16)
  | 0 => wordsbf16_S8x8x1024x128_S1x8x1024x128_0_0_0_0
  | 1 => wordsbf16_S8x8x1024x128_S1x8x1024x128_1_0_0_0
  | 2 => wordsbf16_S8x8x1024x128_S1x8x1024x128_2_0_0_0
  | 3 => wordsbf16_S8x8x1024x128_S1x8x1024x128_3_0_0_0
  | 4 => wordsbf16_S8x8x1024x128_S1x8x1024x128_4_0_0_0
  | 5 => wordsbf16_S8x8x1024x128_S1x8x1024x128_5_0_0_0
  | 6 => wordsbf16_S8x8x1024x128_S1x8x1024x128_6_0_0_0
  | 7 => wordsbf16_S8x8x1024x128_S1x8x1024x128_7_0_0_0
/-- Block `s` of a buffer of gathered blocks, as the copies name it. -/
abbrev kvSlot {sp : Space} (m : Memref sig .tc sp S8x8x1024x128 .bf16) (s : Fin 8) : Memref sig .tc sp S8x1024x128 .bf16 :=
  (m.slice (slotR s) (fun _ => rfl)).squeeze S8x1024x128 squeezes_S1x8x1024x128_S8x1024x128
theorem kvWords {sp : Space} {m : Memref sig .tc sp S8x8x1024x128 .bf16} (h : m.IsWhole) (s : Fin 8) :
    (kvSlot m s).view.WordExact := (h.wordExact_slice rfl _ (slotWords s)).reshape _ _

theorem inbRs (b : Fin 2) : ∀ a, (![b.val, 0, 0] : Fin 3 → Nat) a + S1x128x1024.size a ≤ S2x128x1024.size a := by
  revert b; decide
/-- Slot `b` of the ring's landing buffer. -/
abbrev rsR (b : Fin 2) : Rect S2x128x1024 := Rect.unit (s := S2x128x1024) ![b.val, 0, 0] S1x128x1024.size (inbRs b)
abbrev rsSlot (b : Fin 2) : Memref sig .tc .vmem S128x1024 .f32 :=
  (mR.slice (rsR b) (fun _ => rfl)).squeeze S128x1024 squeezes_S1x128x1024_S128x1024
theorem rsWords (b : Fin 2) : (rsSlot b).view.WordExact := (View.wordExact_bits rfl).reshape _ _

theorem inbHead (h : Fin 8) : ∀ a, (![h.val, 0, 0] : Fin 3 → Nat) a + S1x1024x128.size a ≤ S8x1024x128.size a := by
  revert h; decide
/-- Head `h` of a buffer of eight heads. -/
abbrev headR (h : Fin 8) : Rect S8x1024x128 := Rect.unit (s := S8x1024x128) ![h.val, 0, 0] S1x1024x128.size (inbHead h)

theorem inbCol (j : Fin 16) : ∀ a, (![0, j.val] : Fin 2 → Nat) a + S1024x1.size a ≤ S1024x16.size a := by
  revert j; decide
/-- Column `j` of the buffer of running maxima (columns 0..7) and running sums (columns 8..15). -/
abbrev colR (j : Fin 16) : Rect S1024x16 := Rect.unit (s := S1024x16) ![0, j.val] S1024x1.size (inbCol j)

theorem inbWo (h : Fin 8) : ∀ a, (![128 * h.val, 0] : Fin 2 → Nat) a + S128x1024.size a ≤ S1024x1024.size a := by
  revert h; decide
/-- The rows of the output matrix that multiply head `h`. -/
abbrev woR (h : Fin 8) : Rect S1024x1024 := Rect.unit (s := S1024x1024) ![128 * h.val, 0] S128x1024.size (inbWo h)
/-- The whole of a 1024 by 1024 buffer. -/
abbrev fullR : Rect S1024x1024 := Rect.unit (s := S1024x1024) ![0, 0] S1024x1024.size inb_S1024x1024_S1024x1024_0_0

/-- Where trip `t` finds head `h` of its key and value blocks. -/
def kvOff : Fin 8 → Fin k0_t1_loop.trips → Fin 4 → ℕ
  | 0 => k0_off1 | 1 => k0_off2 | 2 => k0_off3 | 3 => k0_off4 | 4 => k0_off5 | 5 => k0_off6 | 6 => k0_off7 | 7 => k0_off8
theorem kvOff_inb : ∀ (h : Fin 8) (t : Fin k0_t1_loop.trips) (a), kvOff h t a + S1x1x1024x128.size a ≤ S8x8x1024x128.size a
  | 0 => k0_off1_inb | 1 => k0_off2_inb | 2 => k0_off3_inb | 3 => k0_off4_inb
  | 4 => k0_off5_inb | 5 => k0_off6_inb | 6 => k0_off7_inb | 7 => k0_off8_inb
abbrev kvHeadR (h : Fin 8) (t : Fin k0_t1_loop.trips) : Rect S8x8x1024x128 :=
  Rect.unit (s := S8x8x1024x128) (kvOff h t) S1x1x1024x128.size (kvOff_inb h t)

/-- The rows of the output that ring step `t` sends, -/
def srcOff (d : Dev nD) (t : Fin 14) : Fin 2 → ℕ :=
  if t.val < 7 then k0_off9 d (BitVec.ofNat 32 t.val) else k0_off11 d (BitVec.ofNat 32 (t.val - 7))
/-- and the rows that it changes. -/
def dstOff (d : Dev nD) (t : Fin 14) : Fin 2 → ℕ :=
  if t.val < 7 then k0_off10 d (BitVec.ofNat 32 t.val) else k0_off12 d (BitVec.ofNat 32 (t.val - 7))
theorem srcOff_inb (d : Dev nD) (t : Fin 14) : ∀ a, srcOff d t a + S128x1024.size a ≤ S1024x1024.size a := by
  unfold srcOff; split
  · next h => exact k0_off9_inb d ⟨t.val, h⟩
  · next h => exact k0_off11_inb d ⟨t.val - 7, by omega⟩
theorem dstOff_inb (d : Dev nD) (t : Fin 14) : ∀ a, dstOff d t a + S128x1024.size a ≤ S1024x1024.size a := by
  unfold dstOff; split
  · next h => exact k0_off10_inb d ⟨t.val, h⟩
  · next h => exact k0_off12_inb d ⟨t.val - 7, by omega⟩
abbrev srcR (d : Dev nD) (t : Fin 14) : Rect S1024x1024 := Rect.unit (s := S1024x1024) (srcOff d t) S128x1024.size (srcOff_inb d t)
abbrev dstR (d : Dev nD) (t : Fin 14) : Rect S1024x1024 := Rect.unit (s := S1024x1024) (dstOff d t) S128x1024.size (dstOff_inb d t)
abbrev srcChunk (d : Dev nD) (t : Fin 14) : Memref sig .tc .vmem S128x1024 .f32 := mO.slice (srcR d t) (fun _ => rfl)

/-! ## The semaphores -/

theorem inb2 (b : Fin 2) : ∀ a, (![b.val] : Fin 1 → Nat) a + S1.size a ≤ S2.size a := by revert b; decide
theorem inb7 (b : Fin 7) : ∀ a, (![b.val] : Fin 1 → Nat) a + S1.size a ≤ S7.size a := by revert b; decide
theorem inb14 (b : Fin 14) : ∀ a, (![b.val] : Fin 1 → Nat) a + S1.size a ≤ S14.size a := by revert b; decide
abbrev at2 {α : Type} (m : SemArray α S2) (b : Fin 2) : α := ((m.slice (Rect.unit (s := S2) ![b.val] S1.size (inb2 b))).squeeze S_ squeezes_S1_S_).sem
abbrev at7 {α : Type} (m : SemArray α S7) (b : Fin 7) : α := ((m.slice (Rect.unit (s := S7) ![b.val] S1.size (inb7 b))).squeeze S_ squeezes_S1_S_).sem
abbrev at14 {α : Type} (m : SemArray α S14) (b : Fin 14) : α := ((m.slice (Rect.unit (s := S14) ![b.val] S1.size (inb14 b))).squeeze S_ squeezes_S1_S_).sem
abbrev barArr : Sems sig S_ := SemArray.scalar (sig.barrier 0 rfl)
abbrev barS : Sem sig := barArr.sem
abbrev locS (b : Fin 2) : DmaSem sig := at2 cc0_scratch7 b
abbrev ksS (i : Fin 7) : DmaSem sig := at7 cc0_scratch8 i
abbrev krS (i : Fin 7) : DmaSem sig := at7 cc0_scratch9 i
abbrev vsS (i : Fin 7) : DmaSem sig := at7 cc0_scratch10 i
abbrev vrS (i : Fin 7) : DmaSem sig := at7 cc0_scratch11 i
abbrev rsS (t : Fin 14) : DmaSem sig := at14 cc0_scratch12 t
abbrev rrS (t : Fin 14) : DmaSem sig := at14 cc0_scratch13 t
abbrev crS (b : Fin 2) : Sem sig := at2 cc0_scratch14 b

/-! ## The devices addressed -/

/-- The devices that the barrier signals reach, in order; -/
def barDev (d : Dev nD) : Fin 7 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩
/-- that the sends of key blocks address; -/
def ksDev (d : Dev nD) : Fin 7 → Dev nD
  | 0 => ⟨k0_dev8 d, k0_dev8_lt d⟩ | 1 => ⟨k0_dev10 d, k0_dev10_lt d⟩ | 2 => ⟨k0_dev12 d, k0_dev12_lt d⟩
  | 3 => ⟨k0_dev14 d, k0_dev14_lt d⟩ | 4 => ⟨k0_dev16 d, k0_dev16_lt d⟩ | 5 => ⟨k0_dev18 d, k0_dev18_lt d⟩
  | 6 => ⟨k0_dev20 d, k0_dev20_lt d⟩
/-- of value blocks; -/
def vsDev (d : Dev nD) : Fin 7 → Dev nD
  | 0 => ⟨k0_dev9 d, k0_dev9_lt d⟩ | 1 => ⟨k0_dev11 d, k0_dev11_lt d⟩ | 2 => ⟨k0_dev13 d, k0_dev13_lt d⟩
  | 3 => ⟨k0_dev15 d, k0_dev15_lt d⟩ | 4 => ⟨k0_dev17 d, k0_dev17_lt d⟩ | 5 => ⟨k0_dev19 d, k0_dev19_lt d⟩
  | 6 => ⟨k0_dev21 d, k0_dev21_lt d⟩
/-- that each ring step sends to; -/
def rsDev (d : Dev nD) : Fin 14 → Dev nD
  | 0 => ⟨k0_dev22 d, k0_dev22_lt d⟩ | 1 => ⟨k0_dev24 d, k0_dev24_lt d⟩ | 2 => ⟨k0_dev26 d, k0_dev26_lt d⟩
  | 3 => ⟨k0_dev28 d, k0_dev28_lt d⟩ | 4 => ⟨k0_dev30 d, k0_dev30_lt d⟩ | 5 => ⟨k0_dev32 d, k0_dev32_lt d⟩
  | 6 => ⟨k0_dev34 d, k0_dev34_lt d⟩ | 7 => ⟨k0_dev36 d, k0_dev36_lt d⟩ | 8 => ⟨k0_dev38 d, k0_dev38_lt d⟩
  | 9 => ⟨k0_dev40 d, k0_dev40_lt d⟩ | 10 => ⟨k0_dev42 d, k0_dev42_lt d⟩ | 11 => ⟨k0_dev44 d, k0_dev44_lt d⟩
  | 12 => ⟨k0_dev46 d, k0_dev46_lt d⟩ | 13 => ⟨k0_dev47 d, k0_dev47_lt d⟩
/-- and that its credit goes to. -/
def crDev (d : Dev nD) : Fin 12 → Dev nD
  | 0 => ⟨k0_dev23 d, k0_dev23_lt d⟩ | 1 => ⟨k0_dev25 d, k0_dev25_lt d⟩ | 2 => ⟨k0_dev27 d, k0_dev27_lt d⟩
  | 3 => ⟨k0_dev29 d, k0_dev29_lt d⟩ | 4 => ⟨k0_dev31 d, k0_dev31_lt d⟩ | 5 => ⟨k0_dev33 d, k0_dev33_lt d⟩
  | 6 => ⟨k0_dev35 d, k0_dev35_lt d⟩ | 7 => ⟨k0_dev37 d, k0_dev37_lt d⟩ | 8 => ⟨k0_dev39 d, k0_dev39_lt d⟩
  | 9 => ⟨k0_dev41 d, k0_dev41_lt d⟩ | 10 => ⟨k0_dev43 d, k0_dev43_lt d⟩ | 11 => ⟨k0_dev45 d, k0_dev45_lt d⟩

/-! ## The pieces -/

/-- Tell another device that this one has started. -/
def barSignal (d : Dev nD) (i : Fin 7) : KProg F := semSignalWord (barDev d i) barS 1#32

/-- The copies of this device's own block, started. -/
def locStart : KProg F := do
  Prog.lift (.enqueueDma (kvSlot mKS 0) (.here (kvSlot mKG 0)) (.dma (locS 0)) (kvWords (Memref.isWhole_whole _) 0) (kvWords (Memref.isWhole_whole _) 0) ⟨Or.inl rfl, trivial⟩)
  Prog.lift (.enqueueDma (kvSlot mVS 0) (.here (kvSlot mVG 0)) (.dma (locS 1)) (kvWords (Memref.isWhole_whole _) 0) (kvWords (Memref.isWhole_whole _) 0) ⟨Or.inl rfl, trivial⟩)

/-- The sends number `i` of a key block and of a value block. -/
def kvSend (d : Dev nD) (i : Fin 7) : KProg F := do
  Prog.lift (.enqueueDma (kvSlot mKS i.succ) (.remote (Dev.tc (ksDev d i)) (kvSlot mKG i.rev.succ) (.dma (ksS i))) (.dma (krS i.rev)) (kvWords (Memref.isWhole_whole _) _) (kvWords (Memref.isWhole_whole _) _) ⟨⟨rfl, Or.inl rfl⟩, trivial⟩)
  Prog.lift (.enqueueDma (kvSlot mVS i.succ) (.remote (Dev.tc (vsDev d i)) (kvSlot mVG i.rev.succ) (.dma (vsS i))) (.dma (vrS i.rev)) (kvWords (Memref.isWhole_whole _) _) (kvWords (Memref.isWhole_whole _) _) ⟨⟨rfl, Or.inl rfl⟩, trivial⟩)

/-- The running results set up. -/
def initAcc : KProg F := do
  let _ : Vec F S8x1024x128 .f32 ← Prog.lift (.load mA (Rect.unit (s := S8x1024x128) ![0, 0, 0] S8x1024x128.size inb_S8x1024x128_S8x1024x128_0_0_0).toLoadRect (View.loadsAt_vmem h_S8x1024x128))
  Prog.lift (.store mA (Rect.unit (s := S8x1024x128) ![0, 0, 0] S8x1024x128.size inb_S8x1024x128_S8x1024x128_0_0_0) (k0_pay79 (k0_pay78 (F := F))) Finset.univ (View.stores_vmem_bits_univ h_S8x1024x128 rfl) (.inl rfl))
  let _ : Vec F S1024x8 .f32 ← Prog.lift (.load mML (Rect.unit (s := S1024x16) ![0, 0] S1024x8.size inb_S1024x16_S1024x8_0_0).toLoadRect (View.loadsAt_vmem h_S1024x8))
  Prog.lift (.store mML (Rect.unit (s := S1024x16) ![0, 0] S1024x8.size inb_S1024x16_S1024x8_0_0) (k0_pay80 (F := F)) Finset.univ (View.stores_vmem_bits_univ h_S1024x8 rfl) (.inl rfl))
  let _ : Vec F S1024x8 .f32 ← Prog.lift (.load mML (Rect.unit (s := S1024x16) ![0, 8] S1024x8.size inb_S1024x16_S1024x8_0_8).toLoadRect (View.loadsAt_vmem h_S1024x8))
  Prog.lift (.store mML (Rect.unit (s := S1024x16) ![0, 8] S1024x8.size inb_S1024x16_S1024x8_0_8) (k0_pay81 (F := F)) Finset.univ (View.stores_vmem_bits_univ h_S1024x8 rfl) (.inl rfl))

/-- The waits for the copies of this device's own block. -/
def locWait : KProg F := do
  Prog.lift (.waitDma2 (locS 0) (kvSlot mKS 0) (kvSlot mKG 0) (kvWords (Memref.isWhole_whole _) 0) (kvWords (Memref.isWhole_whole _) 0))
  Prog.lift (.waitDma2 (locS 1) (kvSlot mVS 0) (kvSlot mVG 0) (kvWords (Memref.isWhole_whole _) 0) (kvWords (Memref.isWhole_whole _) 0))

/-- The condition under which a trip waits for the blocks number `i + 1`. -/
abbrev waitCond (t : Fin k0_t1_loop.trips) (i : Fin 7) : Prop :=
  Scalar.cmpi .ne (Scalar.extui (Scalar.cmpi .eq (Scf.iv 0#32 1#32 t) (BitVec.ofNat 32 (i.val + 1))) : BitVec 32) 0#32 = 1#1

/-- The waits, in trip `t`, for the blocks number `i + 1`. -/
def whenWait (t : Fin k0_t1_loop.trips) (i : Fin 7) : KProg F :=
  if _h : waitCond t i then do
    Prog.lift (.waitDma2 (krS i.rev) (kvSlot mKS i.succ) (kvSlot mKG i.rev.succ) (kvWords (Memref.isWhole_whole _) _) (kvWords (Memref.isWhole_whole _) _))
    Prog.lift (.waitDma2 (vrS i.rev) (kvSlot mVS i.succ) (kvSlot mVG i.rev.succ) (kvWords (Memref.isWhole_whole _) _) (kvWords (Memref.isWhole_whole _) _))
    pure ⟨⟩
  else do
    pure ⟨⟩

/-- A number modulo 8, as the kernel computes it. -/
abbrev mod8 (a : BitVec 32) : BitVec 32 :=
  Scalar.select (Scalar.andi (Scalar.xori (Scalar.cmpi .slt (Scalar.remsi a (Scalar.select (Scalar.cmpi .eq 8#32 0#32) 1#32 8#32)) 0#32)
      (Scalar.cmpi .slt (Scalar.select (Scalar.cmpi .eq 8#32 0#32) 1#32 8#32) 0#32))
    (Scalar.cmpi .ne (Scalar.remsi a (Scalar.select (Scalar.cmpi .eq 8#32 0#32) 1#32 8#32)) 0#32))
    (Scalar.addi (Scalar.remsi a (Scalar.select (Scalar.cmpi .eq 8#32 0#32) 1#32 8#32)) (Scalar.select (Scalar.cmpi .eq 8#32 0#32) 1#32 8#32))
    (Scalar.remsi a (Scalar.select (Scalar.cmpi .eq 8#32 0#32) 1#32 8#32))

/-- This device's number, as the kernel computes it. -/
abbrev meW (d : Dev nD) : BitVec 32 := Scalar.remsi (Scalar.divsi (Dev.word d) 1#32) 8#32
/-- The slot that trip `t` reads, -/
abbrev slotW (t : Fin k0_t1_loop.trips) : BitVec 32 := mod8 (Scalar.subi 8#32 (Scf.iv 0#32 1#32 t))
/-- and the device whose block it holds. -/
abbrev ownW (d : Dev nD) (t : Fin k0_t1_loop.trips) : BitVec 32 := mod8 (Scalar.addi (meW d) (slotW t))

/-- The mask of trip `t`: zero where the score counts. -/
def maskOf (d : Dev nD) (t : Fin k0_t1_loop.trips) : FVec F S1024x1024 .bf16 :=
  k0_pay6 (k0_pay5 (ownW d t) k0_pay1 (iota .tc S1024x1024 32 [1] iota_S1024x1024_d1_w32) 64#32 k0_pay2 k0_pay3 k0_pay4)
    (Scalar.ofBits .f32 0x00000000#32) (Named.named κ "mask" 0xCE6E6B28#32)

/-- The mask of a trip, stored. -/
def storeMask (d : Dev nD) (t : Fin k0_t1_loop.trips) : KProg F := do
  let _ : Vec F S1024x1024 .bf16 ← Prog.lift (.load mB fullR.toLoadRect (View.loadsAt_vmem h_S1024x1024))
  Prog.lift (.store mB fullR (maskOf d t) Finset.univ (View.stores_vmem h_S1024x1024 ((Memref.isWhole_whole _).storeExact_slice rfl _ packedbf16_S1024x1024_S1024x1024_0_0) (fun _ => rfl)) (.inl rfl))

/-- The columns of head `h`'s running maximum and running sum. -/
abbrev mCol (h : Fin 8) : Fin 16 := ⟨h.val, by omega⟩
abbrev lCol (h : Fin 8) : Fin 16 := ⟨8 + h.val, by omega⟩

/-- Head `h` of trip `t`. -/
def headStep (t : Fin k0_t1_loop.trips) (h : Fin 8) : KProg F := do
  let k : Vec F S1x1x1024x128 .bf16 ← Prog.lift (.load mKG (kvHeadR h t).toLoadRect (View.loadsAt_vmem h_S1x1x1024x128))
  let v : Vec F S1x1x1024x128 .bf16 ← Prog.lift (.load mVG (kvHeadR h t).toLoadRect (View.loadsAt_vmem h_S1x1x1024x128))
  let q : Vec F S1x1024x128 .bf16 ← Prog.lift (.load mQ (headR h).toLoadRect (View.loadsAt_vmem h_S1x1024x128))
  let b : Vec F S1024x1024 .bf16 ← Prog.lift (.load mB fullR.toLoadRect (View.loadsAt_vmem h_S1024x1024))
  let _ : Vec F S1024x1024 .f32 ← Prog.lift (.load mS fullR.toLoadRect (View.loadsAt_vmem h_S1024x1024))
  Prog.lift (.store mS fullR (k0_pay8 k q b) Finset.univ (View.stores_vmem_bits_univ h_S1024x1024 rfl) (.inl rfl))
  let m : Vec F S1024x1 .f32 ← Prog.lift (.load mML (colR (mCol h)).toLoadRect (View.loadsAt_vmem h_S1024x1))
  let s : Vec F S1024x1024 .f32 ← Prog.lift (.load mS fullR.toLoadRect (View.loadsAt_vmem h_S1024x1024))
  let s' : Vec F S1024x1024 .f32 ← Prog.lift (.load mS fullR.toLoadRect (View.loadsAt_vmem h_S1024x1024))
  let _ : Vec F S1024x1024 .f32 ← Prog.lift (.load mS fullR.toLoadRect (View.loadsAt_vmem h_S1024x1024))
  Prog.lift (.store mS fullR (k0_pay12 (k0_pay11 m s s')) Finset.univ (View.stores_vmem_bits_univ h_S1024x1024 rfl) (.inl rfl))
  let l : Vec F S1024x1 .f32 ← Prog.lift (.load mML (colR (lCol h)).toLoadRect (View.loadsAt_vmem h_S1024x1))
  let p : Vec F S1024x1024 .f32 ← Prog.lift (.load mS fullR.toLoadRect (View.loadsAt_vmem h_S1024x1024))
  let _ : Vec F S1024x1 .f32 ← Prog.lift (.load mML (colR (lCol h)).toLoadRect (View.loadsAt_vmem h_S1024x1))
  Prog.lift (.store mML (colR (lCol h)) (k0_pay13 (k0_pay10 m s) l p) Finset.univ (View.stores_vmem_bits_univ h_S1024x1 rfl) (.inl rfl))
  let a : Vec F S1x1024x128 .f32 ← Prog.lift (.load mA (headR h).toLoadRect (View.loadsAt_vmem h_S1x1024x128))
  let p' : Vec F S1024x1024 .f32 ← Prog.lift (.load mS fullR.toLoadRect (View.loadsAt_vmem h_S1024x1024))
  let _ : Vec F S1x1024x128 .f32 ← Prog.lift (.load mA (headR h).toLoadRect (View.loadsAt_vmem h_S1x1024x128))
  Prog.lift (.store mA (headR h) (k0_pay14 (k0_pay7 v) (k0_pay10 m s) a p') Finset.univ (View.stores_vmem_bits_univ h_S1x1024x128 rfl) (.inl rfl))
  let _ : Vec F S1024x1 .f32 ← Prog.lift (.load mML (colR (mCol h)).toLoadRect (View.loadsAt_vmem h_S1024x1))
  Prog.lift (.store mML (colR (mCol h)) (k0_pay15 (k0_pay9 m s)) Finset.univ (View.stores_vmem_bits_univ h_S1024x1 rfl) (.inl rfl))

/-- A trip of the loop. -/
def tripBody (d : Dev nD) (t : Fin k0_t1_loop.trips) : KProg F :=
  seqN 7 (whenWait t) >>= fun _ => storeMask d t >>= fun _ => seqN 8 (headStep t)

/-- The projection of head 0, which starts the output, -/
def projFirst : KProg F := do
  let a : Vec F S1x1024x128 .f32 ← Prog.lift (.load mA (headR 0).toLoadRect (View.loadsAt_vmem h_S1x1024x128))
  let l : Vec F S1024x1 .f32 ← Prog.lift (.load mML (colR (lCol 0)).toLoadRect (View.loadsAt_vmem h_S1024x1))
  let w : Vec F S128x1024 .bf16 ← Prog.lift (.load mW (woR 0).toLoadRect (View.loadsAt_vmem h_S128x1024))
  let _ : Vec F S1024x1024 .f32 ← Prog.lift (.load mO fullR.toLoadRect (View.loadsAt_vmem h_S1024x1024))
  Prog.lift (.store mO fullR (k0_pay84 a l w) Finset.univ (View.stores_vmem_bits_univ h_S1024x1024 rfl) (.inl rfl))
/-- and that of a later head, which adds to it. -/
def projNext (h : Fin 7) : KProg F := do
  let a : Vec F S1x1024x128 .f32 ← Prog.lift (.load mA (headR h.succ).toLoadRect (View.loadsAt_vmem h_S1x1024x128))
  let l : Vec F S1024x1 .f32 ← Prog.lift (.load mML (colR (lCol h.succ)).toLoadRect (View.loadsAt_vmem h_S1024x1))
  let w : Vec F S128x1024 .bf16 ← Prog.lift (.load mW (woR h.succ).toLoadRect (View.loadsAt_vmem h_S128x1024))
  let o : Vec F S1024x1024 .f32 ← Prog.lift (.load mO fullR.toLoadRect (View.loadsAt_vmem h_S1024x1024))
  let _ : Vec F S1024x1024 .f32 ← Prog.lift (.load mO fullR.toLoadRect (View.loadsAt_vmem h_S1024x1024))
  Prog.lift (.store mO fullR (k0_pay85 a l w o) Finset.univ (View.stores_vmem_bits_univ h_S1024x1024 rfl) (.inl rfl))

/-- The slot of the landing buffer that ring step `t` uses. -/
abbrev par (t : Fin 14) : Fin 2 := ⟨t.val % 2, Nat.mod_lt _ (by decide)⟩

def ringCredit (t : Fin 14) : KProg F := if 2 ≤ t.val then semWaitWord (crS (par t)) 1#32 else pure ⟨⟩
def ringSend (d : Dev nD) (t : Fin 14) : KProg F :=
  Prog.lift (.enqueueDma (srcChunk d t) (.remote (Dev.tc (rsDev d t)) (rsSlot (par t)) (.dma (rsS t))) (.dma (rrS t)) (View.wordExact_bits rfl) (rsWords _) ⟨⟨rfl, Or.inl rfl⟩, trivial⟩)
def ringRecv (d : Dev nD) (t : Fin 14) : KProg F :=
  Prog.lift (.waitDma2 (rrS t) (srcChunk d t) (rsSlot (par t)) (View.wordExact_bits rfl) (rsWords _))
def ringUse (d : Dev nD) (t : Fin 14) : KProg F :=
  if t.val < 7 then do
    let v : Vec F S128x1024 .f32 ← Prog.lift (.load mO (dstR d t).toLoadRect (View.loadsAt_vmem h_S128x1024))
    let w : Vec F S1x128x1024 .f32 ← Prog.lift (.load mR (rsR (par t)).toLoadRect (View.loadsAt_vmem h_S1x128x1024))
    let _ : Vec F S128x1024 .f32 ← Prog.lift (.load mO (dstR d t).toLoadRect (View.loadsAt_vmem h_S128x1024))
    Prog.lift (.store mO (dstR d t) (k0_pay95 v w) Finset.univ (View.stores_vmem_bits_univ h_S128x1024 rfl) (.inl rfl))
  else do
    let w : Vec F S1x128x1024 .f32 ← Prog.lift (.load mR (rsR (par t)).toLoadRect (View.loadsAt_vmem h_S1x128x1024))
    let _ : Vec F S128x1024 .f32 ← Prog.lift (.load mO (dstR d t).toLoadRect (View.loadsAt_vmem h_S128x1024))
    Prog.lift (.store mO (dstR d t) (k0_pay103 w) Finset.univ (View.stores_vmem_bits_univ h_S128x1024 rfl) (.inl rfl))
def ringGive (d : Dev nD) (t : Fin 14) : KProg F :=
  if h : t.val < 12 then semSignalWord (crDev d ⟨t.val, h⟩) (crS (par t)) 1#32 else pure ⟨⟩

/-- Step `t` of the ring. -/
def ringStep (d : Dev nD) (t : Fin 14) : KProg F :=
  ringCredit t >>= fun _ => ringSend d t >>= fun _ => ringRecv d t >>= fun _ => ringUse d t >>= fun _ => ringGive d t

/-- The waits for the sends of key blocks, of value blocks, and of the ring. -/
def ksWait (i : Fin 7) : KProg F :=
  Prog.lift (.waitDma2 (ksS i) (kvSlot mKG i.rev.succ) (kvSlot mKS i.succ) (kvWords (Memref.isWhole_whole _) _) (kvWords (Memref.isWhole_whole _) _))
def vsWait (i : Fin 7) : KProg F :=
  Prog.lift (.waitDma2 (vsS i) (kvSlot mVG i.rev.succ) (kvSlot mVS i.succ) (kvWords (Memref.isWhole_whole _) _) (kvWords (Memref.isWhole_whole _) _))
def kvsWait (i : Fin 7) : KProg F := ksWait i >>= fun _ => vsWait i
def rsWait (d : Dev nD) (t : Fin 14) : KProg F :=
  Prog.lift (.waitDma2 (rsS t) (rsSlot (par t)) (srcChunk d t) (rsWords _) (View.wordExact_bits rfl))

/-- What precedes the loop, -/
def preProg (d : Dev nD) : KProg F :=
  seqN 7 (barSignal d) >>= fun _ => semWaitWord barS 7#32 >>= fun _ => locStart >>= fun _ =>
  seqN 7 (kvSend d) >>= fun _ => initAcc >>= fun _ => locWait
/-- the loop, -/
def loopProg (d : Dev nD) : KProg F := Scf.Loop.for k0_t1_loop k0_t1_ok ⟨⟩ (fun t _ => tripBody d t)
/-- and what follows it. -/
def postProg (d : Dev nD) : KProg F :=
  projFirst >>= fun _ => seqN 7 projNext >>= fun _ => seqN 14 (ringStep d) >>= fun _ =>
  seqN 7 ksWait >>= fun _ => seqN 7 vsWait >>= fun _ => seqN 14 (rsWait d)

/-- The kernel's program. -/
def bodyProg (d : Dev nD) : KProg F := preProg d >>= fun _ => loopProg d >>= fun _ => postProg d

/-! ## The printed program is this one -/

theorem whenWait_bind {β : Type} (t : Fin k0_t1_loop.trips) (i : Fin 7) (k : PUnit → Prog (TpuEff nD τ sig (Elt F) Λ₀ .tc) β) :
    whenWait t i >>= k = if _h : waitCond t i then
      Prog.lift (.waitDma2 (krS i.rev) (kvSlot mKS i.succ) (kvSlot mKG i.rev.succ) (kvWords (Memref.isWhole_whole _) _) (kvWords (Memref.isWhole_whole _) _)) >>= fun _ =>
      Prog.lift (.waitDma2 (vrS i.rev) (kvSlot mVS i.succ) (kvSlot mVG i.rev.succ) (kvWords (Memref.isWhole_whole _) _) (kvWords (Memref.isWhole_whole _) _)) >>= fun _ => k ⟨⟩
    else k ⟨⟩ := by
  unfold whenWait; split <;> rfl

theorem seqN_zero (f : Fin 0 → KProg F) : seqN 0 f = pure ⟨⟩ := rfl
theorem seqN_succ (n : ℕ) (f : Fin (n + 1) → KProg F) : seqN (n + 1) f = f 0 >>= fun _ => seqN n fun i => f i.succ := rfl

set_option maxRecDepth 65536 in
set_option maxHeartbeats 4000000 in
theorem part1_eq (v117 v148 v179 v210 v241 v272 : BitVec 32) (t : Fin k0_t1_loop.trips) :
    k0_part1_skel (F := F) mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 v117 v148 v179 v210 v241 v272 0#32 1#32 t
      = whenWait t 0 >>= fun _ => whenWait t 1 >>= fun _ => whenWait t 2 >>= fun _ => whenWait t 3 >>= fun _ =>
        whenWait t 4 >>= fun _ => whenWait t 5 >>= fun _ => pure ⟨slotW t, Scalar.cmpi .ne (Scalar.extui (Scalar.cmpi .eq (Scf.iv 0#32 1#32 t) 7#32) : BitVec 32) 0#32⟩ := by
  simp only [whenWait_bind]; rfl

set_option maxRecDepth 65536 in
set_option maxHeartbeats 4000000 in
theorem part2_eq (d : Dev nD) (v303 : BitVec 32) (t : Fin k0_t1_loop.trips) :
    k0_part2_skel (F := F) mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 (meW d) v303 (slotW t) (Scalar.cmpi .ne (Scalar.extui (Scalar.cmpi .eq (Scf.iv 0#32 1#32 t) 7#32) : BitVec 32) 0#32)
      = whenWait t 6 >>= fun _ => pure ⟨ownW d t, k0_pay1, iota .tc S1024x1024 32 [1] iota_S1024x1024_d1_w32, 64#32, k0_pay2, k0_pay3, k0_pay4⟩ := by
  simp only [whenWait_bind]; rfl

set_option maxRecDepth 65536 in
set_option maxHeartbeats 8000000 in
/-- The printed body of the loop is a trip. -/
theorem loop_eq (d : Dev nD) (v117 v148 v179 v210 v241 v272 v303 : BitVec 32) :
    k0_t1_body (F := F) mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 (meW d) v117 v148 v179 v210 v241 v272 v303 = fun t _ => tripBody d t := by
  funext t _
  have h2 : tripBody (F := F) d t = whenWait t 0 >>= fun _ => whenWait t 1 >>= fun _ => whenWait t 2 >>= fun _ => whenWait t 3 >>= fun _ =>
        whenWait t 4 >>= fun _ => whenWait t 5 >>= fun _ => whenWait t 6 >>= fun _ => (storeMask d t >>= fun _ => seqN 8 (headStep t)) := by
    unfold tripBody
    simp only [seqN_succ, seqN_zero, bind_assoc, pure_bind]
    rfl
  rw [h2]
  unfold k0_t1_body
  dsimp only
  rw [k0_part1_eq_skeleton, part1_eq]
  simp only [bind_assoc, pure_bind]
  rw [k0_part2_eq_skeleton, part2_eq]
  simp only [bind_assoc, pure_bind]
  rfl

set_option maxRecDepth 65536 in
set_option maxHeartbeats 8000000 in
/-- What the printed body does before its loop, whatever follows. -/
theorem pre_eq {β : Type} (K : Dev nD → BitVec 32 → BitVec 32 → BitVec 32 → BitVec 32 → BitVec 32 → BitVec 32 → BitVec 32 → BitVec 32 → Prog (TpuEff nD τ sig (Elt F) Λ₀ .tc) β) : (do
  let ⟨d0, v2, v3, v30, c8_i32_18, v31⟩ : Σ' (d0 : Dev nD) (v2 : BitVec 32) (v3 : Sems sig S_) (v30 : BitVec 32) (c8_i32_18 : BitVec 32), BitVec 1 ← k0_part17 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14
  let ⟨v59, v64, v65⟩ : Σ' (v59 : BitVec 32) (v64 : BitVec 1), BitVec 32 ← k0_part18 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v3 v30 c8_i32_18 v31
  k0_part19 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v3 v59 v64 v65
  let v117 : BitVec 32 ← k0_part20 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 v2
  let v148 : BitVec 32 ← k0_part21 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v117
  let v179 : BitVec 32 ← k0_part22 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v148
  let v210 : BitVec 32 ← k0_part23 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v179
  let ⟨v233, v234, v235, v236, v237⟩ : Σ' (v233 : BitVec 32) (v234 : BitVec 32) (v235 : BitVec 1) (v236 : BitVec 1), BitVec 1 ← k0_part24 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v210
  let ⟨v241, v264, v265, v266⟩ : Σ' (v241 : BitVec 32) (v264 : BitVec 32) (v265 : BitVec 32), BitVec 1 ← k0_part25 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v233 v234 v235 v236 v237
  let ⟨v272, v293, c8_i32_269, v294, c1_i32_271⟩ : Σ' (v272 : BitVec 32) (v293 : BitVec 32) (c8_i32_269 : BitVec 32) (v294 : BitVec 1), BitVec 32 ← k0_part26 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v264 v265 v266
  let ⟨v303, v324⟩ : Σ' (v303 : BitVec 32), FVec F S8x1024x128 .f32 ← k0_part27 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v293 c8_i32_269 v294 c1_i32_271
  k0_part28 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 v324
  K d0 v2 v117 v148 v179 v210 v241 v272 v303) = (Prog.lift .deviceId >>= fun d => preProg d >>= fun _ => K d (meW d)
      (mod8 (Scalar.addi (meW d) 1#32)) (mod8 (Scalar.addi (meW d) 2#32)) (mod8 (Scalar.addi (meW d) 3#32)) (mod8 (Scalar.addi (meW d) 4#32))
      (mod8 (Scalar.addi (meW d) 5#32)) (mod8 (Scalar.addi (meW d) 6#32)) (mod8 (Scalar.addi (meW d) 7#32))) := by
  repeat (refine congrArg (Prog.op _) (funext fun _ => ?_))
  rfl

/-- What the printed body does after its loop, to its last three waits; -/
def printedPost (d0 : Dev nD) (v2 : BitVec 32) : Prog (TpuEff nD τ sig (Elt F) Λ₀ .tc) (Dev nD) := do
  let ⟨v377, v379, cst_407⟩ : Σ' (v377 : FVec F S1024x128 .bf16) (v379 : FVec F S128x1024 .bf16), FVec F S1024x1024 .f32 ← k0_part30 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14
  let v409 : FVec F S1024x1024 .f32 ← k0_part31 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 v377 v379 cst_407
  let v438 : FVec F S1024x128 .f32 ← k0_part32 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 v409
  let ⟨v460, v471, v472, c8_i32_472, c0_i32_473⟩ : Σ' (v460 : BitVec 32) (v471 : BitVec 32) (v472 : BitVec 32) (c8_i32_472 : BitVec 32), BitVec 32 ← k0_part33 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 v2 v438
  let ⟨v494, v505, c0_i32_498⟩ : Σ' (v494 : BitVec 32) (v505 : BitVec 32), BitVec 32 ← k0_part34 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v472 c8_i32_472 c0_i32_473
  let ⟨v536, v538, c8_i32_522⟩ : Σ' (v536 : BitVec 32) (v538 : BitVec 32), BitVec 32 ← k0_part35 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v471 v494 v505 c0_i32_498
  let ⟨v548, v569⟩ : Σ' (v548 : BitVec 32), FVec F S128x1024 .f32 ← k0_part36 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v460 v536 v538 c8_i32_522
  let ⟨v590, v602⟩ : Σ' (v590 : BitVec 32), BitVec 32 ← k0_part37 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v471 v548 v569
  k0_part38 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v460 v590 v602
  let v658 : BitVec 32 ← k0_part39 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v471
  let ⟨v694, v695⟩ : Σ' (v694 : BitVec 32), BitVec 32 ← k0_part40 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v471 v658
  let ⟨v714, c1_i32_678⟩ : Σ' (v714 : BitVec 32), BitVec 32 ← k0_part41 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v694 v695
  let ⟨v758, v759, c1_i32_702⟩ : Σ' (v758 : BitVec 32) (v759 : BitVec 32), BitVec 32 ← k0_part42 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v471 v714 c1_i32_678
  let ⟨v770, c128_i32_729⟩ : Σ' (v770 : BitVec 32), BitVec 32 ← k0_part43 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v460 v758 v759 c1_i32_702
  let ⟨v814, v818, v819, v820, v821, v822⟩ : Σ' (v814 : BitVec 32) (v818 : BitVec 32) (v819 : BitVec 32) (v820 : BitVec 1) (v821 : BitVec 1), BitVec 1 ← k0_part44 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v471 v770 c128_i32_729
  let ⟨v852, v853⟩ : Σ' (v852 : FVec F S128x1024 .f32), BitVec 32 ← k0_part45 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v460 v814 v818 v819 v820 v821 v822
  let v882 : BitVec 32 ← k0_part46 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v471 v852 v853
  let ⟨v912, c8_i32_832, v913⟩ : Σ' (v912 : BitVec 32) (c8_i32_832 : BitVec 32), BitVec 1 ← k0_part47 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v471 v882
  let v933 : BitVec 32 ← k0_part48 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v912 c8_i32_832 v913
  let ⟨v973, v974, v976⟩ : Σ' (v973 : BitVec 32) (v974 : BitVec 32), BitVec 32 ← k0_part49 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v471 v933
  let ⟨v1005, v1006⟩ : Σ' (v1005 : FVec F S128x1024 .f32), BitVec 32 ← k0_part50 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v460 v973 v974 v976
  let v1035 : BitVec 32 ← k0_part51 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v471 v1005 v1006
  let ⟨v1065, c8_i32_962, v1066⟩ : Σ' (v1065 : BitVec 32) (c8_i32_962 : BitVec 32), BitVec 1 ← k0_part52 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v471 v1035
  let v1086 : BitVec 32 ← k0_part53 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v1065 c8_i32_962 v1066
  let ⟨v1126, v1127, v1129⟩ : Σ' (v1126 : BitVec 32) (v1127 : BitVec 32), BitVec 32 ← k0_part54 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v471 v1086
  let ⟨v1158, v1159⟩ : Σ' (v1158 : FVec F S128x1024 .f32), BitVec 32 ← k0_part55 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v460 v1126 v1127 v1129
  let v1184 : BitVec 32 ← k0_part56 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v2 v460 v1158 v1159
  k0_part57 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0 v460 v1184
  k0_part58 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14
  k0_part59 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14
  k0_part60 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14
  k0_part61 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0
  k0_part62 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0
  k0_part63 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 d0
  let v1343 : DmaSems sig S1 := cc0_scratch12.slice (Rect.unit (s := S14) ![10] S1.size inb_S14_S1_10)
  let v1344 : DmaSems sig S_ := v1343.squeeze S_ squeezes_S1_S_
  let v1345 : Memref sig .tc .vmem S128x1024 .f32 := mO.slice (Rect.unit (s := S1024x1024) (k0_off11 d0 3#32) S128x1024.size (k0_off11_inb d0 3)) (fun _ => rfl)
  let v1346 : Memref sig .tc .vmem S1x128x1024 .f32 := mR.slice (Rect.unit (s := S2x128x1024) ![0, 0, 0] S1x128x1024.size inb_S2x128x1024_S1x128x1024_0_0_0) (fun _ => rfl)
  let v1347 : Memref sig .tc .vmem S128x1024 .f32 := v1346.squeeze S128x1024 squeezes_S1x128x1024_S128x1024
  Prog.lift (.waitDma2 v1344.sem v1347 v1345 ((View.wordExact_bits rfl).reshape _ _) (View.wordExact_bits rfl))
  pure d0

/-- and those. -/
def printedLast (d0 : Dev nD) : KProg F := do
  let v1348 : DmaSems sig S1 := cc0_scratch12.slice (Rect.unit (s := S14) ![11] S1.size inb_S14_S1_11)
  let v1349 : DmaSems sig S_ := v1348.squeeze S_ squeezes_S1_S_
  let v1350 : Memref sig .tc .vmem S128x1024 .f32 := mO.slice (Rect.unit (s := S1024x1024) (k0_off11 d0 4#32) S128x1024.size (k0_off11_inb d0 4)) (fun _ => rfl)
  let v1351 : Memref sig .tc .vmem S1x128x1024 .f32 := mR.slice (Rect.unit (s := S2x128x1024) ![1, 0, 0] S1x128x1024.size inb_S2x128x1024_S1x128x1024_1_0_0) (fun _ => rfl)
  let v1352 : Memref sig .tc .vmem S128x1024 .f32 := v1351.squeeze S128x1024 squeezes_S1x128x1024_S128x1024
  Prog.lift (.waitDma2 v1349.sem v1352 v1350 ((View.wordExact_bits rfl).reshape _ _) (View.wordExact_bits rfl))
  let v1353 : DmaSems sig S1 := cc0_scratch12.slice (Rect.unit (s := S14) ![12] S1.size inb_S14_S1_12)
  let v1354 : DmaSems sig S_ := v1353.squeeze S_ squeezes_S1_S_
  let v1355 : Memref sig .tc .vmem S128x1024 .f32 := mO.slice (Rect.unit (s := S1024x1024) (k0_off11 d0 5#32) S128x1024.size (k0_off11_inb d0 5)) (fun _ => rfl)
  let v1356 : Memref sig .tc .vmem S1x128x1024 .f32 := mR.slice (Rect.unit (s := S2x128x1024) ![0, 0, 0] S1x128x1024.size inb_S2x128x1024_S1x128x1024_0_0_0) (fun _ => rfl)
  let v1357 : Memref sig .tc .vmem S128x1024 .f32 := v1356.squeeze S128x1024 squeezes_S1x128x1024_S128x1024
  Prog.lift (.waitDma2 v1354.sem v1357 v1355 ((View.wordExact_bits rfl).reshape _ _) (View.wordExact_bits rfl))
  let v1358 : DmaSems sig S1 := cc0_scratch12.slice (Rect.unit (s := S14) ![13] S1.size inb_S14_S1_13)
  let v1359 : DmaSems sig S_ := v1358.squeeze S_ squeezes_S1_S_
  let v1360 : Memref sig .tc .vmem S128x1024 .f32 := mO.slice (Rect.unit (s := S1024x1024) (k0_off11 d0 6#32) S128x1024.size (k0_off11_inb d0 6)) (fun _ => rfl)
  let v1361 : Memref sig .tc .vmem S1x128x1024 .f32 := mR.slice (Rect.unit (s := S2x128x1024) ![1, 0, 0] S1x128x1024.size inb_S2x128x1024_S1x128x1024_1_0_0) (fun _ => rfl)
  let v1362 : Memref sig .tc .vmem S128x1024 .f32 := v1361.squeeze S128x1024 squeezes_S1x128x1024_S128x1024
  Prog.lift (.waitDma2 v1359.sem v1362 v1360 ((View.wordExact_bits rfl).reshape _ _) (View.wordExact_bits rfl))
  pure ⟨⟩

/-- The loop, as printed. -/
def printedLoop (v2 v117 v148 v179 v210 v241 v272 v303 : BitVec 32) : KProg F :=
  k0_part29 mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 v2 v117 v148 v179 v210 v241 v272 v303

theorem part64_eq : k0_part64_skel (F := F) mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 = (Prog.lift .deviceId >>= fun d => preProg d >>= fun _ =>
    printedLoop (meW d)
      (mod8 (Scalar.addi (meW d) 1#32)) (mod8 (Scalar.addi (meW d) 2#32)) (mod8 (Scalar.addi (meW d) 3#32)) (mod8 (Scalar.addi (meW d) 4#32))
      (mod8 (Scalar.addi (meW d) 5#32)) (mod8 (Scalar.addi (meW d) 6#32)) (mod8 (Scalar.addi (meW d) 7#32)) >>= fun _ => printedPost d (meW d)) :=
  pre_eq fun d0 v2 v117 v148 v179 v210 v241 v272 v303 => printedLoop v2 v117 v148 v179 v210 v241 v272 v303 >>= fun _ => printedPost d0 v2

theorem loopProg_eq (d : Dev nD) (v117 v148 v179 v210 v241 v272 v303 : BitVec 32) :
    printedLoop (F := F) (meW d) v117 v148 v179 v210 v241 v272 v303 = (loopProg d >>= fun _ => pure ⟨⟩) := by
  unfold printedLoop
  rw [k0_part29_eq_skeleton]; unfold k0_part29_skel; rw [loop_eq]; rfl

set_option maxRecDepth 65536 in
set_option maxHeartbeats 8000000 in
theorem postProg_eq (d : Dev nD) : (printedPost (F := F) d (meW d) >>= printedLast) = postProg d := by
  unfold printedPost printedLast
  repeat (refine congrArg (Prog.op _) (funext fun _ => ?_))
  rfl

set_option maxRecDepth 65536 in
set_option maxHeartbeats 8000000 in
/-- The printed body is the program. -/
theorem body_eq : (cc0__body (F := F) mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14) = Prog.lift .deviceId >>= bodyProg := by
  rw [cc0__body_eq_skeleton]
  have h : cc0__body_skel (F := F) mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 = (k0_part64_skel (F := F) mQ (hstage0_0 0) mW (hstage0_1 0) mKS (Memref.isWhole_whole _) mVS (Memref.isWhole_whole _) mO (hstage0_2 0) mKG (Memref.isWhole_whole _) mVG (Memref.isWhole_whole _) mA (Memref.isWhole_whole _) mML (Memref.isWhole_whole _) mS (Memref.isWhole_whole _) mB (Memref.isWhole_whole _) mR (Memref.isWhole_whole _) cc0_scratch7 cc0_scratch8 cc0_scratch9 cc0_scratch10 cc0_scratch11 cc0_scratch12 cc0_scratch13 cc0_scratch14 >>= printedLast) := rfl
  rw [h, part64_eq]
  unfold bodyProg
  simp only [bind_assoc, loopProg_eq, pure_bind, postProg_eq]

end Cert.KernelIdeal.Hand

end
-- ==== Proof.Common.lean ====
/-
  What the run of the kernel shares: the resource algebra, the eight devices of the ring, the kernel's semaphores as
  cells, what each unit of a cell hands to the cell's owner, the levels of the cells, and what a device owes.
-/
module

public import proofs.«01_k».proof.Proof.Program
public import Idealize.ShloMosaic.Lib.Pipeline.RegionTalk
public import Idealize.ShloMosaic.Lib.Memref
public import Idealize.ShloMosaic.Harness.Basic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

/-- The algebra of the kernel's own protocol: a cell's round has up to seven duties. -/
abbrev UK : Type := URounds (GSem nD τ sig) (Fin 7)
/-- The pipeline's algebra and the kernel's, side by side. -/
abbrev UU : Type := UR sig nD τ × UK

local notation "𝕄" => MT nD τ sig ℕ (Elt F) ℕ UU ℕ

abbrev EP : Emb (UR sig nD τ) (MT nD τ sig ℕ (Elt F) ℕ UU ℕ) := embL
abbrev ER : Emb UK (MT nD τ sig ℕ (Elt F) ℕ UU ℕ) := embR

abbrev 𝒱₀ : Variants := Variants.none

/-! ## The devices -/

/-- The device `k` places after `d`. -/
def up (d : Dev nD) (k : ℕ) : Dev nD := ⟨(d.val + k) % 8, Nat.mod_lt _ (by decide)⟩
abbrev right (d : Dev nD) : Dev nD := up d 1
abbrev left (d : Dev nD) : Dev nD := up d 7

theorem up_up (d : Dev nD) (a b : ℕ) : up (up d a) b = up d (a + b) := Fin.ext (by simp [up, Nat.add_assoc])
theorem up_8 (d : Dev nD) : up d 8 = d := by revert d; decide
theorem right_left (d : Dev nD) : right (left d) = d := by revert d; decide
theorem left_right (d : Dev nD) : left (right d) = d := by revert d; decide
theorem up_rev (d : Dev nD) (i : Fin 7) : up (up d (i.val + 1)) (i.rev.val + 1) = d := by revert d i; decide
theorem up_rev' (d : Dev nD) (i : Fin 7) : up (up d (i.rev.val + 1)) (i.val + 1) = d := by revert d i; decide

theorem barDev_eq (d : Dev nD) (i : Fin 7) : barDev d i = up d (i.val + 1) := by revert d i; decide +kernel
theorem ksDev_eq (d : Dev nD) (i : Fin 7) : ksDev d i = up d (i.val + 1) := by revert d i; decide +kernel
theorem vsDev_eq (d : Dev nD) (i : Fin 7) : vsDev d i = up d (i.val + 1) := by revert d i; decide +kernel
theorem rsDev_eq (d : Dev nD) (t : Fin 14) : rsDev d t = right d := by revert d t; decide +kernel
theorem crDev_eq (d : Dev nD) (t : Fin 12) : crDev d t = left d := by revert d t; decide +kernel

/-! ## The semaphores -/

/-- The part a semaphore of the kernel plays. -/
inductive Role
  | bar | loc (i : Fin 2) | ks (i : Fin 7) | kr (i : Fin 7) | vs (i : Fin 7) | vr (i : Fin 7)
  | rs (t : Fin 14) | rr (t : Fin 14) | cr (b : Fin 2)
  deriving DecidableEq, Fintype

/-- The semaphore that plays a part. -/
def semOf : Role → SemLoc sig
  | .bar => .reg barS | .loc i => .dma (locS i) | .ks i => .dma (ksS i) | .kr i => .dma (krS i)
  | .vs i => .dma (vsS i) | .vr i => .dma (vrS i) | .rs t => .dma (rsS t) | .rr t => .dma (rrS t) | .cr b => .reg (crS b)

/-- The part a semaphore plays. -/
def roleAt : SemLoc sig → Option Role
  | .reg s => if h : s.val < 2 then some (.cr ⟨s.val, h⟩) else some .bar
  | .dma s =>
    if s.val < 3 then none
    else if h : s.val - 3 < 2 then some (.loc ⟨s.val - 3, h⟩)
    else if h : s.val - 5 < 7 then some (.ks ⟨s.val - 5, h⟩)
    else if h : s.val - 12 < 7 then some (.kr ⟨s.val - 12, h⟩)
    else if h : s.val - 19 < 7 then some (.vs ⟨s.val - 19, h⟩)
    else if h : s.val - 26 < 7 then some (.vr ⟨s.val - 26, h⟩)
    else if h : s.val - 33 < 14 then some (.rs ⟨s.val - 33, h⟩)
    else if h : s.val - 47 < 14 then some (.rr ⟨s.val - 47, h⟩)
    else none

theorem roleAt_semOf (ρ : Role) : roleAt (semOf ρ) = some ρ := by
  cases ρ with
  | bar => decide +kernel
  | loc i => revert i; decide +kernel
  | ks i => revert i; decide +kernel
  | kr i => revert i; decide +kernel
  | vs i => revert i; decide +kernel
  | vr i => revert i; decide +kernel
  | rs i => revert i; decide +kernel
  | rr i => revert i; decide +kernel
  | cr i => revert i; decide +kernel

theorem semOf_injective : Function.Injective semOf := fun a b h => by
  simpa [roleAt_semOf] using congrArg roleAt h

/-- A semaphore of device `d`, by its part. -/
abbrev cell (d : Dev nD) (ρ : Role) : GSem nD τ sig := ((d : Thread nD τ), semOf ρ)

theorem cell_inj {d d' : Dev nD} {ρ ρ' : Role} (h : cell d ρ = cell d' ρ') : d = d' ∧ ρ = ρ' :=
  ⟨congrArg (fun g => g.1.1) h, semOf_injective (congrArg (fun g => g.2) h)⟩

end Cert.KernelIdeal.Hand
-- ==== Proof.Sched.lean ====
/-
  What each unit of the kernel's semaphores hands to its owner, the levels of the semaphores, and what a device owes.
-/
module

public import proofs.«01_k».proof.Proof.Common

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-! ## Contents -/

/-- Device `c` owns the memref, and reads `X` through it; -/
abbrev ow (c : Dev nD) {sp : Space} {sh : Shape} {e : EltTy} (m : Memref sig .tc sp sh e) (X : sh.Idx → Elt F e) : sProp 𝕄 :=
  owns (c : Thread nD τ) m fullShare X
variable (F) in
/-- or at contents not named. -/
def owA (c : Dev nD) {sp : Space} {sh : Shape} {e : EltTy} (m : Memref sig .tc sp sh e) : sProp 𝕄 :=
  iprop(∃ X : sh.Idx → Elt F e, ow c m X)
instance owA_storable (c : Dev nD) {sp : Space} {sh : Shape} {e : EltTy} (m : Memref sig .tc sp sh e) :
    BI.Storable (upEmb : UEmb _ 𝕄) (owA F c m) := by unfold owA; infer_instance

variable (F) in
abbrev KVc : Type := S8x8x1024x128.Idx → Elt F .bf16
variable (F) in
abbrev Blk : Type := S8x1024x128.Idx → Elt F .bf16
variable (F) in
abbrev Oc : Type := S1024x1024.Idx → Elt F .f32
variable (F) in
abbrev Ch : Type := S128x1024.Idx → Elt F .f32

/-- Block `s` of a buffer of gathered blocks. -/
def blk (G : KVc F) (s : Fin 8) : Blk F := (kvSlot mKS s).view.read (Elt F) G
/-- The block that device `c` finds in its slot `s`: its own in slot 0, another device's in a later one. -/
def inBlk (K : Dev nD → KVc F) (c : Dev nD) (s : Fin 8) : Blk F :=
  blk (K (up c s.val)) (Fin.ofNat 8 (8 - s.val))

/-- A piece of the ring's landing buffer with the leading dimension of one. -/
def unsq (X : Ch F) : S1x128x1024.Idx → Elt F .f32 :=
  fun i => X ((Shape.reshapeEquiv (s := S1x128x1024) (s' := S128x1024) (by decide)).symm i)

/-- The chunk of the output that step `t` of the ring sends, by its number, for device `d`. -/
def chk (d : Dev nD) (t : ℕ) : Fin 8 := Fin.ofNat 8 (d.val + 24 - t)
/-- Chunk `k` of an output. -/
def chunk (O : Oc F) (k : Fin 8) : Ch F := fun j => O ((woR k).emb j)

/-- What device `c` sends at step `t` of the ring: a running sum for the first seven steps, a finished chunk afterwards. -/
def SV (O : Dev nD → Oc F) : ℕ → Dev nD → Ch F
  | 0, c => chunk (O c) (chk c 0)
  | t + 1, c => if t < 7 then k0_pay95 (chunk (O c) (chk c (t + 1))) (unsq (SV O t (left c))) else k0_pay103 (unsq (SV O t (left c)))

/-- Chunk `k` of the output as the memory it is. -/
abbrev chunkM (k : Fin 8) : Memref sig .tc .vmem S128x1024 .f32 := mO.slice (woR k) (fun _ => rfl)

/-! ## What the units carry -/

/-- The contents the protocol speaks of: every device's key and value blocks, and its unreduced output. -/
structure Cont (F : FTy → Type) where
  K : Dev nD → KVc F
  V : Dev nD → KVc F
  O : Dev nD → Oc F

abbrev slotNo (i : Fin 7) : Fin 8 := i.succ

variable (F) in
/-- What signal `i` of the barrier of `c` brings: the slots of the sender that `c` fills. -/
def barPay (c : Dev nD) (i : Fin 7) : sProp 𝕄 :=
  iprop(owA F (up c (i.val + 1)) (kvSlot mKG i.rev.succ) ∗ owA F (up c (i.val + 1)) (kvSlot mVG i.rev.succ)
    ∗ reached ER (cell (up c (i.val + 1)) (.kr i.rev)) 0 ∗ reached ER (cell (up c (i.val + 1)) (.vr i.rev)) 0
    ∗ (if i = 0 then iprop(owA F (right c) (rsSlot 0) ∗ owA F (right c) (rsSlot 1)
        ∗ bigSep Finset.univ fun t : Fin 14 => reached ER (cell (right c) (.rr t)) 0) else iprop(emp)))

/-- What the landing of step `t` of the ring brings to `c`. -/
def rrPay (Γ : Cont F) (c : Dev nD) (t : Fin 14) : sProp 𝕄 :=
  iprop(ow c (rsSlot (par t)) (SV Γ.O t.val (left c))
    ∗ (if t.val < 12 then iprop(ow (left c) (chunkM (chk (left c) t.val)) (SV Γ.O t.val (left c)) ∗ reached ER (cell (left c) (.cr (par t))) (t.val / 2)) else iprop(emp)))

/-- What a credit of the ring brings to `c`: the landing slot of the next device, and `c`'s own chunk back. -/
def crPay (Γ : Cont F) (c : Dev nD) (b : Fin 2) (r : ℕ) : sProp 𝕄 :=
  iprop(owA F (right c) (rsSlot b) ∗ ow c (chunkM (chk c (b.val + 2 * r))) (SV Γ.O (b.val + 2 * r) c))

/-- What duty `i` of round `r` brings to the semaphore of device `c` with part `ρ`. -/
def pay (Γ : Cont F) (c : Dev nD) (r : ℕ) (i : Fin 7) : Role → sProp 𝕄
  | .bar => barPay F c i
  | .loc j => if j = 0 then iprop(ow c (kvSlot mKG 0) (blk (Γ.K c) 0) ∗ ow c (kvSlot mKS 0) (blk (Γ.K c) 0))
      else iprop(ow c (kvSlot mVG 0) (blk (Γ.V c) 0) ∗ ow c (kvSlot mVS 0) (blk (Γ.V c) 0))
  | .ks j => ow c (kvSlot mKS j.succ) (blk (Γ.K c) j.succ)
  | .vs j => ow c (kvSlot mVS j.succ) (blk (Γ.V c) j.succ)
  | .kr j => ow c (kvSlot mKG j.succ) (inBlk Γ.K c j.succ)
  | .vr j => ow c (kvSlot mVG j.succ) (inBlk Γ.V c j.succ)
  | .rs t => if t.val < 12 then iprop(emp) else ow c (chunkM (chk c t.val)) (SV Γ.O t.val c)
  | .rr t => rrPay Γ c t
  | .cr b => crPay Γ c b r

/-- The units that a copy of a block, and a copy of a chunk, brings. -/
@[irreducible] def NK : ℕ := (kvSlot mKG 0).view.dmaCredit
@[irreducible] def NR : ℕ := (rsSlot 0).view.dmaCredit
theorem NK_pos : 0 < NK := by unfold NK; exact View.dmaCredit_pos _ (by decide)
theorem NR_pos : 0 < NR := by unfold NR; exact View.dmaCredit_pos _ (by decide)

def amt : Role → ℕ
  | .bar => 1 | .cr _ => 1 | .rs _ => NR | .rr _ => NR | _ => NK

theorem amt_pos (ρ : Role) : 0 < amt ρ := by
  cases ρ with
  | bar => exact Nat.one_pos
  | cr _ => exact Nat.one_pos
  | rs _ => exact NR_pos
  | rr _ => exact NR_pos
  | loc _ => exact NK_pos
  | ks _ => exact NK_pos
  | kr _ => exact NK_pos
  | vs _ => exact NK_pos
  | vr _ => exact NK_pos

def dut (r : ℕ) : Role → Finset (Fin 7)
  | .bar => if r = 0 then Finset.univ else ∅
  | .cr _ => if r < 6 then {0} else ∅
  | _ => if r = 0 then {0} else ∅

/-- The protocol of the kernel. -/
def Rd (Γ : Cont F) : Rounds.Schedule (GSem nD τ sig) (Fin 7) 𝕄 where
  duties g r := if g.1.2 = .tc then (match roleAt g.2 with | some ρ => dut r ρ | none => ∅) else ∅
  unitless _ := False
  amount g _ _ := match roleAt g.2 with | some ρ => amt ρ | none => 1
  payload g r d := match roleAt g.2 with | some ρ => pay Γ g.1.1 r d ρ | none => iprop(emp)
  amount_pos g r d _ := by
    cases roleAt g.2 with
    | none => exact Nat.one_pos
    | some ρ => exact amt_pos ρ

instance pay_storable (Γ : Cont F) (c : Dev nD) (r : ℕ) (i : Fin 7) (ρ : Role) :
    BI.Storable (upEmb : UEmb _ 𝕄) (pay Γ c r i ρ) := by
  cases ρ <;> simp only [pay, barPay, rrPay, crPay] <;> (repeat' split) <;> infer_instance

instance Rd_storable (Γ : Cont F) (g : GSem nD τ sig) (r : ℕ) (d : Fin 7) :
    BI.Storable (upEmb : UEmb _ 𝕄) ((Rd Γ).payload g r d) := by
  show BI.Storable upEmb (match roleAt g.2 with | some ρ => pay Γ g.1.1 r d ρ | none => iprop(emp))
  cases roleAt g.2 <;> dsimp only <;> infer_instance

variable (Γ : Cont F) (c : Dev nD)

theorem duties_cell (ρ : Role) (r : ℕ) : (Rd Γ).duties (cell c ρ) r = dut r ρ := by
  show (if ((c : Thread nD τ)).2 = .tc then (match roleAt (semOf ρ) with | some ρ => dut r ρ | none => ∅) else ∅) = _
  rw [roleAt_semOf]; rfl
theorem amount_cell (ρ : Role) (r : ℕ) (d : Fin 7) : (Rd Γ).amount (cell c ρ) r d = amt ρ := by
  show (match roleAt (semOf ρ) with | some ρ => amt ρ | none => 1) = _
  rw [roleAt_semOf]
theorem payload_cell (ρ : Role) (r : ℕ) (d : Fin 7) : (Rd Γ).payload (cell c ρ) r d = pay Γ c r d ρ := by
  show (match roleAt (semOf ρ) with | some ρ => pay Γ c r d ρ | none => iprop(emp)) = _
  rw [roleAt_semOf]

theorem expect_cell (ρ : Role) (r : ℕ) (h : dut r ρ = {0}) : (Rd Γ).expect (cell c ρ) r = amt ρ := by
  unfold Schedule.expect Schedule.amountOf; rw [duties_cell, h, Finset.sum_singleton, amount_cell]
theorem expect_bar : (Rd Γ).expect (cell c .bar) 0 = 7 := by
  unfold Schedule.expect Schedule.amountOf; rw [duties_cell]
  simp only [amount_cell]; rfl
theorem rest_cell (ρ : Role) (r : ℕ) (h : dut r ρ = {0}) :
    (bigSep ((Rd Γ).duties (cell c ρ) r \ ∅) (fun d => (Rd Γ).payload (cell c ρ) r d) : sProp 𝕄) = pay Γ c r 0 ρ := by
  rw [Finset.sdiff_empty, duties_cell, h, bigSep_singleton, payload_cell]
theorem rest_bar :
    (bigSep ((Rd Γ).duties (cell c .bar) 0 \ ∅) (fun d => (Rd Γ).payload (cell c .bar) 0 d) : sProp 𝕄) = bigSep Finset.univ fun i => barPay F c i := by
  rw [Finset.sdiff_empty, duties_cell]
  simp only [payload_cell]; rfl

/-! ## Levels -/

/-- The level of a semaphore: a wait on it comes before everything of a higher level. -/
def lvR (ix : ℕ) : Role → ℕ
  | .bar => 1 | .kr _ => 2 | .vr _ => 2 | .rr t => 10 + 2 * t.val | .cr b => 11 + 2 * (b.val + 2 * ix) | _ => 0
def L (g : GSem nD τ sig) : Finset ℕ := if g.1.2 = .tc then Finset.range 6 else ∅
def lv (g : GSem nD τ sig) (ix : ℕ) : ℕ := match roleAt g.2 with | some ρ => lvR ix ρ | none => 0

theorem L_of_ne (g : GSem nD τ sig) (h : g.1.2 ≠ .tc) : L g = ∅ := if_neg h
theorem lv_cell (ρ : Role) (ix : ℕ) : lv (cell c ρ) ix = lvR ix ρ := by
  show (match roleAt (semOf ρ) with | some ρ => lvR ix ρ | none => 0) = _
  rw [roleAt_semOf]

/-- Everything owed is above level `b`. -/
def Above (b : ℕ) (O : CellTallies nD τ sig ℕ) : Prop := ∀ g ι, 0 < O g ι → ι ∈ L g ∧ b < lv g ι

theorem above_zero (b : ℕ) : Above b 0 := fun _ _ h => absurd h (Nat.lt_irrefl 0)
theorem above_add {b : ℕ} {O O' : CellTallies nD τ sig ℕ} (h : Above b O) (h' : Above b O') : Above b (O + O') := fun g ι hg => by
  by_cases h0 : 0 < O g ι
  · exact h g ι h0
  · refine h' g ι ?_
    have : (O + O') g ι = O g ι + O' g ι := rfl
    omega
theorem above_tally {b : ℕ} (d : Dev nD) (ρ : Role) (ix k : ℕ) (hi : ix < 6) (hb : b < lvR ix ρ) : Above b (tallyAt (cell d ρ) ix k) := fun g ι hg => by
  rw [tallyAt_apply] at hg
  by_cases h : g = cell d ρ ∧ ι = ix
  · rw [h.1, h.2, lv_cell]; exact ⟨Finset.mem_range.mpr hi, hb⟩
  · rw [if_neg h] at hg; exact absurd hg (Nat.lt_irrefl 0)
theorem above_mono {a b : ℕ} (hab : a ≤ b) {O : CellTallies nD τ sig ℕ} (h : Above b O) : Above a O := fun g ι hg =>
  ⟨(h g ι hg).1, hab.trans_lt (h g ι hg).2⟩

theorem mayWait (d : Dev nD) (ρ : Role) (ix : ℕ) (hi : ix < 6) {O : CellTallies nD τ sig ℕ} (h : Above (lvR ix ρ) O) :
    (levAts L lv : sProp 𝕄) ⊢ MayWait (d : Thread nD τ) (semOf ρ) ix O :=
  MayOwe.of_cut (L := L) (lev := lv) (lvR ix ρ) (fun p hp => by rw [Finset.mem_singleton.mp hp]; exact Finset.mem_range.mpr hi)
    (fun g ι hg => (h g ι hg).1) (fun p hp => by rw [Finset.mem_singleton.mp hp]; exact (lv_cell d ρ ix).le) (fun g ι hg => (h g ι hg).2)

/-! ## What is owed -/

/-- What is left of a finite sum from its `k`-th term on. -/
def tailSum {n : ℕ} (f : Fin n → CellTallies nD τ sig ℕ) (k : ℕ) : CellTallies nD τ sig ℕ :=
  ∑ i ∈ Finset.univ.filter (fun i : Fin n => k ≤ i.val), f i

theorem tailSum_peel {n : ℕ} (f : Fin n → CellTallies nD τ sig ℕ) (k : ℕ) (h : k < n) : tailSum f k = tailSum f (k + 1) + f ⟨k, h⟩ := by
  unfold tailSum
  have : (Finset.univ.filter (fun i : Fin n => k ≤ i.val)) = insert ⟨k, h⟩ (Finset.univ.filter (fun i : Fin n => k + 1 ≤ i.val)) := by
    ext i; simp only [Finset.mem_filter, Finset.mem_univ, true_and, Finset.mem_insert, Fin.ext_iff]; omega
  rw [this, Finset.sum_insert (by simp), add_comm]
theorem tailSum_end {n : ℕ} (f : Fin n → CellTallies nD τ sig ℕ) : tailSum f n = 0 := by
  unfold tailSum
  rw [Finset.filter_false_of_mem (fun i _ => by have := i.isLt; omega), Finset.sum_empty]
theorem tailSum_zero {n : ℕ} (f : Fin n → CellTallies nD τ sig ℕ) : tailSum f 0 = ∑ i, f i := by
  unfold tailSum; rw [Finset.filter_true_of_mem (fun i _ => Nat.zero_le _)]
theorem above_tailSum {n : ℕ} (f : Fin n → CellTallies nD τ sig ℕ) (b k : ℕ) (h : ∀ i : Fin n, k ≤ i.val → Above b (f i)) : Above b (tailSum f k) := by
  unfold tailSum
  have : ∀ s : Finset (Fin n), (∀ i ∈ s, k ≤ i.val) → Above b (∑ i ∈ s, f i) := by
    intro s
    induction s using Finset.induction_on with
    | empty => intro _; rw [Finset.sum_empty]; exact above_zero b
    | insert a s ha ih =>
      intro hs; rw [Finset.sum_insert ha]
      exact above_add (h a (hs a (Finset.mem_insert_self _ _))) (ih fun i hi => hs i (Finset.mem_insert_of_mem hi))
  exact this _ fun i hi => (Finset.mem_filter.mp hi).2

/-- The barrier signals that device `c` owes, -/
def barF (c : Dev nD) (j : Fin 7) : CellTallies nD τ sig ℕ := tallyAt (cell (up c (j.val + 1)) .bar) 0 1
/-- the landings of its blocks, -/
def kF (c : Dev nD) (i : Fin 7) : CellTallies nD τ sig ℕ := tallyAt (cell (up c (i.val + 1)) (.kr i.rev)) 0 NK
def vF (c : Dev nD) (i : Fin 7) : CellTallies nD τ sig ℕ := tallyAt (cell (up c (i.val + 1)) (.vr i.rev)) 0 NK
def kvF (c : Dev nD) (i : Fin 7) : CellTallies nD τ sig ℕ := vF c i + kF c i
/-- and the landings and credits of the ring. -/
def crF (c : Dev nD) (t : Fin 14) : CellTallies nD τ sig ℕ := if t.val < 12 then tallyAt (cell (left c) (.cr (par t))) (t.val / 2) 1 else 0
def rrF (c : Dev nD) (t : Fin 14) : CellTallies nD τ sig ℕ := crF c t + tallyAt (cell (right c) (.rr t)) 0 NR

/-- What device `c` owes at launch. -/
def O₀ (c : Dev nD) : CellTallies nD τ sig ℕ := tailSum (rrF c) 0 + tailSum (kvF c) 0 + tailSum (barF c) 0

theorem above_crF (c : Dev nD) (t : Fin 14) (b : ℕ) (h : b < 11 + 2 * t.val) : Above b (crF c t) := by
  unfold crF; split
  · next ht => exact above_tally _ _ _ _ (by omega) (by show b < 11 + 2 * (t.val % 2 + 2 * (t.val / 2)); omega)
  · exact above_zero b
theorem above_rrF (c : Dev nD) (t : Fin 14) (b : ℕ) (h : b < 10 + 2 * t.val) : Above b (rrF c t) :=
  above_add (above_crF c t b (by omega)) (above_tally _ _ _ _ (by omega) h)
theorem above_ring (c : Dev nD) (b k : ℕ) (h : b < 10 + 2 * k) : Above b (tailSum (rrF c) k) :=
  above_tailSum _ _ _ fun i hi => above_rrF c i b (by omega)
theorem above_kv (c : Dev nD) (b k : ℕ) (h : b < 2) : Above b (tailSum (kvF c) k) :=
  above_tailSum _ _ _ fun i _ => above_add (above_tally _ _ _ _ (by omega) h) (above_tally _ _ _ _ (by omega) h)

/-! ## The invariants of all the cells -/

/-- Every cell's invariant, at the names `κ`, and every level. -/
def Inv (κ : GSem nD τ sig → ℕ) : sProp 𝕄 :=
  iprop((bigSep Finset.univ fun p : Dev nD × Role => cellInv ER (Rd Γ) (κ (cell p.1 p.2)) (cell p.1 p.2)) ∗ levAts L lv)

instance Inv_persistent (κ : GSem nD τ sig → ℕ) : BI.Persistent (Inv Γ κ) := by unfold Inv; infer_instance

theorem Inv_cell (κ : GSem nD τ sig → ℕ) (d : Dev nD) (ρ : Role) : Inv Γ κ ⊢ cellInv ER (Rd Γ) (κ (cell d ρ)) (cell d ρ) := by
  unfold Inv
  iintro ⟨H, -⟩
  ihave H := (bigSep_pick (Finset.mem_univ (d, ρ))) $$ H
  icases H with ⟨H, -⟩
  iexact H
theorem Inv_lev (κ : GSem nD τ sig → ℕ) : Inv Γ κ ⊢ levAts L lv := by
  unfold Inv
  iintro ⟨-, H⟩; iexact H

end Cert.KernelIdeal.Hand
-- ==== Proof.Ops.lean ====
/-
  Rules for the programs of a device: triples and their composition, and each operation of the kernel over memrefs owned at
  named contents.
-/
module

public import proofs.«01_k».proof.Proof.Sched

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-! ## Big separating conjunctions -/

theorem bs_succ {M : Type} [URA M] (n : ℕ) (Φ : Fin (n + 1) → sProp M) :
    bigSep Finset.univ Φ = iprop(Φ 0 ∗ bigSep Finset.univ fun i : Fin n => Φ i.succ) := by
  rw [Fin.univ_succ, Finset.cons_eq_insert, bigSep_insert (by simp), bigSep_map]; rfl

/-- One conjunct taken out, and the way to put it back. -/
theorem bs_borrow {I : Type} [Fintype I] [DecidableEq I] (i : I) (Φ : I → sProp 𝕄) :
    bigSep Finset.univ Φ ⊢ iprop(Φ i ∗ (Φ i -∗ bigSep Finset.univ Φ)) := by
  have h : iprop(Φ i ∗ bigSep (Finset.univ.erase i) Φ) ⊢ bigSep Finset.univ Φ := Entails.of_eq (bigSep_erase (Finset.mem_univ i) (Φ := Φ)).symm
  refine (bigSep_pick (Finset.mem_univ i)).trans (sep_mono_right (BI.wand_intro ?_))
  exact BI.sep_comm.trans h

/-! ## Triples -/

/-- From `P`, device `c` runs `p` to `Q`. -/
def Tr (c : Dev nD) (P : sProp 𝕄) (p : KProg F) (Q : sProp 𝕄) : Prop :=
  P ⊢ wp frame (wpE (defs₀ (F := F)) 𝒱₀ (c : Thread nD τ) none) Set.univ p (fun _ => Q)

section Triples
variable {c : Dev nD} {P P' Q Q' R : sProp (MT nD τ sig ℕ (Elt F) ℕ UU ℕ)} {p p' : KProg F}

theorem Tr_seq (h : Tr c P p Q) (h' : Tr c Q p' R) : Tr c P (p >>= fun _ => p') R := by
  unfold Tr at *
  rw [wp_bind]
  exact h.trans (wp_mono _ _ _ fun _ => h')
theorem Tr_conseq (h : Tr c P p Q) (h₁ : P' ⊢ P) (h₂ : Q ⊢ Q') : Tr c P' p Q' :=
  h₁.trans (BIBase.Entails.trans h (wp_mono _ _ _ fun _ => h₂))
theorem Tr_pre (h : Tr c P p Q) (h₁ : P' ⊢ P) : Tr c P' p Q := Tr_conseq h h₁ .rfl
theorem Tr_frame (h : Tr c P p Q) : Tr c iprop(P ∗ R) p iprop(Q ∗ R) :=
  (sep_mono_left h).trans (wp_frame_r _ _ _)
theorem Tr_ret (h : P ⊢ Q) : Tr c P (pure ⟨⟩) Q := by
  show P ⊢ wp frame (wpE (defs₀ (F := F)) 𝒱₀ (c : Thread nD τ) none) Set.univ (Prog.ret PUnit.unit) (fun _ => Q)
  rw [wp_ret]; iintro H; imodintro; iapply h; iexact H
/-- A triple applied at the head of a goal. -/
theorem Tr_use (h : Tr c P p Q) (K : PUnit → sProp 𝕄) :
    P ⊢ iprop((Q -∗ K ⟨⟩) -∗ wp frame (wpE (defs₀ (F := F)) 𝒱₀ (c : Thread nD τ) none) Set.univ p K) := by
  have h : P ⊢ wp frame (wpE (defs₀ (F := F)) 𝒱₀ (c : Thread nD τ) none) Set.univ p (fun _ => Q) := h
  iintro HP HK
  ihave H := h $$ HP
  iapply (wp_wand_r frame (wpE (defs₀ (F := F)) 𝒱₀ (c : Thread nD τ) none) Set.univ (Q := fun _ => Q))
  isplitl [H]; · iexact H
  iintro %a HQ
  iapply HK; iexact HQ

/-- A sequence of programs, each with its own resources, beside a common state. -/
theorem Tr_seqN (n : ℕ) (f : Fin n → KProg F) (A B : Fin n → sProp 𝕄) (S : ℕ → sProp 𝕄)
    (h : ∀ i : Fin n, Tr c iprop(A i ∗ S i.val) (f i) iprop(B i ∗ S (i.val + 1))) :
    Tr c iprop(bigSep Finset.univ A ∗ S 0) (seqN n f) iprop(bigSep Finset.univ B ∗ S n) := by
  induction n generalizing S with
  | zero =>
    refine Tr_ret (sep_mono_left (Entails.of_eq ?_))
    rw [show (Finset.univ : Finset (Fin 0)) = ∅ from rfl, bigSep_empty, bigSep_empty]
  | succ n ih =>
    rw [seqN_succ, bs_succ, bs_succ]
    refine Tr_seq (Q := iprop((bigSep Finset.univ fun i : Fin n => A i.succ) ∗ S 1 ∗ B 0)) ?_ ?_
    · refine Tr_conseq (Tr_frame (show Tr c iprop(A 0 ∗ S 0) (f 0) iprop(B 0 ∗ S 1) from h 0) (R := bigSep Finset.univ fun i : Fin n => A i.succ)) ?_ ?_
      · iintro ⟨⟨H, Hr⟩, HS⟩
        isplitr [Hr]
        · isplitl [H]; · iexact H
          iexact HS
        · iexact Hr
      · iintro ⟨⟨H, HS⟩, Hr⟩
        isplitl [Hr]; · iexact Hr
        isplitl [HS]; · iexact HS
        iexact H
    · refine Tr_conseq (Tr_frame (ih (fun i => f i.succ) (fun i => A i.succ) (fun i => B i.succ) (fun k => S (k + 1)) fun i => h i.succ) (R := B 0)) ?_ ?_
      · iintro ⟨H, HS, HB⟩
        isplitr [HB]
        · isplitl [H]; · iexact H
          iexact HS
        · iexact HB
      · iintro ⟨⟨H, HS⟩, HB⟩
        isplitr [HS]
        · isplitl [HB]; · iexact HB
          iexact H
        · iexact HS
end Triples

/-! ## Single operations -/

local notation "WP" => fun (c : Dev nD) => wp frame (wpE (defs₀ (F := F)) 𝒱₀ (c : Thread nD τ) none) Set.univ

theorem fupd_wand {P K : sProp 𝕄} : iprop(P -∗ K) ⊢ iprop(P -∗ |={Set.univ}=> K) := by
  iintro H HP; imodintro; iapply H; iexact HP

section Ops
variable (c : Dev nD)

theorem op_load {cs : CoreSpace} {s : Shape} {e : EltTy} (m : Memref sig .tc cs s e) (r : Rect s) (hr : ∀ a, r.stride a = 1) {hl : m.view.LoadsAt r}
    (X : r.shape.Idx → Elt F e) (K : (r.shape.Idx → Elt F e) → sProp 𝕄) :
    ow c (m.slice r hr) X ⊢ iprop((ow c (m.slice r hr) X -∗ K X)
      -∗ wp frame (wpE (defs₀ (F := F)) 𝒱₀ (c : Thread nD τ) none) Set.univ (Prog.lift (.load m r.toLoadRect hl)) K) := by
  unfold ow owns
  iintro ⟨%f, %hf, H⟩ HK
  iapply (wp_load_rect 𝒱₀ (c : Thread nD τ) none Set.univ (m := m) (r := r) (hl := hl) (k := .ret) (f := f) (subset_refl _)) $$ H
  iintro H
  rw [wp_ret]; imodintro
  have e : (m.access r).read (Elt F) f = X := hf
  rw [e]
  iapply HK
  iexists f; isplitr; · ipureintro; exact hf
  iexact H

theorem op_store {cs : CoreSpace} {s : Shape} {e : EltTy} (m : Memref sig .tc cs s e) (r : Rect s) (hr : ∀ a, r.stride a = 1) (w : r.shape.Idx → Elt F e)
    {hx : (m.access r).Stores Finset.univ} {hm : (Finset.univ : Finset r.shape.Idx) = Finset.univ ∨ ∀ a, r.stride a = 1} (K : PUnit → sProp 𝕄) :
    owA F c (m.slice r hr) ⊢ iprop((ow c (m.slice r hr) w -∗ K ⟨⟩)
      -∗ wp frame (wpE (defs₀ (F := F)) 𝒱₀ (c : Thread nD τ) none) Set.univ (Prog.lift (.store m r w Finset.univ hx hm)) K) := by
  unfold owA ow owns
  iintro ⟨%X, %f, %hf, H⟩ HK
  iapply (wp_store 𝒱₀ (c : Thread nD τ) none Set.univ (m := m) (r := r) (w := w) (Mk := Finset.univ) (hx := hx) (hm := hm) (k := .ret) (f := f)
    (by rw [View.setOn_univ])) $$ H
  iintro H
  rw [wp_ret]; imodintro
  iapply HK
  iexists _; isplitr
  · ipureintro; exact View.read_write_univ (v := (m.slice r hr).view) f w
  iexact H

theorem ow_any {sp : Space} {s : Shape} {e : EltTy} (m : Memref sig .tc sp s e) (X : s.Idx → Elt F e) : ow c m X ⊢ owA F c m := by
  unfold owA; iintro H; iexists X; iexact H

end Ops

end Cert.KernelIdeal.Hand
-- ==== Proof.Proto.lean ====
/-
  The operations of the protocol: waits, signals and copies over the cells, and the loads through a landed block.
-/
module

public import proofs.«01_k».proof.Proof.Ops

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (Γ : Cont F) (κ : GSem nD τ sig → ℕ) (c : Dev nD)

/-- What device `c` owes, whatever it has waited for. -/
def owe (c : Dev nD) (O : CellTallies nD τ sig ℕ) : sProp 𝕄 := iprop(∃ W, owes (c : Thread nD τ) O W)

/-- The duty of a cell not yet done, with its round reached. -/
def duty (d : Dev nD) (ρ : Role) (r : ℕ) (i : Fin 7) : sProp 𝕄 := iprop(dutyTok ER (cell d ρ) r i ∗ reached ER (cell d ρ) r)

/-! ## Waits and signals -/

theorem tr_wait (ρ : Role) (r ix : ℕ) (hd : dut r ρ = {0}) (hi : ix < 6) (O : CellTallies nD τ sig ℕ) (hO : Above (lvR ix ρ) O)
    (w : TpuEff nD τ sig (Elt F) Λ₀ .tc PUnit)
    (hw : ∀ K : PUnit → sProp 𝕄, wpE (defs₀ (F := F)) 𝒱₀ (c : Thread nD τ) none Set.univ w K = waitSpec (c : Thread nD τ) Set.univ (semOf ρ) (amt ρ) K) :
    Tr c iprop(Inv Γ κ ∗ cred (tallyAt (cell c ρ) ix (amt ρ)) ∗ owe c O ∗ atPos ER (cell c ρ) r ∅ 0) (Prog.lift w)
      iprop(owe c O ∗ atPos ER (cell c ρ) (r + 1) ∅ 0 ∗ reached ER (cell c ρ) (r + 1) ∗ pay Γ c r 0 ρ) := by
  unfold Tr owe
  iintro ⟨#HI, Hc, ⟨%W, HO⟩, Hat⟩
  iapply (Rounds.wp_wait_rest_token 𝒱₀ ER (Rd Γ) (c : Thread nD τ) none (κ := κ (cell c ρ)) hw (Set.mem_univ _) ix (O := O) (W := W) (R := r) (m := 0) (T := ∅)
      (k := .ret) ((Nat.zero_add _).trans (expect_cell Γ c ρ r hd).symm)) $$ [Hc HO Hat]
  · isplitr; · iapply (Inv_cell Γ κ c ρ); iexact HI
    isplitl [Hc]; · iexact Hc
    isplitl [HO]; · iexact HO
    isplitr; · iapply (mayWait c ρ ix hi hO); iapply (Inv_lev Γ κ); iexact HI
    iexact Hat
  iintro ⟨HO, Hat, Hr, Hpay⟩
  ihave Hp := (Entails.of_eq (rest_cell Γ c ρ r hd)) $$ Hpay
  rw [wp_ret]; imodintro
  isplitl [HO]; · iexists _; iexact HO
  isplitl [Hat]; · iexact Hat
  isplitl [Hr]; · iexact Hr
  iexact Hp

theorem tr_waitBar (O : CellTallies nD τ sig ℕ) (hO : Above 1 O) :
    Tr c iprop(Inv Γ κ ∗ cred (tallyAt (cell c .bar) 0 7) ∗ owe c O ∗ atPos ER (cell c .bar) 0 ∅ 0) (semWaitWord barS 7#32)
      iprop(owe c O ∗ atPos ER (cell c .bar) 1 ∅ 0 ∗ bigSep Finset.univ fun i => barPay F c i) := by
  unfold Tr owe semWaitWord
  iintro ⟨#HI, Hc, ⟨%W, HO⟩, Hat⟩
  iapply (Rounds.wp_wait_rest_token 𝒱₀ ER (Rd Γ) (c : Thread nD τ) none (sm := .reg barS) (k' := 7) (κ := κ (cell c .bar)) (wpE_semWait_eq 𝒱₀ (c : Thread nD τ) none Set.univ) (Set.mem_univ _) 0 (O := O) (W := W) (R := 0) (m := 0) (T := ∅)
      (k := .ret) ((Nat.zero_add _).trans (expect_bar Γ c).symm)) $$ [Hc HO Hat]
  · isplitr; · iapply (Inv_cell Γ κ c .bar); iexact HI
    isplitl [Hc]; · iexact Hc
    isplitl [HO]; · iexact HO
    isplitr; · iapply (mayWait c .bar 0 (by decide) hO); iapply (Inv_lev Γ κ); iexact HI
    iexact Hat
  iintro ⟨HO, Hat, -, Hpay⟩
  have eb : bigSep ((Rd Γ).duties ((c : Thread nD τ), SemLoc.reg barS) 0 \ ∅) (fun d => (Rd Γ).payload ((c : Thread nD τ), SemLoc.reg barS) 0 d)
      ⊢ bigSep Finset.univ fun i => barPay F c i := Entails.of_eq (rest_bar Γ c)
  ihave Hp := eb $$ Hpay
  rw [wp_ret]; imodintro
  isplitl [HO]; · iexists _; iexact HO
  isplitl [Hat]; · iexact Hat
  iexact Hp

theorem tr_signal (d : Dev nD) (ρ : Role) (s : Sem sig) (hs : semOf ρ = .reg s) (r ix : ℕ) (i : Fin 7) (hd : i ∈ dut r ρ) (ha : amt ρ = 1)
    (O₀ O : CellTallies nD τ sig ℕ) (hO : O₀ = O + tallyAt (cell d ρ) ix 1) :
    Tr c iprop(Inv Γ κ ∗ owe c O₀ ∗ duty d ρ r i ∗ pay Γ d r i ρ) (semSignalWord d s 1#32) (owe c O) := by
  have hg : cell d ρ = ((d : Thread nD τ), SemLoc.reg s) := by unfold cell; rw [hs]
  have hd' : i ∈ (Rd Γ).duties ((d : Thread nD τ), SemLoc.reg s) r := by rw [← hg, duties_cell]; exact hd
  have ha' : (Rd Γ).amount ((d : Thread nD τ), SemLoc.reg s) r i = 1 := by rw [← hg, amount_cell]; exact ha
  unfold Tr owe semSignalWord duty
  rw [← payload_cell Γ d ρ r i]
  iintro ⟨#HI, ⟨%W, HO⟩, ⟨Ht, Hr⟩, Hp⟩
  ihave #Hc := (Inv_cell Γ κ d ρ) $$ HI
  rw [hg] at hO ⊢
  iapply (Rounds.wp_signal 𝒱₀ ER (Rd Γ) (c : Thread nD τ) none (dst := (d : Thread nD τ)) (sem := s) (r := r) (d := i) (k' := 1) (κ := κ ((d : Thread nD τ), SemLoc.reg s)) (k := .ret)
      hd' ha' ix O hO) $$ [HO Ht Hp Hr]
  · isplitr; · iexact Hc
    isplitl [HO]; · iexact HO
    isplitl [Ht]; · iexact Ht
    isplitl [Hp]; · iexact Hp
    iexact Hr
  iintro HO
  rw [wp_ret]; imodintro
  iexists _; iexact HO

/-! ## Copies -/

theorem tr_send {sp sp' : Space} {sh : Shape} {e : EltTy} (d : Dev nD) (src : Memref sig .tc sp sh e) (dst : Memref sig .tc sp' sh e)
    {hsc : dst.view.ref.isScScratch = false} {hsrc : src.view.WordExact} {hdst : dst.view.WordExact} (ρ ρ' : Role)
    {hsem : DmaTarget.Typed (nD := nD) sp (semOf ρ') (.remote (d : Thread nD τ) dst (semOf ρ) hsc)} (ix N : ℕ)
    (hd : dut 0 ρ = {0}) (hd' : dut 0 ρ' = {0}) (hN : dst.view.amount (semOf ρ') = N) (ha : amt ρ = N) (ha' : amt ρ' = N)
    (O₀ O : CellTallies nD τ sig ℕ) (hO : O₀ = O + tallyAt (cell d ρ') ix N) (X : sh.Idx → Elt F e)
    (h₁ : ow c src X ⊢ pay Γ c 0 0 ρ) (h₂ : ow d dst X ⊢ pay Γ d 0 0 ρ') :
    Tr c iprop(Inv Γ κ ∗ ow c src X ∗ owA F d dst ∗ owe c O₀ ∗ duty c ρ 0 0 ∗ duty d ρ' 0 0)
      (Prog.lift (.enqueueDma src (.remote (d : Thread nD τ) dst (semOf ρ) hsc) (semOf ρ') hsrc hdst hsem))
      iprop(cred (tallyAt (cell c ρ) 0 N) ∗ owe c O) := by
  unfold Tr owe duty owA
  rw [← payload_cell Γ c ρ 0 0] at h₁
  rw [← payload_cell Γ d ρ' 0 0] at h₂
  iintro ⟨#HI, Hs, ⟨%Y, Hd⟩, ⟨%W, HO⟩, ⟨Ht, Hr⟩, ⟨Ht', Hr'⟩⟩
  unfold ow owns
  icases Hs with ⟨%fs, %hfs, Hs⟩
  icases Hd with ⟨%fd, %hfd, Hd⟩
  iapply (Rounds.wp_send_pointsTo 𝒱₀ ER (Rd Γ) (c : Thread nD τ) none (c' := (d : Thread nD τ)) (src := src) (dst := dst) (hsc := hsc)
      (sS := semOf ρ) (sem := semOf ρ') (hsem := hsem) (q := fullShare) (fs := fs) (fd := fd) (κ₁ := κ (cell c ρ)) (κ₂ := κ (cell d ρ'))
      (r₁ := 0) (r₂ := 0) (d₁ := 0) (d₂ := 0) (W := W) (k := .ret)
      (by rw [duties_cell, hd]; exact Finset.mem_singleton_self _) (by rw [duties_cell, hd']; exact Finset.mem_singleton_self _)
      ix 0 N hN ((amount_cell Γ c ρ 0 0).trans ha) ((amount_cell Γ d ρ' 0 0).trans ha') O hO
      ((owns_intro (c : Thread nD τ) src fullShare fs).trans (by rw [hfs]; exact h₁))
      ((owns_intro (d : Thread nD τ) dst fullShare _).trans (by rw [View.read_write_univ, hfs]; exact h₂))) $$ [Hs Hd HO Ht Hr Ht' Hr']
  · isplitr; · iapply (Inv_cell Γ κ c ρ); iexact HI
    isplitr; · iapply (Inv_cell Γ κ d ρ'); iexact HI
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  rw [wp_ret]; imodintro
  isplitl [Hc]; · iexact Hc
  iexists _; iexact HO

theorem tr_sendLanding {sp sp' : Space} {sh : Shape} {e : EltTy} (d : Dev nD) (src : Memref sig .tc sp sh e) (dst : Memref sig .tc sp' sh e)
    {hsc : dst.view.ref.isScScratch = false} {hsrc : src.view.WordExact} {hdst : dst.view.WordExact} (ρ ρ' : Role)
    {hsem : DmaTarget.Typed (nD := nD) sp (semOf ρ') (.remote (d : Thread nD τ) dst (semOf ρ) hsc)} (ix N : ℕ)
    (hd : dut 0 ρ = {0}) (hd' : dut 0 ρ' = {0}) (hN : dst.view.amount (semOf ρ') = N) (ha : amt ρ = N) (ha' : amt ρ' = N)
    (O₀ O : CellTallies nD τ sig ℕ) (hO : O₀ = O + tallyAt (cell d ρ') ix N) (X : sh.Idx → Elt F e) (G : sProp 𝕄)
    (h₁ : iprop(emp) ⊢ pay Γ c 0 0 ρ) (h₂ : iprop((ow d dst X ∗ G) ∗ ow c src X) ⊢ pay Γ d 0 0 ρ') :
    Tr c iprop(Inv Γ κ ∗ ow c src X ∗ (owA F d dst ∗ G) ∗ owe c O₀ ∗ duty c ρ 0 0 ∗ duty d ρ' 0 0)
      (Prog.lift (.enqueueDma src (.remote (d : Thread nD τ) dst (semOf ρ) hsc) (semOf ρ') hsrc hdst hsem))
      iprop(cred (tallyAt (cell c ρ) 0 N) ∗ owe c O) := by
  unfold Tr owe duty owA
  rw [← payload_cell Γ c ρ 0 0] at h₁
  rw [← payload_cell Γ d ρ' 0 0] at h₂
  iintro ⟨#HI, Hs, ⟨⟨%Y, Hd⟩, HG⟩, ⟨%W, HO⟩, ⟨Ht, Hr⟩, ⟨Ht', Hr'⟩⟩
  unfold ow owns
  icases Hs with ⟨%fs, %hfs, Hs⟩
  icases Hd with ⟨%fd, %hfd, Hd⟩
  iapply (Rounds.wp_send_landing_pointsTo_with 𝒱₀ ER (Rd Γ) (c : Thread nD τ) none (c' := (d : Thread nD τ)) (src := src) (dst := dst) (hsc := hsc)
      (sS := semOf ρ) (sem := semOf ρ') (hsem := hsem) (q := fullShare) (fs := fs) (fd := fd) (κ₁ := κ (cell c ρ)) (κ₂ := κ (cell d ρ'))
      (r₁ := 0) (r₂ := 0) (d₁ := 0) (d₂ := 0) (W := W) (k := .ret) (F := G)
      (by rw [duties_cell, hd]; exact Finset.mem_singleton_self _) (by rw [duties_cell, hd']; exact Finset.mem_singleton_self _)
      ix 0 N hN ((amount_cell Γ c ρ 0 0).trans ha) ((amount_cell Γ d ρ' 0 0).trans ha') O hO
      h₁
      ((Idealize.SL.BI.BIClass.sep_mono (sep_mono_left ((owns_intro (d : Thread nD τ) dst fullShare _).trans (by rw [View.read_write_univ, hfs])))
        ((owns_intro (c : Thread nD τ) src fullShare fs).trans (by rw [hfs]))).trans h₂)) $$ [Hs Hd HG HO Ht Hr Ht' Hr']
  · isplitr; · iapply (Inv_cell Γ κ c ρ); iexact HI
    isplitr; · iapply (Inv_cell Γ κ d ρ'); iexact HI
    isplitl [Hs]; · iexact Hs
    isplitl [Hd HG]
    · isplitl [Hd]; · iexact Hd
      iexact HG
    isplitl [HO]; · iexact HO
    isplitl [Ht]; · iexact Ht
    isplitl [Hr]; · iexact Hr
    isplitl [Ht']; · iexact Ht'
    iexact Hr'
  iintro ⟨Hc, HO⟩
  rw [wp_ret]; imodintro
  isplitl [Hc]; · iexact Hc
  iexists _; iexact HO

theorem tr_copy {sp sp' : Space} {sh : Shape} {e : EltTy} (src : Memref sig .tc sp sh e) (dst : Memref sig .tc sp' sh e)
    {hsrc : src.view.WordExact} {hdst : dst.view.WordExact} (ρ : Role)
    {hsem : DmaTarget.Typed (nD := nD) (τ := τ) sp (semOf ρ) (DmaTarget.here (p := Proc.tc) dst)} (N : ℕ)
    (hd : dut 0 ρ = {0}) (hN : dst.view.amount (semOf ρ) = N) (ha : amt ρ = N) (X : sh.Idx → Elt F e)
    (h : iprop(ow c dst X ∗ ow c src X) ⊢ pay Γ c 0 0 ρ) :
    Tr c iprop(Inv Γ κ ∗ ow c src X ∗ owA F c dst ∗ duty c ρ 0 0)
      (Prog.lift (.enqueueDma src (.here dst) (semOf ρ) hsrc hdst hsem))
      (cred (tallyAt (cell c ρ) 0 N)) := by
  unfold Tr duty owA
  rw [← payload_cell Γ c ρ 0 0] at h
  iintro ⟨#HI, Hs, ⟨%Y, Hd⟩, ⟨Ht, Hr⟩⟩
  unfold ow owns
  icases Hs with ⟨%fs, %hfs, Hs⟩
  icases Hd with ⟨%fd, %hfd, Hd⟩
  iapply (Rounds.wp_copy_pointsTo 𝒱₀ ER (Rd Γ) (c : Thread nD τ) none (src := src) (dst := dst)
      (sem := semOf ρ) (hsem := hsem) (q := fullShare) (fs := fs) (fd := fd) (κ := κ (cell c ρ))
      (r := 0) (d := 0) (k := .ret)
      (by rw [duties_cell, hd]; exact Finset.mem_singleton_self _)
      0 N hN ((amount_cell Γ c ρ 0 0).trans ha)
      ((Idealize.SL.BI.BIClass.sep_mono ((owns_intro (c : Thread nD τ) dst fullShare _).trans (by rw [View.read_write_univ, hfs]))
        ((owns_intro (c : Thread nD τ) src fullShare fs).trans (by rw [hfs]))).trans h)) $$ [Hs Hd Ht Hr]
  · isplitr; · iapply (Inv_cell Γ κ c ρ); iexact HI
    isplitl [Hs]; · iexact Hs
    isplitl [Hd]; · iexact Hd
    isplitl [Ht]; · iexact Ht
    iexact Hr
  iintro Hc
  rw [wp_ret]; imodintro
  iexact Hc

/-! ## Reading a head of an arrived block -/

theorem sqN : S8x1024x128.numel = S1x8x1024x128.numel := squeezes_S1x8x1024x128_S8x1024x128.numel_eq
/-- Head `h` of a block, as an index of the block with a leading dimension of one. -/
def hdIx (h : Fin 8) (j : S1x1x1024x128.Idx) : S1x8x1024x128.Idx :=
  fun a => match a with | 0 => ⟨0, by decide⟩ | 1 => h | 2 => j 2 | 3 => j 3
/-- Head `h` of a block. -/
def hdOf (X : Blk F) (h : Fin 8) : S1x1x1024x128.Idx → Elt F .bf16 := fun j => X ((Shape.reshapeEquiv sqN).symm (hdIx h j))

theorem kvHead_emb (h s : Fin 8) (t : Fin k0_t1_loop.trips) (ho : kvOff h t = ![s.val, h.val, 0, 0]) (j : S1x1x1024x128.Idx) :
    (kvHeadR h t).emb j = (slotR s).emb (hdIx h j) := by
  funext a
  apply Fin.ext
  rw [Rect.emb_apply, Rect.emb_apply]
  show kvOff h t a + 1 * (j a).val = (![s.val, 0, 0, 0] : Fin 4 → ℕ) a + 1 * (hdIx h j a).val
  rw [ho]
  have h0 : (j 0).val < 1 := (j 0).isLt
  have h1 : (j 1).val < 1 := (j 1).isLt
  fin_cases a
  · show s.val + 1 * (j 0).val = s.val + 1 * 0; omega
  · show h.val + 1 * (j 1).val = 0 + 1 * h.val; omega
  · rfl
  · rfl

theorem op_loadHead (m : Memref sig .tc .vmem S8x8x1024x128 .bf16) (s h : Fin 8) (t : Fin k0_t1_loop.trips) (ho : kvOff h t = ![s.val, h.val, 0, 0])
    {hl : m.view.LoadsAt (kvHeadR h t).toLoadRect} (X : Blk F) (K : (S1x1x1024x128.Idx → Elt F .bf16) → sProp 𝕄) :
    ow c (kvSlot m s) X ⊢ iprop((ow c (kvSlot m s) X -∗ K (hdOf X h))
      -∗ wp frame (wpE (defs₀ (F := F)) 𝒱₀ (c : Thread nD τ) none) Set.univ (Prog.lift (.load m (kvHeadR h t).toLoadRect hl)) K) := by
  have hemb : ∀ j : S1x1x1024x128.Idx, (m.access (kvHeadR h t)).emb j = (kvSlot m s).view.emb ((Shape.reshapeEquiv sqN).symm (hdIx h j)) := by
    intro j
    show m.view.emb ((kvHeadR h t).emb j) = m.view.emb ((slotR s).emb ((Shape.reshapeEquiv sqN) ((Shape.reshapeEquiv sqN).symm (hdIx h j))))
    rw [Equiv.apply_symm_apply, kvHead_emb h s t ho j]
  unfold ow owns
  iintro ⟨%f, %hf, H⟩ HK
  iapply (wp_load_rect 𝒱₀ (c : Thread nD τ) none Set.univ (m := m) (r := kvHeadR h t) (hl := hl) (k := .ret) (f := f)
    (by
      intro i hi
      rw [View.set, Finset.mem_map] at hi
      obtain ⟨j, -, rfl⟩ := hi
      rw [hemb j]
      exact Finset.mem_map_of_mem _ (Finset.mem_univ _))) $$ H
  iintro H
  rw [wp_ret]; imodintro
  have e : (m.access (kvHeadR h t)).read (Elt F) f = hdOf X h := by
    funext j
    rw [View.read_apply]
    show _ = X _
    rw [← hf, View.read_apply, hemb j]
  rw [e]
  iapply HK
  iexists f; isplitr; · ipureintro; exact hf
  iexact H

/-- A landing slot of the ring, with its leading dimension of one. -/
theorem ow_rs (b : Fin 2) (X : Ch F) : ow c (rsSlot b) X ⊢ ow c (mR.slice (rsR b) (fun _ => rfl)) (unsq X) := by
  unfold ow owns
  iintro ⟨%f, %hf, H⟩
  iexists f
  isplitr
  · ipureintro
    funext j
    show _ = X _
    rw [← hf, View.read_apply, View.read_apply]
    show f ((mR.view.slice (rsR b)).emb j) = f ((mR.view.slice (rsR b)).emb ((Shape.reshapeEquiv _) ((Shape.reshapeEquiv _).symm j)))
    rw [Equiv.apply_symm_apply]
  · have e : (rsSlot b).view.set = (mR.slice (rsR b) (fun _ => rfl)).view.set := View.set_reshape _ _
    rw [← e]; iexact H
theorem rs_owA (b : Fin 2) : owA F c (mR.slice (rsR b) (fun _ => rfl)) ⊢ owA F c (rsSlot b) := by
  unfold owA ow owns
  iintro ⟨%X, %f, %hf, H⟩
  iexists _, f
  isplitr; · ipureintro; rfl
  have e : (rsSlot b).view.set = (mR.slice (rsR b) (fun _ => rfl)).view.set := View.set_reshape _ _
  rw [e]; iexact H

end Cert.KernelIdeal.Hand
-- ==== Proof.Steps.lean ====
/-
  The steps of the kernel between its waits: one head of one trip, the mask, the projection, one step of the ring.
-/
module

public import proofs.«01_k».proof.Proof.Proto

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (Γ : Cont F) (κ : GSem nD τ sig → ℕ) (c : Dev nD)

/-! ## A head of a trip -/

variable (F) in
/-- A head's running maximum, running sum and running result. -/
structure HS where
  m : S1024x1.Idx → Elt F .f32
  l : S1024x1.Idx → Elt F .f32
  a : S1x1024x128.Idx → Elt F .f32

/-- What a head does with one block of keys and values. -/
def headNext (k v : S1x1x1024x128.Idx → Elt F .bf16) (q : S1x1024x128.Idx → Elt F .bf16) (b : S1024x1024.Idx → Elt F .bf16) (s : HS F) : HS F where
  m := k0_pay15 (k0_pay9 s.m (k0_pay8 k q b))
  l := k0_pay13 (k0_pay10 s.m (k0_pay8 k q b)) s.l (k0_pay12 (k0_pay11 s.m (k0_pay8 k q b) (k0_pay8 k q b)))
  a := k0_pay14 (k0_pay7 v) (k0_pay10 s.m (k0_pay8 k q b)) s.a (k0_pay12 (k0_pay11 s.m (k0_pay8 k q b) (k0_pay8 k q b)))

/-- A head's running results, in their buffers. -/
def hsAt (c : Dev nD) (h : Fin 8) (s : HS F) : sProp 𝕄 :=
  iprop(ow c (mML.slice (colR (mCol h)) (fun _ => rfl)) s.m ∗ ow c (mML.slice (colR (lCol h)) (fun _ => rfl)) s.l ∗ ow c (mA.slice (headR h) (fun _ => rfl)) s.a)

theorem tr_headStep (t : Fin k0_t1_loop.trips) (h s : Fin 8) (ho : kvOff h t = ![s.val, h.val, 0, 0]) (XK XV : Blk F)
    (q : S1x1024x128.Idx → Elt F .bf16) (b : S1024x1024.Idx → Elt F .bf16) (st : HS F) :
    Tr c iprop((ow c (mQ.slice (headR h) (fun _ => rfl)) q ∗ hsAt c h st)
        ∗ ow c (kvSlot mKG s) XK ∗ ow c (kvSlot mVG s) XV ∗ ow c (mB.slice fullR (fun _ => rfl)) b ∗ owA F c (mS.slice fullR (fun _ => rfl)))
      (headStep t h)
      iprop((ow c (mQ.slice (headR h) (fun _ => rfl)) q ∗ hsAt c h (headNext (hdOf XK h) (hdOf XV h) q b st))
        ∗ ow c (kvSlot mKG s) XK ∗ ow c (kvSlot mVG s) XV ∗ ow c (mB.slice fullR (fun _ => rfl)) b ∗ owA F c (mS.slice fullR (fun _ => rfl))) := by
  unfold Tr hsAt headStep
  simp only [wp_bind]
  iintro ⟨⟨HQ, Hm, Hl, Ha⟩, HK, HV, HB, HS⟩
  iapply (op_loadHead c mKG s h t ho XK _) $$ HK; iintro HK
  iapply (op_loadHead c mVG s h t ho XV _) $$ HV; iintro HV
  iapply (op_load c mQ (headR h) (fun _ => rfl) q _) $$ HQ; iintro HQ
  iapply (op_load c mB fullR (fun _ => rfl) b _) $$ HB; iintro HB
  unfold owA
  icases HS with ⟨%s0, HS⟩
  iapply (op_load c mS fullR (fun _ => rfl) s0 _) $$ HS; iintro HS
  ihave HS := (ow_any c _ _) $$ HS
  iapply (op_store c mS fullR (fun _ => rfl) _ _) $$ HS; iintro HS
  iapply (op_load c mML (colR (mCol h)) (fun _ => rfl) st.m _) $$ Hm; iintro Hm
  iapply (op_load c mS fullR (fun _ => rfl) _ _) $$ HS; iintro HS
  iapply (op_load c mS fullR (fun _ => rfl) _ _) $$ HS; iintro HS
  iapply (op_load c mS fullR (fun _ => rfl) _ _) $$ HS; iintro HS
  ihave HS := (ow_any c _ _) $$ HS
  iapply (op_store c mS fullR (fun _ => rfl) _ _) $$ HS; iintro HS
  iapply (op_load c mML (colR (lCol h)) (fun _ => rfl) st.l _) $$ Hl; iintro Hl
  iapply (op_load c mS fullR (fun _ => rfl) _ _) $$ HS; iintro HS
  iapply (op_load c mML (colR (lCol h)) (fun _ => rfl) st.l _) $$ Hl; iintro Hl
  ihave Hl := (ow_any c _ _) $$ Hl
  iapply (op_store c mML (colR (lCol h)) (fun _ => rfl) _ _) $$ Hl; iintro Hl
  iapply (op_load c mA (headR h) (fun _ => rfl) st.a _) $$ Ha; iintro Ha
  iapply (op_load c mS fullR (fun _ => rfl) _ _) $$ HS; iintro HS
  iapply (op_load c mA (headR h) (fun _ => rfl) st.a _) $$ Ha; iintro Ha
  ihave Ha := (ow_any c _ _) $$ Ha
  iapply (op_store c mA (headR h) (fun _ => rfl) _ _) $$ Ha; iintro Ha
  iapply (op_load c mML (colR (mCol h)) (fun _ => rfl) st.m _) $$ Hm; iintro Hm
  ihave Hm := (ow_any c _ _) $$ Hm
  iapply (op_store c mML (colR (mCol h)) (fun _ => rfl) _ _) $$ Hm; iintro Hm
  isplitl [HQ Hm Hl Ha]
  · isplitl [HQ]; · iexact HQ
    isplitl [Hm]; · iexact Hm
    isplitl [Hl]; · iexact Hl
    iexact Ha
  isplitl [HK]; · iexact HK
  isplitl [HV]; · iexact HV
  isplitl [HB]; · iexact HB
  iexists _; iexact HS

theorem tr_storeMask (d : Dev nD) (t : Fin k0_t1_loop.trips) :
    Tr c (owA F c (mB.slice fullR (fun _ => rfl))) (storeMask d t) (ow c (mB.slice fullR (fun _ => rfl)) (maskOf d t)) := by
  unfold Tr storeMask
  simp only [wp_bind]
  iintro HB
  unfold owA
  icases HB with ⟨%s0, HB⟩
  iapply (op_load c mB fullR (fun _ => rfl) s0 _) $$ HB; iintro HB
  ihave HB := (ow_any c _ _) $$ HB
  iapply (op_store c mB fullR (fun _ => rfl) _ _) $$ HB; iintro HB
  iexact HB

/-! ## The waits of a trip -/

/-- The blocks number `i + 1`: still to come before trip `i + 1`, in their slots from it on. -/
def kvAt (t : ℕ) (i : Fin 7) : sProp 𝕄 :=
  if i.val + 1 < t then
    iprop(ow c (kvSlot mKG i.rev.succ) (inBlk Γ.K c i.rev.succ) ∗ ow c (kvSlot mVG i.rev.succ) (inBlk Γ.V c i.rev.succ)
      ∗ atPos ER (cell c (.kr i.rev)) 1 ∅ 0 ∗ atPos ER (cell c (.vr i.rev)) 1 ∅ 0)
  else
    iprop(cred (tallyAt (cell c (.kr i.rev)) 0 NK) ∗ cred (tallyAt (cell c (.vr i.rev)) 0 NK)
      ∗ atPos ER (cell c (.kr i.rev)) 0 ∅ 0 ∗ atPos ER (cell c (.vr i.rev)) 0 ∅ 0)

theorem waitCond_iff (t : Fin k0_t1_loop.trips) (i : Fin 7) : waitCond t i ↔ t.val = i.val + 1 := by
  revert t i; decide +kernel

theorem NK_eq (m : Memref sig .tc .vmem S8x8x1024x128 .bf16) (hm : m = mKG ∨ m = mVG) (s : Fin 8) : (kvSlot m s).view.dmaCredit = NK := by
  unfold NK
  rcases hm with rfl | rfl <;> (revert s; decide +kernel)

end Cert.KernelIdeal.Hand
-- ==== Proof.LoopRun.lean ====
/-
  The loop over the eight key and value blocks: the waits of a trip, a trip, and all of them.
-/
module

public import proofs.«01_k».proof.Proof.Steps

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (Γ : Cont F) (κ : GSem nD τ sig → ℕ) (c : Dev nD)

theorem trips_eq : k0_t1_loop.trips = 8 := by decide +kernel

/-- The slot that trip `t` reads. -/
def slotT (t : ℕ) : Fin 8 := Fin.ofNat 8 (8 - t)
theorem kvOff_eq (h : Fin 8) (t : Fin k0_t1_loop.trips) : kvOff h t = ![(slotT t.val).val, h.val, 0, 0] := by
  revert h t; decide +kernel

/-! ## The waits -/

theorem tr_whenWait (t : Fin k0_t1_loop.trips) (i : Fin 7) (O : CellTallies nD τ sig ℕ) (hO : Above 2 O) :
    Tr c iprop(kvAt Γ c t.val i ∗ Inv Γ κ ∗ owe c O) (whenWait t i) iprop(kvAt Γ c (t.val + 1) i ∗ Inv Γ κ ∗ owe c O) := by
  unfold whenWait
  split
  · next h =>
    rw [waitCond_iff] at h
    have h1 : ¬ i.val + 1 < t.val := by omega
    have h2 : i.val + 1 < t.val + 1 := by omega
    unfold kvAt
    rw [if_neg h1, if_pos h2]
    refine Tr_seq (Q := iprop((cred (tallyAt (cell c (.vr i.rev)) 0 NK) ∗ owe c O ∗ atPos ER (cell c (.vr i.rev)) 0 ∅ 0 ∗ Inv Γ κ)
      ∗ ow c (kvSlot mKG i.rev.succ) (inBlk Γ.K c i.rev.succ) ∗ atPos ER (cell c (.kr i.rev)) 1 ∅ 0)) ?_
      (Tr_seq (Q := iprop((ow c (kvSlot mKG i.rev.succ) (inBlk Γ.K c i.rev.succ) ∗ ow c (kvSlot mVG i.rev.succ) (inBlk Γ.V c i.rev.succ)
      ∗ atPos ER (cell c (.kr i.rev)) 1 ∅ 0 ∗ atPos ER (cell c (.vr i.rev)) 1 ∅ 0) ∗ Inv Γ κ ∗ owe c O)) ?_ (Tr_ret .rfl))
    · refine Tr_conseq (Tr_frame (tr_wait Γ κ c (.kr i.rev) 0 0 rfl (by decide) O hO _ (fun K =>
        (wpE_waitDma2_eq 𝒱₀ (c : Thread nD τ) none Set.univ (src := kvSlot mKS i.succ) K).trans (by rw [NK_eq mKG (.inl rfl)]; rfl))) (R := iprop(cred (tallyAt (cell c (.vr i.rev)) 0 NK) ∗ atPos ER (cell c (.vr i.rev)) 0 ∅ 0 ∗ Inv Γ κ))) ?_ ?_
      · iintro ⟨⟨H1, H2, H3, H4⟩, #HI, HO⟩
        isplitl [H1 H3 HO]
        · isplitr; · iexact HI
          isplitl [H1]; · iexact H1
          isplitl [HO]; · iexact HO
          iexact H3
        isplitl [H2]; · iexact H2
        isplitl [H4]; · iexact H4
        iexact HI
      · rw [show pay Γ c 0 0 (Role.kr i.rev) = ow c (kvSlot mKG i.rev.succ) (inBlk Γ.K c i.rev.succ) from rfl]
        iintro ⟨⟨HO, Ha, -, Hp⟩, H2, H4, HI⟩
        isplitl [H2 HO H4 HI]
        · isplitl [H2]; · iexact H2
          isplitl [HO]; · iexact HO
          isplitl [H4]; · iexact H4
          iexact HI
        isplitl [Hp]; · iexact Hp
        iexact Ha
    · refine Tr_conseq (Tr_frame (tr_wait Γ κ c (.vr i.rev) 0 0 rfl (by decide) O hO _ (fun K =>
        (wpE_waitDma2_eq 𝒱₀ (c : Thread nD τ) none Set.univ (src := kvSlot mVS i.succ) K).trans (by rw [NK_eq mVG (.inr rfl)]; rfl))) (R := iprop((ow c (kvSlot mKG i.rev.succ) (inBlk Γ.K c i.rev.succ) ∗ atPos ER (cell c (.kr i.rev)) 1 ∅ 0) ∗ Inv Γ κ))) ?_ ?_
      · iintro ⟨⟨H2, HO, H4, #HI⟩, Hp⟩
        isplitl [H2 HO H4]
        · isplitr; · iexact HI
          isplitl [H2]; · iexact H2
          isplitl [HO]; · iexact HO
          iexact H4
        isplitl [Hp]; · iexact Hp
        iexact HI
      · rw [show pay Γ c 0 0 (Role.vr i.rev) = ow c (kvSlot mVG i.rev.succ) (inBlk Γ.V c i.rev.succ) from rfl]
        iintro ⟨⟨HO, Ha, -, Hp⟩, ⟨H2, H4⟩, HI⟩
        isplitl [H2 H4 Hp Ha]
        · isplitl [H2]; · iexact H2
          isplitl [Hp]; · iexact Hp
          isplitl [H4]; · iexact H4
          iexact Ha
        isplitl [HI]; · iexact HI
        iexact HO
  · next h =>
    rw [waitCond_iff] at h
    refine Tr_ret (Idealize.SL.BI.BIClass.sep_mono (Entails.of_eq ?_) .rfl)
    unfold kvAt
    by_cases h1 : i.val + 1 < t.val
    · rw [if_pos h1, if_pos (by omega)]
    · rw [if_neg h1, if_neg (by omega)]

/-! ## The blocks in their slots -/

/-- This device's own blocks. -/
def slot0 (c : Dev nD) : sProp 𝕄 :=
  iprop(ow c (kvSlot mKG 0) (inBlk Γ.K c 0) ∗ ow c (kvSlot mVG 0) (inBlk Γ.V c 0))
/-- The key and the value block of slot `s`. -/
def slotKV (c : Dev nD) (s : Fin 8) : sProp 𝕄 :=
  iprop(ow c (kvSlot mKG s) (inBlk Γ.K c s) ∗ ow c (kvSlot mVG s) (inBlk Γ.V c s))

theorem slots_borrow (t : ℕ) (ht : t < 8) :
    iprop((bigSep Finset.univ fun i => kvAt Γ c (t + 1) i) ∗ slot0 Γ c)
      ⊢ iprop(slotKV Γ c (slotT t) ∗ (slotKV Γ c (slotT t) -∗ ((bigSep Finset.univ fun i => kvAt Γ c (t + 1) i) ∗ slot0 Γ c))) := by
  rcases Nat.eq_zero_or_pos t with rfl | hp
  · have : slotT 0 = 0 := rfl
    rw [this]
    unfold slot0 slotKV
    iintro ⟨Hb, Hs⟩
    isplitl [Hs]; · iexact Hs
    iintro Hs
    isplitl [Hb]; · iexact Hb
    iexact Hs
  · have hi : t - 1 < 7 := by omega
    have e : slotT t = (⟨t - 1, hi⟩ : Fin 7).rev.succ := by
      apply Fin.ext; simp [slotT, Fin.val_succ, Fin.val_rev, Fin.ofNat]; omega
    rw [e]
    have hk : kvAt Γ c (t + 1) ⟨t - 1, hi⟩ = iprop(ow c (kvSlot mKG (⟨t - 1, hi⟩ : Fin 7).rev.succ) (inBlk Γ.K c (⟨t - 1, hi⟩ : Fin 7).rev.succ) ∗ ow c (kvSlot mVG (⟨t - 1, hi⟩ : Fin 7).rev.succ) (inBlk Γ.V c (⟨t - 1, hi⟩ : Fin 7).rev.succ)
      ∗ atPos ER (cell c (.kr (⟨t - 1, hi⟩ : Fin 7).rev)) 1 ∅ 0 ∗ atPos ER (cell c (.vr (⟨t - 1, hi⟩ : Fin 7).rev)) 1 ∅ 0) := by
      unfold kvAt; rw [if_pos (by show t - 1 + 1 < t + 1; omega)]
    have hb := bs_borrow (⟨t - 1, hi⟩ : Fin 7) (fun i => kvAt Γ c (t + 1) i)
    simp only [hk] at hb
    unfold slotKV
    iintro ⟨Hb, Hs⟩
    ihave Hb := hb $$ Hb
    icases Hb with ⟨H, Hb⟩
    icases H with ⟨HK, HV, H3, H4⟩
    isplitl [HK HV]
    · isplitl [HK]; · iexact HK
      iexact HV
    iintro ⟨HK, HV⟩
    isplitr [Hs]
    · iapply Hb
      isplitl [HK]; · iexact HK
      isplitl [HV]; · iexact HV
      isplitl [H3]; · iexact H3
      iexact H4
    · iexact Hs

/-! ## A trip -/

/-- Head `h` of the queries. -/
def qHead (q : Blk F) (h : Fin 8) : S1x1024x128.Idx → Elt F .bf16 := fun j => q ((headR h).emb j)

/-- The running results at the start. -/
def hs0 (h : Fin 8) : HS F where
  m := fun j => k0_pay80 (F := F) (fun a => match a with | 0 => j 0 | 1 => h)
  l := fun j => k0_pay81 (F := F) (fun a => match a with | 0 => j 0 | 1 => h)
  a := fun j => k0_pay79 (k0_pay78 (F := F)) ((headR h).emb j)

/-- A trip, by its number. -/
def tripNo (t : ℕ) : Fin k0_t1_loop.trips := ⟨t % 8, by rw [trips_eq]; omega⟩

/-- The running results of head `h` on device `c` after `t` trips. -/
def hst (K V : Dev nD → KVc F) (q : Blk F) (c : Dev nD) (h : Fin 8) : ℕ → HS F
  | 0 => hs0 h
  | t + 1 => headNext (hdOf (inBlk K c (slotT t)) h) (hdOf (inBlk V c (slotT t)) h) (qHead q h) (maskOf c (tripNo t)) (hst K V q c h t)

/-- What device `c` holds before trip `t` of the loop. -/
def loopI (q : Blk F) (O : CellTallies nD τ sig ℕ) (t : ℕ) : sProp 𝕄 :=
  iprop((bigSep Finset.univ fun i => kvAt Γ c t i) ∗ slot0 Γ c
    ∗ (bigSep Finset.univ fun h : Fin 8 => iprop(ow c (mQ.slice (headR h) (fun _ => rfl)) (qHead q h) ∗ hsAt c h (hst Γ.K Γ.V q c h t)))
    ∗ owA F c (mB.slice fullR (fun _ => rfl)) ∗ owA F c (mS.slice fullR (fun _ => rfl)) ∗ Inv Γ κ ∗ owe c O)

theorem tr_trip (q : Blk F) (O : CellTallies nD τ sig ℕ) (hO : Above 2 O) (t : Fin k0_t1_loop.trips) :
    Tr c (loopI Γ κ c q O t.val) (tripBody c t) (loopI Γ κ c q O (t.val + 1)) := by
  have ht : t.val < 8 := trips_eq ▸ t.isLt
  have htn : tripNo t.val = t := Fin.ext (Nat.mod_eq_of_lt ht)
  have h1 := Tr_seqN 7 (whenWait (F := F) t) (fun i => kvAt Γ c t.val i) (fun i => kvAt Γ c (t.val + 1) i) (fun _ => iprop(Inv Γ κ ∗ owe c O))
    (fun i => tr_whenWait Γ κ c t i O hO)
  have h2 := Tr_seqN 8 (headStep (F := F) t)
    (fun h => iprop(ow c (mQ.slice (headR h) (fun _ => rfl)) (qHead q h) ∗ hsAt c h (hst Γ.K Γ.V q c h t.val)))
    (fun h => iprop(ow c (mQ.slice (headR h) (fun _ => rfl)) (qHead q h) ∗ hsAt c h (hst Γ.K Γ.V q c h (t.val + 1))))
    (fun _ => iprop(ow c (kvSlot mKG (slotT t.val)) (inBlk Γ.K c (slotT t.val)) ∗ ow c (kvSlot mVG (slotT t.val)) (inBlk Γ.V c (slotT t.val))
      ∗ ow c (mB.slice fullR (fun _ => rfl)) (maskOf c t) ∗ owA F c (mS.slice fullR (fun _ => rfl))))
    (fun h => by
      have := tr_headStep c t h (slotT t.val) (kvOff_eq h t) (inBlk Γ.K c (slotT t.val)) (inBlk Γ.V c (slotT t.val)) (qHead q h) (maskOf c t) (hst Γ.K Γ.V q c h t.val)
      rw [show hst Γ.K Γ.V q c h (t.val + 1) = headNext (hdOf (inBlk Γ.K c (slotT t.val)) h) (hdOf (inBlk Γ.V c (slotT t.val)) h) (qHead q h) (maskOf c t) (hst Γ.K Γ.V q c h t.val) by
        show headNext _ _ _ (maskOf c (tripNo t.val)) _ = _; rw [htn]]
      exact this)
  unfold loopI tripBody
  refine Tr_seq (Tr_conseq (Tr_frame h1 (R := iprop(slot0 Γ c
    ∗ (bigSep Finset.univ fun h : Fin 8 => iprop(ow c (mQ.slice (headR h) (fun _ => rfl)) (qHead q h) ∗ hsAt c h (hst Γ.K Γ.V q c h t.val)))
    ∗ owA F c (mB.slice fullR (fun _ => rfl)) ∗ owA F c (mS.slice fullR (fun _ => rfl))))) ?_ .rfl)
    (Tr_seq (Tr_conseq (Tr_frame (tr_storeMask c c t) (R := iprop(((bigSep Finset.univ fun i => kvAt Γ c (t.val + 1) i) ∗ Inv Γ κ ∗ owe c O) ∗ slot0 Γ c
    ∗ (bigSep Finset.univ fun h : Fin 8 => iprop(ow c (mQ.slice (headR h) (fun _ => rfl)) (qHead q h) ∗ hsAt c h (hst Γ.K Γ.V q c h t.val)))
    ∗ owA F c (mS.slice fullR (fun _ => rfl))))) ?_ .rfl)
    (Tr_conseq (Tr_frame h2 (R := iprop((slotKV Γ c (slotT t.val) -∗ ((bigSep Finset.univ fun i => kvAt Γ c (t.val + 1) i) ∗ slot0 Γ c)) ∗ Inv Γ κ ∗ owe c O))) ?_ ?_))
  · iintro ⟨Hk, Hs, Hh, HB, HS, HI, HO⟩
    isplitl [Hk HI HO]
    · isplitl [Hk]; · iexact Hk
      isplitl [HI]; · iexact HI
      iexact HO
    isplitl [Hs]; · iexact Hs
    isplitl [Hh]; · iexact Hh
    isplitl [HB]; · iexact HB
    iexact HS
  · iintro ⟨⟨Hk, HI, HO⟩, Hs, Hh, HB, HS⟩
    isplitl [HB]; · iexact HB
    isplitl [Hk HI HO]
    · isplitl [Hk]; · iexact Hk
      isplitl [HI]; · iexact HI
      iexact HO
    isplitl [Hs]; · iexact Hs
    isplitl [Hh]; · iexact Hh
    iexact HS
  · iintro ⟨HB, ⟨Hk, HI, HO⟩, Hs, Hh, HS⟩
    ihave Hks := (slots_borrow Γ c t.val ht) $$ [Hk Hs]
    · isplitl [Hk]; · iexact Hk
      iexact Hs
    icases Hks with ⟨Hkv, Hback⟩
    unfold slotKV
    icases Hkv with ⟨HK, HV⟩
    isplitr [Hback HI HO]
    · isplitl [Hh]; · iexact Hh
      isplitl [HK]; · iexact HK
      isplitl [HV]; · iexact HV
      isplitl [HB]; · iexact HB
      iexact HS
    isplitl [Hback]; · iexact Hback
    isplitl [HI]; · iexact HI
    iexact HO
  · iintro ⟨⟨Hh, HK, HV, HB, HS⟩, Hback, HI, HO⟩
    ihave Hb := Hback $$ [HK HV]
    · unfold slotKV
      isplitl [HK]; · iexact HK
      iexact HV
    icases Hb with ⟨Hk, Hs⟩
    isplitl [Hk]; · iexact Hk
    isplitl [Hs]; · iexact Hs
    isplitl [Hh]; · iexact Hh
    isplitl [HB]; · iapply (ow_any c _ _); iexact HB
    isplitl [HS]; · iexact HS
    isplitl [HI]; · iexact HI
    iexact HO

theorem tr_loop (q : Blk F) (O : CellTallies nD τ sig ℕ) (hO : Above 2 O) :
    Tr c (loopI Γ κ c q O 0) (loopProg c) (loopI Γ κ c q O 8) := by
  show loopI Γ κ c q O 0 ⊢ _
  unfold loopProg
  iintro H
  iapply (Scf.wp_for frame (wpE (defs₀ (F := F)) 𝒱₀ (c : Thread nD τ) none) Set.univ _ _ _ k0_t1_ok PUnit.unit (fun t _ => tripBody c t)
    (fun t _ => loopI Γ κ c q O t) (fun t _ => tr_trip Γ κ c q O hO t))
  isplitl [H]; · iexact H
  iintro %a H
  iexact H

end Cert.KernelIdeal.Hand
-- ==== Proof.Mask.lean ====
/-
  The mask, as the kernel makes it in a trip of its loop: zero where a query and a key count, −∞ elsewhere.
-/
module

public import proofs.«01_k».proof.Proof.LoopRun
public import Idealize.ShloMosaic.Lib.Pointwise

@[expose] public section

noncomputable section

namespace Cert.Value

open Cert.KernelIdeal Cert.KernelIdeal.Gen Cert.KernelIdeal.Hand
open Idealize.ShloMosaic

/-- Query `i` counts key `n`: they lie in the same block of 64, or the key lies in the first, or the blocks' numbers add up to a multiple of 3. -/
def keep (i n : ℕ) : Prop := i / 64 = n / 64 ∨ n / 64 = 0 ∨ (i / 64 + n / 64) % 3 = 0
instance (i n : ℕ) : Decidable (keep i n) := by unfold keep; infer_instance

/-- Division by 64 as the kernel spells it. -/
def fdiv (x : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The remainder modulo 3 as the kernel spells it. -/
def mod3 (x : BitVec 32) : BitVec 32 :=
  Scalar.select (IntOp.andi (IntOp.xori (IntOp.cmpi .slt (IntOp.remsi .vector x (Scalar.select (Scalar.cmpi .eq 3#32 0#32) 1#32 3#32)) 0#32)
        (Scalar.cmpi .slt (Scalar.select (Scalar.cmpi .eq 3#32 0#32) 1#32 3#32) 0#32))
      (IntOp.cmpi .ne (IntOp.remsi .vector x (Scalar.select (Scalar.cmpi .eq 3#32 0#32) 1#32 3#32)) 0#32))
    (IntOp.addi (IntOp.remsi .vector x (Scalar.select (Scalar.cmpi .eq 3#32 0#32) 1#32 3#32)) (Scalar.select (Scalar.cmpi .eq 3#32 0#32) 1#32 3#32))
    (IntOp.remsi .vector x (Scalar.select (Scalar.cmpi .eq 3#32 0#32) 1#32 3#32))

/-- The condition on the two blocks' numbers. -/
def comb (a b : BitVec 32) : BitVec 1 :=
  IntOp.ori (IntOp.ori (IntOp.cmpi .eq a b) (IntOp.cmpi .eq b 0#32)) (IntOp.cmpi .eq (mod3 (IntOp.addi a b)) 0#32)

theorem fdiv_val (i : Fin 1024) : fdiv (BitVec.ofNat 32 i.val) = BitVec.ofNat 32 (i.val / 64) := by
  revert i; decide +kernel

theorem comb_val : ∀ (a : Fin 16) (p : Fin 8) (b : Fin 16),
    comb (BitVec.ofNat 32 a.val) (IntOp.addi (BitVec.ofNat 32 b.val) (Scalar.muli (BitVec.ofNat 32 p.val) 16#32))
      = if a.val = 16 * p.val + b.val ∨ 16 * p.val + b.val = 0 ∨ (a.val + (16 * p.val + b.val)) % 3 = 0 then 1#1 else 0#1 := by
  decide +kernel

theorem own_val : ∀ (c : Dev nD) (t : Fin 8), ownW c (tripNo t.val) = BitVec.ofNat 32 ((c.val + (slotT t.val).val) % 8) := by
  decide +kernel

theorem pay1_at (j : S1024x1024.Idx) : k0_pay1 j = fdiv (BitVec.ofNat 32 (j 0).val) := by
  have e : (iota .tc S1024x1024 32 [0] iota_S1024x1024_d0_w32) j = BitVec.ofNat 32 (j 0).val := by
    simp only [iota, List.foldl, Nat.zero_mul, Nat.zero_add]
  rw [← e]
  rfl

theorem pay5_at (w : BitVec 32) (j : S1024x1024.Idx) :
    k0_pay5 w k0_pay1 (iota .tc S1024x1024 32 [1] iota_S1024x1024_d1_w32) 64#32 k0_pay2 k0_pay3 k0_pay4 j
      = comb (k0_pay1 j) (IntOp.addi (fdiv (BitVec.ofNat 32 (j 1).val)) (Scalar.muli w 16#32)) := by
  have e : (iota .tc S1024x1024 32 [1] iota_S1024x1024_d1_w32) j = BitVec.ofNat 32 (j 1).val := by
    simp only [iota, List.foldl, Nat.zero_mul, Nat.zero_add]
  rw [← e]
  rfl

/-- The mask of a trip, read at a query and a key. -/
theorem mask_at (c : Dev nD) (t : Fin 8) (i j : Fin 1024) :
    maskOf (F := Ideal) c (tripNo t.val) (ix2 i j)
      = if keep i.val (1024 * ((c.val + (slotT t.val).val) % 8) + j.val) then (0 : EReal) else ⊥ := by
  have e : k0_pay5 (ownW c (tripNo t.val)) k0_pay1 (iota .tc S1024x1024 32 [1] iota_S1024x1024_d1_w32) 64#32 k0_pay2 k0_pay3 k0_pay4 (ix2 i j)
      = if keep i.val (1024 * ((c.val + (slotT t.val).val) % 8) + j.val) then 1#1 else 0#1 := by
    rw [pay5_at, pay1_at, own_val]
    have h0 : ((ix2 i j : S1024x1024.Idx) 0).val = i.val := rfl
    have h1 : ((ix2 i j : S1024x1024.Idx) 1).val = j.val := rfl
    rw [h0, h1, fdiv_val, fdiv_val]
    have h := comb_val ⟨i.val / 64, by omega⟩ ⟨(c.val + (slotT t.val).val) % 8, Nat.mod_lt _ (by decide)⟩ ⟨j.val / 64, by omega⟩
    refine h.trans ?_
    have q : (1024 * ((c.val + (slotT t.val).val) % 8) + j.val) / 64 = 16 * ((c.val + (slotT t.val).val) % 8) + j.val / 64 := by omega
    simp only [keep, q]
  unfold maskOf k0_pay6
  pointwise [e]
  by_cases h : keep i.val (1024 * ((c.val + (slotT t.val).val) % 8) + j.val)
  · simp [h, Scalar.select, Scalar.ofBits]
  · simp [h, Scalar.select, Scalar.ofBits]
    rfl

end Cert.Value
-- ==== Proof.HeadVal.lean ====
/-
  What a head does with one block, read element by element, and the head's running results after a number of blocks.
-/
module

public import proofs.«01_k».proof.Proof.Online
public import proofs.«01_k».proof.Proof.Mask

@[expose] public section

noncomputable section

namespace Cert.Value

open Cert.KernelIdeal Cert.KernelIdeal.Gen Cert.KernelIdeal.Hand
open Idealize.ShloMosaic

/-- A head of a block, read at a row and a column. -/
theorem hd_at (G : KVc Ideal) (s h : Fin 8) (i : Fin 1024) (d : Fin 128) : hdOf (blk G s) h (ix4 0 0 i d) = G (ix4 s h i d) := by
  have e : ∀ x : S8x1024x128.Idx, blk G s x = G ((slotR s).emb (Shape.reshapeEquiv sqN x)) := fun x => rfl
  unfold hdOf
  rw [e, Equiv.apply_symm_apply]
  congr 1
  funext a
  apply Fin.ext
  rw [Rect.emb_apply]
  fin_cases a <;> simp [slotR, hdIx, ix4]

/-- A head of the block that comes into slot `s` is a head of the sender's block for this device. -/
theorem inBlk_at (G : Dev nD → KVc Ideal) (c : Dev nD) (s h : Fin 8) (i : Fin 1024) (d : Fin 128) :
    hdOf (inBlk G c s) h (ix4 0 0 i d) = G (up c s.val) (ix4 (Fin.ofNat 8 (8 - s.val)) h i d) := hd_at _ _ _ _ _

/-- The score of a query against a key. -/
theorem pay8_at (k : S1x1x1024x128.Idx → Elt Ideal .bf16) (q : S1x1024x128.Idx → Elt Ideal .bf16) (b : S1024x1024.Idx → Elt Ideal .bf16)
    (i j : Fin 1024) :
    k0_pay8 (F := Ideal) k q b (ix2 i j) = (∑ d : Fin 128, q (ix3 0 i d) * k (ix4 0 0 j d)) + b (ix2 i j) := by
  pointwise [k0_pay8]

/-- The word of −∞ is −∞. -/
theorem neg_inf : Ideal.ofBits .f32 4286578688#32 = ⊥ := by
  simp [Ideal.ofBits, Ideal.ieee, -EReal.coe_mul]

/-- A head's results at a row, one block later. -/
theorem next_m (k v : S1x1x1024x128.Idx → Elt Ideal .bf16) (q : S1x1024x128.Idx → Elt Ideal .bf16) (b : S1024x1024.Idx → Elt Ideal .bf16) (s : HS Ideal)
    (i : Fin 1024) : (headNext k v q b s).m (ix2 i 0) = max (s.m (ix2 i 0)) (Finset.univ.sup fun j : Fin 1024 => k0_pay8 (F := Ideal) k q b (ix2 i j)) := by
  pointwise [headNext, k0_pay15, k0_pay9]
  rw [neg_inf]
  rfl

/-- The sum of weights, one block later. -/
theorem next_l (k v : S1x1x1024x128.Idx → Elt Ideal .bf16) (q : S1x1024x128.Idx → Elt Ideal .bf16) (b : S1024x1024.Idx → Elt Ideal .bf16) (s : HS Ideal)
    (i : Fin 1024) : (headNext k v q b s).l (ix2 i 0) = s.l (ix2 i 0) * wt (s.m (ix2 i 0)) ((headNext k v q b s).m (ix2 i 0))
      + ∑ j : Fin 1024, wt (k0_pay8 (F := Ideal) k q b (ix2 i j)) ((headNext k v q b s).m (ix2 i 0)) := by
  have e : (headNext k v q b s).m (ix2 i 0) = k0_pay9 s.m (k0_pay8 k q b) (ix2 i 0) := by pointwise [headNext, k0_pay15]
  rw [e]
  pointwise [headNext, k0_pay13, k0_pay12, k0_pay11, k0_pay10]
  rfl

/-- The weighted sum of the values, one block later. -/
theorem next_a (k v : S1x1x1024x128.Idx → Elt Ideal .bf16) (q : S1x1024x128.Idx → Elt Ideal .bf16) (b : S1024x1024.Idx → Elt Ideal .bf16) (s : HS Ideal)
    (i : Fin 1024) (d : Fin 128) : (headNext k v q b s).a (ix3 0 i d) = s.a (ix3 0 i d) * wt (s.m (ix2 i 0)) ((headNext k v q b s).m (ix2 i 0))
      + ∑ j : Fin 1024, wt (k0_pay8 (F := Ideal) k q b (ix2 i j)) ((headNext k v q b s).m (ix2 i 0)) * v (ix4 0 0 j d) := by
  have e : (headNext k v q b s).m (ix2 i 0) = k0_pay9 s.m (k0_pay8 k q b) (ix2 i 0) := by pointwise [headNext, k0_pay15]
  rw [e]
  pointwise [headNext, k0_pay14, k0_pay12, k0_pay11, k0_pay10, k0_pay7]
  rfl

/-! ## After a number of blocks -/

/-- The device whose block a trip reads. -/
def srcE (c : Dev nD) : Fin 8 ≃ Fin 8 where
  toFun t := up c (slotT t.val).val
  invFun p := Fin.ofNat 8 (c.val + 8 - p.val)
  left_inv := by revert c; decide +kernel
  right_inv := by revert c; decide +kernel

/-- The block of device `p` that is for device `c`. -/
def grp (c p : Fin 8) : Fin 8 := Fin.ofNat 8 (c.val + 8 - p.val)

/-- The score of query `i` of head `h` on device `c` against key `j` of device `p`. -/
def scoreK (K : Dev nD → KVc Ideal) (q : Blk Ideal) (c : Dev nD) (h : Fin 8) (i : Fin 1024) (p : Fin 8) (j : Fin 1024) : EReal :=
  (∑ d : Fin 128, (q (ix3 h i d) : EReal) * K p (ix4 (grp c p) h j d)) + if keep i.val (1024 * p.val + j.val) then (0 : EReal) else ⊥

/-- A head's queries. -/
theorem qHead_at (q : Blk Ideal) (h : Fin 8) (i : Fin 1024) (d : Fin 128) : qHead q h (ix3 0 i d) = q (ix3 h i d) := by
  unfold qHead
  congr 1
  funext a
  apply Fin.ext
  rw [Rect.emb_apply]
  fin_cases a <;> simp [headR, ix3]

/-- The block that comes into a slot is the sender's block for this device. -/
theorem grp_slot : ∀ (c : Dev nD) (t : Fin 8), Fin.ofNat 8 (8 - (slotT t.val).val) = grp c (srcE c t) := by decide +kernel

/-- The score of a trip of the loop is that against the keys of the trip's device. -/
theorem score_at (K : Dev nD → KVc Ideal) (q : Blk Ideal) (c : Dev nD) (h : Fin 8) (t : Fin 8) (i j : Fin 1024) :
    k0_pay8 (F := Ideal) (hdOf (inBlk K c (slotT t.val)) h) (qHead q h) (maskOf (F := Ideal) c (tripNo t.val)) (ix2 i j) = scoreK K q c h i (srcE c t) j := by
  rw [pay8_at, mask_at]
  simp only [qHead_at, inBlk_at, grp_slot c t]
  rfl

/-- A head's running results, read at a query and a column. -/
theorem hst_upto (K V : Dev nD → KVc Ideal) (q : Blk Ideal) (c : Dev nD) (h : Fin 8) (i : Fin 1024) (d : Fin 128)
    (h1 : ∀ p j, scoreK K q c h i p j ≠ ⊤) (h2 : ∀ p, ∃ j, scoreK K q c h i p j ≠ ⊥) (t : ℕ) (ht : t ≤ 8) :
    Upto (fun t => scoreK K q c h i (srcE c (Fin.ofNat 8 t))) (fun t j => V (srcE c (Fin.ofNat 8 t)) (ix4 (grp c (srcE c (Fin.ofNat 8 t))) h j d)) t
      ((hst K V q c h t).m (ix2 i 0)) ((hst K V q c h t).l (ix2 i 0)) ((hst K V q c h t).a (ix3 0 i d)) := by
  induction t with
  | zero =>
      have em : (hst K V q c h 0).m (ix2 i 0) = ⊥ := by
        show k0_pay80 (F := Ideal) (fun a => match a with | 0 => i | 1 => h) = ⊥
        pointwise [k0_pay80]
        rfl
      have el : (hst K V q c h 0).l (ix2 i 0) = 0 := by
        show k0_pay81 (F := Ideal) (fun a => match a with | 0 => i | 1 => h) = 0
        pointwise [k0_pay81, Scalar.ofBits]
      have ea : (hst K V q c h 0).a (ix3 0 i d) = 0 := by
        show k0_pay79 (k0_pay78 (F := Ideal)) ((headR h).emb (ix3 0 i d)) = 0
        pointwise [k0_pay79, k0_pay78, Scalar.ofBits]
      rw [em, el, ea]
      exact upto_zero _ _
  | succ t ih =>
      have hs := upto_succ (fun t => scoreK K q c h i (srcE c (Fin.ofNat 8 t))) (fun t j => V (srcE c (Fin.ofNat 8 t)) (ix4 (grp c (srcE c (Fin.ofNat 8 t))) h j d))
        (fun u j => h1 _ j) (fun u => h2 _) (ih (by omega))
      have et : (Fin.ofNat 8 t).val = t := Nat.mod_eq_of_lt (by omega)
      have es : ∀ j, k0_pay8 (F := Ideal) (hdOf (inBlk K c (slotT t)) h) (qHead q h) (maskOf (F := Ideal) c (tripNo t)) (ix2 i j)
          = scoreK K q c h i (srcE c (Fin.ofNat 8 t)) j := fun j => by
        have := score_at K q c h (Fin.ofNat 8 t) i j
        rwa [et] at this
      have ev : ∀ j, hdOf (inBlk V c (slotT t)) h (ix4 0 0 j d) = V (srcE c (Fin.ofNat 8 t)) (ix4 (grp c (srcE c (Fin.ofNat 8 t))) h j d) := fun j => by
        have := inBlk_at V c (slotT (Fin.ofNat 8 t).val) h j d
        rw [grp_slot c (Fin.ofNat 8 t), et] at this
        rw [this]
        show V (up c (slotT t).val) _ = V (up c (slotT (Fin.ofNat 8 t).val).val) _
        rw [et]
      have hm : (hst K V q c h (t + 1)).m (ix2 i 0) = max ((hst K V q c h t).m (ix2 i 0)) (Finset.univ.sup (scoreK K q c h i (srcE c (Fin.ofNat 8 t)))) := by
        refine (next_m _ _ _ _ _ _).trans ?_
        simp only [es]
      have hl := next_l (hdOf (inBlk K c (slotT t)) h) (hdOf (inBlk V c (slotT t)) h) (qHead q h) (maskOf (F := Ideal) c (tripNo t)) (hst K V q c h t) i
      have ha := next_a (hdOf (inBlk K c (slotT t)) h) (hdOf (inBlk V c (slotT t)) h) (qHead q h) (maskOf (F := Ideal) c (tripNo t)) (hst K V q c h t) i d
      simp only [es, ev] at hl ha
      have fold : headNext (hdOf (inBlk K c (slotT t)) h) (hdOf (inBlk V c (slotT t)) h) (qHead q h) (maskOf (F := Ideal) c (tripNo t)) (hst K V q c h t) = hst K V q c h (t + 1) := rfl
      rw [fold, hm] at hl ha
      rw [hl, ha, hm]
      exact hs

/-- The softmax of head `h` on device `c` applied to the values, at a query and a column. -/
def ctxK (K V : Dev nD → KVc Ideal) (q : Blk Ideal) (c : Dev nD) (h : Fin 8) (i : Fin 1024) (d : Fin 128) : EReal :=
  ∑ x : Fin 8 × Fin 1024, Ideal.div (wt (scoreK K q c h i x.1 x.2) (Finset.univ.sup fun y : Fin 8 × Fin 1024 => scoreK K q c h i y.1 y.2))
      (∑ y : Fin 8 × Fin 1024, wt (scoreK K q c h i y.1 y.2) (Finset.univ.sup fun y : Fin 8 × Fin 1024 => scoreK K q c h i y.1 y.2))
    * V x.1 (ix4 (grp c x.1) h x.2 d)

/-- A head's last quotient is the softmax over all the devices' keys. -/
theorem hst_ctx (K V : Dev nD → KVc Ideal) (q : Blk Ideal) (c : Dev nD) (h : Fin 8) (i : Fin 1024) (d : Fin 128)
    (h1 : ∀ p j, scoreK K q c h i p j ≠ ⊤) (h2 : ∀ p, ∃ j, scoreK K q c h i p j ≠ ⊥) :
    Ideal.div ((hst K V q c h 8).a (ix3 0 i d)) ((hst K V q c h 8).l (ix2 i 0)) = ctxK K V q c h i d :=
  online (scoreK K q c h i) (fun p j => V p (ix4 (grp c p) h j d)) (srcE c) h1 h2 (hst_upto K V q c h i d h1 h2 8 le_rfl)

end Cert.Value
-- ==== Proof.Ring.lean ====
/-
  The fourteen steps of the ring.
-/
module

public import proofs.«01_k».proof.Proof.LoopRun

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (Γ : Cont F) (κ : GSem nD τ sig → ℕ) (c : Dev nD)

/-- One conjunct changed. -/
theorem bs_update {I : Type} [Fintype I] [DecidableEq I] (i : I) (Φ Ψ : I → sProp (MT nD τ sig ℕ (Elt F) ℕ UU ℕ)) (h : ∀ j, j ≠ i → Φ j = Ψ j) :
    bigSep Finset.univ Φ ⊢ iprop(Φ i ∗ (Ψ i -∗ bigSep Finset.univ Ψ)) := by
  have h' : iprop(Ψ i ∗ bigSep (Finset.univ.erase i) Ψ) ⊢ bigSep Finset.univ Ψ := Entails.of_eq (bigSep_erase (Finset.mem_univ i) (Φ := Ψ)).symm
  have e : bigSep (Finset.univ.erase i) Φ = bigSep (Finset.univ.erase i) Ψ := bigSep_congr fun j hj => h j (Finset.ne_of_mem_erase hj)
  have h0 : bigSep Finset.univ Φ ⊢ iprop(Φ i ∗ bigSep (Finset.univ.erase i) Φ) := Entails.of_eq (bigSep_erase (Finset.mem_univ i) (Φ := Φ))
  refine h0.trans (sep_mono_right (BI.wand_intro ?_))
  rw [e]
  exact BI.sep_comm.trans h'

/-! ## The chunks that a step reads and writes -/

theorem srcOff_eq (t : Fin 14) : srcOff c t = ![128 * (chk c t.val).val, 0] := by revert c t; decide +kernel
theorem dstOff_eq (t : Fin 14) : dstOff c t = ![128 * (chk c (t.val + 1)).val, 0] := by revert c t; decide +kernel

theorem chunkM_of (k : Fin 8) (o : Fin 2 → ℕ) (ho : ∀ a, o a + S128x1024.size a ≤ S1024x1024.size a) (e : o = ![128 * k.val, 0]) :
    (mO.slice (Rect.unit (s := S1024x1024) o S128x1024.size ho) (fun _ => rfl) : Memref sig .tc .vmem S128x1024 .f32) = chunkM k := by
  subst e; rfl
theorem srcChunk_eq (t : Fin 14) : srcChunk c t = chunkM (chk c t.val) := chunkM_of _ _ _ (srcOff_eq c t)
theorem dstChunk_eq (t : Fin 14) : (mO.slice (dstR c t) (fun _ => rfl) : Memref sig .tc .vmem S128x1024 .f32) = chunkM (chk c (t.val + 1)) :=
  chunkM_of _ _ _ (dstOff_eq c t)

theorem NR_rs (b : Fin 2) : (rsSlot b).view.dmaCredit = NR := by unfold NR; revert b; decide +kernel
theorem NR_chunk (k : Fin 8) : (chunkM k).view.dmaCredit = NR := by unfold NR; revert k; decide +kernel
theorem NR_src (t : Fin 14) : (srcChunk c t).view.dmaCredit = NR := by rw [srcChunk_eq]; exact NR_chunk _

/-! ## The credits -/

/-- How many credits of slot `b` have been taken before step `t`. -/
def cnt (b : Fin 2) (t : ℕ) : ℕ := (t - 1 - b.val) / 2
/-- The rounds of a credit cell done. -/
def crAt (c : Dev nD) (b : Fin 2) (n : ℕ) : sProp 𝕄 := iprop(atPos ER (cell c (.cr b)) n ∅ 0 ∗ reached ER (cell c (.cr b)) n)
/-- Both credit cells, before step `t`. -/
def crs (c : Dev nD) (t : ℕ) : sProp 𝕄 := bigSep Finset.univ fun b : Fin 2 => crAt c b (cnt b t)

theorem cnt_other (t : ℕ) (b : Fin 2) (h : b.val ≠ t % 2) : cnt b t = cnt b (t + 1) := by
  unfold cnt; have := b.isLt; omega
theorem cnt_self (t : Fin 14) : cnt (par t) (t.val + 1) = t.val / 2 := by unfold cnt; show (t.val + 1 - 1 - t.val % 2) / 2 = _; omega
theorem cnt_before (t : Fin 14) : cnt (par t) t.val = t.val / 2 - 1 := by unfold cnt; show (t.val - 1 - t.val % 2) / 2 = _; omega

theorem crs_step (t : Fin 14) : crs c t.val ⊢ iprop(crAt (F := F) c (par t) (t.val / 2 - 1) ∗ (crAt c (par t) (t.val / 2) -∗ crs c (t.val + 1))) := by
  have h := bs_update (F := F) (par t) (fun b : Fin 2 => crAt c b (cnt b t.val)) (fun b : Fin 2 => crAt c b (cnt b (t.val + 1)))
    (fun j hj => by rw [cnt_other t.val j (fun e => hj (Fin.ext e))])
  unfold crs
  simp only [cnt_before, cnt_self] at h
  exact h

/-- What step `t` of the ring takes the landing slot from. -/
def slotSrc (c : Dev nD) (t : Fin 14) : sProp 𝕄 :=
  if t.val < 2 then owA F (right c) (rsSlot (par t)) else cred (tallyAt (cell c (.cr (par t))) (t.val / 2 - 1) 1)
/-- The chunk that comes home with it. -/
def homeNew (c : Dev nD) (t : Fin 14) : sProp 𝕄 :=
  if t.val < 2 then iprop(emp) else ow c (chunkM (chk c (t.val - 2))) (SV Γ.O (t.val - 2) c)

theorem tr_ringCredit (t : Fin 14) :
    Tr c iprop(Inv Γ κ ∗ owe c (tailSum (rrF c) t.val) ∗ crs c t.val ∗ slotSrc c t) (ringCredit t)
      iprop(Inv Γ κ ∗ owe c (tailSum (rrF c) t.val) ∗ crs c (t.val + 1) ∗ owA F (right c) (rsSlot (par t)) ∗ homeNew Γ c t) := by
  unfold ringCredit slotSrc homeNew
  by_cases h : 2 ≤ t.val
  · rw [if_pos h, if_neg (by omega), if_neg (by omega)]
    have hp : pay Γ c (t.val / 2 - 1) 0 (Role.cr (par t)) = iprop(owA F (right c) (rsSlot (par t)) ∗ ow c (chunkM (chk c (t.val - 2))) (SV Γ.O (t.val - 2) c)) := by
      show crPay Γ c (par t) (t.val / 2 - 1) = _
      unfold crPay
      rw [show (par t).val + 2 * (t.val / 2 - 1) = t.val - 2 by show t.val % 2 + _ = _; omega]
    have hw := tr_wait Γ κ c (.cr (par t)) (t.val / 2 - 1) (t.val / 2 - 1) (if_pos (by omega)) (by omega) (tailSum (rrF c) t.val)
      (above_ring c _ _ (by show 11 + 2 * (t.val % 2 + 2 * (t.val / 2 - 1)) < _; omega)) (.semWait (crS (par t)) 1)
      (wpE_semWait_eq 𝒱₀ (c : Thread nD τ) none Set.univ)
    rw [hp] at hw
    refine Tr_conseq (Tr_frame hw (R := iprop((crAt c (par t) (t.val / 2) -∗ crs c (t.val + 1)) ∗ Inv Γ κ))) ?_ ?_
    · iintro ⟨#HI, HO, Hc, Hs⟩
      ihave Hc := (crs_step c t) $$ Hc
      icases Hc with ⟨Hat, Hback⟩
      unfold crAt
      icases Hat with ⟨Hat, -⟩
      isplitr [Hback]
      · isplitr; · iexact HI
        isplitl [Hs]; · iexact Hs
        isplitl [HO]; · iexact HO
        iexact Hat
      isplitl [Hback]; · iexact Hback
      iexact HI
    · iintro ⟨⟨HO, Hat, Hr, Hs, Hh⟩, Hback, HI⟩
      rw [show t.val / 2 - 1 + 1 = t.val / 2 by omega]
      isplitl [HI]; · iexact HI
      isplitl [HO]; · iexact HO
      isplitl [Hat Hr Hback]
      · iapply Hback; unfold crAt
        isplitl [Hat]; · iexact Hat
        iexact Hr
      isplitl [Hs]; · iexact Hs
      iexact Hh
  · rw [if_neg h, if_pos (by omega), if_pos (by omega)]
    refine Tr_ret ?_
    iintro ⟨HI, HO, Hc, Hs⟩
    ihave Hc := (crs_step c t) $$ Hc
    icases Hc with ⟨Hat, Hback⟩
    rw [show t.val / 2 - 1 = t.val / 2 by omega]
    isplitl [HI]; · iexact HI
    isplitl [HO]; · iexact HO
    isplitl [Hat Hback]
    · iapply Hback; iexact Hat
    isplitl [Hs]; · iexact Hs
    iempintro

theorem tr_ringSend (t : Fin 14) :
    Tr c iprop(Inv Γ κ ∗ owe c (tailSum (rrF c) t.val) ∗ ow c (chunkM (chk c t.val)) (SV Γ.O t.val c) ∗ owA F (right c) (rsSlot (par t)) ∗ crs c (t.val + 1)
        ∗ duty c (.rs t) 0 0 ∗ duty (right c) (.rr t) 0 0) (ringSend c t)
      iprop(cred (tallyAt (cell c (.rs t)) 0 NR) ∗ owe c (tailSum (rrF c) (t.val + 1) + crF c t) ∗ crs c (t.val + 1)) := by
  have hO : tailSum (rrF c) t.val = (tailSum (rrF c) (t.val + 1) + crF c t) + tallyAt (cell (right c) (.rr t)) 0 NR := by
    rw [tailSum_peel (rrF c) t.val t.isLt, add_assoc]; rfl
  unfold ringSend
  by_cases h : t.val < 12
  · have hs := tr_sendLanding Γ κ c (rsDev c t) (srcChunk c t) (rsSlot (par t)) (hsc := rfl) (hsrc := View.wordExact_bits rfl) (hdst := rsWords _) (.rs t) (.rr t)
      (hsem := ⟨⟨rfl, Or.inl rfl⟩, trivial⟩) 0 NR rfl rfl (NR_rs _) rfl rfl
      (tailSum (rrF c) t.val) (tailSum (rrF c) (t.val + 1) + crF c t) (by rw [rsDev_eq]; exact hO) (SV Γ.O t.val c) (reached ER (cell c (.cr (par t))) (t.val / 2))
      (by show _ ⊢ (if t.val < 12 then iprop(emp) else _); rw [if_pos h])
      (by
        rw [rsDev_eq, srcChunk_eq]
        show _ ⊢ rrPay Γ (right c) t
        unfold rrPay
        rw [if_pos h, left_right]
        iintro ⟨⟨H1, H2⟩, H3⟩
        isplitl [H1]; · iexact H1
        isplitl [H3]; · iexact H3
        iexact H2)
    refine Tr_conseq (Tr_frame hs (R := crs c (t.val + 1))) ?_ ?_
    · rw [rsDev_eq, srcChunk_eq]
      iintro ⟨#HI, HO, Hch, Hsl, Hc, Hd, Hd'⟩
      unfold crs
      ihave Hc := (bs_borrow (par t) (fun b : Fin 2 => crAt c b (cnt b (t.val + 1)))) $$ Hc
      rw [cnt_self]
      unfold crAt
      icases Hc with ⟨⟨Hat, #Hr⟩, Hback⟩
      isplitr [Hat Hback]
      · isplitr; · iexact HI
        isplitl [Hch]; · iexact Hch
        isplitl [Hsl]
        · isplitl [Hsl]; · iexact Hsl
          iexact Hr
        isplitl [HO]; · iexact HO
        isplitl [Hd]; · iexact Hd
        iexact Hd'
      iapply Hback
      isplitl [Hat]; · iexact Hat
      iexact Hr
    · iintro ⟨⟨H1, H2⟩, H3⟩
      isplitl [H1]; · iexact H1
      isplitl [H2]; · iexact H2
      iexact H3
  · have hs := tr_send Γ κ c (rsDev c t) (srcChunk c t) (rsSlot (par t)) (hsc := rfl) (hsrc := View.wordExact_bits rfl) (hdst := rsWords _) (.rs t) (.rr t)
      (hsem := ⟨⟨rfl, Or.inl rfl⟩, trivial⟩) 0 NR rfl rfl (NR_rs _) rfl rfl
      (tailSum (rrF c) t.val) (tailSum (rrF c) (t.val + 1) + crF c t) (by rw [rsDev_eq]; exact hO) (SV Γ.O t.val c)
      (by rw [srcChunk_eq]; show _ ⊢ (if t.val < 12 then iprop(emp) else _); rw [if_neg h])
      (by
        rw [rsDev_eq]
        show _ ⊢ rrPay Γ (right c) t
        unfold rrPay
        rw [if_neg h, left_right]
        iintro H
        isplitl [H]; · iexact H
        iempintro)
    refine Tr_conseq (Tr_frame hs (R := crs c (t.val + 1))) ?_ ?_
    · rw [rsDev_eq, srcChunk_eq]
      iintro ⟨#HI, HO, Hch, Hsl, Hc, Hd, Hd'⟩
      isplitr [Hc]
      · isplitr; · iexact HI
        isplitl [Hch]; · iexact Hch
        isplitl [Hsl]; · iexact Hsl
        isplitl [HO]; · iexact HO
        isplitl [Hd]; · iexact Hd
        iexact Hd'
      iexact Hc
    · iintro ⟨⟨H1, H2⟩, H3⟩
      isplitl [H1]; · iexact H1
      isplitl [H2]; · iexact H2
      iexact H3

theorem tr_ringRecv (t : Fin 14) :
    Tr c iprop(Inv Γ κ ∗ cred (tallyAt (cell c (.rr t)) 0 NR) ∗ owe c (tailSum (rrF c) (t.val + 1) + crF c t) ∗ atPos ER (cell c (.rr t)) 0 ∅ 0) (ringRecv c t)
      iprop(owe c (tailSum (rrF c) (t.val + 1) + crF c t) ∗ atPos ER (cell c (.rr t)) 1 ∅ 0 ∗ rrPay Γ c t) := by
  unfold ringRecv
  refine Tr_conseq (tr_wait Γ κ c (.rr t) 0 0 rfl (by decide) (tailSum (rrF c) (t.val + 1) + crF c t)
    (above_add (above_ring c _ _ (by show 10 + 2 * t.val < _; omega)) (above_crF c t _ (by show 10 + 2 * t.val < _; omega))) _ (fun K =>
        (wpE_waitDma2_eq 𝒱₀ (c : Thread nD τ) none Set.univ (src := srcChunk c t) K).trans (by rw [NR_rs]; rfl))) .rfl ?_
  rw [show pay Γ c 0 0 (Role.rr t) = rrPay Γ c t from rfl]
  iintro ⟨H1, H2, -, H3⟩
  isplitl [H1]; · iexact H1
  isplitl [H2]; · iexact H2
  iexact H3

/-- What stands at place `n` of the ring before the ring has reached it. -/
def HC (O : Dev nD → Oc F) (c : Dev nD) (n : ℕ) : Ch F := if n ≤ 7 then chunk (O c) (chk c n) else SV O (n - 8) c

theorem tr_ringUse (t : Fin 14) :
    Tr c iprop(ow c (chunkM (chk c (t.val + 1))) (HC Γ.O c (t.val + 1)) ∗ ow c (rsSlot (par t)) (SV Γ.O t.val (left c))) (ringUse c t)
      iprop(ow c (chunkM (chk c (t.val + 1))) (SV Γ.O (t.val + 1) c) ∗ owA F c (rsSlot (par t))) := by
  unfold ringUse
  rw [← dstChunk_eq]
  by_cases h : t.val < 7
  · rw [if_pos h]
    have e : SV Γ.O (t.val + 1) c = k0_pay95 (HC Γ.O c (t.val + 1)) (unsq (SV Γ.O t.val (left c))) := by
      unfold HC; rw [if_pos (by omega)]; exact if_pos h
    rw [e]
    generalize HC Γ.O c (t.val + 1) = X
    unfold Tr
    simp only [wp_bind]
    iintro ⟨HX, HR⟩
    ihave HR := (ow_rs c (par t) _) $$ HR
    iapply (op_load c mO (dstR c t) (fun _ => rfl) X _) $$ HX; iintro HX
    iapply (op_load c mR (rsR (par t)) (fun _ => rfl) (unsq (SV Γ.O t.val (left c))) _) $$ HR; iintro HR
    iapply (op_load c mO (dstR c t) (fun _ => rfl) X _) $$ HX; iintro HX
    ihave HX := (ow_any c _ _) $$ HX
    iapply (op_store c mO (dstR c t) (fun _ => rfl) _ _) $$ HX; iintro HX
    isplitl [HX]; · iexact HX
    iapply (rs_owA c (par t)); iapply (ow_any c _ _); iexact HR
  · rw [if_neg h]
    have e : SV Γ.O (t.val + 1) c = k0_pay103 (unsq (SV Γ.O t.val (left c))) := if_neg h
    rw [e]
    generalize HC Γ.O c (t.val + 1) = X
    unfold Tr
    simp only [wp_bind]
    iintro ⟨HX, HR⟩
    ihave HR := (ow_rs c (par t) _) $$ HR
    iapply (op_load c mR (rsR (par t)) (fun _ => rfl) (unsq (SV Γ.O t.val (left c))) _) $$ HR; iintro HR
    iapply (op_load c mO (dstR c t) (fun _ => rfl) X _) $$ HX; iintro HX
    ihave HX := (ow_any c _ _) $$ HX
    iapply (op_store c mO (dstR c t) (fun _ => rfl) _ _) $$ HX; iintro HX
    isplitl [HX]; · iexact HX
    iapply (rs_owA c (par t)); iapply (ow_any c _ _); iexact HR

/-- What giving the landing slot back needs besides. -/
def giveTok (c : Dev nD) (t : Fin 14) : sProp 𝕄 :=
  if t.val < 12 then dutyTok ER (cell (left c) (.cr (par t))) (t.val / 2) 0 else iprop(emp)
def keepSlot (c : Dev nD) (t : Fin 14) : sProp 𝕄 := if t.val < 12 then iprop(emp) else owA F c (rsSlot (par t))

theorem tr_ringGive (t : Fin 14) :
    Tr c iprop(Inv Γ κ ∗ owe c (tailSum (rrF c) (t.val + 1) + crF c t) ∗ owA F c (rsSlot (par t)) ∗ giveTok c t
        ∗ (if t.val < 12 then iprop(ow (left c) (chunkM (chk (left c) t.val)) (SV Γ.O t.val (left c)) ∗ reached ER (cell (left c) (.cr (par t))) (t.val / 2)) else iprop(emp))) (ringGive c t)
      iprop(owe c (tailSum (rrF c) (t.val + 1)) ∗ keepSlot c t) := by
  unfold ringGive giveTok keepSlot
  by_cases h : t.val < 12
  · rw [dif_pos h, if_pos h, if_pos h, if_pos h, crDev_eq]
    have hs := tr_signal Γ κ c (left c) (.cr (par t)) (crS (par t)) rfl (t.val / 2) (t.val / 2) 0 (by show 0 ∈ (if t.val / 2 < 6 then _ else _); rw [if_pos (by omega)]; exact Finset.mem_singleton_self _) rfl
      (tailSum (rrF c) (t.val + 1) + crF c t) (tailSum (rrF c) (t.val + 1)) (by unfold crF; rw [if_pos h])
    have hp : pay Γ (left c) (t.val / 2) 0 (Role.cr (par t)) = iprop(owA F c (rsSlot (par t)) ∗ ow (left c) (chunkM (chk (left c) t.val)) (SV Γ.O t.val (left c))) := by
      show crPay Γ (left c) (par t) (t.val / 2) = _
      unfold crPay
      rw [show (par t).val + 2 * (t.val / 2) = t.val by show t.val % 2 + _ = _; omega, right_left]
    rw [hp] at hs
    refine Tr_conseq hs ?_ ?_
    · iintro ⟨HI, HO, Hs, Hd, Hch, Hr⟩
      isplitl [HI]; · iexact HI
      isplitl [HO]; · iexact HO
      isplitl [Hd Hr]
      · unfold duty; isplitl [Hd]; · iexact Hd
        iexact Hr
      isplitl [Hs]; · iexact Hs
      iexact Hch
    · iintro H
      isplitl [H]; · iexact H
      iempintro
  · rw [dif_neg h, if_neg h, if_neg h, if_neg h]
    refine Tr_ret ?_
    have e : crF c t = 0 := if_neg h
    rw [e, add_zero]
    iintro ⟨-, HO, Hs, -, -⟩
    isplitl [HO]; · iexact HO
    iexact Hs

/-! ## A step of the ring -/

/-- The chunks at home before step `t`, the one it sends apart. -/
def Home (c : Dev nD) (t : ℕ) : sProp 𝕄 := bigSep (Finset.Ico (t + 1) (max 8 (t + 6))) fun n => ow c (chunkM (chk c n)) (HC Γ.O c n)
def Home' (c : Dev nD) (t : ℕ) : sProp 𝕄 := bigSep (Finset.Ico (t + 2) (max 8 (t + 6))) fun n => ow c (chunkM (chk c n)) (HC Γ.O c n)

theorem home_out (t : ℕ) : Home Γ c t ⊢ iprop(ow c (chunkM (chk c (t + 1))) (HC Γ.O c (t + 1)) ∗ Home' Γ c t) := by
  unfold Home Home'
  have e : Finset.Ico (t + 1) (max 8 (t + 6)) = insert (t + 1) (Finset.Ico (t + 2) (max 8 (t + 6))) := by
    ext n; simp only [Finset.mem_Ico, Finset.mem_insert]; omega
  rw [e]
  exact Entails.of_eq (bigSep_insert (by simp))
theorem chk_back : ∀ (c : Dev nD) (t : Fin 14), 2 ≤ t.val → chk c (t.val - 2) = chk c (t.val + 6) := by decide +kernel
theorem home_in (t : Fin 14) : iprop(homeNew Γ c t ∗ Home' Γ c t.val) ⊢ Home Γ c (t.val + 1) := by
  unfold Home Home' homeNew
  by_cases h : t.val < 2
  · rw [if_pos h]
    have e : Finset.Ico (t.val + 2) (max 8 (t.val + 6)) = Finset.Ico (t.val + 1 + 1) (max 8 (t.val + 1 + 6)) := by
      rw [show max 8 (t.val + 6) = 8 by omega, show max 8 (t.val + 1 + 6) = 8 by omega]
    rw [e]
    iintro ⟨-, H⟩; iexact H
  · rw [if_neg h]
    have e : Finset.Ico (t.val + 1 + 1) (max 8 (t.val + 1 + 6)) = insert (t.val + 6) (Finset.Ico (t.val + 2) (max 8 (t.val + 6))) := by
      ext n; simp only [Finset.mem_Ico, Finset.mem_insert]; omega
    rw [e]
    have e1 : ow c (chunkM (chk c (t.val - 2))) (SV Γ.O (t.val - 2) c) = ow c (chunkM (chk c (t.val + 6))) (HC Γ.O c (t.val + 6)) := by
      have : chk c (t.val - 2) = chk c (t.val + 6) := chk_back c t (by omega)
      unfold HC
      rw [if_neg (by omega), this]
      rfl
    rw [e1]
    have hn : t.val + 6 ∉ Finset.Ico (t.val + 2) (max 8 (t.val + 6)) := fun h => by have := (Finset.mem_Ico.mp h).2; omega
    have e2 := bigSep_insert (Φ := fun n => ow c (chunkM (chk c n)) (HC Γ.O c n)) hn
    exact Entails.of_eq e2.symm

/-- What step `t` of the ring uses up, -/
def ringA (c : Dev nD) (t : Fin 14) : sProp 𝕄 :=
  iprop(duty c (.rs t) 0 0 ∗ duty (right c) (.rr t) 0 0 ∗ cred (tallyAt (cell c (.rr t)) 0 NR) ∗ atPos ER (cell c (.rr t)) 0 ∅ 0 ∗ giveTok c t ∗ slotSrc c t)
/-- what it leaves, -/
def ringB (c : Dev nD) (t : Fin 14) : sProp 𝕄 :=
  iprop(cred (tallyAt (cell c (.rs t)) 0 NR) ∗ atPos ER (cell c (.rr t)) 1 ∅ 0 ∗ keepSlot c t)
/-- and what it keeps up. -/
def ringS (t : ℕ) : sProp 𝕄 :=
  iprop(Inv Γ κ ∗ owe c (tailSum (rrF c) t) ∗ ow c (chunkM (chk c t)) (SV Γ.O t c) ∗ Home Γ c t ∗ crs c t)

theorem tr_ringStep (t : Fin 14) : Tr c iprop(ringA c t ∗ ringS Γ κ c t.val) (ringStep c t) iprop(ringB c t ∗ ringS Γ κ c (t.val + 1)) := by
  unfold ringStep ringA ringS ringB
  refine Tr_seq (Tr_conseq (Tr_frame (tr_ringCredit Γ κ c t) (R := iprop(Inv Γ κ ∗ duty c (.rs t) 0 0 ∗ duty (right c) (.rr t) 0 0 ∗ cred (tallyAt (cell c (.rr t)) 0 NR) ∗ atPos ER (cell c (.rr t)) 0 ∅ 0
      ∗ giveTok c t ∗ ow c (chunkM (chk c t.val)) (SV Γ.O t.val c) ∗ Home Γ c t.val))) ?_ .rfl)
    (Tr_seq (Tr_conseq (Tr_frame (tr_ringSend Γ κ c t) (R := iprop(Inv Γ κ ∗ cred (tallyAt (cell c (.rr t)) 0 NR) ∗ atPos ER (cell c (.rr t)) 0 ∅ 0
      ∗ giveTok c t ∗ homeNew Γ c t ∗ Home Γ c t.val))) ?_ .rfl)
    (Tr_seq (Tr_conseq (Tr_frame (tr_ringRecv Γ κ c t) (R := iprop(Inv Γ κ ∗ cred (tallyAt (cell c (.rs t)) 0 NR) ∗ crs c (t.val + 1)
      ∗ giveTok c t ∗ homeNew Γ c t ∗ Home Γ c t.val))) ?_ .rfl)
    (Tr_seq (Tr_conseq (Tr_frame (tr_ringUse Γ c t) (R := iprop(Inv Γ κ ∗ owe c (tailSum (rrF c) (t.val + 1) + crF c t) ∗ atPos ER (cell c (.rr t)) 1 ∅ 0 ∗ cred (tallyAt (cell c (.rs t)) 0 NR) ∗ crs c (t.val + 1)
      ∗ giveTok c t ∗ homeNew Γ c t ∗ Home' Γ c t.val ∗ (if t.val < 12 then iprop(ow (left c) (chunkM (chk (left c) t.val)) (SV Γ.O t.val (left c)) ∗ reached ER (cell (left c) (.cr (par t))) (t.val / 2)) else iprop(emp))))) ?_ .rfl)
    (Tr_conseq (Tr_frame (tr_ringGive Γ κ c t) (R := iprop(Inv Γ κ ∗ ow c (chunkM (chk c (t.val + 1))) (SV Γ.O (t.val + 1) c) ∗ atPos ER (cell c (.rr t)) 1 ∅ 0 ∗ cred (tallyAt (cell c (.rs t)) 0 NR) ∗ crs c (t.val + 1)
      ∗ homeNew Γ c t ∗ Home' Γ c t.val))) ?_ ?_))))
  · iintro ⟨⟨H1, H2, H3, H4, H5, H6⟩, #HI, HO, Hch, HH, Hc⟩
    isplitl [HO Hc H6]
    · isplitr; · iexact HI
      isplitl [HO]; · iexact HO
      isplitl [Hc]; · iexact Hc
      iexact H6
    isplitr; · iexact HI
    isplitl [H1]; · iexact H1
    isplitl [H2]; · iexact H2
    isplitl [H3]; · iexact H3
    isplitl [H4]; · iexact H4
    isplitl [H5]; · iexact H5
    isplitl [Hch]; · iexact Hch
    iexact HH
  · iintro ⟨⟨#HI, HO, Hc, Hs, Hn⟩, -, H1, H2, H3, H4, H5, Hch, HH⟩
    isplitl [HO Hc Hs Hch H1 H2]
    · isplitr; · iexact HI
      isplitl [HO]; · iexact HO
      isplitl [Hch]; · iexact Hch
      isplitl [Hs]; · iexact Hs
      isplitl [Hc]; · iexact Hc
      isplitl [H1]; · iexact H1
      iexact H2
    isplitr; · iexact HI
    isplitl [H3]; · iexact H3
    isplitl [H4]; · iexact H4
    isplitl [H5]; · iexact H5
    isplitl [Hn]; · iexact Hn
    iexact HH
  · iintro ⟨⟨Hrs, HO, Hc⟩, #HI, H3, H4, H5, Hn, HH⟩
    isplitl [HO H3 H4]
    · isplitr; · iexact HI
      isplitl [H3]; · iexact H3
      isplitl [HO]; · iexact HO
      iexact H4
    isplitr; · iexact HI
    isplitl [Hrs]; · iexact Hrs
    isplitl [Hc]; · iexact Hc
    isplitl [H5]; · iexact H5
    isplitl [Hn]; · iexact Hn
    iexact HH
  · unfold rrPay
    iintro ⟨⟨HO, Hat, Hsl, Hg⟩, #HI, Hrs, Hc, H5, Hn, HH⟩
    ihave HH := (home_out Γ c t.val) $$ HH
    icases HH with ⟨Hx, HH⟩
    isplitl [Hx Hsl]
    · isplitl [Hx]; · iexact Hx
      iexact Hsl
    isplitr; · iexact HI
    isplitl [HO]; · iexact HO
    isplitl [Hat]; · iexact Hat
    isplitl [Hrs]; · iexact Hrs
    isplitl [Hc]; · iexact Hc
    isplitl [H5]; · iexact H5
    isplitl [Hn]; · iexact Hn
    isplitl [HH]; · iexact HH
    iexact Hg
  · iintro ⟨⟨Hx, Hsl⟩, #HI, HO, Hat, Hrs, Hc, H5, Hn, HH, Hg⟩
    isplitl [HO Hsl H5 Hg]
    · isplitr; · iexact HI
      isplitl [HO]; · iexact HO
      isplitl [Hsl]; · iexact Hsl
      isplitl [H5]; · iexact H5
      iexact Hg
    isplitr; · iexact HI
    isplitl [Hx]; · iexact Hx
    isplitl [Hat]; · iexact Hat
    isplitl [Hrs]; · iexact Hrs
    isplitl [Hc]; · iexact Hc
    isplitl [Hn]; · iexact Hn
    iexact HH
  · iintro ⟨⟨HO, Hk⟩, HI, Hx, Hat, Hrs, Hc, Hn, HH⟩
    isplitl [Hk Hat Hrs]
    · isplitl [Hrs]; · iexact Hrs
      isplitl [Hat]; · iexact Hat
      iexact Hk
    isplitl [HI]; · iexact HI
    isplitl [HO]; · iexact HO
    isplitl [Hx]; · iexact Hx
    isplitl [Hn HH]
    · iapply (home_in Γ c t)
      isplitl [Hn]; · iexact Hn
      iexact HH
    iexact Hc

theorem tr_ring : Tr c iprop((bigSep Finset.univ fun t => ringA c t) ∗ ringS Γ κ c 0) (seqN 14 (ringStep c)) iprop((bigSep Finset.univ fun t => ringB c t) ∗ ringS Γ κ c 14) :=
  Tr_seqN 14 (ringStep (F := F) c) (fun t => ringA c t) (fun t => ringB c t) (fun t => ringS Γ κ c t) fun t => tr_ringStep Γ κ c t

end Cert.KernelIdeal.Hand
-- ==== Proof.Buffers.lean ====
/-
  The buffers of a device and their pieces: blocks, heads, groups of rows, columns.
-/
module

public import proofs.«01_k».proof.Proof.Ring

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-! ## A buffer and its pieces -/

theorem elt_nonempty (e : EltTy) : Nonempty (Elt F e) := by
  cases e
  all_goals first
    | exact ⟨(0 : BitVec _)⟩
    | exact ⟨(Scalar.ofBits _ 0 : F _)⟩
instance (e : EltTy) : Nonempty (Elt F e) := elt_nonempty e

theorem bs_mono {I : Type} [Fintype I] [DecidableEq I] {Φ Ψ : I → sProp 𝕄} (h : ∀ i, Φ i ⊢ Ψ i) : bigSep Finset.univ Φ ⊢ bigSep Finset.univ Ψ :=
  BI.bigSep_mono fun i _ => h i

section Keys
variable (c : Dev nD) {sp : Space} {sh : Shape} {e : EltTy} (m : Memref sig .tc sp sh e) {T : Type} [Fintype T] [DecidableEq T]
  (r : T → Rect sh) (hr : ∀ t a, (r t).stride a = 1) (key : sh.Idx → T) (hk : ∀ t x, x ∈ (r t).set ↔ key x = t)
include hk

theorem key_disj (t t' : T) (h : t ≠ t') : Disjoint (r t).set (r t').set :=
  Finset.disjoint_left.mpr fun x hx hx' => h (((hk t x).mp hx).symm.trans ((hk t' x).mp hx'))
theorem key_cov : (Finset.univ : Finset T).biUnion (fun t => (r t).set) = Finset.univ :=
  Finset.eq_univ_iff_forall.mpr fun x => Finset.mem_biUnion.mpr ⟨key x, Finset.mem_univ _, (hk _ x).mpr rfl⟩

theorem ow_split (X : sh.Idx → Elt F e) : ow c m X ⊢ bigSep Finset.univ fun t => ow c (m.slice (r t) (hr t)) (fun j => X ((r t).emb j)) :=
  owns_rects (c : Thread nD τ) m fullShare r hr (key_disj r key hk) (key_cov r key hk) X
theorem ow_join (X : sh.Idx → Elt F e) : (bigSep Finset.univ fun t => ow c (m.slice (r t) (hr t)) (fun j => X ((r t).emb j))) ⊢ ow c m X :=
  owns_of_rects (c : Thread nD τ) m fullShare r hr (key_disj r key hk) (key_cov r key hk) X
theorem owA_split : owA F c m ⊢ bigSep Finset.univ fun t => owA F c (m.slice (r t) (hr t)) := by
  unfold owA
  iintro ⟨%X, H⟩
  ihave H := (ow_split c m r hr key hk X) $$ H
  have hm (t : T) : ow c (m.slice (r t) (hr t)) (fun j => X ((r t).emb j)) ⊢ (iprop(∃ Y, ow c (m.slice (r t) (hr t)) Y) : sProp 𝕄) := by
    iintro H; iexists _; iexact H
  iapply (bs_mono hm)
  iexact H
theorem owA_join : (bigSep Finset.univ fun t => owA F c (m.slice (r t) (hr t))) ⊢ owA F c m := by
  unfold owA
  iintro H
  ihave H := (BI.bigSep_exists_pi (Finset.univ : Finset T) (fun t (Y : (r t).shape.Idx → Elt F e) => ow c (m.slice (r t) (hr t)) Y)) $$ H
  icases H with ⟨%Y, H⟩
  iexists (fun x => (r (key x)).overlay (fun _ => Classical.choice (elt_nonempty e)) (Y (key x)) x)
  iapply (ow_join c m r hr key hk _)
  have e1 : (fun t => ow c (m.slice (r t) (hr t)) (Y t)) = fun t => ow c (m.slice (r t) (hr t)) (fun j => (r (key ((r t).emb j))).overlay (fun _ => Classical.choice (elt_nonempty e)) (Y (key ((r t).emb j))) ((r t).emb j)) := by
    funext t
    congr 1
    funext j
    have hkt : key ((r t).emb j) = t := (hk t _).mp (by rw [← Rect.map_emb_univ]; exact Finset.mem_map_of_mem _ (Finset.mem_univ j))
    have gen : ∀ k, k = t → (r k).overlay (fun _ => Classical.choice (elt_nonempty e)) (Y k) ((r t).emb j) = Y t j := by
      rintro _ rfl; exact Rect.overlay_emb _ _ _ _
    exact (gen _ hkt).symm
  rw [e1]
  iexact H
end Keys

section Squeeze
variable (c : Dev nD) {sp : Space} {s s' : Shape} {e : EltTy} (m : Memref sig .tc sp s e) (h : s.Squeezes s')

theorem ow_sq (X : s.Idx → Elt F e) : ow c m X ⊢ ow c (m.squeeze s' h) (fun j => X (Shape.reshapeEquiv h.numel_eq j)) := by
  unfold ow owns
  iintro ⟨%f, %hf, H⟩
  iexists f
  isplitr
  · ipureintro; funext j; rw [← hf]; rfl
  · have e : (m.squeeze s' h).view.set = m.view.set := View.set_reshape _ _
    rw [e]; iexact H
theorem ow_unsq (X : s.Idx → Elt F e) : ow c (m.squeeze s' h) (fun j => X (Shape.reshapeEquiv h.numel_eq j)) ⊢ ow c m X := by
  unfold ow owns
  iintro ⟨%f, %hf, H⟩
  iexists f
  isplitr
  · ipureintro; funext j
    have := congrFun hf ((Shape.reshapeEquiv h.numel_eq).symm j)
    rw [Equiv.apply_symm_apply] at this
    rw [← this, View.read_apply, View.read_apply]
    rw [show (m.squeeze s' h).view.emb ((Shape.reshapeEquiv h.numel_eq).symm j) = m.view.emb ((Shape.reshapeEquiv h.numel_eq) ((Shape.reshapeEquiv h.numel_eq).symm j)) from rfl, Equiv.apply_symm_apply]
  · have e : (m.squeeze s' h).view.set = m.view.set := View.set_reshape _ _
    rw [← e]; iexact H
theorem owA_sq : owA F c m ⊢ owA F c (m.squeeze s' h) := by
  unfold owA; iintro ⟨%X, H⟩; iexists _; iapply (ow_sq c m h X); iexact H
theorem owA_unsq : owA F c (m.squeeze s' h) ⊢ owA F c m := by
  unfold owA; iintro ⟨%X, H⟩
  iexists (fun j => X ((Shape.reshapeEquiv h.numel_eq).symm j))
  have e1 : ow c (m.squeeze s' h) X = ow c (m.squeeze s' h) (fun j => (fun j => X ((Shape.reshapeEquiv h.numel_eq).symm j)) (Shape.reshapeEquiv h.numel_eq j)) := by
    congr 1; funext j; show X j = X ((Shape.reshapeEquiv h.numel_eq).symm (Shape.reshapeEquiv h.numel_eq j)); rw [Equiv.symm_apply_apply]
  iapply (ow_unsq c m h _)
  ihave H := (Entails.of_eq e1) $$ H
  iexact H
end Squeeze

/-! ## The slots, heads, rows and columns -/

theorem slot_key (s : Fin 8) (x : S8x8x1024x128.Idx) : x ∈ (slotR s).set ↔ (x 0 : Fin 8) = s := by
  rw [Rect.mem_set_unit]
  constructor
  · intro h; apply Fin.ext; have h0 : s.val ≤ (x 0).val ∧ (x 0).val < s.val + 1 := h 0; exact Nat.le_antisymm (by omega) h0.1
  · rintro rfl a
    fin_cases a
    · exact ⟨Nat.le_refl _, Nat.lt_succ_self _⟩
    · exact ⟨Nat.zero_le _, (Nat.zero_add _).symm ▸ (x 1).isLt⟩
    · exact ⟨Nat.zero_le _, (Nat.zero_add _).symm ▸ (x 2).isLt⟩
    · exact ⟨Nat.zero_le _, (Nat.zero_add _).symm ▸ (x 3).isLt⟩
theorem head_key (s : Fin 8) (x : S8x1024x128.Idx) : x ∈ (headR s).set ↔ (x 0 : Fin 8) = s := by
  rw [Rect.mem_set_unit]
  constructor
  · intro h; apply Fin.ext; have h0 : s.val ≤ (x 0).val ∧ (x 0).val < s.val + 1 := h 0; exact Nat.le_antisymm (by omega) h0.1
  · rintro rfl a
    fin_cases a
    · exact ⟨Nat.le_refl _, Nat.lt_succ_self _⟩
    · exact ⟨Nat.zero_le _, (Nat.zero_add _).symm ▸ (x 1).isLt⟩
    · exact ⟨Nat.zero_le _, (Nat.zero_add _).symm ▸ (x 2).isLt⟩
theorem rs_key (s : Fin 2) (x : S2x128x1024.Idx) : x ∈ (rsR s).set ↔ (x 0 : Fin 2) = s := by
  rw [Rect.mem_set_unit]
  constructor
  · intro h; apply Fin.ext; have h0 : s.val ≤ (x 0).val ∧ (x 0).val < s.val + 1 := h 0; exact Nat.le_antisymm (by omega) h0.1
  · rintro rfl a
    fin_cases a
    · exact ⟨Nat.le_refl _, Nat.lt_succ_self _⟩
    · exact ⟨Nat.zero_le _, (Nat.zero_add _).symm ▸ (x 1).isLt⟩
    · exact ⟨Nat.zero_le _, (Nat.zero_add _).symm ▸ (x 2).isLt⟩
/-- The group of 128 rows that an entry lies in. -/
def rowKey (x : S1024x1024.Idx) : Fin 8 := ⟨(x 0).val / 128, by have : (x 0).val < 1024 := (x 0).isLt; omega⟩
theorem wo_key (s : Fin 8) (x : S1024x1024.Idx) : x ∈ (woR s).set ↔ rowKey x = s := by
  rw [Rect.mem_set_unit]
  have hx : (x 0).val < 1024 := (x 0).isLt
  constructor
  · intro h; apply Fin.ext; have h0 : 128 * s.val ≤ (x 0).val ∧ (x 0).val < 128 * s.val + 128 := h 0
    show (x 0).val / 128 = s.val; omega
  · rintro rfl a
    fin_cases a
    · show 128 * ((x 0).val / 128) ≤ (x 0).val ∧ (x 0).val < 128 * ((x 0).val / 128) + 128; omega
    · exact ⟨Nat.zero_le _, (Nat.zero_add _).symm ▸ (x 1).isLt⟩
theorem full_key (s : Unit) (x : S1024x1024.Idx) : x ∈ fullR.set ↔ () = s := by
  rw [Rect.mem_set_unit]
  refine ⟨fun _ => rfl, fun _ a => ?_⟩
  fin_cases a
  · exact ⟨Nat.zero_le _, (Nat.zero_add _).symm ▸ (x 0).isLt⟩
  · exact ⟨Nat.zero_le _, (Nat.zero_add _).symm ▸ (x 1).isLt⟩
/-- The whole of the running results. -/
abbrev fullAR : Rect S8x1024x128 := Rect.unit (s := S8x1024x128) ![0, 0, 0] S8x1024x128.size inb_S8x1024x128_S8x1024x128_0_0_0
theorem fullA_key (s : Unit) (x : S8x1024x128.Idx) : x ∈ fullAR.set ↔ () = s := by
  rw [Rect.mem_set_unit]
  refine ⟨fun _ => rfl, fun _ a => ?_⟩
  fin_cases a
  · exact ⟨Nat.zero_le _, (Nat.zero_add _).symm ▸ (x 0).isLt⟩
  · exact ⟨Nat.zero_le _, (Nat.zero_add _).symm ▸ (x 1).isLt⟩
  · exact ⟨Nat.zero_le _, (Nat.zero_add _).symm ▸ (x 2).isLt⟩
/-- The columns of the running maxima, and those of the running sums. -/
abbrev halfMR : Rect S1024x16 := Rect.unit (s := S1024x16) ![0, 0] S1024x8.size inb_S1024x16_S1024x8_0_0
abbrev halfLR : Rect S1024x16 := Rect.unit (s := S1024x16) ![0, 8] S1024x8.size inb_S1024x16_S1024x8_0_8
abbrev halfR (b : Bool) : Rect S1024x16 := cond b halfLR halfMR
def halfKey (x : S1024x16.Idx) : Bool := decide (8 ≤ (x 1).val)
theorem half_key (s : Bool) (x : S1024x16.Idx) : x ∈ (halfR s).set ↔ halfKey x = s := by
  have hx : (x 1).val < 16 := (x 1).isLt
  have hx0 : (x 0).val < 1024 := (x 0).isLt
  unfold halfKey
  cases s
  · show x ∈ halfMR.set ↔ _
    rw [Rect.mem_set_unit, decide_eq_false_iff_not]
    constructor
    · intro h; have h0 : 0 ≤ (x 1).val ∧ (x 1).val < 0 + 8 := h 1; omega
    · intro h a
      fin_cases a
      · show 0 ≤ (x 0).val ∧ (x 0).val < 0 + 1024; omega
      · show 0 ≤ (x 1).val ∧ (x 1).val < 0 + 8; omega
  · show x ∈ halfLR.set ↔ _
    rw [Rect.mem_set_unit, decide_eq_true_iff]
    constructor
    · intro h; have h0 : 8 ≤ (x 1).val ∧ (x 1).val < 8 + 8 := h 1; omega
    · intro h a
      fin_cases a
      · show 0 ≤ (x 0).val ∧ (x 0).val < 0 + 1024; omega
      · show 8 ≤ (x 1).val ∧ (x 1).val < 8 + 8; omega
/-- A column, as one of the maxima's or one of the sums'. -/
abbrev colSum : Fin 8 ⊕ Fin 8 → Fin 16 := fun | .inl h => mCol h | .inr h => lCol h
def colKey (x : S1024x16.Idx) : Fin 8 ⊕ Fin 8 :=
  if h : (x 1).val < 8 then .inl ⟨(x 1).val, h⟩ else .inr ⟨(x 1).val - 8, by have : (x 1).val < 16 := (x 1).isLt; omega⟩
theorem col_key (s : Fin 8 ⊕ Fin 8) (x : S1024x16.Idx) : x ∈ (colR (colSum s)).set ↔ colKey x = s := by
  have hx : (x 1).val < 16 := (x 1).isLt
  have hx0 : (x 0).val < 1024 := (x 0).isLt
  have h1 : x ∈ (colR (colSum s)).set ↔ (x 1).val = (colSum s).val := by
    rw [Rect.mem_set_unit]
    constructor
    · intro h; have h0 : (colSum s).val ≤ (x 1).val ∧ (x 1).val < (colSum s).val + 1 := h 1; omega
    · intro h a
      fin_cases a
      · show 0 ≤ (x 0).val ∧ (x 0).val < 0 + 1024; omega
      · show (colSum s).val ≤ (x 1).val ∧ (x 1).val < (colSum s).val + 1; omega
  rw [h1]
  unfold colKey
  split
  · next h =>
    cases s with
    | inl k => rw [Sum.inl.injEq, Fin.ext_iff]
    | inr k => exact ⟨fun e => by have e : (x 1).val = 8 + k.val := e; omega, fun e => nomatch e⟩
  · next h =>
    cases s with
    | inl k => exact ⟨fun e => by have e : (x 1).val = k.val := e; have := k.isLt; omega, fun e => nomatch e⟩
    | inr k =>
      rw [Sum.inr.injEq, Fin.ext_iff]
      show (x 1).val = 8 + k.val ↔ (x 1).val - 8 = k.val; omega

variable (c : Dev nD)

theorem slots_split {sp : Space} (m : Memref sig .tc sp S8x8x1024x128 .bf16) (G : KVc F) :
    ow c m G ⊢ bigSep Finset.univ fun s => ow c (kvSlot m s) (blk G s) :=
  (ow_split c m slotR (fun _ _ => rfl) (fun x => x 0) slot_key G).trans (BI.bigSep_mono fun s _ => ow_sq c (m.slice (slotR s) (fun _ => rfl)) squeezes_S1x8x1024x128_S8x1024x128 _)
theorem slots_join {sp : Space} (m : Memref sig .tc sp S8x8x1024x128 .bf16) (G : KVc F) :
    (bigSep Finset.univ fun s => ow c (kvSlot m s) (blk G s)) ⊢ ow c m G :=
  (BI.bigSep_mono fun s _ => ow_unsq c (m.slice (slotR s) (fun _ => rfl)) squeezes_S1x8x1024x128_S8x1024x128 (fun j => G ((slotR s).emb j))).trans
    (ow_join c m slotR (fun _ _ => rfl) (fun x => x 0) slot_key G)
theorem slots_splitA {sp : Space} (m : Memref sig .tc sp S8x8x1024x128 .bf16) :
    owA F c m ⊢ bigSep Finset.univ fun s => owA F c (kvSlot m s) :=
  (owA_split c m slotR (fun _ _ => rfl) (fun x => x 0) slot_key).trans (BI.bigSep_mono fun s _ => owA_sq c (m.slice (slotR s) (fun _ => rfl)) squeezes_S1x8x1024x128_S8x1024x128)
theorem slots_joinA {sp : Space} (m : Memref sig .tc sp S8x8x1024x128 .bf16) :
    (bigSep Finset.univ fun s => owA F c (kvSlot m s)) ⊢ owA F c m :=
  (BI.bigSep_mono fun s _ => owA_unsq c (m.slice (slotR s) (fun _ => rfl)) squeezes_S1x8x1024x128_S8x1024x128).trans
    (owA_join c m slotR (fun _ _ => rfl) (fun x => x 0) slot_key)
theorem rs_splitA : owA F c mR ⊢ iprop(owA F c (rsSlot 0) ∗ owA F c (rsSlot 1)) :=
  (owA_split c mR rsR (fun _ _ => rfl) (fun x => x 0) rs_key).trans
    ((BI.bigSep_mono fun s _ => owA_sq c (mR.slice (rsR s) (fun _ => rfl)) squeezes_S1x128x1024_S128x1024).trans
      (Entails.of_eq (bigSep_fin_two _)))
theorem rs_joinA : iprop(owA F c (rsSlot 0) ∗ owA F c (rsSlot 1)) ⊢ owA F c mR := by
  refine BIBase.Entails.trans ?_ ((BI.bigSep_mono fun s _ => owA_unsq c (mR.slice (rsR s) (fun _ => rfl)) squeezes_S1x128x1024_S128x1024).trans (owA_join c mR rsR (fun _ _ => rfl) (fun x => x 0) rs_key))
  rw [bigSep_fin_two]; exact Entails.of_eq rfl

theorem full_splitA {sp : Space} {e : EltTy} (m : Memref sig .tc sp S1024x1024 e) : owA F c m ⊢ owA F c (m.slice fullR (fun _ => rfl)) := by
  refine (owA_split c m (fun _ : Unit => fullR) (fun _ _ => rfl) (fun _ => ()) full_key).trans ?_
  rw [show (Finset.univ : Finset Unit) = {()} from rfl, bigSep_singleton]
theorem full_joinA {sp : Space} {e : EltTy} (m : Memref sig .tc sp S1024x1024 e) : owA F c (m.slice fullR (fun _ => rfl)) ⊢ owA F c m := by
  refine BIBase.Entails.trans ?_ (owA_join c m (fun _ : Unit => fullR) (fun _ _ => rfl) (fun _ => ()) full_key)
  rw [show (Finset.univ : Finset Unit) = {()} from rfl, bigSep_singleton]
theorem full_emb (j : S1024x1024.Idx) : fullR.emb j = j := by
  funext a; apply Fin.ext; rw [Rect.emb_apply]; fin_cases a
  · show 0 + 1 * (j 0).val = (j 0).val; omega
  · show 0 + 1 * (j 1).val = (j 1).val; omega
theorem full_join {sp : Space} {e : EltTy} (m : Memref sig .tc sp S1024x1024 e) (X : S1024x1024.Idx → Elt F e) :
    ow c (m.slice fullR (fun _ => rfl)) X ⊢ ow c m X := by
  refine BIBase.Entails.trans ?_ (ow_join c m (fun _ : Unit => fullR) (fun _ _ => rfl) (fun _ => ()) full_key X)
  rw [show (Finset.univ : Finset Unit) = {()} from rfl, bigSep_singleton]
  have : (fun j => X (fullR.emb j)) = X := funext fun j => congrArg X (full_emb j)
  rw [this]
theorem fullA_splitA (m : Memref sig .tc .vmem S8x1024x128 .f32) : owA F c m ⊢ owA F c (m.slice fullAR (fun _ => rfl)) := by
  refine (owA_split c m (fun _ : Unit => fullAR) (fun _ _ => rfl) (fun _ => ()) fullA_key).trans ?_
  rw [show (Finset.univ : Finset Unit) = {()} from rfl, bigSep_singleton]
theorem fullA_emb (j : S8x1024x128.Idx) : fullAR.emb j = j := by
  funext a; apply Fin.ext; rw [Rect.emb_apply]; fin_cases a
  · show 0 + 1 * (j 0).val = (j 0).val; omega
  · show 0 + 1 * (j 1).val = (j 1).val; omega
  · show 0 + 1 * (j 2).val = (j 2).val; omega
theorem fullA_join (m : Memref sig .tc .vmem S8x1024x128 .f32) (X : S8x1024x128.Idx → Elt F .f32) :
    ow c (m.slice fullAR (fun _ => rfl)) X ⊢ ow c m X := by
  refine BIBase.Entails.trans ?_ (ow_join c m (fun _ : Unit => fullAR) (fun _ _ => rfl) (fun _ => ()) fullA_key X)
  rw [show (Finset.univ : Finset Unit) = {()} from rfl, bigSep_singleton]
  have : (fun j => X (fullAR.emb j)) = X := funext fun j => congrArg X (fullA_emb j)
  rw [this]

/-- The two halves of the buffer of maxima and sums. -/
theorem halves_splitA : owA F c mML ⊢ iprop(owA F c (mML.slice halfMR (fun _ => rfl)) ∗ owA F c (mML.slice halfLR (fun _ => rfl))) := by
  refine (owA_split c mML halfR (fun b => by cases b <;> exact fun _ => rfl) halfKey half_key).trans ?_
  rw [show (Finset.univ : Finset Bool) = {false, true} by decide, bigSep_insert (by decide), bigSep_singleton]
  exact Entails.of_eq rfl
/-- What they hold together. -/
def mlOf (M L : S1024x8.Idx → Elt F .f32) : S1024x16.Idx → Elt F .f32 := fun x =>
  match colKey x with
  | .inl h => M (fun a => match a with | 0 => x 0 | 1 => h)
  | .inr h => L (fun a => match a with | 0 => x 0 | 1 => h)
theorem halves_join (M L : S1024x8.Idx → Elt F .f32) :
    iprop(ow c (mML.slice halfMR (fun _ => rfl)) M ∗ ow c (mML.slice halfLR (fun _ => rfl)) L) ⊢ ow c mML (mlOf M L) := by
  refine BIBase.Entails.trans ?_ (ow_join c mML halfR (fun b => by cases b <;> exact fun _ => rfl) halfKey half_key (mlOf M L))
  rw [show (Finset.univ : Finset Bool) = {false, true} by decide, bigSep_insert (by decide), bigSep_singleton]
  have e1 : M = fun j => mlOf M L (halfMR.emb j) := by
    funext j
    have hk : colKey (halfMR.emb j) = .inl (j 1) := by
      have hj : (j 1).val < 8 := (j 1).isLt
      have hv : ((halfMR.emb j) 1).val = (j 1).val := by rw [Rect.emb_apply]; show 0 + 1 * (j 1).val = _; omega
      unfold colKey; rw [dif_pos (by omega)]; congr 1; exact Fin.ext hv
    show _ = match colKey (halfMR.emb j) with | .inl h => M (fun a => match a with | 0 => (halfMR.emb j) 0 | 1 => h) | .inr h => L (fun a => match a with | 0 => (halfMR.emb j) 0 | 1 => h)
    rw [hk]
    show M j = M _
    congr 1; funext a; fin_cases a
    · apply Fin.ext; show _ = ((halfMR.emb j) 0).val; rw [Rect.emb_apply]; show (j 0).val = 0 + 1 * (j 0).val; omega
    · rfl
  have e2 : L = fun j => mlOf M L (halfLR.emb j) := by
    funext j
    have hk : colKey (halfLR.emb j) = .inr (j 1) := by
      have hj : (j 1).val < 8 := (j 1).isLt
      have hv : ((halfLR.emb j) 1).val = 8 + (j 1).val := by rw [Rect.emb_apply]; show 8 + 1 * (j 1).val = _; omega
      unfold colKey; rw [dif_neg (by omega)]; congr 1; apply Fin.ext; show ((halfLR.emb j) 1).val - 8 = (j 1).val; omega
    show _ = match colKey (halfLR.emb j) with | .inl h => M (fun a => match a with | 0 => (halfLR.emb j) 0 | 1 => h) | .inr h => L (fun a => match a with | 0 => (halfLR.emb j) 0 | 1 => h)
    rw [hk]
    show L j = L _
    congr 1; funext a; fin_cases a
    · apply Fin.ext; show _ = ((halfLR.emb j) 0).val; rw [Rect.emb_apply]; show (j 0).val = 0 + 1 * (j 0).val; omega
    · rfl
  have g1 : ow c (mML.slice halfMR (fun _ => rfl)) M = ow c (mML.slice (halfR false) (fun _ => rfl)) (fun j => mlOf M L ((halfR false).emb j)) := congrArg _ e1
  have g2 : ow c (mML.slice halfLR (fun _ => rfl)) L = ow c (mML.slice (halfR true) (fun _ => rfl)) (fun j => mlOf M L ((halfR true).emb j)) := congrArg _ e2
  rw [g1, g2]
  exact Entails.of_eq rfl
/-- The columns, one by one. -/
theorem cols_split (M L : S1024x8.Idx → Elt F .f32) : ow c mML (mlOf M L) ⊢ bigSep Finset.univ fun h : Fin 8 =>
    iprop(ow c (mML.slice (colR (mCol h)) (fun _ => rfl)) (fun j => M (fun a => match a with | 0 => j 0 | 1 => h))
      ∗ ow c (mML.slice (colR (lCol h)) (fun _ => rfl)) (fun j => L (fun a => match a with | 0 => j 0 | 1 => h))) := by
  refine (ow_split c mML (fun s => colR (colSum s)) (fun _ _ => rfl) colKey col_key (mlOf M L)).trans ?_
  rw [BI.bigSep_univ_sum, bigSep_sep']
  have hin (s : Fin 8 ⊕ Fin 8) (j : S1024x1.Idx) : colKey ((colR (colSum s)).emb j) = s :=
    (col_key s _).mp (by rw [← Rect.map_emb_univ]; exact Finset.mem_map_of_mem _ (Finset.mem_univ j))
  have h0 (k : Fin 16) (j : S1024x1.Idx) : ((colR k).emb j) 0 = j 0 := by
    apply Fin.ext; rw [Rect.emb_apply]; show 0 + 1 * (j 0).val = (j 0).val; omega
  have e1 (h : Fin 8) : (fun j => mlOf M L ((colR (colSum (.inl h))).emb j)) = (fun j : S1024x1.Idx => M (fun a => match a with | 0 => j 0 | 1 => h)) := by
    funext j
    unfold mlOf
    rw [hin (.inl h) j, h0]
  have e2 (h : Fin 8) : (fun j => mlOf M L ((colR (colSum (.inr h))).emb j)) = (fun j : S1024x1.Idx => L (fun a => match a with | 0 => j 0 | 1 => h)) := by
    funext j
    unfold mlOf
    rw [hin (.inr h) j, h0]
  simp only [e1, e2]
  exact Entails.of_eq rfl
theorem cols_joinA : (bigSep Finset.univ fun h : Fin 8 =>
    iprop(owA F c (mML.slice (colR (mCol h)) (fun _ => rfl)) ∗ owA F c (mML.slice (colR (lCol h)) (fun _ => rfl)))) ⊢ owA F c mML := by
  refine BIBase.Entails.trans ?_ (owA_join c mML (fun s => colR (colSum s)) (fun _ _ => rfl) colKey col_key)
  rw [BI.bigSep_univ_sum, bigSep_sep']
  exact Entails.of_eq rfl

end Cert.KernelIdeal.Hand
-- ==== Proof.Phases.lean ====
/-
  The phases of the kernel before and after the loop and the ring: barrier, blocks, running results, projection, last waits.
-/
module

public import proofs.«01_k».proof.Proof.Buffers

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (Γ : Cont F) (κ : GSem nD τ sig → ℕ) (c : Dev nD)

/-- One conjunct at its place, nothing elsewhere. -/
theorem bs_single {I : Type} [Fintype I] [DecidableEq I] (i₀ : I) (R : sProp 𝕄) : R ⊢ bigSep Finset.univ fun i => if i = i₀ then R else iprop(emp) := by
  have e : bigSep (Finset.univ.erase i₀) (fun i => if i = i₀ then R else iprop(emp)) = (BI.emp : sProp 𝕄) := by
    exact (bigSep_congr fun i hi => if_neg (Finset.ne_of_mem_erase hi)).trans (BI.bigSep_emp_const _)
  have e2 : bigSep Finset.univ (fun i => if i = i₀ then R else iprop(emp)) = iprop((if i₀ = i₀ then R else iprop(emp)) ∗ bigSep (Finset.univ.erase i₀) (fun i => if i = i₀ then R else iprop(emp))) :=
    bigSep_erase (Finset.mem_univ i₀)
  rw [e2, e, if_pos rfl]
  iintro H
  isplitl [H]; · iexact H
  iempintro
theorem bs_single_out {I : Type} [Fintype I] [DecidableEq I] (i₀ : I) (R : sProp 𝕄) : (bigSep Finset.univ fun i => if i = i₀ then R else iprop(emp)) ⊢ R := by
  refine (bigSep_pick (Finset.mem_univ i₀)).trans ?_
  rw [if_pos rfl]
  iintro ⟨H, -⟩; iexact H

/-! ## The barrier -/

/-- What device `c` gives of its landing buffers for the blocks, by the sender's place; -/
def giveKV (c : Dev nD) (j : Fin 7) : sProp 𝕄 :=
  iprop(owA F c (kvSlot mKG j.succ) ∗ owA F c (kvSlot mVG j.succ) ∗ reached ER (cell c (.kr j)) 0 ∗ reached ER (cell c (.vr j)) 0)
/-- of its ring buffer. -/
def giveRing (c : Dev nD) : sProp 𝕄 :=
  iprop(owA F c (rsSlot 0) ∗ owA F c (rsSlot 1) ∗ bigSep Finset.univ fun t : Fin 14 => reached ER (cell c (.rr t)) 0)
/-- What it gets for the block it sends as number `i`. -/
def getKV (c : Dev nD) (i : Fin 7) : sProp 𝕄 :=
  iprop(owA F (up c (i.val + 1)) (kvSlot mKG i.rev.succ) ∗ owA F (up c (i.val + 1)) (kvSlot mVG i.rev.succ)
    ∗ reached ER (cell (up c (i.val + 1)) (.kr i.rev)) 0 ∗ reached ER (cell (up c (i.val + 1)) (.vr i.rev)) 0)

theorem barPay_own (j : Fin 7) : barPay F (up c (j.val + 1)) j.rev =
    iprop(owA F c (kvSlot mKG j.succ) ∗ owA F c (kvSlot mVG j.succ) ∗ reached ER (cell c (.kr j)) 0 ∗ reached ER (cell c (.vr j)) 0
      ∗ (if j = Fin.last 6 then giveRing c else iprop(emp))) := by
  unfold barPay giveRing
  rw [up_rev, Fin.rev_rev]
  by_cases h : j = Fin.last 6
  · subst h
    have hr : right (up c ((Fin.last 6 : Fin 7).val + 1)) = c := right_left c
    rw [if_pos rfl, if_pos (by decide), hr]
  · rw [if_neg h, if_neg (fun h' => h (by revert h'; revert j; decide))]

theorem bar_gives : iprop((bigSep Finset.univ fun j => giveKV (F := F) c j) ∗ giveRing c) ⊢ bigSep Finset.univ fun j : Fin 7 => barPay F (up c (j.val + 1)) j.rev := by
  simp only [barPay_own, giveKV]
  rw [bigSep_sep', bigSep_sep', bigSep_sep', bigSep_sep', bigSep_sep', bigSep_sep', bigSep_sep']
  iintro ⟨⟨H1, H2, H3, H4⟩, H5⟩
  isplitl [H1]; · iexact H1
  isplitl [H2]; · iexact H2
  isplitl [H3]; · iexact H3
  isplitl [H4]; · iexact H4
  iapply (bs_single (F := F) (Fin.last 6) (giveRing c)); iexact H5
theorem bar_gets : (bigSep Finset.univ fun i => barPay F c i) ⊢ iprop((bigSep Finset.univ fun i => getKV (F := F) c i) ∗ giveRing (right c)) := by
  unfold barPay getKV giveRing
  rw [bigSep_sep', bigSep_sep', bigSep_sep', bigSep_sep', bigSep_sep', bigSep_sep', bigSep_sep']
  iintro ⟨H1, H2, H3, H4, H5⟩
  isplitl [H1 H2 H3 H4]
  · isplitl [H1]; · iexact H1
    isplitl [H2]; · iexact H2
    isplitl [H3]; · iexact H3
    iexact H4
  iapply (bs_single_out (F := F) (0 : Fin 7) _); iexact H5

/-- What the ring owes and what the blocks owe, beside a rest. -/
abbrev OR (c : Dev nD) : CellTallies nD τ sig ℕ := tailSum (rrF c) 0
abbrev OK (c : Dev nD) : CellTallies nD τ sig ℕ := tailSum (rrF c) 0 + tailSum (kvF c) 0

theorem tr_bar : Tr c iprop((bigSep Finset.univ fun j : Fin 7 => iprop(duty (up c (j.val + 1)) .bar 0 j.rev ∗ barPay F (up c (j.val + 1)) j.rev))
      ∗ (Inv Γ κ ∗ owe c (OK c + tailSum (barF c) 0)))
    (seqN 7 (barSignal c)) iprop((bigSep Finset.univ fun _ : Fin 7 => iprop(emp)) ∗ (Inv Γ κ ∗ owe c (OK c + tailSum (barF c) 7))) := by
  refine Tr_seqN 7 _ _ _ (fun k => iprop(Inv Γ κ ∗ owe c (OK c + tailSum (barF c) k))) fun i => ?_
  unfold barSignal
  rw [barDev_eq]
  refine Tr_conseq (Tr_frame (tr_signal Γ κ c (up c (i.val + 1)) .bar barS rfl 0 0 i.rev (Finset.mem_univ _) rfl
    (OK c + tailSum (barF c) i.val) (OK c + tailSum (barF c) (i.val + 1)) (by rw [tailSum_peel (barF c) i.val i.isLt]; exact (add_assoc _ _ _).symm)) (R := Inv Γ κ)) ?_ ?_
  · rw [show pay Γ (up c (i.val + 1)) 0 i.rev Role.bar = barPay F (up c (i.val + 1)) i.rev from rfl]
    iintro ⟨⟨H1, H2⟩, #HI, HO⟩
    isplitl [HO H1 H2]
    · isplitr; · iexact HI
      isplitl [HO]; · iexact HO
      isplitl [H1]; · iexact H1
      iexact H2
    iexact HI
  · iintro ⟨HO, HI⟩
    isplitr; · iempintro
    isplitl [HI]; · iexact HI
    iexact HO

/-! ## The blocks -/

theorem tr_locStart : Tr c iprop(Inv Γ κ ∗ (ow c (kvSlot mKS 0) (blk (Γ.K c) 0) ∗ owA F c (kvSlot mKG 0) ∗ duty c (.loc 0) 0 0)
      ∗ (ow c (kvSlot mVS 0) (blk (Γ.V c) 0) ∗ owA F c (kvSlot mVG 0) ∗ duty c (.loc 1) 0 0))
    locStart iprop(cred (tallyAt (cell c (.loc 0)) 0 NK) ∗ cred (tallyAt (cell c (.loc 1)) 0 NK)) := by
  unfold locStart
  refine Tr_seq (Tr_conseq (Tr_frame (tr_copy Γ κ c (kvSlot mKS 0) (kvSlot mKG 0) (.loc 0) NK rfl (NK_eq mKG (.inl rfl) 0) rfl (blk (Γ.K c) 0) (.rfl))
      (R := iprop(Inv Γ κ ∗ (ow c (kvSlot mVS 0) (blk (Γ.V c) 0) ∗ owA F c (kvSlot mVG 0) ∗ duty c (.loc 1) 0 0)))) ?_ .rfl)
    (Tr_conseq (Tr_frame (tr_copy Γ κ c (kvSlot mVS 0) (kvSlot mVG 0) (.loc 1) NK rfl (NK_eq mVG (.inr rfl) 0) rfl (blk (Γ.V c) 0) (.rfl))
      (R := cred (tallyAt (cell c (.loc 0)) 0 NK))) ?_ ?_)
  · iintro ⟨#HI, ⟨H1, H2, H3⟩, H⟩
    isplitl [H1 H2 H3]
    · isplitr; · iexact HI
      isplitl [H1]; · iexact H1
      isplitl [H2]; · iexact H2
      iexact H3
    isplitr; · iexact HI
    iexact H
  · iintro ⟨Hc, #HI, H1, H2, H3⟩
    isplitl [H1 H2 H3]
    · isplitr; · iexact HI
      isplitl [H1]; · iexact H1
      isplitl [H2]; · iexact H2
      iexact H3
    iexact Hc
  · iintro ⟨H1, H2⟩
    isplitl [H2]; · iexact H2
    iexact H1

theorem in_own (G : Dev nD → KVc F) (c : Dev nD) (i : Fin 7) : inBlk G (up c (i.val + 1)) i.rev.succ = blk (G c) i.succ := by
  unfold inBlk
  have h1 : up (up c (i.val + 1)) (i.rev.succ).val = c := up_rev c i
  have h2 : Fin.ofNat 8 (8 - (i.rev.succ).val) = i.succ := (by decide : ∀ i : Fin 7, Fin.ofNat 8 (8 - (i.rev.succ).val) = i.succ) i
  rw [h1, h2]

theorem tr_kvSend : Tr c iprop((bigSep Finset.univ fun i : Fin 7 => iprop((ow c (kvSlot mKS i.succ) (blk (Γ.K c) i.succ) ∗ ow c (kvSlot mVS i.succ) (blk (Γ.V c) i.succ))
        ∗ (duty c (.ks i) 0 0 ∗ duty c (.vs i) 0 0)
        ∗ (dutyTok ER (cell (up c (i.val + 1)) (.kr i.rev)) 0 0 ∗ dutyTok ER (cell (up c (i.val + 1)) (.vr i.rev)) 0 0) ∗ getKV c i))
      ∗ (Inv Γ κ ∗ owe c (OR c + tailSum (kvF c) 0)))
    (seqN 7 (kvSend c)) iprop((bigSep Finset.univ fun i : Fin 7 => iprop(cred (tallyAt (cell c (.ks i)) 0 NK) ∗ cred (tallyAt (cell c (.vs i)) 0 NK)))
      ∗ (Inv Γ κ ∗ owe c (OR c + tailSum (kvF c) 7))) := by
  refine Tr_seqN 7 _ _ _ (fun k => iprop(Inv Γ κ ∗ owe c (OR c + tailSum (kvF c) k))) fun i => ?_
  have hO : OR c + tailSum (kvF c) i.val = (OR c + tailSum (kvF c) (i.val + 1) + vF c i) + kF c i := by
    rw [tailSum_peel (kvF c) i.val i.isLt]; show _ + (_ + (vF c i + kF c i)) = _; abel
  unfold kvSend getKV
  refine Tr_seq (Tr_conseq (Tr_frame (tr_send Γ κ c (ksDev c i) (kvSlot mKS i.succ) (kvSlot mKG i.rev.succ) (hsc := rfl) (hsem := ⟨⟨rfl, Or.inl rfl⟩, trivial⟩)
      (.ks i) (.kr i.rev) 0 NK rfl rfl (NK_eq mKG (.inl rfl) _) rfl rfl (OR c + tailSum (kvF c) i.val) (OR c + tailSum (kvF c) (i.val + 1) + vF c i) (by rw [ksDev_eq]; exact hO) (blk (Γ.K c) i.succ) (.rfl)
      (by rw [ksDev_eq, show pay Γ (up c (i.val + 1)) 0 0 (Role.kr i.rev) = ow (up c (i.val + 1)) (kvSlot mKG i.rev.succ) (inBlk Γ.K (up c (i.val + 1)) i.rev.succ) from rfl, in_own]))
      (R := iprop(Inv Γ κ ∗ ow c (kvSlot mVS i.succ) (blk (Γ.V c) i.succ) ∗ duty c (.vs i) 0 0 ∗ dutyTok ER (cell (up c (i.val + 1)) (.vr i.rev)) 0 0
        ∗ owA F (up c (i.val + 1)) (kvSlot mVG i.rev.succ) ∗ reached ER (cell (up c (i.val + 1)) (.vr i.rev)) 0))) ?_ .rfl)
    (Tr_conseq (Tr_frame (tr_send Γ κ c (vsDev c i) (kvSlot mVS i.succ) (kvSlot mVG i.rev.succ) (hsc := rfl) (hsem := ⟨⟨rfl, Or.inl rfl⟩, trivial⟩)
      (.vs i) (.vr i.rev) 0 NK rfl rfl (NK_eq mVG (.inr rfl) _) rfl rfl (OR c + tailSum (kvF c) (i.val + 1) + vF c i) (OR c + tailSum (kvF c) (i.val + 1)) (by rw [vsDev_eq]; rfl) (blk (Γ.V c) i.succ) (.rfl)
      (by rw [vsDev_eq, show pay Γ (up c (i.val + 1)) 0 0 (Role.vr i.rev) = ow (up c (i.val + 1)) (kvSlot mVG i.rev.succ) (inBlk Γ.V (up c (i.val + 1)) i.rev.succ) from rfl, in_own]))
      (R := iprop(Inv Γ κ ∗ cred (tallyAt (cell c (.ks i)) 0 NK)))) ?_ ?_)
  · rw [ksDev_eq]
    iintro ⟨⟨⟨HK, HV⟩, ⟨D1, D2⟩, ⟨T1, T2⟩, G1, G2, R1, R2⟩, #HI, HO⟩
    rw [show duty (F := F) (up c (i.val + 1)) (.kr i.rev) 0 0 = iprop(dutyTok ER (cell (up c (i.val + 1)) (.kr i.rev)) 0 0 ∗ reached ER (cell (up c (i.val + 1)) (.kr i.rev)) 0) from rfl]
    isplitl [HK G1 HO D1 T1 R1]
    · isplitr; · iexact HI
      isplitl [HK]; · iexact HK
      isplitl [G1]; · iexact G1
      isplitl [HO]; · iexact HO
      isplitl [D1]; · iexact D1
      isplitl [T1]; · iexact T1
      iexact R1
    isplitr; · iexact HI
    isplitl [HV]; · iexact HV
    isplitl [D2]; · iexact D2
    isplitl [T2]; · iexact T2
    isplitl [G2]; · iexact G2
    iexact R2
  · rw [vsDev_eq, show duty (F := F) (up c (i.val + 1)) (.vr i.rev) 0 0 = iprop(dutyTok ER (cell (up c (i.val + 1)) (.vr i.rev)) 0 0 ∗ reached ER (cell (up c (i.val + 1)) (.vr i.rev)) 0) from rfl]
    iintro ⟨⟨HC, HO⟩, #HI, HV, D2, T2, G2, R2⟩
    isplitl [HV G2 HO D2 T2 R2]
    · isplitr; · iexact HI
      isplitl [HV]; · iexact HV
      isplitl [G2]; · iexact G2
      isplitl [HO]; · iexact HO
      isplitl [D2]; · iexact D2
      isplitl [T2]; · iexact T2
      iexact R2
    isplitr; · iexact HI
    iexact HC
  · iintro ⟨⟨H2, HO⟩, #HI, H1⟩
    isplitl [H1 H2]
    · isplitl [H1]; · iexact H1
      iexact H2
    isplitr; · iexact HI
    iexact HO

/-! ## The running results set up -/

theorem tr_initAcc : Tr c iprop(owA F c (mA.slice fullAR (fun _ => rfl)) ∗ owA F c (mML.slice halfMR (fun _ => rfl)) ∗ owA F c (mML.slice halfLR (fun _ => rfl)))
    initAcc iprop(ow c (mA.slice fullAR (fun _ => rfl)) (k0_pay79 (k0_pay78 (F := F))) ∗ ow c (mML.slice halfMR (fun _ => rfl)) (k0_pay80 (F := F)) ∗ ow c (mML.slice halfLR (fun _ => rfl)) (k0_pay81 (F := F))) := by
  unfold Tr initAcc
  simp only [wp_bind]
  iintro ⟨HA, HM, HL⟩
  unfold owA
  icases HA with ⟨%a, HA⟩
  icases HM with ⟨%m, HM⟩
  icases HL with ⟨%l, HL⟩
  iapply (op_load c mA fullAR (fun _ => rfl) a _) $$ HA; iintro HA
  ihave HA := (ow_any c _ _) $$ HA
  iapply (op_store c mA fullAR (fun _ => rfl) _ _) $$ HA; iintro HA
  iapply (op_load c mML halfMR (fun _ => rfl) m _) $$ HM; iintro HM
  ihave HM := (ow_any c _ _) $$ HM
  iapply (op_store c mML halfMR (fun _ => rfl) _ _) $$ HM; iintro HM
  iapply (op_load c mML halfLR (fun _ => rfl) l _) $$ HL; iintro HL
  ihave HL := (ow_any c _ _) $$ HL
  iapply (op_store c mML halfLR (fun _ => rfl) _ _) $$ HL; iintro HL
  isplitl [HA]; · iexact HA
  isplitl [HM]; · iexact HM
  iexact HL

theorem heads_split : iprop(ow c (mA.slice fullAR (fun _ => rfl)) (k0_pay79 (k0_pay78 (F := F))) ∗ ow c (mML.slice halfMR (fun _ => rfl)) (k0_pay80 (F := F)) ∗ ow c (mML.slice halfLR (fun _ => rfl)) (k0_pay81 (F := F)))
    ⊢ bigSep Finset.univ fun h : Fin 8 => hsAt (F := F) c h (hs0 h) := by
  unfold hsAt
  rw [bigSep_sep', bigSep_sep']
  have hc := cols_split (F := F) c (k0_pay80 (F := F)) (k0_pay81 (F := F))
  rw [bigSep_sep'] at hc
  iintro ⟨HA, HML⟩
  ihave HA := (fullA_join c mA _) $$ HA
  ihave HA := (ow_split c mA headR (fun _ _ => rfl) (fun x => x 0) head_key _) $$ HA
  ihave HML := (halves_join (F := F) c _ _) $$ HML
  ihave HML := hc $$ HML
  icases HML with ⟨HM, HL⟩
  isplitl [HM]; · iexact HM
  isplitl [HL]; · iexact HL
  iexact HA
theorem heads_join (s : Fin 8 → HS F) : (bigSep Finset.univ fun h : Fin 8 => hsAt (F := F) c h (s h)) ⊢ iprop(owA F c mA ∗ owA F c mML) := by
  unfold hsAt
  rw [bigSep_sep', bigSep_sep']
  have hj := cols_joinA (F := F) c
  rw [bigSep_sep'] at hj
  iintro ⟨HM, HL, HA⟩
  isplitl [HA]
  · iapply (owA_join c mA headR (fun _ _ => rfl) (fun x => x 0) head_key)
    iapply (bs_mono (fun h => ow_any c (mA.slice (headR h) (fun _ => rfl)) (s h).a)); iexact HA
  iapply hj
  isplitl [HM]
  · iapply (bs_mono (fun h => ow_any c (mML.slice (colR (mCol h)) (fun _ => rfl)) (s h).m)); iexact HM
  · iapply (bs_mono (fun h => ow_any c (mML.slice (colR (lCol h)) (fun _ => rfl)) (s h).l)); iexact HL

theorem tr_locWait (O : CellTallies nD τ sig ℕ) (hO : Above 0 O) :
    Tr c iprop(Inv Γ κ ∗ owe c O ∗ (cred (tallyAt (cell c (.loc 0)) 0 NK) ∗ cred (tallyAt (cell c (.loc 1)) 0 NK))
        ∗ atPos ER (cell c (.loc 0)) 0 ∅ 0 ∗ atPos ER (cell c (.loc 1)) 0 ∅ 0)
      locWait iprop(owe c O ∗ (atPos ER (cell c (.loc 0)) 1 ∅ 0 ∗ atPos ER (cell c (.loc 1)) 1 ∅ 0)
        ∗ (ow c (kvSlot mKG 0) (blk (Γ.K c) 0) ∗ ow c (kvSlot mKS 0) (blk (Γ.K c) 0)) ∗ (ow c (kvSlot mVG 0) (blk (Γ.V c) 0) ∗ ow c (kvSlot mVS 0) (blk (Γ.V c) 0))) := by
  unfold locWait
  refine Tr_seq (Tr_conseq (Tr_frame (tr_wait Γ κ c (.loc 0) 0 0 rfl (by decide) O hO _ (fun K =>
        (wpE_waitDma2_eq 𝒱₀ (c : Thread nD τ) none Set.univ (src := kvSlot mKS 0) K).trans (by rw [NK_eq mKG (.inl rfl)]; rfl)))
        (R := iprop(Inv Γ κ ∗ cred (tallyAt (cell c (.loc 1)) 0 NK) ∗ atPos ER (cell c (.loc 1)) 0 ∅ 0))) ?_ .rfl)
    (Tr_conseq (Tr_frame (tr_wait Γ κ c (.loc 1) 0 0 rfl (by decide) O hO _ (fun K =>
        (wpE_waitDma2_eq 𝒱₀ (c : Thread nD τ) none Set.univ (src := kvSlot mVS 0) K).trans (by rw [NK_eq mVG (.inr rfl)]; rfl)))
        (R := iprop(atPos ER (cell c (.loc 0)) 1 ∅ 0 ∗ (ow c (kvSlot mKG 0) (blk (Γ.K c) 0) ∗ ow c (kvSlot mKS 0) (blk (Γ.K c) 0))))) ?_ ?_)
  · iintro ⟨#HI, HO, ⟨C1, C2⟩, A1, A2⟩
    isplitl [C1 HO A1]
    · isplitr; · iexact HI
      isplitl [C1]; · iexact C1
      isplitl [HO]; · iexact HO
      iexact A1
    isplitr; · iexact HI
    isplitl [C2]; · iexact C2
    iexact A2
  · rw [show pay Γ c 0 0 (Role.loc 0) = iprop(ow c (kvSlot mKG 0) (blk (Γ.K c) 0) ∗ ow c (kvSlot mKS 0) (blk (Γ.K c) 0)) from rfl]
    iintro ⟨⟨HO, A1, -, HP⟩, #HI, C2, A2⟩
    isplitl [C2 HO A2]
    · isplitr; · iexact HI
      isplitl [C2]; · iexact C2
      isplitl [HO]; · iexact HO
      iexact A2
    isplitl [A1]; · iexact A1
    iexact HP
  · rw [show pay Γ c 0 0 (Role.loc 1) = iprop(ow c (kvSlot mVG 0) (blk (Γ.V c) 0) ∗ ow c (kvSlot mVS 0) (blk (Γ.V c) 0)) from rfl]
    iintro ⟨⟨HO, A2, -, HP⟩, A1, HK⟩
    isplitl [HO]; · iexact HO
    isplitl [A1 A2]
    · isplitl [A1]; · iexact A1
      iexact A2
    isplitl [HK]; · iexact HK
    iexact HP

/-! ## The projection -/

/-- The rows of the projection matrix of head `h`. -/
def wHead (W : S1024x1024.Idx → Elt F .bf16) (h : Fin 8) : S128x1024.Idx → Elt F .bf16 := fun j => W ((woR h).emb j)
/-- The output after the heads up to number `k`. -/
def projO (s : Fin 8 → HS F) (W : S1024x1024.Idx → Elt F .bf16) : ℕ → Oc F
  | 0 => k0_pay84 (s 0).a (s 0).l (wHead W 0)
  | k + 1 => k0_pay85 (s (Fin.ofNat 8 (k + 1))).a (s (Fin.ofNat 8 (k + 1))).l (wHead W (Fin.ofNat 8 (k + 1))) (projO s W k)

/-- What the projection of head `h` reads. -/
def projH (s : Fin 8 → HS F) (W : S1024x1024.Idx → Elt F .bf16) (h : Fin 8) : sProp 𝕄 :=
  iprop(hsAt c h (s h) ∗ ow c (mW.slice (woR h) (fun _ => rfl)) (wHead W h))

theorem tr_projFirst (s : Fin 8 → HS F) (W : S1024x1024.Idx → Elt F .bf16) :
    Tr c iprop(projH c s W 0 ∗ owA F c (mO.slice fullR (fun _ => rfl))) projFirst iprop(projH c s W 0 ∗ ow c (mO.slice fullR (fun _ => rfl)) (projO s W 0)) := by
  unfold Tr projFirst projH hsAt
  simp only [wp_bind]
  iintro ⟨⟨⟨HM, HL, HA⟩, HW⟩, HO⟩
  unfold owA
  icases HO with ⟨%o, HO⟩
  iapply (op_load c mA (headR 0) (fun _ => rfl) (s 0).a _) $$ HA; iintro HA
  iapply (op_load c mML (colR (lCol 0)) (fun _ => rfl) (s 0).l _) $$ HL; iintro HL
  iapply (op_load c mW (woR 0) (fun _ => rfl) (wHead W 0) _) $$ HW; iintro HW
  iapply (op_load c mO fullR (fun _ => rfl) o _) $$ HO; iintro HO
  ihave HO := (ow_any c _ _) $$ HO
  iapply (op_store c mO fullR (fun _ => rfl) _ _) $$ HO; iintro HO
  isplitl [HM HL HA HW]
  · isplitl [HM HL HA]
    · isplitl [HM]; · iexact HM
      isplitl [HL]; · iexact HL
      iexact HA
    iexact HW
  iexact HO

theorem tr_projNext (s : Fin 8 → HS F) (W : S1024x1024.Idx → Elt F .bf16) :
    Tr c iprop((bigSep Finset.univ fun i : Fin 7 => projH c s W i.succ) ∗ ow c (mO.slice fullR (fun _ => rfl)) (projO s W 0)) (seqN 7 projNext)
      iprop((bigSep Finset.univ fun i : Fin 7 => projH c s W i.succ) ∗ ow c (mO.slice fullR (fun _ => rfl)) (projO s W 7)) := by
  refine Tr_seqN 7 _ _ _ (fun k => ow c (mO.slice fullR (fun _ => rfl)) (projO s W k)) fun i => ?_
  have hi : Fin.ofNat 8 (i.val + 1) = i.succ := by revert i; decide
  have hp : projO s W (i.val + 1) = k0_pay85 (s i.succ).a (s i.succ).l (wHead W i.succ) (projO s W i.val) := by
    show k0_pay85 (s (Fin.ofNat 8 (i.val + 1))).a (s (Fin.ofNat 8 (i.val + 1))).l (wHead W (Fin.ofNat 8 (i.val + 1))) (projO s W i.val) = _
    rw [hi]
  rw [hp]
  unfold Tr projNext projH hsAt
  simp only [wp_bind]
  iintro ⟨⟨⟨HM, HL, HA⟩, HW⟩, HO⟩
  iapply (op_load c mA (headR i.succ) (fun _ => rfl) (s i.succ).a _) $$ HA; iintro HA
  iapply (op_load c mML (colR (lCol i.succ)) (fun _ => rfl) (s i.succ).l _) $$ HL; iintro HL
  iapply (op_load c mW (woR i.succ) (fun _ => rfl) (wHead W i.succ) _) $$ HW; iintro HW
  iapply (op_load c mO fullR (fun _ => rfl) (projO s W i.val) _) $$ HO; iintro HO
  iapply (op_load c mO fullR (fun _ => rfl) (projO s W i.val) _) $$ HO; iintro HO
  ihave HO := (ow_any c _ _) $$ HO
  iapply (op_store c mO fullR (fun _ => rfl) _ _) $$ HO; iintro HO
  isplitl [HM HL HA HW]
  · isplitl [HM HL HA]
    · isplitl [HM]; · iexact HM
      isplitl [HL]; · iexact HL
      iexact HA
    iexact HW
  iexact HO

/-! ## The last waits -/

theorem NKs_eq (m : Memref sig .tc .hbm S8x8x1024x128 .bf16) (hm : m = mKS ∨ m = mVS) (s : Fin 8) : (kvSlot m s).view.dmaCredit = NK := by
  unfold NK
  rcases hm with rfl | rfl <;> (revert s; decide +kernel)

theorem tr_ksWait : Tr c iprop((bigSep Finset.univ fun i : Fin 7 => iprop(cred (tallyAt (cell c (.ks i)) 0 NK) ∗ atPos ER (cell c (.ks i)) 0 ∅ 0)) ∗ (Inv Γ κ ∗ owe c 0))
    (seqN 7 ksWait) iprop((bigSep Finset.univ fun i : Fin 7 => iprop(atPos ER (cell c (.ks i)) 1 ∅ 0 ∗ ow c (kvSlot mKS i.succ) (blk (Γ.K c) i.succ))) ∗ (Inv Γ κ ∗ owe c 0)) := by
  refine Tr_seqN 7 _ _ _ (fun _ => iprop(Inv Γ κ ∗ owe c 0)) fun i => ?_
  unfold ksWait
  refine Tr_conseq (Tr_frame (tr_wait Γ κ c (.ks i) 0 0 rfl (by decide) 0 (above_zero _) _ (fun K =>
        (wpE_waitDma2_eq 𝒱₀ (c : Thread nD τ) none Set.univ (src := kvSlot mKG i.rev.succ) K).trans (by rw [NKs_eq mKS (.inl rfl)]; rfl))) (R := Inv Γ κ)) ?_ ?_
  · iintro ⟨⟨H1, H2⟩, #HI, HO⟩
    isplitl [H1 HO H2]
    · isplitr; · iexact HI
      isplitl [H1]; · iexact H1
      isplitl [HO]; · iexact HO
      iexact H2
    iexact HI
  · rw [show pay Γ c 0 0 (Role.ks i) = ow c (kvSlot mKS i.succ) (blk (Γ.K c) i.succ) from rfl]
    iintro ⟨⟨HO, H1, -, H2⟩, HI⟩
    isplitl [H1 H2]
    · isplitl [H1]; · iexact H1
      iexact H2
    isplitl [HI]; · iexact HI
    iexact HO
theorem tr_vsWait : Tr c iprop((bigSep Finset.univ fun i : Fin 7 => iprop(cred (tallyAt (cell c (.vs i)) 0 NK) ∗ atPos ER (cell c (.vs i)) 0 ∅ 0)) ∗ (Inv Γ κ ∗ owe c 0))
    (seqN 7 vsWait) iprop((bigSep Finset.univ fun i : Fin 7 => iprop(atPos ER (cell c (.vs i)) 1 ∅ 0 ∗ ow c (kvSlot mVS i.succ) (blk (Γ.V c) i.succ))) ∗ (Inv Γ κ ∗ owe c 0)) := by
  refine Tr_seqN 7 _ _ _ (fun _ => iprop(Inv Γ κ ∗ owe c 0)) fun i => ?_
  unfold vsWait
  refine Tr_conseq (Tr_frame (tr_wait Γ κ c (.vs i) 0 0 rfl (by decide) 0 (above_zero _) _ (fun K =>
        (wpE_waitDma2_eq 𝒱₀ (c : Thread nD τ) none Set.univ (src := kvSlot mVG i.rev.succ) K).trans (by rw [NKs_eq mVS (.inr rfl)]; rfl))) (R := Inv Γ κ)) ?_ ?_
  · iintro ⟨⟨H1, H2⟩, #HI, HO⟩
    isplitl [H1 HO H2]
    · isplitr; · iexact HI
      isplitl [H1]; · iexact H1
      isplitl [HO]; · iexact HO
      iexact H2
    iexact HI
  · rw [show pay Γ c 0 0 (Role.vs i) = ow c (kvSlot mVS i.succ) (blk (Γ.V c) i.succ) from rfl]
    iintro ⟨⟨HO, H1, -, H2⟩, HI⟩
    isplitl [H1 H2]
    · isplitl [H1]; · iexact H1
      iexact H2
    isplitl [HI]; · iexact HI
    iexact HO
theorem tr_rsWait : Tr c iprop((bigSep Finset.univ fun t : Fin 14 => iprop(cred (tallyAt (cell c (.rs t)) 0 NR) ∗ atPos ER (cell c (.rs t)) 0 ∅ 0)) ∗ (Inv Γ κ ∗ owe c 0))
    (seqN 14 (rsWait c)) iprop((bigSep Finset.univ fun t : Fin 14 => iprop(atPos ER (cell c (.rs t)) 1 ∅ 0 ∗ pay Γ c 0 0 (.rs t))) ∗ (Inv Γ κ ∗ owe c 0)) := by
  refine Tr_seqN 14 _ _ _ (fun _ => iprop(Inv Γ κ ∗ owe c 0)) fun i => ?_
  unfold rsWait
  refine Tr_conseq (Tr_frame (tr_wait Γ κ c (.rs i) 0 0 rfl (by decide) 0 (above_zero _) _ (fun K =>
        (wpE_waitDma2_eq 𝒱₀ (c : Thread nD τ) none Set.univ (src := rsSlot (par i)) K).trans (by rw [NR_src c i]; rfl))) (R := Inv Γ κ)) ?_ ?_
  · iintro ⟨⟨H1, H2⟩, #HI, HO⟩
    isplitl [H1 HO H2]
    · isplitr; · iexact HI
      isplitl [H1]; · iexact H1
      isplitl [HO]; · iexact HO
      iexact H2
    iexact HI
  · iintro ⟨⟨HO, H1, -, H2⟩, HI⟩
    isplitl [H1 H2]
    · isplitl [H1]; · iexact H1
      iexact H2
    isplitl [HI]; · iexact HI
    iexact HO

end Cert.KernelIdeal.Hand
-- ==== Proof.Ends.lean ====
/-
  How the pieces are dealt before the kernel and gathered after it.
-/
module

public import proofs.«01_k».proof.Proof.Phases

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (Γ : Cont F) (κ : GSem nD τ sig → ℕ) (c : Dev nD)

/-! ## Regrouping -/

/-- The parts, one kind after the other. -/
def roleEquiv : (Unit ⊕ Fin 2 ⊕ Fin 7 ⊕ Fin 7 ⊕ Fin 7 ⊕ Fin 7 ⊕ Fin 14 ⊕ Fin 14 ⊕ Fin 2) ≃ Role where
  toFun
    | .inl _ => .bar
    | .inr (.inl i) => .loc i
    | .inr (.inr (.inl i)) => .ks i
    | .inr (.inr (.inr (.inl i))) => .kr i
    | .inr (.inr (.inr (.inr (.inl i)))) => .vs i
    | .inr (.inr (.inr (.inr (.inr (.inl i))))) => .vr i
    | .inr (.inr (.inr (.inr (.inr (.inr (.inl t)))))) => .rs t
    | .inr (.inr (.inr (.inr (.inr (.inr (.inr (.inl t))))))) => .rr t
    | .inr (.inr (.inr (.inr (.inr (.inr (.inr (.inr b))))))) => .cr b
  invFun
    | .bar => .inl ()
    | .loc i => .inr (.inl i)
    | .ks i => .inr (.inr (.inl i))
    | .kr i => .inr (.inr (.inr (.inl i)))
    | .vs i => .inr (.inr (.inr (.inr (.inl i))))
    | .vr i => .inr (.inr (.inr (.inr (.inr (.inl i)))))
    | .rs t => .inr (.inr (.inr (.inr (.inr (.inr (.inl t))))))
    | .rr t => .inr (.inr (.inr (.inr (.inr (.inr (.inr (.inl t)))))))
    | .cr b => .inr (.inr (.inr (.inr (.inr (.inr (.inr (.inr b)))))))
  left_inv x := by rcases x with _ | _ | _ | _ | _ | _ | _ | _ | _ <;> rfl
  right_inv x := by cases x <;> rfl

theorem bs_role (Φ : Role → sProp 𝕄) : bigSep Finset.univ Φ = iprop(Φ .bar ∗ (bigSep Finset.univ fun i => Φ (.loc i)) ∗ (bigSep Finset.univ fun i => Φ (.ks i))
    ∗ (bigSep Finset.univ fun i => Φ (.kr i)) ∗ (bigSep Finset.univ fun i => Φ (.vs i)) ∗ (bigSep Finset.univ fun i => Φ (.vr i))
    ∗ (bigSep Finset.univ fun t => Φ (.rs t)) ∗ (bigSep Finset.univ fun t => Φ (.rr t)) ∗ bigSep Finset.univ fun b => Φ (.cr b)) := by
  rw [bigSep_univ_equiv roleEquiv]
  rw [BI.bigSep_univ_sum, BI.bigSep_univ_sum, BI.bigSep_univ_sum, BI.bigSep_univ_sum, BI.bigSep_univ_sum, BI.bigSep_univ_sum, BI.bigSep_univ_sum, BI.bigSep_univ_sum]
  rw [show (Finset.univ : Finset Unit) = {()} from rfl, bigSep_singleton]
  rfl

theorem bs_rev (Φ : Fin 7 → sProp 𝕄) : bigSep Finset.univ (fun i : Fin 7 => Φ i.rev) = bigSep Finset.univ Φ :=
  (bigSep_univ_equiv Fin.revPerm Φ).symm

theorem bs_two (Φ : Fin 2 → sProp 𝕄) : bigSep Finset.univ Φ = iprop(Φ 0 ∗ Φ 1) := BI.bigSep_fin_two Φ

theorem bs_last2 (Φ : Fin 14 → sProp 𝕄) : bigSep Finset.univ Φ ⊢ iprop(Φ 12 ∗ Φ 13) := by
  iintro H
  ihave H := (bigSep_pick (Φ := Φ) (Finset.mem_univ (12 : Fin 14))) $$ H
  icases H with ⟨H1, H⟩
  ihave H := (bigSep_pick (Φ := Φ) (show (13 : Fin 14) ∈ Finset.univ.erase 12 by decide)) $$ H
  icases H with ⟨H2, -⟩
  isplitl [H1]; · iexact H1
  iexact H2

/-- Every part's round reached, of the parts of a kind. -/
def rch (c : Dev nD) : sProp 𝕄 := bigSep Finset.univ fun ρ : Role => reached ER (cell c ρ) 0
instance rch_persistent : BI.Persistent (rch (F := F) c) := by unfold rch; infer_instance
theorem rch_at (ρ : Role) : rch (F := F) c ⊢ reached ER (cell c ρ) 0 := by
  unfold rch; exact bigSep_elim (Finset.mem_univ ρ)
theorem rch_all {I : Type} [Fintype I] [DecidableEq I] (f : I → Role) : rch (F := F) c ⊢ bigSep Finset.univ fun i => reached ER (cell c (f i)) 0 :=
  bigSep_intro_persistent fun i _ => rch_at c (f i)

theorem duties_of {I : Type} [Fintype I] [DecidableEq I] (f : I → Role) :
    iprop(rch c ∗ bigSep Finset.univ fun i => dutyTok ER (cell c (f i)) 0 0) ⊢ bigSep Finset.univ fun i => duty (F := F) c (f i) 0 0 := by
  unfold duty
  rw [bigSep_sep']
  iintro ⟨#HR, H⟩
  isplitl [H]; · iexact H
  iapply (rch_all c f); iexact HR

/-! ## The chunks of the output -/

theorem chk_chk (k : Fin 8) : chk c (chk c k.val).val = k := by revert k c; decide
def chkE (c : Dev nD) : Fin 8 ≃ Fin 8 := ⟨fun k => chk c k.val, fun k => chk c k.val, chk_chk c, chk_chk c⟩

theorem chunks_split (X : Oc F) : ow c mO X ⊢ iprop(ow c (chunkM (chk c 0)) (chunk X (chk c 0)) ∗ bigSep (Finset.Ico 1 8) fun n => ow c (chunkM (chk c n)) (chunk X (chk c n))) := by
  have h := ow_split c mO woR (fun _ _ => rfl) rowKey wo_key X
  rw [bigSep_univ_equiv (chkE c), bs_succ] at h
  have e : Finset.Ico 1 8 = (Finset.univ : Finset (Fin 7)).map ⟨fun i => i.val + 1, fun a b h => Fin.ext (Nat.succ_injective h)⟩ := by decide
  rw [e, bigSep_map]
  exact h

/-- The step of the ring that leaves chunk `k` as it is in the end. -/
def tOf (c : Dev nD) (k : Fin 8) : ℕ := 7 + (c.val + 17 - k.val) % 8
/-- The output of device `c` in the end. -/
def outFn (O : Dev nD → Oc F) (c : Dev nD) : Oc F := fun x =>
  SV O (tOf c (rowKey x)) c (fun a => match a with | 0 => ⟨(x 0).val % 128, Nat.mod_lt _ (by decide)⟩ | 1 => x 1)

theorem chk_tOf (k : Fin 8) : chk c (tOf c k) = k := by revert k c; decide
def endE (c : Dev nD) : Fin 8 ≃ Fin 8 where
  toFun i := chk c (7 + i.val)
  invFun k := Fin.ofNat 8 (tOf c k - 7)
  left_inv := by revert c; decide
  right_inv := by revert c; decide
theorem tOf_end (i : Fin 8) : tOf c (chk c (7 + i.val)) = 7 + i.val := by revert i c; decide

theorem outFn_chunk (O : Dev nD → Oc F) (k : Fin 8) : (fun j => outFn O c ((woR k).emb j)) = SV O (tOf c k) c := by
  funext j
  have hk : rowKey ((woR k).emb j) = k := (wo_key k _).mp (by rw [← Rect.map_emb_univ]; exact Finset.mem_map_of_mem _ (Finset.mem_univ j))
  unfold outFn
  rw [hk]
  congr 1
  funext a
  have h0 : (j 0).val < 128 := (j 0).isLt
  apply Fin.ext
  fin_cases a
  · show ((woR k).emb j 0).val % 128 = (j 0).val
    rw [Rect.emb_apply]; show (128 * k.val + 1 * (j 0).val) % 128 = (j 0).val; omega
  · show ((woR k).emb j 1).val = (j 1).val
    rw [Rect.emb_apply]; show 0 + 1 * (j 1).val = (j 1).val; omega

theorem chk_per (n : ℕ) (h : n < 20) (h8 : 8 ≤ n) : chk c n = chk c (n - 8) := by
  apply Fin.ext
  have hc : c.val < 8 := c.isLt
  show (c.val + 24 - n) % 8 = (c.val + 24 - (n - 8)) % 8
  omega

theorem bs_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, bigSep_insert (by decide), bigSep_insert (by decide), bigSep_insert (by decide),
    bigSep_insert (by decide), bigSep_insert (by decide), bigSep_insert (by decide), bigSep_insert (by decide), bigSep_singleton]
  rfl

theorem bs_home (Φ : ℕ → sProp 𝕄) : bigSep (Finset.Ico 15 20) Φ = iprop(Φ 15 ∗ Φ 16 ∗ Φ 17 ∗ Φ 18 ∗ Φ 19) := by
  rw [show Finset.Ico 15 20 = {15, 16, 17, 18, 19} by decide, bigSep_insert (by decide), bigSep_insert (by decide), bigSep_insert (by decide),
    bigSep_insert (by decide), bigSep_singleton]
  rfl

theorem chunks_join : iprop(Home Γ c 14 ∗ (ow c (chunkM (chk c 12)) (SV Γ.O 12 c) ∗ ow c (chunkM (chk c 13)) (SV Γ.O 13 c)) ∗ ow c (chunkM (chk c 14)) (SV Γ.O 14 c))
    ⊢ ow c mO (outFn Γ.O c) := by
  have h := ow_join c mO woR (fun _ _ => rfl) rowKey wo_key (outFn Γ.O c)
  simp only [outFn_chunk] at h
  rw [bigSep_univ_equiv (endE c), bs_eight] at h
  have hh (i : Fin 8) : (endE c) i = chk c (7 + i.val) := rfl
  simp only [hh, tOf_end] at h
  refine BIBase.Entails.trans ?_ h
  unfold Home
  rw [show Finset.Ico (14 + 1) (max 8 (14 + 6)) = Finset.Ico 15 20 by decide, bs_home]
  unfold HC
  rw [if_neg (by decide), if_neg (by decide), if_neg (by decide), if_neg (by decide), if_neg (by decide)]
  rw [chk_per c 15 (by decide) (by decide), chk_per c 16 (by decide) (by decide), chk_per c 17 (by decide) (by decide), chk_per c 18 (by decide) (by decide), chk_per c 19 (by decide) (by decide)]
  iintro ⟨⟨H7, H8, H9, H10, H11⟩, ⟨H12, H13⟩, H14⟩
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The cells closed -/

/-- The rounds of a part when all is done. -/
def lastR : Role → ℕ | .cr _ => 6 | _ => 1

theorem duties_end (ρ : Role) (r : ℕ) (h : lastR ρ ≤ r) : (Rd Γ).duties (cell c ρ) r = ∅ := by
  rw [duties_cell]
  cases ρ with
  | cr b => exact if_neg (by have : 6 ≤ r := h; omega)
  | bar => exact if_neg (by have : 1 ≤ r := h; omega)
  | _ => exact if_neg (by have : 1 ≤ r := h; omega)

theorem close_all : iprop(Inv Γ κ ∗ bigSep Finset.univ fun ρ : Role => atPos ER (cell c ρ) (lastR ρ) ∅ 0) ⊢ (|={Set.univ}=> bigSep Finset.univ fun ρ : Role => semVal (cell c ρ) 0 : sProp 𝕄) := by
  refine BIBase.Entails.trans (bigSep_with_persistent (Ψ := fun ρ : Role => iprop(|={Set.univ}=> semVal (cell c ρ) 0)) fun ρ _ => ?_) (bigSep_fupd _ _)
  refine BIBase.Entails.trans (sep_mono_left (Inv_cell Γ κ c ρ)) ?_
  exact Rounds.cell_close ER (Rd Γ) (Set.mem_univ _) id (duties_end Γ c ρ)

end Cert.KernelIdeal.Hand
-- ==== Proof.SumVal.lean ====
/-
  The projection of the heads and the ring's sum over the devices, read element by element.
-/
module

public import proofs.«01_k».proof.Proof.HeadVal
public import proofs.«01_k».proof.Proof.Phases
public import proofs.«01_k».proof.Proof.Ends

@[expose] public section

noncomputable section

namespace Cert.Value

open Cert.KernelIdeal Cert.KernelIdeal.Gen Cert.KernelIdeal.Hand
open Idealize.ShloMosaic

/-- Row `d` of chunk `k`. -/
def row (k : Fin 8) (d : Fin 128) : Fin 1024 := ⟨k.val * 128 + d.val, by omega⟩

/-- A head's rows of the output weights. -/
theorem wo_at (k : Fin 8) (d : Fin 128) (o : Fin 1024) : (woR k).emb (ix2 d o) = ix2 (row k d) o := by
  funext a
  apply Fin.ext
  rw [Rect.emb_apply]
  fin_cases a <;> simp [woR, ix2, row, Nat.mul_comm]

/-- The first head's contribution. -/
theorem pay84_at (a : S1x1024x128.Idx → Elt Ideal .f32) (l : S1024x1.Idx → Elt Ideal .f32) (w : S128x1024.Idx → Elt Ideal .bf16) (i o : Fin 1024) :
    k0_pay84 (F := Ideal) a l w (ix2 i o) = ∑ d : Fin 128, Ideal.div (a (ix3 0 i d)) (l (ix2 i 0)) * w (ix2 d o) := by
  pointwise [k0_pay84]

/-- A later head's contribution, added to what stands. -/
theorem pay85_at (a : S1x1024x128.Idx → Elt Ideal .f32) (l : S1024x1.Idx → Elt Ideal .f32) (w : S128x1024.Idx → Elt Ideal .bf16)
    (v : S1024x1024.Idx → Elt Ideal .f32) (i o : Fin 1024) :
    k0_pay85 (F := Ideal) a l w v (ix2 i o) = v (ix2 i o) + ∑ d : Fin 128, Ideal.div (a (ix3 0 i d)) (l (ix2 i 0)) * w (ix2 d o) := by
  pointwise [k0_pay85]

/-- The projection of the heads up to number `n`. -/
theorem proj_at (s : Fin 8 → HS Ideal) (W : S1024x1024.Idx → Elt Ideal .bf16) (n : ℕ) (i o : Fin 1024) :
    projO s W n (ix2 i o) = ∑ h ∈ Finset.range (n + 1), ∑ d : Fin 128,
      Ideal.div ((s (Fin.ofNat 8 h)).a (ix3 0 i d)) ((s (Fin.ofNat 8 h)).l (ix2 i 0)) * W (ix2 (row (Fin.ofNat 8 h) d) o) := by
  induction n with
  | zero =>
      rw [Finset.sum_range_one]
      refine (pay84_at _ _ _ _ _).trans ?_
      refine Finset.sum_congr rfl fun d _ => ?_
      unfold wHead
      rw [wo_at]
      rfl
  | succ n ih =>
      rw [Finset.sum_range_succ, ← ih]
      refine (pay85_at _ _ _ _ _ _).trans ?_
      congr 1
      refine Finset.sum_congr rfl fun d _ => ?_
      unfold wHead
      rw [wo_at]

/-- A device's product with its rows of the output weights, as a sum over its heads and a head's columns. -/
theorem proj_all (s : Fin 8 → HS Ideal) (W : S1024x1024.Idx → Elt Ideal .bf16) (i o : Fin 1024) :
    projO s W 7 (ix2 i o) = ∑ h : Fin 8, ∑ d : Fin 128, Ideal.div ((s h).a (ix3 0 i d)) ((s h).l (ix2 i 0)) * W (ix2 (row h d) o) := by
  rw [proj_at, Finset.sum_range]
  refine Finset.sum_congr rfl fun h _ => ?_
  rw [show Fin.ofNat 8 h.val = h from Fin.ext (Nat.mod_eq_of_lt h.isLt)]

/-! ## The ring -/

/-- A chunk read without its unit axis. -/
theorem unsq_at (X : Ch Ideal) (r : Fin 128) (o : Fin 1024) : unsq X (ix3 0 r o) = X (ix2 r o) := by
  unfold unsq
  congr 1
  rw [Equiv.symm_apply_eq]
  pointwise

/-- The sum that a device of the ring passes on. -/
theorem pay95_at (v : S128x1024.Idx → Elt Ideal .f32) (w : S1x128x1024.Idx → Elt Ideal .f32) (r : Fin 128) (o : Fin 1024) :
    k0_pay95 (F := Ideal) v w (ix2 r o) = v (ix2 r o) + w (ix3 0 r o) := by
  pointwise [k0_pay95]

/-- The finished chunk that a device of the ring passes on. -/
theorem pay103_at (w : S1x128x1024.Idx → Elt Ideal .f32) (r : Fin 128) (o : Fin 1024) :
    k0_pay103 (F := Ideal) w (ix2 r o) = w (ix3 0 r o) := by
  pointwise [k0_pay103]

/-- The chunk of the left neighbour is this device's next. -/
theorem chk_left (c : Dev nD) (t : ℕ) (ht : t ≤ 14) : chk (left c) t = chk c (t + 1) := by
  have : ∀ (c : Dev nD) (t : Fin 15), chk (left c) t.val = chk c (t.val + 1) := by decide +kernel
  exact this c ⟨t, by omega⟩

/-- The running sum that a device sends at step `t`, of the first seven. -/
theorem ring_part (O : Dev nD → Oc Ideal) (t : ℕ) (ht : t ≤ 7) : ∀ (c : Dev nD) (r : Fin 128) (o : Fin 1024),
    SV O t c (ix2 r o) = ∑ u ∈ Finset.range (t + 1), O (up c (7 * u)) (ix2 (row (chk c t) r) o) := by
  induction t with
  | zero =>
      intro c r o
      rw [Finset.sum_range_one]
      show O c ((woR _).emb (ix2 r o)) = _
      rw [wo_at, show up c (7 * 0) = c from Fin.ext (Nat.mod_eq_of_lt c.isLt)]
  | succ t ih =>
      intro c r o
      have e : SV O (t + 1) c = k0_pay95 (chunk (O c) (chk c (t + 1))) (unsq (SV O t (left c))) := if_pos (by omega)
      rw [e, pay95_at, unsq_at, ih (by omega), Finset.sum_range_succ' _ (t + 1), add_comm]
      congr 1
      · refine Finset.sum_congr rfl fun u _ => ?_
        rw [chk_left c t (by omega), up_up]
        congr 2
        ring
      · show O c ((woR _).emb (ix2 r o)) = _
        rw [wo_at, show up c (7 * 0) = c from Fin.ext (Nat.mod_eq_of_lt c.isLt)]

/-- All devices, going left from `c`. -/
def leftE (c : Dev nD) : Fin 8 ≃ Fin 8 where
  toFun u := up c (7 * u.val)
  invFun p := Fin.ofNat 8 (c.val + 8 - p.val)
  left_inv := by revert c; decide +kernel
  right_inv := by revert c; decide +kernel

/-- What a device sends from step seven on: the sum over all devices. -/
theorem ring_full (O : Dev nD → Oc Ideal) (n : ℕ) (hn : n ≤ 7) : ∀ (c : Dev nD) (r : Fin 128) (o : Fin 1024),
    SV O (7 + n) c (ix2 r o) = ∑ p : Fin 8, O p (ix2 (row (chk c (7 + n)) r) o) := by
  induction n with
  | zero =>
      intro c r o
      rw [show 7 + 0 = 7 from rfl, ring_part O 7 le_rfl, Finset.sum_range]
      exact Equiv.sum_comp (leftE c) fun p => O p (ix2 (row (chk c 7) r) o)
  | succ n ih =>
      intro c r o
      have e : SV O (7 + n + 1) c = k0_pay103 (unsq (SV O (7 + n) (left c))) := if_neg (by omega)
      rw [← Nat.add_assoc, e, pay103_at, unsq_at, ih (by omega), chk_left c (7 + n) (by omega)]

/-- The output of every device is the sum of the devices' unreduced outputs. -/
theorem out_at (O : Dev nD → Oc Ideal) (c : Dev nD) (i o : Fin 1024) : outFn O c (ix2 i o) = ∑ p : Fin 8, O p (ix2 i o) := by
  have hi : (⟨i.val / 128, by omega⟩ : Fin 8) = rowKey (ix2 i o) := rfl
  have e : outFn O c (ix2 i o) = SV O (tOf c (rowKey (ix2 i o))) c (ix2 (⟨i.val % 128, Nat.mod_lt _ (by decide)⟩ : Fin 128) o) := by
    unfold outFn
    congr 1
    funext a
    match a with
    | 0 => rfl
    | 1 => rfl
  have ht : tOf c (rowKey (ix2 i o)) = 7 + (c.val + 17 - (rowKey (ix2 i o)).val) % 8 := rfl
  rw [e, ht, ring_full O _ (by omega), ← ht, chk_tOf]
  have hr : row (rowKey (ix2 i o)) ⟨i.val % 128, Nat.mod_lt _ (by decide)⟩ = i := Fin.ext (by
    show i.val / 128 * 128 + i.val % 128 = i.val
    omega)
  rw [hr]

end Cert.Value
-- ==== Proof.Deal.lean ====
/-
  How the resources of a device are dealt to the phases of the kernel.
-/
module

public import proofs.«01_k».proof.Proof.Ends

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (Γ : Cont F) (κ : GSem nD τ sig → ℕ) (c : Dev nD)

/-! ## The resources -/

/-- The tokens of the duties that device `c` does: -/
def toks (c : Dev nD) : sProp 𝕄 :=
  iprop((bigSep Finset.univ fun j : Fin 7 => dutyTok ER (cell (up c (j.val + 1)) .bar) 0 j.rev)
    ∗ (bigSep Finset.univ fun i : Fin 2 => dutyTok ER (cell c (.loc i)) 0 0)
    ∗ (bigSep Finset.univ fun i : Fin 7 => dutyTok ER (cell c (.ks i)) 0 0)
    ∗ (bigSep Finset.univ fun i : Fin 7 => dutyTok ER (cell c (.vs i)) 0 0)
    ∗ (bigSep Finset.univ fun t : Fin 14 => dutyTok ER (cell c (.rs t)) 0 0)
    ∗ (bigSep Finset.univ fun i : Fin 7 => dutyTok ER (cell (up c (i.val + 1)) (.kr i.rev)) 0 0)
    ∗ (bigSep Finset.univ fun i : Fin 7 => dutyTok ER (cell (up c (i.val + 1)) (.vr i.rev)) 0 0)
    ∗ (bigSep Finset.univ fun t : Fin 14 => dutyTok ER (cell (right c) (.rr t)) 0 0)
    ∗ (bigSep Finset.univ fun p : Fin 6 × Fin 2 => dutyTok ER (cell (left c) (.cr p.2)) p.1.val 0))

/-- the credits of its waits for other devices. -/
def crds (c : Dev nD) : sProp 𝕄 :=
  iprop(cred (tallyAt (cell c .bar) 0 7)
    ∗ (bigSep Finset.univ fun i : Fin 7 => cred (tallyAt (cell c (.kr i)) 0 NK))
    ∗ (bigSep Finset.univ fun i : Fin 7 => cred (tallyAt (cell c (.vr i)) 0 NK))
    ∗ (bigSep Finset.univ fun t : Fin 14 => cred (tallyAt (cell c (.rr t)) 0 NR))
    ∗ (bigSep Finset.univ fun p : Fin 6 × Fin 2 => cred (tallyAt (cell c (.cr p.2)) p.1.val 1)))

variable (F) in
/-- Every device has come to the barrier's first round. -/
def rchBar : sProp 𝕄 := bigSep Finset.univ fun d : Dev nD => reached ER (cell d .bar) 0
instance rchBar_persistent : BI.Persistent (rchBar F) := by unfold rchBar; infer_instance

/-! ## Dealing -/

theorem bs_ends (Φ : Fin 14 → sProp 𝕄) : bigSep Finset.univ Φ = iprop((Φ 0 ∗ Φ 1) ∗ bigSep Finset.univ fun p : Fin 6 × Fin 2 => Φ (Fin.natAdd 2 (finProdFinEquiv p))) := by
  rw [bigSep_univ_equiv (finSumFinEquiv (m := 2) (n := 12)) Φ, BI.bigSep_univ_sum, bigSep_fin_two,
    bigSep_univ_equiv (finProdFinEquiv (m := 6) (n := 2)) (fun i : Fin 12 => Φ (finSumFinEquiv (.inr i)))]
  rfl
theorem bs_ends' (Φ : Fin 14 → sProp 𝕄) : bigSep Finset.univ Φ = iprop((bigSep Finset.univ fun p : Fin 6 × Fin 2 => Φ (Fin.castAdd 2 (finProdFinEquiv p))) ∗ (Φ 12 ∗ Φ 13)) := by
  rw [bigSep_univ_equiv (finSumFinEquiv (m := 12) (n := 2)) Φ, BI.bigSep_univ_sum, bigSep_fin_two,
    bigSep_univ_equiv (finProdFinEquiv (m := 6) (n := 2)) (fun i : Fin 12 => Φ (finSumFinEquiv (m := 12) (n := 2) (.inl i)))]
  rfl

theorem slotSrc_deal : iprop(owA F (right c) (rsSlot 0) ∗ owA F (right c) (rsSlot 1) ∗ (bigSep Finset.univ fun p : Fin 6 × Fin 2 => cred (tallyAt (cell c (.cr p.2)) p.1.val 1)))
    ⊢ bigSep Finset.univ fun t => slotSrc (F := F) c t := by
  rw [bs_ends]
  have e (p : Fin 6 × Fin 2) : slotSrc (F := F) c (Fin.natAdd 2 (finProdFinEquiv p)) = cred (tallyAt (cell c (.cr p.2)) p.1.val 1) := by
    unfold slotSrc
    rw [if_neg (by show ¬ 2 + _ < 2; omega)]
    have h1 : par (Fin.natAdd 2 (finProdFinEquiv p)) = p.2 := by revert p; decide
    have h2 : (Fin.natAdd 2 (finProdFinEquiv p) : Fin 14).val / 2 - 1 = p.1.val := by revert p; decide
    rw [h1, h2]
  simp only [e]
  iintro ⟨H0, H1, H⟩
  isplitr [H]
  · isplitl [H0]
    · unfold slotSrc; rw [if_pos (by decide)]; iexact H0
    · unfold slotSrc; rw [if_pos (by decide)]; iexact H1
  · iexact H

theorem giveTok_deal : (bigSep Finset.univ fun p : Fin 6 × Fin 2 => dutyTok ER (cell (left c) (.cr p.2)) p.1.val 0) ⊢ bigSep Finset.univ fun t => giveTok (F := F) c t := by
  rw [bs_ends']
  have e (p : Fin 6 × Fin 2) : giveTok (F := F) c (Fin.castAdd 2 (finProdFinEquiv p)) = dutyTok ER (cell (left c) (.cr p.2)) p.1.val 0 := by
    unfold giveTok
    rw [if_pos (by exact (finProdFinEquiv p).isLt)]
    have h1 : par (Fin.castAdd 2 (finProdFinEquiv p)) = p.2 := by revert p; decide
    have h2 : (Fin.castAdd 2 (finProdFinEquiv p) : Fin 14).val / 2 = p.1.val := by revert p; decide
    rw [h1, h2]
  simp only [e]
  iintro H
  isplitl [H]; · iexact H
  isplitr
  · unfold giveTok; rw [if_neg (by decide)]; iempintro
  · unfold giveTok; rw [if_neg (by decide)]; iempintro

/-- What the barrier takes. -/
theorem bar_deal : iprop((rch c ∗ rchBar F) ∗ ((bigSep Finset.univ fun i : Fin 7 => owA F c (kvSlot mKG i.succ)) ∗ (bigSep Finset.univ fun i : Fin 7 => owA F c (kvSlot mVG i.succ))
      ∗ owA F c (rsSlot 0) ∗ owA F c (rsSlot 1)) ∗ (bigSep Finset.univ fun j : Fin 7 => dutyTok ER (cell (up c (j.val + 1)) .bar) 0 j.rev))
    ⊢ bigSep Finset.univ fun j : Fin 7 => iprop(duty (F := F) (up c (j.val + 1)) .bar 0 j.rev ∗ barPay F (up c (j.val + 1)) j.rev) := by
  rw [bigSep_sep']
  iintro ⟨⟨#HR, #HB⟩, ⟨HK, HV, H0, H1⟩, HT⟩
  isplitl [HT]
  · unfold duty
    rw [bigSep_sep']
    isplitl [HT]; · iexact HT
    iapply (show rchBar F ⊢ bigSep Finset.univ fun j : Fin 7 => reached ER (cell (up c (j.val + 1)) .bar) 0 from by
      unfold rchBar; exact bigSep_intro_persistent fun i _ => bigSep_elim (Finset.mem_univ (up c (i.val + 1))))
    iexact HB
  · iapply (bar_gives c)
    isplitr [H0 H1]
    · unfold giveKV
      rw [bigSep_sep', bigSep_sep', bigSep_sep']
      isplitl [HK]; · iexact HK
      isplitl [HV]; · iexact HV
      isplitr
      · iapply (rch_all c Role.kr); iexact HR
      · iapply (rch_all c Role.vr); iexact HR
    · unfold giveRing
      isplitl [H0]; · iexact H0
      isplitl [H1]; · iexact H1
      iapply (rch_all c Role.rr); iexact HR

/-- What the sends of blocks take. -/
theorem kv_deal : iprop(rch c ∗ ((bigSep Finset.univ fun i : Fin 7 => ow c (kvSlot mKS i.succ) (blk (Γ.K c) i.succ)) ∗ (bigSep Finset.univ fun i : Fin 7 => ow c (kvSlot mVS i.succ) (blk (Γ.V c) i.succ)))
      ∗ ((bigSep Finset.univ fun i : Fin 7 => dutyTok ER (cell c (.ks i)) 0 0) ∗ (bigSep Finset.univ fun i : Fin 7 => dutyTok ER (cell c (.vs i)) 0 0))
      ∗ ((bigSep Finset.univ fun i : Fin 7 => dutyTok ER (cell (up c (i.val + 1)) (.kr i.rev)) 0 0) ∗ (bigSep Finset.univ fun i : Fin 7 => dutyTok ER (cell (up c (i.val + 1)) (.vr i.rev)) 0 0))
      ∗ bigSep Finset.univ fun i : Fin 7 => getKV (F := F) c i)
    ⊢ bigSep Finset.univ fun i : Fin 7 => iprop((ow c (kvSlot mKS i.succ) (blk (Γ.K c) i.succ) ∗ ow c (kvSlot mVS i.succ) (blk (Γ.V c) i.succ))
        ∗ (duty c (.ks i) 0 0 ∗ duty c (.vs i) 0 0)
        ∗ (dutyTok ER (cell (up c (i.val + 1)) (.kr i.rev)) 0 0 ∗ dutyTok ER (cell (up c (i.val + 1)) (.vr i.rev)) 0 0) ∗ getKV c i) := by
  rw [bigSep_sep', bigSep_sep', bigSep_sep', bigSep_sep', bigSep_sep', bigSep_sep']
  iintro ⟨#HR, HS, ⟨T1, T2⟩, HT, HG⟩
  isplitl [HS]; · iexact HS
  isplitl [T1 T2]
  · isplitl [T1]
    · iapply (duties_of c Role.ks); isplitr; · iexact HR
      iexact T1
    · iapply (duties_of c Role.vs); isplitr; · iexact HR
      iexact T2
  isplitl [HT]; · iexact HT
  iexact HG

/-- What the ring takes. -/
theorem ring_deal : iprop(rch c ∗ (bigSep Finset.univ fun t : Fin 14 => dutyTok ER (cell c (.rs t)) 0 0) ∗ (bigSep Finset.univ fun t : Fin 14 => dutyTok ER (cell (right c) (.rr t)) 0 0)
      ∗ (bigSep Finset.univ fun t : Fin 14 => cred (tallyAt (cell c (.rr t)) 0 NR)) ∗ (bigSep Finset.univ fun t : Fin 14 => atPos ER (cell c (.rr t)) 0 ∅ 0)
      ∗ (bigSep Finset.univ fun p : Fin 6 × Fin 2 => dutyTok ER (cell (left c) (.cr p.2)) p.1.val 0)
      ∗ giveRing (right c) ∗ (bigSep Finset.univ fun p : Fin 6 × Fin 2 => cred (tallyAt (cell c (.cr p.2)) p.1.val 1)))
    ⊢ bigSep Finset.univ fun t => ringA (F := F) c t := by
  unfold ringA giveRing
  rw [bigSep_sep', bigSep_sep', bigSep_sep', bigSep_sep', bigSep_sep']
  iintro ⟨#HR, T1, T2, C, A, G, ⟨H0, H1, HRR⟩, D⟩
  isplitl [T1]
  · iapply (duties_of c Role.rs); isplitr; · iexact HR
    iexact T1
  isplitl [T2 HRR]
  · unfold duty
    rw [bigSep_sep']
    isplitl [T2]; · iexact T2
    iexact HRR
  isplitl [C]; · iexact C
  isplitl [A]; · iexact A
  isplitl [G]; · iapply (giveTok_deal c); iexact G
  iapply (slotSrc_deal c)
  isplitl [H0]; · iexact H0
  isplitl [H1]; · iexact H1
  iexact D

/-- The credit cells at the start. -/
theorem crs_deal : iprop(rch c ∗ (bigSep Finset.univ fun b : Fin 2 => atPos ER (cell c (.cr b)) 0 ∅ 0)) ⊢ crs (F := F) c 0 := by
  unfold crs crAt cnt
  rw [bigSep_sep']
  iintro ⟨#HR, H⟩
  isplitl [H]; · iexact H
  iapply (rch_all c Role.cr); iexact HR

theorem crs_end : crs (F := F) c 14 ⊢ bigSep Finset.univ fun b : Fin 2 => atPos ER (cell c (.cr b)) 6 ∅ 0 := by
  unfold crs
  exact bs_mono fun b => by
    unfold crAt
    rw [show cnt b 14 = 6 by revert b; decide]
    iintro ⟨H, -⟩; iexact H

theorem in_zero (G : Dev nD → KVc F) : inBlk G c 0 = blk (G c) 0 := by
  unfold inBlk
  have h1 : up c (0 : Fin 8).val = c := by revert c; decide
  rw [h1]; rfl

/-- The blocks to come, before the loop, -/
theorem kv_start : iprop(((bigSep Finset.univ fun i : Fin 7 => cred (tallyAt (cell c (.kr i)) 0 NK)) ∗ (bigSep Finset.univ fun i : Fin 7 => cred (tallyAt (cell c (.vr i)) 0 NK)))
      ∗ (bigSep Finset.univ fun i : Fin 7 => atPos ER (cell c (.kr i)) 0 ∅ 0) ∗ (bigSep Finset.univ fun i : Fin 7 => atPos ER (cell c (.vr i)) 0 ∅ 0))
    ⊢ bigSep Finset.univ fun i => kvAt Γ c 0 i := by
  unfold kvAt
  simp only [Nat.not_lt_zero, if_false]
  rw [bigSep_sep', bigSep_sep', bigSep_sep']
  rw [bs_rev (fun i => cred (tallyAt (cell c (.kr i)) 0 NK)), bs_rev (fun i => cred (tallyAt (cell c (.vr i)) 0 NK)),
    bs_rev (fun i => atPos ER (cell c (.kr i)) 0 ∅ 0), bs_rev (fun i => atPos ER (cell c (.vr i)) 0 ∅ 0)]
  iintro ⟨⟨H1, H2⟩, H3, H4⟩
  isplitl [H1]; · iexact H1
  isplitl [H2]; · iexact H2
  isplitl [H3]; · iexact H3
  iexact H4

/-- and after it. -/
theorem kv_end : iprop((bigSep Finset.univ fun i => kvAt Γ c 8 i) ∗ slot0 Γ c)
    ⊢ iprop((owA F c mKG ∗ owA F c mVG) ∗ (bigSep Finset.univ fun i : Fin 7 => atPos ER (cell c (.kr i)) 1 ∅ 0) ∗ (bigSep Finset.univ fun i : Fin 7 => atPos ER (cell c (.vr i)) 1 ∅ 0)) := by
  have e (i : Fin 7) : kvAt Γ c 8 i = iprop(ow c (kvSlot mKG i.rev.succ) (inBlk Γ.K c i.rev.succ) ∗ ow c (kvSlot mVG i.rev.succ) (inBlk Γ.V c i.rev.succ)
      ∗ atPos ER (cell c (.kr i.rev)) 1 ∅ 0 ∗ atPos ER (cell c (.vr i.rev)) 1 ∅ 0) := by
    unfold kvAt; exact if_pos (by omega)
  simp only [e]
  rw [bigSep_sep', bigSep_sep', bigSep_sep']
  rw [bs_rev (fun i => ow c (kvSlot mKG i.succ) (inBlk Γ.K c i.succ)), bs_rev (fun i => ow c (kvSlot mVG i.succ) (inBlk Γ.V c i.succ)),
    bs_rev (fun i => atPos ER (cell c (.kr i)) 1 ∅ 0), bs_rev (fun i => atPos ER (cell c (.vr i)) 1 ∅ 0)]
  unfold slot0
  iintro ⟨⟨H1, H2, H3, H4⟩, H5, H6⟩
  isplitr [H3 H4]
  · isplitl [H1 H5]
    · iapply (slots_joinA c mKG)
      rw [bs_succ 7 (fun s : Fin 8 => owA F c (kvSlot mKG s))]
      isplitl [H5]; · iapply (ow_any c _ _); iexact H5
      iapply (bs_mono fun i => ow_any (F := F) c (kvSlot mKG (Fin.succ i)) _); iexact H1
    · iapply (slots_joinA c mVG)
      rw [bs_succ 7 (fun s : Fin 8 => owA F c (kvSlot mVG s))]
      isplitl [H6]; · iapply (ow_any c _ _); iexact H6
      iapply (bs_mono fun i => ow_any (F := F) c (kvSlot mVG (Fin.succ i)) _); iexact H2
  isplitl [H3]; · iexact H3
  iexact H4

end Cert.KernelIdeal.Hand
-- ==== Proof.Body.lean ====
/-
  The kernel of a device: all the phases together.
-/
module

public import proofs.«01_k».proof.Proof.Deal

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (Γ : Cont F) (κ : GSem nD τ sig → ℕ) (c : Dev nD)

/-- What device `c` holds before the kernel: -/
def bodyPre (q : Blk F) (W : S1024x1024.Idx → Elt F .bf16) : sProp 𝕄 :=
  iprop((Inv Γ κ ∗ rch c ∗ rchBar F) ∗ owe c (O₀ c) ∗ (bigSep Finset.univ fun ρ : Role => atPos ER (cell c ρ) 0 ∅ 0) ∗ toks c ∗ crds c
    ∗ (ow c mQ q ∗ ow c mW W ∗ owA F c mO) ∗ (ow c mKS (Γ.K c) ∗ ow c mVS (Γ.V c))
    ∗ (owA F c mKG ∗ owA F c mVG ∗ owA F c mA ∗ owA F c mML ∗ owA F c mS ∗ owA F c mB ∗ owA F c mR))
/-- and after it. -/
def bodyPost (q : Blk F) (W : S1024x1024.Idx → Elt F .bf16) : sProp 𝕄 :=
  iprop((bigSep Finset.univ fun ρ : Role => semVal (cell c ρ) 0) ∗ owe c 0
    ∗ (ow c mQ q ∗ ow c mW W ∗ ow c mO (outFn Γ.O c)) ∗ (ow c mKS (Γ.K c) ∗ ow c mVS (Γ.V c))
    ∗ (owA F c mKG ∗ owA F c mVG ∗ owA F c mA ∗ owA F c mML ∗ owA F c mS ∗ owA F c mB ∗ owA F c mR))

/-- A triple whose result is left by an update. -/
theorem Tr_upd {P Q Q' : sProp 𝕄} {p : KProg F} (h : Tr c P p Q) (hu : Q ⊢ iprop(|={Set.univ}=> Q')) : Tr c P p Q' := by
  unfold Tr at *
  exact h.trans ((wp_mono _ _ _ fun _ => hu).trans (wp_fupd _ _ _ p (fun _ => Q')))

/-- What is left over the phases to the end: positions of the cells whose waits are over. -/
theorem pos_end : iprop(atPos ER (cell c .bar) 1 ∅ 0 ∗ (atPos ER (cell c (.loc 0)) 1 ∅ 0 ∗ atPos ER (cell c (.loc 1)) 1 ∅ 0)
      ∗ (bigSep Finset.univ fun i : Fin 7 => atPos ER (cell c (.ks i)) 1 ∅ 0) ∗ (bigSep Finset.univ fun i : Fin 7 => atPos ER (cell c (.kr i)) 1 ∅ 0)
      ∗ (bigSep Finset.univ fun i : Fin 7 => atPos ER (cell c (.vs i)) 1 ∅ 0) ∗ (bigSep Finset.univ fun i : Fin 7 => atPos ER (cell c (.vr i)) 1 ∅ 0)
      ∗ (bigSep Finset.univ fun t : Fin 14 => atPos ER (cell c (.rs t)) 1 ∅ 0) ∗ (bigSep Finset.univ fun t : Fin 14 => atPos ER (cell c (.rr t)) 1 ∅ 0)
      ∗ bigSep Finset.univ fun b : Fin 2 => atPos ER (cell c (.cr b)) 6 ∅ 0)
    ⊢ (bigSep Finset.univ fun ρ : Role => atPos ER (cell c ρ) (lastR ρ) ∅ 0 : sProp 𝕄) := by
  rw [bs_role, bs_two (fun i : Fin 2 => atPos ER (cell c (.loc i)) (lastR (.loc i)) ∅ 0)]
  exact Entails.of_eq rfl

/-- The last two chunks come with the last waits. -/
theorem pays_end : (bigSep Finset.univ fun t : Fin 14 => pay Γ c 0 0 (.rs t)) ⊢ iprop(ow c (chunkM (chk c 12)) (SV Γ.O 12 c) ∗ ow c (chunkM (chk c 13)) (SV Γ.O 13 c)) :=
  (bs_last2 _).trans (Entails.of_eq rfl)
theorem keep_end : (bigSep Finset.univ fun t : Fin 14 => keepSlot (F := F) c t) ⊢ owA F c mR :=
  ((bs_last2 _).trans (Entails.of_eq rfl)).trans (rs_joinA c)

theorem slots_back {sp : Space} (m : Memref sig .tc sp S8x8x1024x128 .bf16) (G : KVc F) :
    iprop(ow c (kvSlot m 0) (blk G 0) ∗ bigSep Finset.univ fun i : Fin 7 => ow c (kvSlot m i.succ) (blk G i.succ)) ⊢ ow c m G := by
  refine BIBase.Entails.trans (Entails.of_eq ?_) (slots_join c m G)
  rw [bs_succ 7 (fun s : Fin 8 => ow c (kvSlot m s) (blk G s))]
theorem slots_open {sp : Space} (m : Memref sig .tc sp S8x8x1024x128 .bf16) (G : KVc F) :
    ow c m G ⊢ iprop(ow c (kvSlot m 0) (blk G 0) ∗ bigSep Finset.univ fun i : Fin 7 => ow c (kvSlot m i.succ) (blk G i.succ)) := by
  refine BIBase.Entails.trans (slots_split c m G) (Entails.of_eq ?_)
  rw [bs_succ 7 (fun s : Fin 8 => ow c (kvSlot m s) (blk G s))]
theorem slots_openA {sp : Space} (m : Memref sig .tc sp S8x8x1024x128 .bf16) :
    owA F c m ⊢ iprop(owA F c (kvSlot m 0) ∗ bigSep Finset.univ fun i : Fin 7 => owA F c (kvSlot m i.succ)) := by
  refine BIBase.Entails.trans (slots_splitA c m) (Entails.of_eq ?_)
  rw [bs_succ 7 (fun s : Fin 8 => owA F c (kvSlot m s))]

theorem bs_out {I : Type} [Fintype I] [DecidableEq I] (A B : I → sProp 𝕄) : (bigSep Finset.univ fun i => iprop(A i ∗ B i)) ⊢ iprop(bigSep Finset.univ A ∗ bigSep Finset.univ B) :=
  Entails.of_eq (bigSep_sep' Finset.univ A B)
theorem bs_in {I : Type} [Fintype I] [DecidableEq I] (A B : I → sProp 𝕄) : iprop(bigSep Finset.univ A ∗ bigSep Finset.univ B) ⊢ bigSep Finset.univ fun i => iprop(A i ∗ B i) :=
  Entails.of_eq (bigSep_sep' Finset.univ A B).symm

theorem ringB_split : (bigSep Finset.univ fun t => ringB (F := F) c t) ⊢ iprop((bigSep Finset.univ fun t : Fin 14 => cred (tallyAt (cell c (.rs t)) 0 NR))
    ∗ (bigSep Finset.univ fun t : Fin 14 => atPos ER (cell c (.rr t)) 1 ∅ 0) ∗ bigSep Finset.univ fun t : Fin 14 => keepSlot c t) := by
  unfold ringB
  rw [bigSep_sep', bigSep_sep']

theorem home_start : (bigSep (Finset.Ico 1 8) fun n => ow c (chunkM (chk c n)) (chunk (Γ.O c) (chk c n))) ⊢ Home Γ c 0 := by
  unfold Home
  refine Entails.of_eq (bigSep_congr fun n hn => ?_)
  have h : n ≤ 7 := by have := (Finset.mem_Ico.mp hn).2; omega
  unfold HC; rw [if_pos h]

/-- What the phases up to the loop leave for the end. -/
def midR (c : Dev nD) : sProp 𝕄 :=
  iprop(atPos ER (cell c .bar) 1 ∅ 0 ∗ (atPos ER (cell c (.loc 0)) 1 ∅ 0 ∗ atPos ER (cell c (.loc 1)) 1 ∅ 0)
    ∗ (ow c (kvSlot mKS 0) (blk (Γ.K c) 0) ∗ ow c (kvSlot mVS 0) (blk (Γ.V c) 0))
    ∗ (bigSep Finset.univ fun i : Fin 7 => iprop(cred (tallyAt (cell c (.ks i)) 0 NK) ∗ cred (tallyAt (cell c (.vs i)) 0 NK)))
    ∗ ((bigSep Finset.univ fun i : Fin 7 => atPos ER (cell c (.ks i)) 0 ∅ 0) ∗ (bigSep Finset.univ fun i : Fin 7 => atPos ER (cell c (.vs i)) 0 ∅ 0)
      ∗ (bigSep Finset.univ fun t : Fin 14 => atPos ER (cell c (.rs t)) 0 ∅ 0))
    ∗ crs c 0 ∗ bigSep Finset.univ fun t => ringA c t)

theorem tr_pre (q : Blk F) (W : S1024x1024.Idx → Elt F .bf16) :
    Tr c (bodyPre Γ κ c q W) (preProg c) iprop(loopI Γ κ c q (OR c) 0 ∗ midR Γ c ∗ ow c mW W ∗ owA F c mO) := by
  unfold Tr preProg bodyPre toks crds
  simp only [wp_bind]
  rw [bs_role (fun ρ : Role => atPos ER (cell c ρ) 0 ∅ 0)]
  rw [bs_two (fun i : Fin 2 => atPos ER (cell c (.loc i)) 0 ∅ 0), bs_two (fun i : Fin 2 => dutyTok ER (cell c (.loc i)) 0 0)]
  iintro ⟨⟨#HI, #HR, #HB⟩, HO, ⟨Abar, ⟨Al0, Al1⟩, Aks, Akr, Avs, Avr, Ars, Arr, Acr⟩, ⟨Tbar, ⟨Tl0, Tl1⟩, Tks, Tvs, Trs, Tkr, Tvr, Trr, Tcr⟩, ⟨Cbar, Ckr, Cvr, Crr, Ccr⟩, ⟨HQ, HW, HOut⟩, ⟨HKS, HVS⟩, HKG, HVG, HA, HML, HS, HBi, HRs⟩
  ihave HKS := (slots_open c mKS _) $$ HKS
  icases HKS with ⟨K0, KS⟩
  ihave HVS := (slots_open c mVS _) $$ HVS
  icases HVS with ⟨V0, VS⟩
  ihave HKG := (slots_openA c mKG) $$ HKG
  icases HKG with ⟨G0, KG⟩
  ihave HVG := (slots_openA c mVG) $$ HVG
  icases HVG with ⟨H0, VG⟩
  ihave HRs := (rs_splitA c) $$ HRs
  icases HRs with ⟨R0, R1⟩
  iapply (Tr_use (tr_bar Γ κ c) _) $$ [Tbar HO KG VG R0 R1]
  · isplitl [Tbar KG VG R0 R1]
    · iapply (bar_deal c)
      isplitr
      · isplitr; · iexact HR
        iexact HB
      isplitl [KG VG R0 R1]
      · isplitl [KG]; · iexact KG
        isplitl [VG]; · iexact VG
        isplitl [R0]; · iexact R0
        iexact R1
      iexact Tbar
    isplitr; · iexact HI
    iexact HO
  iintro ⟨-, -, HO⟩
  iapply (Tr_use (tr_waitBar Γ κ c (OK c + tailSum (barF c) 7) (by
    rw [tailSum_end]
    exact above_add (above_add (above_ring c 1 0 (by decide)) (above_kv c 1 0 (by decide))) (above_zero 1))) _) $$ [Cbar HO Abar]
  · isplitr; · iexact HI
    isplitl [Cbar]; · iexact Cbar
    isplitl [HO]; · iexact HO
    iexact Abar
  iintro ⟨HO, Abar, Hgets⟩
  ihave Hgets := (bar_gets c) $$ Hgets
  icases Hgets with ⟨HG, HRing⟩
  iapply (Tr_use (tr_locStart Γ κ c) _) $$ [K0 G0 Tl0 V0 H0 Tl1]
  · isplitr; · iexact HI
    isplitl [K0 G0 Tl0]
    · isplitl [K0]; · iexact K0
      isplitl [G0]; · iexact G0
      unfold duty
      isplitl [Tl0]; · iexact Tl0
      iapply (rch_at c (.loc 0)); iexact HR
    · isplitl [V0]; · iexact V0
      isplitl [H0]; · iexact H0
      unfold duty
      isplitl [Tl1]; · iexact Tl1
      iapply (rch_at c (.loc 1)); iexact HR
  iintro Cloc
  iapply (Tr_use (tr_kvSend Γ κ c) _) $$ [KS VS Tks Tvs Tkr Tvr HG HO]
  · isplitr [HO]
    · iapply (kv_deal Γ c)
      isplitr; · iexact HR
      isplitl [KS VS]
      · isplitl [KS]; · iexact KS
        iexact VS
      isplitl [Tks Tvs]
      · isplitl [Tks]; · iexact Tks
        iexact Tvs
      isplitl [Tkr Tvr]
      · isplitl [Tkr]; · iexact Tkr
        iexact Tvr
      iexact HG
    · isplitr; · iexact HI
      rw [tailSum_end, add_zero]
      iexact HO
  iintro ⟨Csend, -, HO⟩
  ihave HML := (halves_splitA c) $$ HML
  ihave HA := (fullA_splitA c mA) $$ HA
  iapply (Tr_use (tr_initAcc c) _) $$ [HML HA]
  · isplitl [HA]; · iexact HA
    iexact HML
  iintro HAcc
  ihave HAcc := (heads_split c) $$ HAcc
  iapply (Tr_use (tr_locWait Γ κ c (OR c + tailSum (kvF c) 7) (by
    rw [tailSum_end]; exact above_add (above_ring c 0 0 (by decide)) (above_zero 0))) _) $$ [HO Cloc Al0 Al1]
  · isplitr; · iexact HI
    isplitl [HO]; · iexact HO
    isplitl [Cloc]; · iexact Cloc
    isplitl [Al0]; · iexact Al0
    iexact Al1
  iintro ⟨HO, Al, ⟨G0, K0⟩, ⟨H0, V0⟩⟩
  isplitl [Ckr Cvr Akr Avr G0 H0 HQ HAcc HS HBi HO]
  · unfold loopI
    isplitl [Ckr Cvr Akr Avr]
    · iapply (kv_start Γ c)
      isplitl [Ckr Cvr]
      · isplitl [Ckr]; · iexact Ckr
        iexact Cvr
      isplitl [Akr]; · iexact Akr
      iexact Avr
    isplitl [G0 H0]
    · unfold slot0
      rw [in_zero, in_zero]
      isplitl [G0]; · iexact G0
      iexact H0
    isplitl [HQ HAcc]
    · rw [bigSep_sep']
      isplitl [HQ]
      · iapply (ow_split c mQ headR (fun _ _ => rfl) (fun x => x 0) head_key q); iexact HQ
      · iexact HAcc
    isplitl [HBi]; · iapply (full_splitA c mB); iexact HBi
    isplitl [HS]; · iapply (full_splitA c mS); iexact HS
    isplitr; · iexact HI
    rw [tailSum_end, add_zero]
    iexact HO
  isplitr [HW HOut]
  · unfold midR
    isplitl [Abar]; · iexact Abar
    isplitl [Al]; · iexact Al
    isplitl [K0 V0]
    · isplitl [K0]; · iexact K0
      iexact V0
    isplitl [Csend]; · iexact Csend
    isplitl [Aks Avs Ars]
    · isplitl [Aks]; · iexact Aks
      isplitl [Avs]; · iexact Avs
      iexact Ars
    isplitl [Acr]
    · iapply (crs_deal c)
      isplitr; · iexact HR
      iexact Acr
    iapply (ring_deal c)
    isplitr; · iexact HR
    isplitl [Trs]; · iexact Trs
    isplitl [Trr]; · iexact Trr
    isplitl [Crr]; · iexact Crr
    isplitl [Arr]; · iexact Arr
    isplitl [Tcr]; · iexact Tcr
    isplitl [HRing]; · iexact HRing
    iexact Ccr
  isplitl [HW]; · iexact HW
  iexact HOut

theorem tr_post (q : Blk F) (W : S1024x1024.Idx → Elt F .bf16) (hO : Γ.O c = projO (fun h => hst Γ.K Γ.V q c h 8) W 7) :
    Tr c iprop(loopI Γ κ c q (OR c) 8 ∗ midR Γ c ∗ ow c mW W ∗ owA F c mO) (postProg c) (bodyPost Γ c q W) := by
  refine Tr_upd c (Q := iprop((Inv Γ κ ∗ bigSep Finset.univ fun ρ : Role => atPos ER (cell c ρ) (lastR ρ) ∅ 0) ∗ owe c 0
    ∗ (ow c mQ q ∗ ow c mW W ∗ ow c mO (outFn Γ.O c)) ∗ (ow c mKS (Γ.K c) ∗ ow c mVS (Γ.V c))
    ∗ (owA F c mKG ∗ owA F c mVG ∗ owA F c mA ∗ owA F c mML ∗ owA F c mS ∗ owA F c mB ∗ owA F c mR))) ?_ ?_
  rotate_left
  · unfold bodyPost
    iintro ⟨HP, H⟩
    imod (close_all Γ κ c) $$ HP with HP
    imodintro
    isplitl [HP]; · iexact HP
    iexact H
  unfold Tr postProg midR loopI
  simp only [wp_bind]
  rw [bigSep_sep']
  iintro ⟨⟨HKV, HS0, ⟨HQ, HH⟩, HB, HS, #HI, HO⟩, ⟨Abar, Al, ⟨K0, V0⟩, Csend, ⟨Aks, Avs, Ars⟩, Hcr, HRA⟩, HW, HOut⟩
  ihave HKV := (kv_end Γ c) $$ [HKV HS0]
  · isplitl [HKV]; · iexact HKV
    iexact HS0
  icases HKV with ⟨⟨HKG, HVG⟩, Akr, Avr⟩
  ihave HOut := (full_splitA c mO) $$ HOut
  ihave HW := (ow_split c mW woR (fun _ _ => rfl) rowKey wo_key W) $$ HW
  ihave HP := (show iprop((bigSep Finset.univ fun h : Fin 8 => hsAt c h (hst Γ.K Γ.V q c h 8)) ∗ (bigSep Finset.univ fun h : Fin 8 => ow c (mW.slice (woR h) (fun _ => rfl)) (wHead W h)))
      ⊢ iprop(projH c (fun h => hst Γ.K Γ.V q c h 8) W 0 ∗ bigSep Finset.univ fun i : Fin 7 => projH c (fun h => hst Γ.K Γ.V q c h 8) W i.succ) from by
    rw [← bigSep_sep', ← bs_succ 7 (fun h : Fin 8 => projH c (fun h => hst Γ.K Γ.V q c h 8) W h)]
    exact Entails.of_eq rfl) $$ [HH HW]
  · isplitl [HH]; · iexact HH
    iexact HW
  icases HP with ⟨P0, PS⟩
  iapply (Tr_use (tr_projFirst c (fun h => hst Γ.K Γ.V q c h 8) W) _) $$ [P0 HOut]
  · isplitl [P0]; · iexact P0
    iexact HOut
  iintro ⟨P0, HOut⟩
  iapply (Tr_use (tr_projNext c (fun h => hst Γ.K Γ.V q c h 8) W) _) $$ [PS HOut]
  · isplitl [PS]; · iexact PS
    iexact HOut
  iintro ⟨PS, HOut⟩
  rw [← hO]
  ihave HOut := (full_join c mO _) $$ HOut
  ihave HOut := (chunks_split c _) $$ HOut
  icases HOut with ⟨HC0, HCs⟩
  iapply (Tr_use (tr_ring Γ κ c) _) $$ [HRA HO HC0 HCs Hcr]
  · isplitl [HRA]; · iexact HRA
    unfold ringS
    isplitr; · iexact HI
    isplitl [HO]; · iexact HO
    isplitl [HC0]; · iexact HC0
    isplitl [HCs]
    · iapply (home_start Γ c); iexact HCs
    iexact Hcr
  iintro ⟨HRB, HRS⟩
  ihave HRB := (ringB_split c) $$ HRB
  icases HRB with ⟨Crs, Arr, Hkeep⟩
  ihave HRS := (Entails.of_eq (show ringS Γ κ c 14 = iprop(Inv Γ κ ∗ owe c 0 ∗ ow c (chunkM (chk c 14)) (SV Γ.O 14 c) ∗ Home Γ c 14 ∗ crs c 14) from by
    unfold ringS; rw [tailSum_end])) $$ HRS
  icases HRS with ⟨-, HO, HC14, HHome, Hcr⟩
  ihave Csend := (bs_out _ _) $$ Csend
  icases Csend with ⟨Cks, Cvs⟩
  iapply (Tr_use (tr_ksWait Γ κ c) _) $$ [Cks Aks HO]
  · isplitl [Cks Aks]
    · iapply (bs_in _ _)
      isplitl [Cks]; · iexact Cks
      iexact Aks
    isplitr; · iexact HI
    iexact HO
  iintro ⟨HAX, -, HO⟩
  ihave HAX := (bs_out _ _) $$ HAX
  icases HAX with ⟨Aks, KS⟩
  iapply (Tr_use (tr_vsWait Γ κ c) _) $$ [Cvs Avs HO]
  · isplitl [Cvs Avs]
    · iapply (bs_in _ _)
      isplitl [Cvs]; · iexact Cvs
      iexact Avs
    isplitr; · iexact HI
    iexact HO
  iintro ⟨HAX, -, HO⟩
  ihave HAX := (bs_out _ _) $$ HAX
  icases HAX with ⟨Avs, VS⟩
  iapply (Tr_use (tr_rsWait Γ κ c) _) $$ [Crs Ars HO]
  · isplitl [Crs Ars]
    · iapply (bs_in _ _)
      isplitl [Crs]; · iexact Crs
      iexact Ars
    isplitr; · iexact HI
    iexact HO
  iintro ⟨HAX, -, HO⟩
  ihave HAX := (bs_out _ _) $$ HAX
  icases HAX with ⟨Ars, HPay⟩
  ihave HPay := (pays_end Γ c) $$ HPay
  isplitl [Abar Al Aks Akr Avs Avr Ars Arr Hcr]
  · isplitr; · iexact HI
    iapply (pos_end c)
    ihave Hcr := (crs_end c) $$ Hcr
    isplitl [Abar]; · iexact Abar
    isplitl [Al]; · iexact Al
    isplitl [Aks]; · iexact Aks
    isplitl [Akr]; · iexact Akr
    isplitl [Avs]; · iexact Avs
    isplitl [Avr]; · iexact Avr
    isplitl [Ars]; · iexact Ars
    isplitl [Arr]; · iexact Arr
    iexact Hcr
  isplitl [HO]; · iexact HO
  ihave HP := (show iprop(projH c (fun h => hst Γ.K Γ.V q c h 8) W 0 ∗ bigSep Finset.univ fun i : Fin 7 => projH c (fun h => hst Γ.K Γ.V q c h 8) W i.succ)
      ⊢ iprop((bigSep Finset.univ fun h : Fin 8 => hsAt c h (hst Γ.K Γ.V q c h 8)) ∗ (bigSep Finset.univ fun h : Fin 8 => ow c (mW.slice (woR h) (fun _ => rfl)) (wHead W h))) from by
    rw [← bigSep_sep', ← bs_succ 7 (fun h : Fin 8 => projH c (fun h => hst Γ.K Γ.V q c h 8) W h)]
    exact Entails.of_eq rfl) $$ [P0 PS]
  · isplitl [P0]; · iexact P0
    iexact PS
  icases HP with ⟨HH, HW⟩
  isplitl [HQ HW HPay HC14 HHome]
  · isplitl [HQ]
    · iapply (ow_join c mQ headR (fun _ _ => rfl) (fun x => x 0) head_key q); iexact HQ
    isplitl [HW]
    · iapply (ow_join c mW woR (fun _ _ => rfl) rowKey wo_key W); iexact HW
    iapply (chunks_join Γ c)
    isplitl [HHome]; · iexact HHome
    isplitl [HPay]; · iexact HPay
    iexact HC14
  isplitl [K0 KS V0 VS]
  · isplitl [K0 KS]
    · iapply (slots_back c mKS _)
      isplitl [K0]; · iexact K0
      iexact KS
    · iapply (slots_back c mVS _)
      isplitl [V0]; · iexact V0
      iexact VS
  isplitl [HKG]; · iexact HKG
  isplitl [HVG]; · iexact HVG
  ihave HH := (heads_join c (fun h => hst Γ.K Γ.V q c h 8)) $$ HH
  icases HH with ⟨HA, HML⟩
  isplitl [HA]; · iexact HA
  isplitl [HML]; · iexact HML
  isplitl [HS]; · iapply (full_joinA c mS); iexact HS
  isplitl [HB]; · iapply (full_joinA c mB); iexact HB
  iapply (keep_end c); iexact Hkeep

/-- The kernel of device `c`. -/
theorem tr_body (q : Blk F) (W : S1024x1024.Idx → Elt F .bf16) (hO : Γ.O c = projO (fun h => hst Γ.K Γ.V q c h 8) W 7) :
    Tr c (bodyPre Γ κ c q W) (bodyProg c) (bodyPost Γ c q W) := by
  unfold bodyProg
  refine Tr_seq (tr_pre Γ κ c q W) (Tr_seq (Tr_frame (tr_loop Γ κ c q (OR c) (above_ring c 2 0 (by decide))) (R := iprop(midR Γ c ∗ ow c mW W ∗ owA F c mO))) ?_)
  exact tr_post Γ κ c q W hO

end Cert.KernelIdeal.Hand
-- ==== Proof.Region.lean ====
/-
  The kernel as a step of the host program: what each device brings to it, and what it leaves.
-/
module

public import proofs.«01_k».proof.Proof.Body
public import proofs.«01_k».proof.Proof.Gen.KernelIdeal.Regions

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-! ## The scoped semaphores -/

/-- The parts whose semaphores live only while the kernel runs: all but the barrier's. -/
abbrev ORole : Type := {ρ : Role // ρ ≠ .bar}
abbrev osem (k : ORole) : SemLoc sig := semOf k.1

theorem scoped_role (ρ : Role) (h : ρ ≠ .bar) : (semOf ρ).isScoped .tc = true := by
  cases ρ with
  | bar => exact absurd rfl h
  | loc i => revert i; decide
  | ks i => revert i; decide
  | kr i => revert i; decide
  | vs i => revert i; decide
  | vr i => revert i; decide
  | rs i => revert i; decide
  | rr i => revert i; decide
  | cr i => revert i; decide

theorem stage_role : ∀ (w : Fin 3) (s : Fin (spec0 w).nbuf), roleAt (.dma ((spec0 w).sem s)) = none := by decide

theorem osem_facts : Pipeline.OwnSemFacts spec0 osem where
  isScoped k := scoped_role k.1 k.2
  inj a b h := Subtype.ext (semOf_injective h)
  disj k w s h := by
    have := congrArg roleAt h
    rw [roleAt_semOf, stage_role] at this
    exact absurd this (by simp)

theorem bs_orole (Φ : Role → sProp 𝕄) : bigSep Finset.univ Φ = iprop(Φ .bar ∗ bigSep Finset.univ fun k : ORole => Φ k.1) := by
  have h : (Finset.univ.erase Role.bar) = (Finset.univ : Finset ORole).map (Function.Embedding.subtype _) := by
    ext ρ; simp
  rw [bigSep_univ_at _ Role.bar, h, bigSep_map]; rfl

/-! ## Contents -/

variable (m : (ℓ : Loc nD τ sig) → Buf (Elt F) ℓ)

/-- The buffers before the kernel. -/
@[irreducible] def Vp (c : Dev nD) : Valuation τ sig (Elt F) := V7 m c
theorem Vp_eq (c : Dev nD) : Vp m c = V7 m c := by unfold Vp; rfl

/-- The key and value blocks each device sends, as the host left them, and the partial product each adds to the sum. -/
def cont : Cont F where
  K c := Vp m c main_v21
  V c := Vp m c main_v30
  O c := projO (fun h => hst (fun c => Vp m c main_v21) (fun c => Vp m c main_v30) (Vp m c main_v11) c h 8) (Vp m c main_v12) 7

/-- The buffers after the kernel: its result's alone is new. -/
@[irreducible] def Vk (c : Dev nD) : Valuation τ sig (Elt F) := Function.update (Vp m c) main_v31 (outFn (cont m).O c)

def outs : Gen.Outs (F := F) := fun _ r c => Vk m c r

theorem V8_eq (c : Dev nD) : V8 m (outs m) c = Vk m c := by
  show Function.update (Function.update (Function.update (V7 m c) main_v31 (Vk m c main_v31)) main_v21 (Vk m c main_v21)) main_v30 (Vk m c main_v30) = _
  rw [← Vp_eq]
  have h : Function.update (Vp m c) main_v31 (Vk m c main_v31) = Vk m c := by
    unfold Vk; rw [Function.update_self]
  rw [h, Function.update_eq_self, Function.update_eq_self]

theorem Vk_out (c : Dev nD) : Vk m c main_v31 = outFn (cont m).O c := by unfold Vk; rw [Function.update_self]
theorem Vk_of (c : Dev nD) (b : DevRef τ sig) (h : b ≠ main_v31) : Vk m c b = Vp m c b := by unfold Vk; rw [Function.update_of_ne h]

/-! ## What a device holds around the kernel -/

/-- From the launch: -/
def Tk (c : Dev nD) : sProp 𝕄 :=
  iprop((∃ κ : GSem nD τ sig → ℕ, bigSep Finset.univ fun p : Dev nD × Role => cellInv ER (Rd (cont m)) (κ (cell p.1 p.2)) (cell p.1 p.2))
    ∗ rchBar F ∗ atPos ER (cell c .bar) 0 ∅ 0 ∗ (bigSep Finset.univ fun k : ORole => openTok ER (cell c k.1)) ∗ toks c ∗ crds c)
/-- with the scoped semaphores opened: -/
def Xk (c : Dev nD) : sProp 𝕄 :=
  iprop((∃ κ : GSem nD τ sig → ℕ, Inv (cont m) κ) ∗ rch c ∗ rchBar F ∗ (bigSep Finset.univ fun ρ : Role => atPos ER (cell c ρ) 0 ∅ 0) ∗ toks c ∗ crds c)
/-- after the kernel. -/
def Yk (c : Dev nD) : sProp 𝕄 := semVal (cell c .bar) 0

theorem bs_el {I : Type} [Fintype I] [DecidableEq I] (Φ : I → sProp 𝕄) (i : I) : BIBase.Entails (bigSep Finset.univ Φ) (Φ i) := bigSep_elim (Finset.mem_univ i)

theorem open_cells (Γ : Cont F) (κ : GSem nD τ sig → ℕ) (c : Dev nD) :
    iprop((bigSep Finset.univ fun p : Dev nD × Role => cellInv ER (Rd Γ) (κ (cell p.1 p.2)) (cell p.1 p.2))
        ∗ (bigSep Finset.univ fun k : ORole => openTok ER (cell c k.1)) ∗ bigSep Finset.univ fun k : ORole => semVal (cell c k.1) 0)
      ⊢ (|={Set.univ}=> iprop((bigSep Finset.univ fun k : ORole => atPos ER (cell c k.1) 0 ∅ 0) ∗ bigSep Finset.univ fun k : ORole => reached ER (cell c k.1) 0) : sProp 𝕄) := by
  iintro ⟨#HI, HO, HS⟩
  ihave H := (bs_in (fun k : ORole => openTok ER (cell c k.1)) (fun k : ORole => semVal (cell c k.1) 0)) $$ [HO HS]
  · isplitl [HO] <;> iassumption
  ihave H := (BIBase.Entails.trans (bigSep_with_persistent (R := bigSep Finset.univ fun p : Dev nD × Role => cellInv ER (Rd Γ) (κ (cell p.1 p.2)) (cell p.1 p.2))
      (Φ := fun k : ORole => iprop(openTok ER (cell c k.1) ∗ semVal (cell c k.1) 0))
      (Ψ := fun k : ORole => iprop(|={Set.univ}=> (atPos ER (cell c k.1) 0 ∅ 0 ∗ reached ER (cell c k.1) 0))) fun k _ => by
        iintro ⟨#HI, HO⟩
        icases HO with ⟨HO, HS⟩
        iapply (Rounds.cell_open ER (Rd Γ) (g := cell c k.1) (Set.mem_univ (κ (cell c k.1))))
        isplitr; · iapply (bs_el (fun p : Dev nD × Role => cellInv ER (Rd Γ) (κ (cell p.1 p.2)) (cell p.1 p.2)) (c, k.1)); iexact HI
        isplitl [HO] <;> iassumption) (bigSep_fupd _ _)) $$ [H]
  · isplitr; · iexact HI
    iexact H
  imod H with H
  imodintro
  iapply (bs_out _ _) $$ H

theorem hopen (c : Dev nD) : iprop(Tk m c ∗ Pipeline.ownSems0 osem c ∗ levAts L lv) ⊢ (|={Set.univ}=> Xk m c : sProp 𝕄) := by
  unfold Tk Xk Pipeline.ownSems0
  rw [bs_orole (fun ρ : Role => atPos ER (cell c ρ) 0 ∅ 0)]
  iintro ⟨⟨⟨%κ, #HI⟩, #Hb, Ha, Ho, Ht, Hc⟩, HS, #HL⟩
  imod (open_cells (cont m) κ c) $$ [Ho HS] with ⟨Hat, #Hr⟩
  · isplitr; · iexact HI
    isplitl [Ho]; · iexact Ho
    iexact HS
  imodintro
  isplitr
  · iexists κ; unfold Inv
    isplitr; · iexact HI
    iexact HL
  isplitr
  · unfold rch
    iapply (Entails.of_eq (bs_orole (fun ρ : Role => reached ER (cell c ρ) 0)).symm)
    isplitr
    · unfold rchBar; iapply (bs_el (fun d : Dev nD => reached ER (cell d .bar) 0) c); iexact Hb
    · iexact Hr
  isplitr; · iexact Hb
  isplitl [Ha Hat]
  · isplitl [Ha] <;> iassumption
  isplitl [Ht] <;> iassumption

variable (F) in
/-- The kernel's scratch. -/
def scr (c : Dev nD) : sProp 𝕄 := iprop(owA F c mKG ∗ owA F c mVG ∗ owA F c mA ∗ owA F c mML ∗ owA F c mS ∗ owA F c mB ∗ owA F c mR)

def X1 (c : Dev nD) : sProp 𝕄 := iprop(Xk m c ∗ (ow c mKS ((cont m).K c) ∗ ow c mVS ((cont m).V c)) ∗ scr F c ∗ ∃ r, prngReg c r)
def Y1 (c : Dev nD) : sProp 𝕄 :=
  iprop((semVal (cell c .bar) 0 ∗ bigSep Finset.univ fun k : ORole => semVal (cell c k.1) 0) ∗ (ow c mKS ((cont m).K c) ∗ ow c mVS ((cont m).V c)) ∗ scr F c ∗ ∃ r, prngReg c r)

theorem owA_whole (c : Dev nD) (b : Ref sig .tc) :
    (owA F c (Memref.whole b) : sProp 𝕄) = iprop(∃ f : Buf (Elt F) ((c : Thread nD τ).loc b), ((c : Thread nD τ).loc b) ↦{fullShare} f) := by
  unfold owA
  exact congrArg _ (funext fun f => owns_whole (c : Thread nD τ) b fullShare f)

theorem scr_eq (c : Dev nD) : (Pipeline.scopedRest (Ix := ℕ) (Name := ℕ) (U := UU) (Lvl := ℕ) (Val := Elt F) spec0 c : sProp 𝕄) = scr F c := by
  rw [scopedRest0_eq]; unfold scr
  rw [owA_whole, owA_whole, owA_whole, owA_whole, owA_whole, owA_whole, owA_whole]

/-- The buffers the body reads by itself. -/
abbrev hsRefs : Finset (DevRef τ sig) := {Proc.devRef .tc main_v21, Proc.devRef .tc main_v30}

theorem hs_eq (c : Dev nD) (W : Valuation τ sig (Elt F)) : (StableHlo.held (c.tc : Thread nD τ) hsRefs W : sProp 𝕄)
    = iprop(ow c mKS (W main_v21) ∗ ow c mVS (W main_v30)) := by
  unfold StableHlo.held
  rw [bigSep_eq_bigSepL_of_eq [Proc.devRef .tc main_v21, Proc.devRef .tc main_v30] (by decide) (by decide)]
  rw [show (ow c mKS (W main_v21) : sProp 𝕄) = _ from owns_whole (c : Thread nD τ) main_v21 fullShare _,
    show (ow c mVS (W main_v30) : sProp 𝕄) = _ from owns_whole (c : Thread nD τ) main_v30 fullShare _]
  rfl

/-! ## The proof data -/

def dat (c : Dev nD) : Pipeline.Dat τ (Elt F) ℕ ℕ UU ℕ cfg0 c where
  A := fun | 0 => Vp m c main_v11 | 1 => Vp m c main_v12 | 2 => Vp m c main_v31 | ⟨_ + 3, h⟩ => absurd h (Nat.not_lt.2 (Nat.le_add_left _ _))
  after := fun | 0 => fun _ => Vp m c main_v11 | 1 => fun _ => Vp m c main_v12 | 2 => fun _ => outFn (cont m).O c | ⟨_ + 3, h⟩ => absurd h (Nat.not_lt.2 (Nat.le_add_left _ _))
  Φ t := if t.val = 0 then X1 m c else Y1 m c
  q _ := fullShare
  owed t := if t.val = 0 then O₀ c else 0

def pdats : (p : Fin 1) → (c : Dev nD) → Pipeline.Dat τ (Elt F) ℕ ℕ UU ℕ (cfgs p) c := fun _ c => dat m c

theorem owed_zero (c : Dev nD) : (dat m c).owed 0  = O₀ c := by
  show (if ((0 : Fin (cfg0.N + 1)).val = 0) then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem owesAt_intro (c : Dev nD) (t : Fin (cfg0.N + 1)) (O : CellTallies nD τ sig ℕ) (h : (dat m c).owed t = O) (W : Waits sig ℕ) :
    (owes (c : Thread nD τ) O W : sProp 𝕄) ⊢ ((dat m c).owesAt 0 t : sProp 𝕄) := by
  unfold Pipeline.Dat.owesAt Pipeline.owesWithin Pipeline.Dat.bound; rw [h]
  iintro HO; iexists W; isplitr; · ipureintro; exact fun _ _ => Or.inl trivial
  iexact HO
theorem owesAt_elim (c : Dev nD) (t : Fin (cfg0.N + 1)) (O : CellTallies nD τ sig ℕ) (h : (dat m c).owed t = O) :
    ((dat m c).owesAt 0 t : sProp 𝕄) ⊢ owe c O := by
  unfold Pipeline.Dat.owesAt Pipeline.owesWithin owe; rw [h]
  iintro ⟨%W, -, HO⟩; iexists W; iexact HO

theorem fetched0 {c : Dev nD} (D : Pipeline.Dat τ (Elt F) ℕ ℕ UU ℕ cfg0 c) (d) : D.fetched (0 : Fin 3) t0_0 d = D.A (0 : Fin 3) := by
  funext j
  have hm : (cfg0.win (0 : Fin 3)).moved (cfg0.grid.coords t0_0) j = true :=
    ((cfg0.win (0 : Fin 3)).moved_iff _ j).mpr fun a => (j a).isLt
  unfold Pipeline.Dat.fetched Pipeline.Window.fill; rw [dif_pos hm]
  refine congrArg (D.A (0 : Fin 3)) (funext fun a => Fin.ext ?_)
  show 0 * _ + 1 * (j a).val = (j a).val
  rw [Nat.zero_mul, Nat.zero_add, Nat.one_mul]
theorem fetched1 {c : Dev nD} (D : Pipeline.Dat τ (Elt F) ℕ ℕ UU ℕ cfg0 c) (d) : D.fetched (1 : Fin 3) t0_0 d = D.A (1 : Fin 3) := by
  funext j
  have hm : (cfg0.win (1 : Fin 3)).moved (cfg0.grid.coords t0_0) j = true :=
    ((cfg0.win (1 : Fin 3)).moved_iff _ j).mpr fun a => (j a).isLt
  unfold Pipeline.Dat.fetched Pipeline.Window.fill; rw [dif_pos hm]
  refine congrArg (D.A (1 : Fin 3)) (funext fun a => Fin.ext ?_)
  show 0 * _ + 1 * (j a).val = (j a).val
  rw [Nat.zero_mul, Nat.zero_add, Nat.one_mul]
theorem before0 (c : Dev nD) (d) : (dat m c).before (0 : Fin 3) t0_0 d = Vp m c main_v11 := by
  unfold Pipeline.Dat.before; rw [if_pos (fetch0_0 t0_0)]; exact fetched0 (dat m c) d
theorem before1 (c : Dev nD) (d) : (dat m c).before (1 : Fin 3) t0_0 d = Vp m c main_v12 := by
  unfold Pipeline.Dat.before; rw [if_pos (fetch0_1 t0_0)]; exact fetched1 (dat m c) d

theorem bodyAt_eq : bodyAt0 (F := F) t0_0 = Prog.lift .deviceId >>= bodyProg := body_eq

theorem Tr_device {c : Dev nD} {P Q : sProp 𝕄} {p : Dev nD → Prog (TpuEff nD τ sig (Elt F) Λ₀ .tc) PUnit} (h : Tr c P (p c) Q) :
    Tr c P (Prog.lift .deviceId >>= p) Q := by
  unfold Tr at h ⊢
  show P ⊢ wp frame (wpE (defs₀ (F := F)) 𝒱₀ (c : Thread nD τ) none) Set.univ (.op .deviceId p) (fun _ => Q)
  rw [wp_deviceId]; exact h

theorem cont_O (c : Dev nD) : (cont m).O c = projO (fun h => hst (cont m).K (cont m).V (Vp m c main_v11) c h 8) (Vp m c main_v12) 7 := by
  unfold cont; rfl

theorem run_any (Γ : Cont F) (κ : GSem nD τ sig → ℕ) (c : Dev nD) (q W) (hO : Γ.O c = projO (fun h => hst Γ.K Γ.V q c h 8) W 7) (R : sProp 𝕄) : Tr c
    iprop(((Inv Γ κ ∗ rch c ∗ rchBar F ∗ (bigSep Finset.univ fun ρ : Role => atPos ER (cell c ρ) 0 ∅ 0) ∗ toks c ∗ crds c)
      ∗ (ow c mKS (Γ.K c) ∗ ow c mVS (Γ.V c)) ∗ scr F c ∗ R) ∗ owe c (O₀ c) ∗ ow c mQ q ∗ ow c mW W ∗ owA F c mO) (Prog.lift .deviceId >>= bodyProg)
    iprop(((semVal (cell c .bar) 0 ∗ bigSep Finset.univ fun k : ORole => semVal (cell c k.1) 0)
      ∗ (ow c mKS (Γ.K c) ∗ ow c mVS (Γ.V c)) ∗ scr F c ∗ R) ∗ owe c 0 ∗ ow c mQ q ∗ ow c mW W ∗ ow c mO (outFn Γ.O c)) := by
  refine Tr_device ?_
  refine Tr_conseq (Tr_frame (R := R) (tr_body Γ κ c q W hO)) ?_ ?_
  · unfold bodyPre scr
    iintro ⟨⟨⟨#HI, #Hr, #Hb, Ha, Ht, Hc⟩, Hkv, Hs, Hp⟩, HO, Hq, Hw, Ho⟩
    isplitl [HO Ha Ht Hc Hq Hw Ho Hkv Hs]
    · isplitr
      · isplitr; · iexact HI
        isplitr; · iexact Hr
        iexact Hb
      isplitl [HO]; · iexact HO
      isplitl [Ha]; · iexact Ha
      isplitl [Ht]; · iexact Ht
      isplitl [Hc]; · iexact Hc
      isplitl [Hq Hw Ho]
      · isplitl [Hq]; · iexact Hq
        isplitl [Hw]; · iexact Hw
        iexact Ho
      isplitl [Hkv]; · iexact Hkv
      iexact Hs
    iexact Hp
  · unfold bodyPost scr
    rw [bs_orole (fun ρ : Role => semVal (cell c ρ) 0)]
    iintro ⟨⟨Hv, HO, ⟨Hq, Hw, Ho⟩, Hkv, Hs⟩, Hp⟩
    isplitl [Hv Hkv Hs Hp]
    · isplitl [Hv]; · iexact Hv
      isplitl [Hkv]; · iexact Hkv
      isplitl [Hs]; · iexact Hs
      iexact Hp
    isplitl [HO]; · iexact HO
    isplitl [Hq]; · iexact Hq
    isplitl [Hw]; · iexact Hw
    iexact Ho

theorem run_body (c : Dev nD) : Tr c
    iprop(X1 m c ∗ owe c (O₀ c) ∗ ow c mQ (Vp m c main_v11) ∗ ow c mW (Vp m c main_v12) ∗ owA F c mO) (bodyAt0 t0_0)
    iprop(Y1 m c ∗ owe c 0 ∗ ow c mQ (Vp m c main_v11) ∗ ow c mW (Vp m c main_v12) ∗ ow c mO (outFn (cont m).O c)) := by
  rw [bodyAt_eq]
  unfold Y1
  refine BIBase.Entails.trans ?_ (show iprop(∃ κ, _) ⊢ _ from exists_elim fun κ => run_any (cont m) κ c (Vp m c main_v11) (Vp m c main_v12) (cont_O m c) iprop(∃ r, prngReg c r))
  unfold X1 Xk
  iintro ⟨⟨⟨⟨%κ, #HI⟩, #Hr, #Hb, Ha, Ht, Hc⟩, Hkv, Hs, Hp⟩, HO, Hq, Hw, Ho⟩
  iexists κ
  isplitl [Ha Ht Hc Hkv Hs Hp]
  · isplitl [Ha Ht Hc]
    · isplitr; · iexact HI
      isplitr; · iexact Hr
      isplitr; · iexact Hb
      isplitl [Ha]; · iexact Ha
      isplitl [Ht]; · iexact Ht
      iexact Hc
    isplitl [Hkv]; · iexact Hkv
    isplitl [Hs]; · iexact Hs
    iexact Hp
  isplitl [HO]; · iexact HO
  isplitl [Hq]; · iexact Hq
  isplitl [Hw]; · iexact Hw
  iexact Ho

set_option backward.isDefEq.respectTransparency.types false in
set_option maxHeartbeats 2000000 in
theorem body (c : Dev nD) : Pipeline.BodyObligation (dat m c) defs₀ 𝒱₀ 0 Set.univ := fun t => by
  obtain rfl := fin_N0 t
  rw [bigSep_W0, bigSep_W0]
  show iprop(X1 m c ∗ (dat m c).owesAt 0 t0_0.castSucc
      ∗ ((∃ d, ow c mQ ((dat m c).before (0 : Fin 3) t0_0 d)) ∗ (∃ d, ow c mW ((dat m c).before (1 : Fin 3) t0_0 d)) ∗ (∃ d, ow c mO ((dat m c).before (2 : Fin 3) t0_0 d))))
    ⊢ wp frame (wpE (defs₀ (F := F)) 𝒱₀ (c : Thread nD τ) none) Set.univ (bodyAt0 t0_0) (fun _ => iprop(Y1 m c ∗ (dat m c).owesAt 0 t0_0.succ
      ∗ (ow c mQ (Vp m c main_v11) ∗ ow c mW (Vp m c main_v12) ∗ ow c mO (outFn (cont m).O c))))
  iintro ⟨HX, HO, ⟨%d0, Hq⟩, ⟨%d1, Hw⟩, ⟨%d2, Ho⟩⟩
  rw [before0, before1]
  ihave HO := (owesAt_elim m c t0_0.castSucc (O₀ c) (owed_zero m c)) $$ HO
  iapply (Tr_use (run_body m c) _) $$ [HX HO Hq Hw Ho]
  · isplitl [HX]; · iexact HX
    isplitl [HO]; · iexact HO
    isplitl [Hq]; · iexact Hq
    isplitl [Hw]; · iexact Hw
    unfold owA; iexists _; iexact Ho
  iintro ⟨HY, HO, Hq, Hw, Ho⟩
  unfold owe
  icases HO with ⟨%W, HO⟩
  isplitl [HY]; · iexact HY
  isplitl [HO]; · iapply (owesAt_intro m c t0_0.succ 0 (owed_last m c) W); iexact HO
  isplitl [Hq]; · iexact Hq
  isplitl [Hw]; · iexact Hw
  iexact Ho

end Cert.KernelIdeal.Hand
-- ==== Proof.HostVal.lean ====
/-
  What the host program prepares for the kernel, read element by element.
-/
module

public import proofs.«01_k».proof.Proof.SumVal
public import proofs.«01_k».proof.Proof.Region
public import Idealize.ShloMosaic.Lib.StableHlo.RunRead

@[expose] public section

noncomputable section

namespace Cert.Value

open Cert.KernelIdeal Cert.KernelIdeal.Gen Cert.KernelIdeal.Hand
open Idealize.ShloMosaic
open Idealize.ShloMosaic.TcCoe

/-! ## A list of numbers modulo 8, and a table's rows in a given order -/

/-- The remainder of each number of a list, as the host program spells it. -/
def remT (x : IVec S8 32) (b : IVec S_ 32) : IVec S8 32 :=
  have v2 : IVec S_ 32 := select (cmpi .eq b (constantI S_ 32 0#32)) (constantI S_ 32 1#32) b
  have v3 : IVec S8 32 := broadcastInDim S8 ![] bcast_S_S8 v2
  have v4 : IVec S8 32 := Host.remsi x v3
  have z : IVec S8 32 := broadcastInDim S8 ![] bcast_S_S8 (constantI S_ 32 0#32)
  select (andi (cmpi .ne (cmpi .slt v4 z) (broadcastInDim S8 ![] bcast_S_S8 (cmpi .slt v2 (constantI S_ 32 0#32)))) (cmpi .ne v4 z)) (addi v4 v3) v4

/-- The remainder of one number. -/
def remS (x : BitVec 32) : BitVec 32 :=
  have v4 : BitVec 32 := IntOp.remsi .host x 8#32
  Scalar.select (IntOp.andi (IntOp.cmpi .ne (IntOp.cmpi .slt v4 0#32) 0#1) (IntOp.cmpi .ne v4 0#32)) (IntOp.addi v4 8#32) v4

/-- The remainders of a list, read at an entry. -/
theorem remT_at (x : IVec S8 32) (k : Fin 8) : remT x (constantI S_ 32 8#32) (ix1 k) = remS (x (ix1 k)) := by
  have e : Scalar.select (IntOp.cmpi .eq 8#32 0#32) 1#32 8#32 = 8#32 := by decide
  have e' : IntOp.cmpi .slt 8#32 0#32 = 0#1 := by decide
  pointwise [remT, remS, e, e']

/-- The order as the table's rows are counted: a negative number from the end. -/
def takeIx (x : IVec S8 32) : IVec S8x1 32 :=
  broadcastInDim S8x1 ![0] bcast_S8_S8x1_0
    (select (cmpi .slt x (broadcastInDim S8 ![] bcast_S_S8 (constantI S_ 32 0#32))) (addi x (broadcastInDim S8 ![] bcast_S_S8 (constantI S_ 32 8#32))) x)

/-- Whether a number of the order is a row's. -/
def takeOk (v : IVec S8x1 32) : IVec S8x1 1 :=
  andi (cmpi .sge v (broadcastInDim S8x1 ![] bcast_S_S8x1 (constantI S_ 32 0#32)))
    (cmpi .sle v (broadcastInDim S8x1 ![0, 1] bcast_S1x1_S8x1_0_1 (broadcastInDim S1x1 ![1] bcast_S1_S1x1_1 (constantI S1 32 7#32))))

/-- The rows of a table in a given order, as the host program spells it. -/
def takeT (X : FVec Ideal S8x8x1024x128 .f32) (x : IVec S8 32) : FVec Ideal S8x8x1024x128 .f32 :=
  select (broadcastInDim S8x8x1024x128 ![0] bcast_S8_S8x8x1024x128_0 (Host.reduce IntOp.andi (takeOk (takeIx x)) (constantI S_ 1 1#1) reducesTo_S8x1_S8_d1 h_S_))
    (Host.gather gather_S8x8x1024x128_S8x1_S8x8x1024x128_123_0_n_n_0_1_181024128 X (takeIx x))
    (broadcastInDim S8x8x1024x128 ![] bcast_S_S8x8x1024x128 (constant S_ .f32 0x7FC00000#32))

/-- The gather takes whole rows of the table. -/
theorem gather_at {α : Type} (X : S8x8x1024x128.Idx → α) (idx : IVec S8x1 32) (k h : Fin 8) (i : Fin 1024) (d : Fin 128) (p : Fin 8)
    (hp : (idx (ix2 k 0)).toInt.toNat = p.val) : Host.gather gather_S8x8x1024x128_S8x1_S8x8x1024x128_123_0_n_n_0_1_181024128 X idx (ix4 k h i d) = X (ix4 p h i d) := by
  unfold Host.gather
  congr 1
  funext a
  refine Fin.ext ?_
  show GatherDims.start gather_S8x8x1024x128_S8x1_S8x8x1024x128_123_0_n_n_0_1_181024128 (ix4 k h i d) idx a + GatherDims.batchCoord gather_S8x8x1024x128_S8x1_S8x8x1024x128_123_0_n_n_0_1_181024128 (ix4 k h i d) a + GatherDims.offCoord gather_S8x8x1024x128_S8x1_S8x8x1024x128_123_0_n_n_0_1_181024128 (ix4 k h i d) a = _
  rw [GatherDims.batchCoord_eq_zero _ _ _ List.not_mem_nil, Nat.add_zero]
  have h01 : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases h01 with rfl | rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 4) ∈ GatherDims.startIndexMap gather_S8x8x1024x128_S8x1_S8x8x1024x128_123_0_n_n_0_1_181024128 from List.mem_singleton.mpr rfl)]
    have hsi : GatherDims.siIdx gather_S8x8x1024x128_S8x1_S8x8x1024x128_123_0_n_n_0_1_181024128 (ix4 k h i d) ⟨List.idxOf (0 : Fin 4) (GatherDims.startIndexMap gather_S8x8x1024x128_S8x1_S8x8x1024x128_123_0_n_n_0_1_181024128),
        List.idxOf_lt_length_iff.2 (List.mem_singleton.mpr rfl)⟩ = ix2 k 0 := by
      funext b; refine Fin.ext ?_
      match b with
      | ⟨0, _⟩ => rfl
      | ⟨1, _⟩ => rfl
    show min (idx (GatherDims.siIdx gather_S8x8x1024x128_S8x1_S8x8x1024x128_123_0_n_n_0_1_181024128 (ix4 k h i d) ⟨List.idxOf (0 : Fin 4) (GatherDims.startIndexMap gather_S8x8x1024x128_S8x1_S8x8x1024x128_123_0_n_n_0_1_181024128), _⟩)).toInt.toNat (8 - 1) = p.val
    rw [hsi, hp]
    omega
  all_goals
    unfold GatherDims.start
    rw [dif_neg (by decide)]
    rw [Nat.zero_add]
    rfl

/-- The rows in a given order, read at an element. -/
theorem takeT_at (X : FVec Ideal S8x8x1024x128 .f32) (x : IVec S8 32) (k h : Fin 8) (i : Fin 1024) (d : Fin 128) (p : Fin 8)
    (hp : x (ix1 k) = BitVec.ofNat 32 p.val) : takeT X x (ix4 k h i d) = X (ix4 p h i d) := by
  have e4 : ∀ p : Fin 8, Scalar.select (IntOp.cmpi .slt (BitVec.ofNat 32 p.val) 0#32) (IntOp.addi (BitVec.ofNat 32 p.val) 8#32) (BitVec.ofNat 32 p.val)
      = BitVec.ofNat 32 p.val := by decide +kernel
  have e5 : ∀ p : Fin 8, (BitVec.ofNat 32 p.val).toInt.toNat = p.val := by decide +kernel
  have e6 : ∀ p : Fin 8, IntOp.andi (IntOp.cmpi .sge (BitVec.ofNat 32 p.val) 0#32) (IntOp.cmpi .sle (BitVec.ofNat 32 p.val) 7#32) = 1#1 := by decide +kernel
  have h5 : takeIx x (ix2 k 0) = BitVec.ofNat 32 p.val := by
    have : takeIx x (ix2 k 0) = Scalar.select (IntOp.cmpi .slt (x (ix1 k)) 0#32) (IntOp.addi (x (ix1 k)) 8#32) (x (ix1 k)) := by
      pointwise [takeIx]
    rw [this, hp, e4]
  have h11 : takeOk (takeIx x) (ix2 k 0) = 1#1 := by
    have : takeOk (takeIx x) (ix2 k 0) = IntOp.andi (IntOp.cmpi .sge (takeIx x (ix2 k 0)) 0#32) (IntOp.cmpi .sle (takeIx x (ix2 k 0)) 7#32) := by
      pointwise [takeOk]
    rw [this, h5, e6]
  have h12 : Host.reduce IntOp.andi (takeOk (takeIx x)) (constantI S_ 1 1#1) reducesTo_S8x1_S8_d1 h_S_ (ix1 k) = 1#1 := by
    pointwise
    rw [Finset.univ_unique, Finset.fold_singleton]
    show IntOp.andi (takeOk (takeIx x) (ix2 k 0)) 1#1 = 1#1
    rw [h11]; rfl
  have h13 := gather_at X (takeIx x) k h i d p (by rw [h5, e5])
  unfold takeT
  pointwise [h12, h13]

variable (V : Valuation τ sig (Elt Ideal))

/-- The order of the keys' blocks, as remainders. -/
theorem host_rem : StableHlo.after (hostOps0_1 (F := Ideal)) V main_v19 = remT (V main_v18) (V main_c_1) := by
  after_reads_simp
  simp only [StableHlo.TRef.ofBuf_toBuf]
  rfl

/-- The keys' blocks in that order. -/
theorem host_take : StableHlo.after (hostOps0_2 (F := Ideal)) V main_v20 = takeT (V main_v15) (V main_v19) := by
  after_reads_simp
  simp only [StableHlo.TRef.ofBuf_toBuf]
  rfl

/-- The order of the values' blocks, as remainders. -/
theorem host_rem2 : StableHlo.after (hostOps0_4 (F := Ideal)) V main_v28 = remT (V main_v27) (V main_c_2) := by
  after_reads_simp
  simp only [StableHlo.TRef.ofBuf_toBuf]
  rfl

/-- The values' blocks in that order. -/
theorem host_take2 : StableHlo.after (hostOps0_5 (F := Ideal)) V main_v29 = takeT (V main_v24) (V main_v28) := by
  after_reads_simp
  simp only [StableHlo.TRef.ofBuf_toBuf]
  rfl

/-! ## The queries, the keys and the values -/

/-- A query is the product with the scaled weights. -/
theorem host_q (c : Dev nD) (h : Fin 8) (i : Fin 1024) (d : Fin 128) :
    StableHlo.after (hostOps0 (F := Ideal) c) V main_v11 (ix3 h i d)
      = (∑ e : Fin 1024, (show EReal from V main_arg0 (ix3 0 i e)) * ((show EReal from V main_arg1 (ix2 e (row h d))) * Ideal.ofBits .f32 0x3DB504F3#32) : EReal) := by
  after_reads_simp
  pointwise
  rfl

/-- The output weights are the argument. -/
theorem host_wo (c : Dev nD) : StableHlo.after (hostOps0 (F := Ideal) c) V main_v12 = V main_arg4 := by
  after_reads_simp
  rfl

/-- The head of a device's group, among all heads. -/
def head (g h : Fin 8) : Fin 64 := ⟨g.val * 8 + h.val, by omega⟩

/-- The keys, by groups of heads. -/
theorem host_k (c : Dev nD) (g h : Fin 8) (i : Fin 1024) (d : Fin 128) :
    StableHlo.after (hostOps0 (F := Ideal) c) V main_v15 (ix4 g h i d) = V main_arg2 (ix4 0 i (head g h) d) := by
  after_reads_simp
  pointwise
  rfl

/-- The values, by groups of heads. -/
theorem host_v (g h : Fin 8) (i : Fin 1024) (d : Fin 128) :
    StableHlo.after (hostOps0_3 (F := Ideal)) V main_v24 (ix4 g h i d) = V main_arg3 (ix4 0 i (head g h) d) := by
  after_reads_simp
  pointwise
  rfl

/-- The device's number. -/
theorem host_me (c : Dev nD) : StableHlo.after (hostOps0 (F := Ideal) c) V main_v4 ix0 = BitVec.ofNat 32 c.val := by
  have e : ∀ c : Dev nD, IntOp.remui .host (IntOp.divui .host c.word 1#32) 8#32 = BitVec.ofNat 32 c.val := by decide +kernel
  after_reads_simp
  exact e c

/-- The order before its remainders: the device's number and an offset. -/
theorem host_ord (c : Dev nD) (k : Fin 8) :
    StableHlo.after (hostOps0 (F := Ideal) c) V main_v18 (ix1 k) = IntOp.addi (BitVec.ofNat 32 c.val) (BitVec.ofNat 32 k.val) := by
  rw [← host_me V c]
  after_reads_simp
  pointwise

/-- The same for the values. -/
theorem host_ord2 (k : Fin 8) :
    StableHlo.after (hostOps0_3 (F := Ideal)) V main_v27 (ix1 k) = IntOp.addi (V main_v4 ix0) (BitVec.ofNat 32 k.val) := by
  after_reads_simp
  pointwise

/-- The remainder of the device's number and an offset. -/
theorem ord_val : ∀ c k : Fin 8, remS (IntOp.addi (BitVec.ofNat 32 c.val) (BitVec.ofNat 32 k.val)) = BitVec.ofNat 32 ((c.val + k.val) % 8) := by
  decide +kernel

end Cert.Value
-- ==== Proof.Segment.lean ====
/-
  The kernel as one segment of the host program.
-/
module

public import proofs.«01_k».proof.Proof.Region

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

variable (m : (ℓ : Loc nD τ sig) → Buf (Elt F) ℓ)
theorem above_O₀ (c : Dev nD) : Above 0 (O₀ c) := by
  unfold O₀
  refine above_add (above_add (above_ring c 0 0 (by omega)) (above_kv c 0 0 (by omega))) (above_tailSum _ _ _ fun i _ => ?_)
  unfold barF
  exact above_tally _ _ _ _ (by omega) (by show 0 < 1; omega)

theorem cutD (c : Dev nD) (t : Fin (cfg0.N + 1)) (g : GSem nD τ sig) (i : ℕ) (h : 0 < (dat m c).owed t g i) : i ∈ L g ∧ (0 : ℕ) < lv g i := by
  have e : (dat m c).owed t = if t.val = 0 then O₀ c else 0 := rfl
  rw [e] at h
  split at h
  · exact above_O₀ c g i h
  · exact absurd h (Nat.lt_irrefl 0)

theorem hin (c : Dev nD) : iprop(Pipeline.scopedRest (Ix := ℕ) (Name := ℕ) (U := UU) (Lvl := ℕ) (Val := Elt F) spec0 c ∗ (∃ r, prngReg c r) ∗ StableHlo.held (c.tc : Thread nD τ) hsRefs (Vp m c) ∗ Xk m c)
    ⊢ X1 m c := by
  rw [scr_eq, hs_eq]
  unfold X1
  iintro ⟨Hs, Hp, Hkv, HX⟩
  isplitl [HX]; · iexact HX
  isplitl [Hkv]; · iexact Hkv
  isplitl [Hs]; · iexact Hs
  iexact Hp

theorem hout (c : Dev nD) : Y1 m c ⊢ iprop(Pipeline.scopedRest (Ix := ℕ) (Name := ℕ) (U := UU) (Lvl := ℕ) (Val := Elt F) spec0 c ∗ (∃ r, prngReg c r) ∗ StableHlo.held (c.tc : Thread nD τ) hsRefs (Vk m c)
    ∗ Pipeline.ownSems0 osem c ∗ Yk (F := F) c) := by
  rw [scr_eq, hs_eq, Vk_of m c main_v21 (by decide), Vk_of m c main_v30 (by decide)]
  unfold Y1 Yk Pipeline.ownSems0
  iintro ⟨⟨Hb, Ho⟩, Hkv, Hs, Hp⟩
  isplitl [Hs]; · iexact Hs
  isplitl [Hp]; · iexact Hp
  isplitl [Hkv]; · iexact Hkv
  isplitl [Ho]; · iexact Ho
  iexact Hb

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers beside the kernel's three windows. -/
abbrev restRefs : Finset (DevRef τ sig) := Pipeline.ucRefs τ sig \ Pipeline.arrRefs spec0

theorem hs_sub : hsRefs ⊆ restRefs := by decide

theorem arrAt_zero {c : Dev nD} (D : Pipeline.Dat τ (Elt F) ℕ ℕ UU ℕ cfg0 c) (w : Fin 3) : D.arrAt w 0 = D.A w := rfl

theorem arr2 {c : Dev nD} (D : Pipeline.Dat τ (Elt F) ℕ ℕ UU ℕ cfg0 c) : D.arrAt (2 : Fin 3) cfg0.N = D.after (2 : Fin 3) t0_0 := by
  have h := D.arrAt_succ (2 : Fin 3) t0_0
  rw [if_pos (flush0_2 t0_0)] at h
  refine Eq.trans h ?_
  funext j
  have e : ∀ f : Buf (Elt F) ((cfg0.win (2 : Fin 3)).arr.view.loc (c.tc : Thread nD τ)), ((cfg0.win (2 : Fin 3)).blk t0_0).view.read (Elt F) f (fun a => ⟨(j a).val, (j a).isLt⟩) = f j := fun f => by
    refine congrArg f (funext fun a => Fin.ext ?_)
    show 0 * _ + 1 * (j a).val = (j a).val
    rw [Nat.zero_mul, Nat.zero_add, Nat.one_mul]
  refine (e _).symm.trans ?_
  rw [View.read_write_univ]

theorem arr0_of {c : Dev nD} (D : Pipeline.Dat τ (Elt F) ℕ ℕ UU ℕ cfg0 c) (W : Valuation τ sig (Elt F))
    (h0 : D.A (0 : Fin 3) = W main_v11) (h1 : D.A (1 : Fin 3) = W main_v12) (h2 : D.A (2 : Fin 3) = W main_v31) :
    ∀ w : Fin 3, D.arrAt w 0 = W (Proc.devRef .tc (Pipeline.arrRef spec0 w))
  | 0 => h0
  | 1 => h1
  | 2 => h2
  | ⟨_ + 3, h⟩ => absurd h (Nat.not_lt.2 (Nat.le_add_left _ _))

theorem arrN_of {c : Dev nD} (D : Pipeline.Dat τ (Elt F) ℕ ℕ UU ℕ cfg0 c) (W : Valuation τ sig (Elt F))
    (h0 : D.A (0 : Fin 3) = W main_v11) (h1 : D.A (1 : Fin 3) = W main_v12) (h2 : D.after (2 : Fin 3) t0_0 = W main_v31) :
    ∀ w : Fin 3, D.arrAt w cfg0.N = W (Proc.devRef .tc (Pipeline.arrRef spec0 w))
  | 0 => (D.arrAt_in (0 : Fin 3) rfl _).trans h0
  | 1 => (D.arrAt_in (1 : Fin 3) rfl _).trans h1
  | 2 => (arr2 D).trans h2
  | ⟨_ + 3, h⟩ => absurd h (Nat.not_lt.2 (Nat.le_add_left _ _))

theorem arr0 (c : Dev nD) (w : Fin 3) : (dat m c).arrAt w 0 = Vp m c (Proc.devRef .tc (Pipeline.arrRef spec0 w)) :=
  arr0_of (dat m c) (Vp m c) rfl rfl rfl w
theorem arrN (c : Dev nD) (w : Fin 3) : (dat m c).arrAt w cfg0.N = Vk m c (Proc.devRef .tc (Pipeline.arrRef spec0 w)) :=
  arrN_of (dat m c) (Vk m c) (Vk_of m c main_v11 (by decide)).symm (Vk_of m c main_v12 (by decide)).symm (Vk_out m c).symm w

theorem share_full (c : Dev nD) (w : Fin 3) : (dat m c).share w = fullShare := by
  unfold Pipeline.Dat.share; split <;> rfl

theorem stage_lv (c : Dev nD) (w : Fin 3) (s : Fin (spec0 w).nbuf) (ix : ℕ) : lv ((c : Thread nD τ), .dma ((spec0 w).sem s)) ix ≤ 0 := by
  unfold lv; rw [stage_role]

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem osem_facts
    hsRefs restRefs hs_sub kit0 rfl (fun c => (body m c).loose)
    (fun _ => 0) O₀ (fun c => (owed_zero m c).trans (zero_add _).symm) (owed_last m) (fun _ => rfl) (share_full m)
    (Vp m) (Vk m) (fun c b hb => Vk_of m c b (by rintro rfl; exact absurd hb (by decide)))
    (Tk m) Yk (Xk m) Yk (hopen m) (hin m) (hout m)
    (fun c => by iintro H; imodintro; iexact H)
    (fun _ => 0)
    ⟨fun c w s => Finset.mem_range.mpr (by omega), fun c w s => stage_lv c w s 0, fun c t g i h => cutD m c t g i h⟩
    (fun _ => iprop(emp))
    (arr0 m) (arrN m)

end Cert.KernelIdeal.Hand
-- ==== Proof.Launch.lean ====
/-
  The launch: the tokens and credits of all devices, dealt.
-/
module

public import proofs.«01_k».proof.Proof.Segment

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-! ## The duty tokens, dealt from the cells' owners to the devices that do the duties -/

theorem up_inj {a b : Dev nD} {k : ℕ} (h : up a k = up b k) : a = b := by
  have h : (a.val + k) % 8 = (b.val + k) % 8 := congrArg Fin.val h
  have ha : a.val < 8 := a.isLt
  have hb : b.val < 8 := b.isLt
  refine Fin.ext ?_
  omega

/-- Moving an index's owner around the ring leaves the resources of all. -/
theorem bs_around {J : Type} [Fintype J] [DecidableEq J] (k : J → ℕ) (e : J ≃ J) (Φ : Dev nD → J → sProp 𝕄) :
    (bigSep Finset.univ fun c : Dev nD => bigSep Finset.univ fun j : J => Φ (up c (k j)) (e j)) = bigSep Finset.univ fun c : Dev nD => bigSep Finset.univ fun j : J => Φ c j := by
  let σ : Dev nD × J ≃ Dev nD × J := Equiv.ofBijective (fun p => (up p.1 (k p.2), e p.2)) (Finite.injective_iff_bijective.mp (by
    rintro ⟨a, i⟩ ⟨b, j⟩ h
    obtain ⟨h1, h2⟩ := Prod.mk.inj h
    have h2 : i = j := e.injective h2
    subst h2
    exact Prod.ext (up_inj (show up a (k i) = up b (k i) from h1)) rfl))
  rw [← bigSep_univ_prod (fun p : Dev nD × J => Φ p.1 p.2), bigSep_univ_equiv σ, bigSep_univ_prod]
  rfl

/-- The tokens of the duties at a device's own cells. -/
def toksAt (c : Dev nD) : sProp 𝕄 :=
  iprop((bigSep Finset.univ fun j : Fin 7 => dutyTok ER (cell c .bar) 0 j)
    ∗ (bigSep Finset.univ fun i : Fin 2 => dutyTok ER (cell c (.loc i)) 0 0)
    ∗ (bigSep Finset.univ fun i : Fin 7 => dutyTok ER (cell c (.ks i)) 0 0)
    ∗ (bigSep Finset.univ fun i : Fin 7 => dutyTok ER (cell c (.vs i)) 0 0)
    ∗ (bigSep Finset.univ fun t : Fin 14 => dutyTok ER (cell c (.rs t)) 0 0)
    ∗ (bigSep Finset.univ fun i : Fin 7 => dutyTok ER (cell c (.kr i)) 0 0)
    ∗ (bigSep Finset.univ fun i : Fin 7 => dutyTok ER (cell c (.vr i)) 0 0)
    ∗ (bigSep Finset.univ fun t : Fin 14 => dutyTok ER (cell c (.rr t)) 0 0)
    ∗ (bigSep Finset.univ fun p : Fin 6 × Fin 2 => dutyTok ER (cell c (.cr p.2)) p.1.val 0))

theorem toks_around : (bigSep Finset.univ fun c : Dev nD => toksAt (F := F) c) = bigSep Finset.univ fun c : Dev nD => toks (F := F) c := by
  unfold toksAt toks
  simp only [bigSep_sep']
  rw [← bs_around (fun j : Fin 7 => j.val + 1) Fin.revPerm (fun c j => dutyTok ER (cell c .bar) 0 j),
    ← bs_around (fun j : Fin 7 => j.val + 1) Fin.revPerm (fun c i => dutyTok ER (cell c (.kr i)) 0 0),
    ← bs_around (fun j : Fin 7 => j.val + 1) Fin.revPerm (fun c i => dutyTok ER (cell c (.vr i)) 0 0),
    ← bs_around (fun _ : Fin 14 => 1) (Equiv.refl _) (fun c t => dutyTok ER (cell c (.rr t)) 0 0),
    ← bs_around (fun _ : Fin 6 × Fin 2 => 7) (Equiv.refl _) (fun c p => dutyTok ER (cell c (.cr p.2)) p.1.val 0)]
  rfl

/-- The duties of one device's cells. -/
abbrev TI : Type := Fin 7 ⊕ Fin 2 ⊕ Fin 7 ⊕ Fin 7 ⊕ Fin 14 ⊕ Fin 7 ⊕ Fin 7 ⊕ Fin 14 ⊕ (Fin 6 × Fin 2)
def tiOf : TI → Role × ℕ × Fin 7
  | .inl j => (.bar, 0, j)
  | .inr (.inl i) => (.loc i, 0, 0)
  | .inr (.inr (.inl i)) => (.ks i, 0, 0)
  | .inr (.inr (.inr (.inl i))) => (.vs i, 0, 0)
  | .inr (.inr (.inr (.inr (.inl t)))) => (.rs t, 0, 0)
  | .inr (.inr (.inr (.inr (.inr (.inl i))))) => (.kr i, 0, 0)
  | .inr (.inr (.inr (.inr (.inr (.inr (.inl i)))))) => (.vr i, 0, 0)
  | .inr (.inr (.inr (.inr (.inr (.inr (.inr (.inl t))))))) => (.rr t, 0, 0)
  | .inr (.inr (.inr (.inr (.inr (.inr (.inr (.inr p))))))) => (.cr p.2, p.1.val, 0)

theorem tiOf_inj : Function.Injective tiOf := by
  rintro (a | a | a | a | a | a | a | a | a) (b | b | b | b | b | b | b | b | b) h <;> simp only [tiOf, Prod.mk.injEq, reduceCtorEq, _root_.false_and] at h
  all_goals first
    | (obtain ⟨-, -, rfl⟩ := h; rfl)
    | (obtain ⟨h, -, -⟩ := h; cases h; rfl)
    | (obtain ⟨h, h', -⟩ := h
       have h := Role.cr.inj h
       exact congrArg (fun p => Sum.inr (Sum.inr (Sum.inr (Sum.inr (Sum.inr (Sum.inr (Sum.inr (Sum.inr p)))))))) (Prod.ext (Fin.ext h') h))

theorem cellPair_inj {d d' : Dev nD} {ρ σ : Role} (h : cell d ρ = cell d' σ) : d = d' ∧ ρ = σ := by
  have := cell_inj h; simpa using this

def tokEmb : Dev nD × TI ↪ GSem nD τ sig × ℕ × Fin 7 where
  toFun p := (cell p.1 (tiOf p.2).1, (tiOf p.2).2.1, (tiOf p.2).2.2)
  inj' := by
    rintro ⟨a, x⟩ ⟨b, y⟩ h
    obtain ⟨h1, h2⟩ := Prod.mk.inj h
    obtain ⟨h1, h3⟩ := cellPair_inj h1
    exact Prod.ext h1 (tiOf_inj (Prod.ext h3 h2))
def allToks : Finset (GSem nD τ sig × ℕ × Fin 7) := Finset.univ.map tokEmb

theorem toks_eq : (bigSep allToks fun x => (dutyTok ER x.1 x.2.1 x.2.2 : sProp 𝕄)) = bigSep Finset.univ fun c : Dev nD => toksAt (F := F) c := by
  unfold allToks
  rw [bigSep_map, bigSep_univ_prod]
  refine bigSep_congr fun c _ => ?_
  rw [BI.bigSep_univ_sum, BI.bigSep_univ_sum, BI.bigSep_univ_sum, BI.bigSep_univ_sum, BI.bigSep_univ_sum, BI.bigSep_univ_sum, BI.bigSep_univ_sum, BI.bigSep_univ_sum]
  rfl

/-! ## The launch credits -/

theorem tally_cell (d c : Dev nD) (ρ σ : Role) (ix u k : ℕ) : (tallyAt (cell d ρ) ix k : CellTallies nD τ sig ℕ) (cell c σ) u = if (c = d ∧ σ = ρ) ∧ u = ix then k else 0 := by
  rw [tallyAt_apply]
  refine if_congr (and_congr_left' ⟨cellPair_inj, ?_⟩) rfl rfl
  rintro ⟨rfl, rfl⟩; rfl

theorem sum_at {n : ℕ} (f : Fin n → CellTallies nD τ sig ℕ) (g : GSem nD τ sig) (u : ℕ) : (∑ i, f i) g u = ∑ i, f i g u := by
  rw [Finset.sum_apply, Finsupp.finset_sum_apply]

theorem crF_at (d c : Dev nD) (t : Fin 14) (σ : Role) (u : ℕ) :
    crF d t (cell c σ) u = if (c = left d ∧ σ = .cr (par t)) ∧ u = t.val / 2 ∧ t.val < 12 then 1 else 0 := by
  unfold crF
  by_cases h : t.val < 12
  · rw [if_pos h, tally_cell]; simp [h]
  · rw [if_neg h]; simp [h]

theorem O₀_at (d c : Dev nD) (σ : Role) (u : ℕ) : O₀ d (cell c σ) u =
    (∑ t : Fin 14, ((if (c = left d ∧ σ = .cr (par t)) ∧ u = t.val / 2 ∧ t.val < 12 then 1 else 0) + if (c = right d ∧ σ = .rr t) ∧ u = 0 then NR else 0))
    + (∑ i : Fin 7, ((if (c = up d (i.val + 1) ∧ σ = .vr i.rev) ∧ u = 0 then NK else 0) + if (c = up d (i.val + 1) ∧ σ = .kr i.rev) ∧ u = 0 then NK else 0))
    + ∑ j : Fin 7, if (c = up d (j.val + 1) ∧ σ = .bar) ∧ u = 0 then 1 else 0 := by
  unfold O₀
  rw [tailSum_zero, tailSum_zero, tailSum_zero, Pi.add_apply, Pi.add_apply, Finsupp.add_apply, Finsupp.add_apply, sum_at, sum_at, sum_at]
  refine congrArg₂ (· + ·) (congrArg₂ (· + ·) (Finset.sum_congr rfl fun t _ => ?_) (Finset.sum_congr rfl fun t _ => ?_)) (Finset.sum_congr rfl fun t _ => ?_)
  · unfold rrF
    rw [Pi.add_apply, Finsupp.add_apply, crF_at, tally_cell]
  · unfold kvF vF kF
    rw [Pi.add_apply, Finsupp.add_apply, tally_cell, tally_cell]
  · unfold barF
    rw [tally_cell]

/-- The credit that the cell of a part gets. -/
def crd (σ : Role) (u : ℕ) : ℕ := match σ with
  | .bar => if u = 0 then 7 else 0
  | .kr _ | .vr _ => if u = 0 then NK else 0
  | .rr _ => if u = 0 then NR else 0
  | .cr _ => if u < 6 then 1 else 0
  | _ => 0

theorem ite_mul_one (p : Prop) [Decidable p] (n : ℕ) : (if p then n else 0) = n * if p then 1 else 0 := by split <;> simp

theorem cnt_bar : ∀ c : Dev nD, (∑ d : Dev nD, ∑ j : Fin 7, if c = up d (j.val + 1) then 1 else 0) = 7 := by decide
theorem cnt_kv : ∀ (c : Dev nD) (k : Fin 7), (∑ d : Dev nD, ∑ i : Fin 7, if c = up d (i.val + 1) ∧ k = i.rev then 1 else 0) = 1 := by decide
theorem cnt_rr : ∀ (c : Dev nD) (t : Fin 14), (∑ d : Dev nD, ∑ i : Fin 14, if c = right d ∧ t = i then 1 else 0) = 1 := by decide
theorem cnt_cr : ∀ (c : Dev nD) (b : Fin 2) (u : Fin 6), (∑ d : Dev nD, ∑ t : Fin 14, if (c = left d ∧ b = par t) ∧ u.val = t.val / 2 ∧ t.val < 12 then 1 else 0) = 1 := by decide

theorem credit_at (c : Dev nD) (σ : Role) (u : ℕ) (h : σ = .bar ∨ (∃ i, σ = .kr i) ∨ (∃ i, σ = .vr i) ∨ (∃ i, σ = .rr i) ∨ ∃ b, σ = .cr b) :
    (∑ d : Dev nD, O₀ d (cell c σ) u) = crd σ u := by
  simp only [O₀_at]
  rcases h with rfl | ⟨k, rfl⟩ | ⟨k, rfl⟩ | ⟨k, rfl⟩ | ⟨b, rfl⟩ <;> simp only [crd, reduceCtorEq, _root_.and_false, _root_.false_and, if_false, Finset.sum_const_zero, add_zero, zero_add, _root_.and_true, Role.kr.injEq, Role.vr.injEq, Role.rr.injEq, Role.cr.injEq]
  · by_cases hu : u = 0
    · simp only [hu, _root_.and_true, if_true]; exact cnt_bar c
    · simp [hu]
  · by_cases hu : u = 0
    · simp only [hu, _root_.and_true, if_true]
      simp only [ite_mul_one _ NK, ← Finset.mul_sum]
      rw [cnt_kv, mul_one]
    · simp [hu]
  · by_cases hu : u = 0
    · simp only [hu, _root_.and_true, if_true]
      simp only [ite_mul_one _ NK, ← Finset.mul_sum]
      rw [cnt_kv, mul_one]
    · simp [hu]
  · by_cases hu : u = 0
    · simp only [hu, _root_.and_true, if_true]
      simp only [ite_mul_one _ NR, ← Finset.mul_sum]
      rw [cnt_rr, mul_one]
    · simp [hu]
  · by_cases hu : u < 6
    · rw [if_pos hu]; exact cnt_cr c b ⟨u, hu⟩
    · rw [if_neg hu]
      refine Finset.sum_eq_zero fun d _ => Finset.sum_eq_zero fun t _ => if_neg ?_
      rintro ⟨-, h, h'⟩; omega

theorem launch_one (c : Dev nD) (σ : Role) (n : ℕ) (h : σ = .bar ∨ (∃ i, σ = .kr i) ∨ (∃ i, σ = .vr i) ∨ (∃ i, σ = .rr i) ∨ ∃ b, σ = .cr b)
    (hn : ∀ u, crd σ u = if u = 0 then n else 0) :
    (tallyOn (cell c σ) (launchCredit (Pipeline.owing O₀) 0 (cell c σ)) : CellTallies nD τ sig ℕ) = tallyAt (cell c σ) 0 n := by
  unfold tallyAt; refine congrArg _ (Finsupp.ext fun u => ?_)
  rw [Pipeline.launchCredit_owing, credit_at c σ u h, hn, Finsupp.single_apply]
  exact if_congr eq_comm rfl rfl

theorem launch_cr (c : Dev nD) (b : Fin 2) :
    (tallyOn (cell c (.cr b)) (launchCredit (Pipeline.owing O₀) 0 (cell c (.cr b))) : CellTallies nD τ sig ℕ) = ∑ ix : Fin 6, tallyAt (cell c (.cr b)) ix.val 1 := by
  funext g; refine Finsupp.ext fun u => ?_
  rw [sum_at]
  by_cases hg : g = cell c (.cr b)
  · subst hg
    rw [tallyOn_self, Pipeline.launchCredit_owing, credit_at c _ u (by simp)]
    simp only [tallyAt_apply, _root_.true_and, crd]
    by_cases hu : u < 6
    · rw [if_pos hu, Finset.sum_eq_single ⟨u, hu⟩ (fun i _ hi => if_neg fun h => hi (Fin.ext h.symm)) (fun h => absurd (Finset.mem_univ _) h), if_pos rfl]
    · rw [if_neg hu]; exact (Finset.sum_eq_zero fun i _ => if_neg fun h : u = i.val => hu (h ▸ i.isLt)).symm
  · rw [tallyOn_ne hg]
    simp only [tallyAt_apply, hg, _root_.false_and, if_false, Finset.sum_const_zero]; rfl

theorem cred_sum_fin {n : ℕ} (f : Fin n → CellTallies nD τ sig ℕ) : (cred (∑ i, f i) : sProp 𝕄) = bigSep Finset.univ fun i => cred (f i) := by
  suffices h : ∀ s : Finset (Fin n), (cred (∑ i ∈ s, f i) : sProp 𝕄) = bigSep s fun i => cred (f i) from h _
  intro s
  induction s using Finset.induction_on with
  | empty => rw [Finset.sum_empty, cred_zero]; rfl
  | insert a s ha ih =>
    rw [Finset.sum_insert ha, bigSep_insert ha, ← ih]
    exact BI.Entails.antisymm (cred_add _ _).1 (cred_add _ _).2

theorem creds (c : Dev nD) : (Pipeline.launchCred O₀ c : sProp 𝕄) ⊢ crds (F := F) c := by
  unfold Pipeline.launchCred
  refine BIBase.Entails.trans (bigSep_subset (t := Finset.univ.map ⟨semOf, semOf_injective⟩) (Finset.subset_univ _)) ?_
  rw [bigSep_map]
  show (bigSep Finset.univ fun ρ : Role => cred (tallyOn (cell c ρ) (launchCredit (Pipeline.owing O₀) 0 (cell c ρ)))) ⊢ _
  rw [bs_role (fun ρ : Role => cred (tallyOn (cell c ρ) (launchCredit (Pipeline.owing O₀) 0 (cell c ρ)))), launch_one c .bar 7 (by simp) (fun u => rfl)]
  have hk : (bigSep Finset.univ fun i : Fin 7 => (cred (tallyAt (cell c (.kr i)) 0 NK) : sProp 𝕄)) = bigSep Finset.univ fun i : Fin 7 => cred (tallyOn (cell c (.kr i)) (launchCredit (Pipeline.owing O₀) 0 (cell c (.kr i)))) :=
    bigSep_congr fun i _ => by rw [launch_one c (.kr i) NK (by simp) (fun u => rfl)]
  have hv : (bigSep Finset.univ fun i : Fin 7 => (cred (tallyAt (cell c (.vr i)) 0 NK) : sProp 𝕄)) = bigSep Finset.univ fun i : Fin 7 => cred (tallyOn (cell c (.vr i)) (launchCredit (Pipeline.owing O₀) 0 (cell c (.vr i)))) :=
    bigSep_congr fun i _ => by rw [launch_one c (.vr i) NK (by simp) (fun u => rfl)]
  have hr : (bigSep Finset.univ fun i : Fin 14 => (cred (tallyAt (cell c (.rr i)) 0 NR) : sProp 𝕄)) = bigSep Finset.univ fun i : Fin 14 => cred (tallyOn (cell c (.rr i)) (launchCredit (Pipeline.owing O₀) 0 (cell c (.rr i)))) :=
    bigSep_congr fun i _ => by rw [launch_one c (.rr i) NR (by simp) (fun u => rfl)]
  have hc : (bigSep Finset.univ fun b : Fin 2 => bigSep Finset.univ fun ix : Fin 6 => (cred (tallyAt (cell c (.cr b)) ix.val 1) : sProp 𝕄)) = bigSep Finset.univ fun i : Fin 2 => cred (tallyOn (cell c (.cr i)) (launchCredit (Pipeline.owing O₀) 0 (cell c (.cr i)))) :=
    bigSep_congr fun i _ => by rw [launch_cr c i, cred_sum_fin]
  have hx : (bigSep Finset.univ fun p : Fin 6 × Fin 2 => (cred (tallyAt (cell c (.cr p.2)) p.1.val 1) : sProp 𝕄))
      = bigSep Finset.univ fun b : Fin 2 => bigSep Finset.univ fun ix : Fin 6 => cred (tallyAt (cell c (.cr b)) ix.val 1) := by
    rw [bigSep_univ_equiv (Equiv.prodComm (Fin 2) (Fin 6)), bigSep_univ_prod]; rfl
  unfold crds
  rw [hx, hk, hv, hr, hc]
  iintro ⟨H1, -, -, H2, -, H3, -, H4, H5⟩
  isplitl [H1]; · iexact H1
  isplitl [H2]; · iexact H2
  isplitl [H3]; · iexact H3
  isplitl [H4]; · iexact H4
  iexact H5

end Cert.KernelIdeal.Hand
-- ==== Proof.Run.lean ====
/-
  The run of the whole program.
-/
module

public import proofs.«01_k».proof.Proof.Launch

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig ℕ (Elt F) ℕ UU ℕ

/-! ## The cells -/

def barEmb : Dev nD ↪ GSem nD τ sig := ⟨fun d => cell d .bar, fun _ _ h => (cellPair_inj h).1⟩
def scEmb : Dev nD × ORole ↪ GSem nD τ sig := ⟨fun p => cell p.1 p.2.1, fun a b h => Prod.ext (cellPair_inj h).1 (Subtype.ext (cellPair_inj h).2)⟩
def barCells : Finset (GSem nD τ sig) := Finset.univ.map barEmb
def scCells : Finset (GSem nD τ sig) := Finset.univ.map scEmb
theorem disj_cells : Disjoint barCells scCells := by
  rw [Finset.disjoint_left]
  intro g h h'
  obtain ⟨d, -, rfl⟩ := Finset.mem_map.mp h
  obtain ⟨⟨e, k⟩, -, he⟩ := Finset.mem_map.mp h'
  exact k.2 (cellPair_inj he).2

def u₀ : UU := (initOf (Pipeline.cells cfgs cellOf_inj) (Pipeline.launchToks cfgs cellOf_inj), launchOf barCells scCells allToks)

/-- All the cells' launch state, at one device. -/
def G (c : Dev nD) : sProp 𝕄 := if c = 0 then BI.own (ER (launchOf barCells scCells allToks)) else BI.emp

theorem bs_G : (bigSep Finset.univ fun c : Dev nD => G (F := F) c) = BI.own (ER (launchOf barCells scCells allToks)) := by
  rw [bigSep_univ_at _ (0 : Dev nD), bigSep_congr (s := Finset.univ.erase (0 : Dev nD)) (Ψ := fun _ => BI.emp) fun c hc => by
    unfold G; rw [if_neg (Finset.ne_of_mem_erase hc)], BI.bigSep_emp_const]
  unfold G; rw [if_pos rfl]; exact BI.equiv_iff.mp sep_emp

theorem bs_dev_role (Φ : Dev nD × Role → sProp 𝕄) : bigSep Finset.univ Φ
    = iprop((bigSep Finset.univ fun d : Dev nD => Φ (d, .bar)) ∗ bigSep Finset.univ fun d : Dev nD => bigSep Finset.univ fun k : ORole => Φ (d, k.1)) := by
  rw [bigSep_univ_prod, bigSep_congr (s := Finset.univ) fun d _ => bs_orole (fun ρ : Role => Φ (d, ρ)), bigSep_sep']

theorem bs_bar (Φ : GSem nD τ sig → sProp 𝕄) : bigSep barCells Φ = bigSep Finset.univ fun d : Dev nD => Φ (cell d .bar) := by
  unfold barCells; rw [bigSep_map]; rfl
theorem bs_sc (Φ : GSem nD τ sig → sProp 𝕄) : bigSep scCells Φ = bigSep Finset.univ fun d : Dev nD => bigSep Finset.univ fun k : ORole => Φ (cell d k.1) := by
  unfold scCells; rw [bigSep_map, bigSep_univ_prod]; rfl

/-- The cells funded and everything dealt. -/
theorem fund (Γ : Cont F) : iprop((bigSep Finset.univ fun c : Dev nD => semVal (cell c .bar) 0) ∗ bigSep Finset.univ fun c : Dev nD => G (F := F) c)
    ⊢ (|={Set.univ}=> iprop((∃ κ : GSem nD τ sig → ℕ, bigSep Finset.univ fun p : Dev nD × Role => cellInv ER (Rd Γ) (κ (cell p.1 p.2)) (cell p.1 p.2))
      ∗ rchBar F ∗ (bigSep Finset.univ fun c : Dev nD => atPos ER (cell c .bar) 0 ∅ 0)
      ∗ (bigSep Finset.univ fun c : Dev nD => bigSep Finset.univ fun k : ORole => openTok ER (cell c k.1)) ∗ bigSep Finset.univ fun c : Dev nD => toks (F := F) c) : sProp 𝕄) := by
  rw [bs_G, ← bs_bar (fun g => semVal g 0)]
  refine BIBase.Entails.trans (Rounds.fund_launch ER (Rd Γ) disj_cells (fun g _ h => h) allToks (Es := Set.univ)) ?_
  rw [bs_bar (fun g => reached ER g 0), bs_bar (fun g => atPos ER g 0 ∅ 0), bs_sc (fun g => openTok ER g), toks_eq, toks_around]
  iintro H
  imod H with ⟨%κ, -, #Hi, #Hr, Ha, Ho, Ht⟩
  imodintro
  isplitr
  · iexists κ
    iapply (Entails.of_eq (by rw [bs_dev_role (fun p : Dev nD × Role => cellInv ER (Rd Γ) (κ (cell p.1 p.2)) (cell p.1 p.2)), bigSep_union disj_cells,
      bs_bar (fun g => cellInv ER (Rd Γ) (κ g) g), bs_sc (fun g => cellInv ER (Rd Γ) (κ g) g)]; rfl : (bigSep (barCells ∪ scCells) fun g => cellInv ER (Rd Γ) (κ g) g) = bigSep Finset.univ fun p : Dev nD × Role => cellInv ER (Rd Γ) (κ (cell p.1 p.2)) (cell p.1 p.2)))
    iexact Hi
  isplitr; · unfold rchBar; iexact Hr
  isplitl [Ha]; · iexact Ha
  isplitl [Ho]; · iexact Ho
  iexact Ht

/-! ## The run -/

variable (m : (ℓ : Loc nD τ sig) → Buf (Elt F) ℓ)

/-- The rights to open a device's scoped cells. -/
def openTok_all (c : Dev nD) : sProp 𝕄 := bigSep Finset.univ fun k : ORole => openTok ER (cell c k.1)

/-- What a device holds beside its buffers, before and after the kernel. -/
def E : Fin 2 → Dev nD → sProp 𝕄
  | 0, c => iprop((∃ r, prngReg c r) ∗ Tk m c ∗ ∃ W, owes (c : Thread nD τ) (O₀ c) W)
  | 1, c => iprop(Yk (F := F) c ∗ ∃ W, owes (c : Thread nD τ) (0 : CellTallies nD τ sig ℕ) W)

theorem deal (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E m 0) : sProp 𝕄) := by
  have h1 : (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop((semVal (cell c .bar) 0 ∗ G (F := F) c) ∗ (crds (F := F) c ∗ (∃ r, prngReg c r) ∗ ∃ W, owes (c : Thread nD τ) (O₀ c) W)) : sProp 𝕄) :=
    bs_mono fun c => by
      unfold unscopedSems0
      rw [show (Finset.univ.filter fun sm : SemLoc sig => ¬ sm.isScoped .tc) = {SemLoc.reg barS} from by decide, bigSep_singleton]
      iintro ⟨Hs, HO, Hc, Hp, HG⟩
      ihave Hc := (creds (F := F) c) $$ Hc
      isplitl [Hs HG]
      · isplitl [Hs]; · iexact Hs
        iexact HG
      isplitl [Hc]; · iexact Hc
      isplitl [Hp]; · iexists _; iexact Hp
      iexists _; iexact HO
  iintro ⟨H, -⟩
  ihave H := h1 $$ H
  ihave H := (bs_out (fun c : Dev nD => iprop(semVal (cell c .bar) 0 ∗ G (F := F) c)) (fun c : Dev nD => iprop(crds (F := F) c ∗ (∃ r, prngReg c r) ∗ ∃ W, owes (c : Thread nD τ) (O₀ c) W))) $$ H
  icases H with ⟨H1, H2⟩
  ihave H1 := (bs_out (fun c : Dev nD => semVal (cell c .bar) 0) (fun c : Dev nD => G (F := F) c)) $$ H1
  imod (fund (cont m)) $$ H1 with ⟨⟨%κ, #Hi⟩, #Hr, Ha, Ho, Ht⟩
  imodintro
  ihave H := (bs_in (fun c : Dev nD => openTok_all (F := F) c) (fun c : Dev nD => toks (F := F) c)) $$ [Ho Ht]
  · isplitl [Ho]; · iexact Ho
    iexact Ht
  ihave H := (bs_in (fun c : Dev nD => atPos ER (cell c .bar) 0 ∅ 0) _) $$ [Ha H]
  · isplitl [Ha]; · iexact Ha
    iexact H
  ihave H := (bs_in _ (fun c : Dev nD => iprop(crds (F := F) c ∗ (∃ r, prngReg c r) ∗ ∃ W, owes (c : Thread nD τ) (O₀ c) W))) $$ [H H2]
  · isplitl [H]; · iexact H
    iexact H2
  iapply (bigSep_with_persistent (R := iprop((bigSep Finset.univ fun p : Dev nD × Role => cellInv ER (Rd (cont m)) (κ (cell p.1 p.2)) (cell p.1 p.2)) ∗ rchBar F))
    (Φ := fun c : Dev nD => iprop((atPos ER (cell c .bar) 0 ∅ 0 ∗ openTok_all (F := F) c ∗ toks (F := F) c) ∗ (crds (F := F) c ∗ (∃ r, prngReg c r) ∗ ∃ W, owes (c : Thread nD τ) (O₀ c) W)))
    (Ψ := fun c : Dev nD => E m 0 c) fun c _ => by
      show _ ⊢ iprop((∃ r, prngReg c r) ∗ Tk m c ∗ ∃ W, owes (c : Thread nD τ) (O₀ c) W)
      unfold Tk openTok_all
      iintro ⟨⟨#Hi, #Hr⟩, ⟨Ha, Ho, Ht⟩, Hc, Hp, HO⟩
      isplitl [Hp]; · iexact Hp
      isplitr [HO]
      · isplitr; · iexists κ; iexact Hi
        isplitr; · iexact Hr
        isplitl [Ha]; · iexact Ha
        isplitl [Ho]; · iexact Ho
        isplitl [Ht]; · iexact Ht
        iexact Hc
      iexact HO)
  isplitr
  · isplitr; · iexact Hi
    iexact Hr
  iexact H

theorem uc_split (c : Dev nD) (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) restRefs W) :=
  StableHlo.held_sub_split (c.tc : Thread nD τ) (Pipeline.arrRefs_sub_ucRefs spec0 (by decide)) W

theorem pre0 (c : Dev nD) : iprop(StableHlo.held (c : Thread nD τ) (Pipeline.ucRefs τ sig) (V7 m c) ∗ E m 0 c) ⊢ (reg0 m).pre c := by
  rw [← Vp_eq]
  show _ ⊢ iprop(StableHlo.held (c.tc : Thread nD τ) (Pipeline.arrRefs spec0) (Vp m c) ∗ (∃ r, prngReg c r)
    ∗ (StableHlo.held (c.tc : Thread nD τ) restRefs (Vp m c) ∗ emp) ∗ Tk m c ∗ ∃ W, owes (c : Thread nD τ) (0 + O₀ c) W)
  rw [zero_add, uc_split]
  show iprop(_ ∗ ((∃ r, prngReg c r) ∗ Tk m c ∗ ∃ W, owes (c : Thread nD τ) (O₀ c) W)) ⊢ _
  iintro ⟨⟨H1, H2⟩, Hp, HT, HO⟩
  isplitl [H1]; · iexact H1
  isplitl [Hp]; · iexact Hp
  isplitl [H2]
  · isplitl [H2]; · iexact H2
    iempintro
  isplitl [HT]; · iexact HT
  iexact HO

theorem post0 (c : Dev nD) : (reg0 m).post c ⊢ iprop(StableHlo.held (c : Thread nD τ) (Pipeline.ucRefs τ sig) (V8 m (outs m) c) ∗ E m 1 c) := by
  rw [V8_eq]
  show iprop(StableHlo.held (c.tc : Thread nD τ) (Pipeline.arrRefs spec0) (Vk m c) ∗ (∃ r, prngReg c r)
    ∗ (StableHlo.held (c.tc : Thread nD τ) restRefs (Vk m c) ∗ emp) ∗ Yk c ∗ ∃ W, owes (c : Thread nD τ) 0 W) ⊢ _
  rw [uc_split]
  show _ ⊢ iprop(_ ∗ (Yk c ∗ ∃ W, owes (c : Thread nD τ) (0 : CellTallies nD τ sig ℕ) W))
  iintro ⟨H1, -, ⟨H2, -⟩, HY, HO⟩
  isplitl [H1 H2]
  · isplitl [H1]; · iexact H1
    iexact H2
  isplitl [HY]; · iexact HY
  iexact HO

theorem unscoped_eq : ∀ sm : SemLoc sig, sm.isScoped .tc = false → sm = .reg barS := by decide

/-- The buffers at the end. -/
def Vend (c : Dev nD) : Valuation τ sig (Elt F) := V9 m (outs m) c

def Tn (c : Dev nD) : sProp 𝕄 := iprop(StableHlo.held (c : Thread nD τ) (Pipeline.ucRefs τ sig) (Vend m c) ∗ semVal (cell c .bar) 0)

theorem end0 (c : Dev nD) : iprop(StableHlo.held (c : Thread nD τ) (Pipeline.ucRefs τ sig) (V9 m (outs m) c) ∗ E m 1 c) ⊢ iprop(Tn m c ∗ ∃ W, owes (c : Thread nD τ) (0 : CellTallies nD τ sig ℕ) W) := by
  show iprop(_ ∗ (Yk c ∗ ∃ W, owes (c : Thread nD τ) (0 : CellTallies nD τ sig ℕ) W)) ⊢ _
  unfold Tn Vend Yk
  iintro ⟨H, HY, HO⟩
  isplitl [H HY]
  · isplitl [H]; · iexact H
    iexact HY
  iexact HO

open Idealize.ShloMosaic.Pipeline in
set_option backward.isDefEq.respectTransparency.types false in
/-- Every execution ends, with every semaphore at zero and every buffer of the host at its last contents. -/
theorem run_all (ρ : Dev nD → PrngReg) : θ_run defs (onTc (τ := τ) (main (F := F))) ⟨m, fun _ => 0, ρ⟩
    (fun r => (∀ c : Dev nD, ∀ b ∈ Pipeline.ucRefs τ sig, r.2.mem (c, b) = Vend m c b) ∧ r.2.sem = fun _ => 0) := by
  refine Pipeline.θ_run_regions_kit_dev_sems (pcfgs (F := F)) adm (pdats m) 0 cellOf_inj EP defs₀ 𝒱₀ L lv m ρ main
    (segs m (outs m) 𝒱₀ L lv (E m) 0 (pdats m) (reg0 m))
    (fun c Q => by
      rewrite [main_chain c, Seg.run_eq_chain,
        show (segs m (outs m) 𝒱₀ L lv (E m) 0 (pdats m) (reg0 m) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne (G (F := F)) u₀
    (by
      unfold u₀
      iintro Hu
      ihave H := (ownU_pair _ _) $$ Hu
      icases H with ⟨HP, HX⟩
      imodintro
      isplitl [HP]; · iexact HP
      rw [bs_G]; iexact HX)
    (T₀ := fun c => iprop(StableHlo.held (c : Thread nD τ) (Pipeline.ucRefs τ sig) (V0 m c) ∗ E m 0 c))
    (Tₙ := Tn m)
    (hch := fun c => ⟨.rfl, .rfl, .rfl, .rfl, .rfl, .rfl, .rfl, pre0 m c, post0 m c, end0 m c⟩)
    (hinit := ?_) (QY := fun c s => (∀ b ∈ Pipeline.ucRefs τ sig, s.mem (c, b) = Vend m c b) ∧ s.sem (cell c .bar) = 0)
    (hfin := fun c s' => ?_) (hQ := fun s h hs => ?_)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c)) : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (deal m ρ) $$ [Hr Hla] with HE
    · isplitl [Hr]; · iexact Hr
      iexact Hla
    imodintro
    rw [bigSep_sep']
    isplitl [Hh]; · iexact Hh
    iexact HE
  · unfold Tn StableHlo.held
    iintro ⟨⟨Hh, Hb⟩, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    icombine HSI Hb gives %hb
    imodintro
    isplitr
    · ipureintro
      exact ⟨fun b hb' => h b hb', by simpa using hb⟩
    · iexact HSI
  · exact ⟨fun c => (h c).1, sem_eq_zero hs fun c sm hsm => by
      obtain rfl := unscoped_eq sm hsm
      exact (h c).2⟩

end Cert.KernelIdeal.Hand
-- ==== Proof.ChainVal.lean ====
/-
  What the launch of a device is given, in terms of the device's arguments, and what the program leaves as its
  result.
-/
module

public import proofs.«01_k».proof.Proof.HostVal
public import proofs.«01_k».proof.Proof.Run
public import Idealize.ShloMosaic.Lib.StableHlo.RunRead
public import Idealize.ShloMosaic.Lib.Pointwise

@[expose] public section

noncomputable section

namespace Cert.Value

open Cert.KernelIdeal Cert.KernelIdeal.Gen Cert.KernelIdeal.Hand
open Idealize.ShloMosaic
open Idealize.ShloMosaic.TcCoe

variable (m : (ℓ : Loc nD τ sig) → Buf (Elt Ideal) ℓ) (c : Dev nD)

/-- Block `k` of the keys is for the device `k` places on. -/
theorem order1 (k : Fin 8) : V2 m c main_v19 (ix1 k) = BitVec.ofNat 32 ((c.val + k.val) % 8) := by
  show StableHlo.after hostOps0_1 (V1 m c) main_v19 (ix1 k) = _
  have e : V1 m c main_c_1 = constantI S_ 32 8#32 := by
    show StableHlo.after (hostOps0 c) (V0 m c) main_c_1 = _
    after_reads_simp
  rw [host_rem, e, remT_at]
  exact (congrArg remS (host_ord (V0 m c) c k)).trans (ord_val c k)

/-- Block `o` of a device's keys: the heads of the device `o` places on. -/
theorem keys_at (o h : Fin 8) (j : Fin 1024) (d : Fin 128) :
    Vp m c main_v21 (ix4 o h j d) = V0 m c main_arg2 (ix4 0 j (head (c + o) h) d) := by
  rw [Vp_eq, V7_of m c main_v21 (by decide), V6_of m c main_v21 (by decide), V5_of m c main_v21 (by decide)]
  have e : V4 m c main_v21 = V3 m c main_v20 := by
    show StableHlo.after hostOps0_3 (V3 m c) main_v21 = _
    after_reads_simp
    rfl
  rw [e]
  show StableHlo.after hostOps0_2 (V2 m c) main_v20 (ix4 o h j d) = _
  rw [host_take, takeT_at _ _ o h j d (c + o) (order1 m c o), V2_of m c main_v15 (by decide)]
  exact host_k (V0 m c) c (c + o) h j d

/-- Block `k` of the values is for the device `k` places on. -/
theorem order2 (k : Fin 8) : V5 m c main_v28 (ix1 k) = BitVec.ofNat 32 ((c.val + k.val) % 8) := by
  show StableHlo.after hostOps0_4 (V4 m c) main_v28 (ix1 k) = _
  have e : V4 m c main_c_2 = constantI S_ 32 8#32 := by
    show StableHlo.after hostOps0_3 (V3 m c) main_c_2 = _
    after_reads_simp
  have e4 : V3 m c main_v4 ix0 = BitVec.ofNat 32 c.val := by
    rw [V3_of m c main_v4 (by decide), V2_of m c main_v4 (by decide)]
    exact host_me (V0 m c) c
  rw [host_rem2, e, remT_at]
  refine (congrArg remS (host_ord2 (V3 m c) k)).trans ?_
  rw [e4]
  exact ord_val c k

/-- Block `o` of a device's values: the heads of the device `o` places on. -/
theorem vals_at (o h : Fin 8) (j : Fin 1024) (d : Fin 128) :
    Vp m c main_v30 (ix4 o h j d) = V0 m c main_arg3 (ix4 0 j (head (c + o) h) d) := by
  rw [Vp_eq]
  have e : V7 m c main_v30 = V6 m c main_v29 := by
    show StableHlo.after hostOps0_6 (V6 m c) main_v30 = _
    after_reads_simp
    rfl
  rw [e]
  show StableHlo.after hostOps0_5 (V5 m c) main_v29 (ix4 o h j d) = _
  rw [host_take2, takeT_at _ _ o h j d (c + o) (order2 m c o), V5_of m c main_v24 (by decide)]
  refine (host_v (V3 m c) (c + o) h j d).trans ?_
  rw [V3_of m c main_arg3 (by decide), V2_of m c main_arg3 (by decide), V1_of m c main_arg3 (by decide)]

/-- The queries of the launch. -/
theorem query_at (h : Fin 8) (i : Fin 1024) (d : Fin 128) :
    Vp m c main_v11 (ix3 h i d)
      = (∑ e : Fin 1024, (show EReal from V0 m c main_arg0 (ix3 0 i e)) * ((show EReal from V0 m c main_arg1 (ix2 e (row h d))) * Ideal.ofBits .f32 0x3DB504F3#32) : EReal) := by
  rw [Vp_eq, V7_of m c main_v11 (by decide), V6_of m c main_v11 (by decide), V5_of m c main_v11 (by decide), V4_of m c main_v11 (by decide),
    V3_of m c main_v11 (by decide), V2_of m c main_v11 (by decide)]
  exact host_q (V0 m c) c h i d

/-- The output weights of the launch. -/
theorem wo_val : Vp m c main_v12 = V0 m c main_arg4 := by
  rw [Vp_eq, V7_of m c main_v12 (by decide), V6_of m c main_v12 (by decide), V5_of m c main_v12 (by decide), V4_of m c main_v12 (by decide),
    V3_of m c main_v12 (by decide), V2_of m c main_v12 (by decide)]
  exact host_wo (V0 m c) c

/-- The program's result is the launch's, with a unit axis before it. -/
theorem result_at (i o : Fin 1024) : Vend m c main_v32 (ix3 0 i o) = outFn (cont m).O c (ix2 i o) := by
  have e : Vend m c main_v32 = shapeCast S1x1024x1024 (outFn (F := Ideal) (cont m).O c) shapeCasts_S1024x1024_S1x1024x1024 := by
    show StableHlo.after hostOps1 (V8 m (outs m) c) main_v32 = _
    rw [V8_eq]
    after_reads_simp
    rw [Vk_out]
    rfl
  rw [e]
  pointwise

end Cert.Value
-- ==== Proof.RefRun.lean ====
/-
  The run of the reference program on its one device: a straight line of whole-array operations, cut here into
  thirteen stretches (a called helper is a stretch of its own), and the theorem that it ends with every buffer at
  the fold of those operations over the contents it started from.
-/
module

public import proofs.«01_k».proof.Proof.Gen.ReferenceIdeal
public import proofs.«01_k».proof.Defs
public import Idealize.ShloMosaic.Lib.StableHlo.Run
public import Idealize.ShloMosaic.Lib.StableHlo.RunRead
public import Idealize.ShloMosaic.Lib.Claim

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- Operations of stretch 0: the projection of the queries, and the query positions. -/
abbrev ops0 : List (HloOp τ sig (Elt F)) :=
  [ binary main_arg0 main_arg1 main_v0 ((fun l r => Host.dotGeneral dot_S1x1024x1024_S1024x8192_S1x1024x8192_2_0_01_1_n_n none l r) : (⟨S1x1024x1024, .f32⟩ : BufTy).Contents (Elt F) → (⟨S1024x8192, .f32⟩ : BufTy).Contents (Elt F) → (⟨S1x1024x8192, .f32⟩ : BufTy).Contents (Elt F)),
    reshape main_v0 main_v1 (rfl : (.f32 : EltTy) = .f32) shapeCasts_S1x1024x8192_S1x1024x64x128,
    nullary main_v2 (iotaInDim S1024 32 0),
    nullary main_c (constantI S_ 32 64#32) ]

/-- The buffers that stretch 0 writes, in order. -/
abbrev outs0 : List (Ref sig .tc) :=
  [main_v0, main_v1, main_v2, main_c]

theorem ops0_sub : (ops0 : List (HloOp τ sig (Elt F))).Forall fun op => op.bufs ⊆ tcRefs τ sig :=
  ⟨binary_bufs_sub .., reshape_bufs_sub .., nullary_bufs_sub .., nullary_bufs_sub ..⟩

theorem ops0_fresh : ∀ op ∈ (ops0 : List (HloOp τ sig (Elt F))), op.fresh = ∅ := by
  intro _ h; (repeat (cases h with | head => rfl | tail _ h => ?_)); exact nomatch h

theorem ops0_writes : (ops0 : List (HloOp τ sig (Elt F))).map HloOp.writes = outs0.map fun w => {Proc.devRef (τ := τ) .tc w} := rfl

/-- Operations of stretch 1: the block of a query position. -/
abbrev ops1 : List (HloOp τ sig (Elt F)) :=
  [ TRef.unary (.of main_c : TRef sig ⟨S_, .i32⟩) (.of main_call0_v0 : TRef sig ⟨S_, .i32⟩) id,
    TRef.unary (.of main_call0_v0 : TRef sig ⟨S_, .i32⟩) (.of main_call0_v1 : TRef sig ⟨S1024, .i32⟩) (broadcastInDim S1024 ![] bcast_S_S1024),
    TRef.binary (.of main_v2 : TRef sig ⟨S1024, .i32⟩) (.of main_call0_v1 : TRef sig ⟨S1024, .i32⟩) (.of main_call0_v2 : TRef sig ⟨S1024, .i32⟩) Host.divsi,
    TRef.unary (.of main_v2 : TRef sig ⟨S1024, .i32⟩) (.of main_call0_v3 : TRef sig ⟨S1024, .i32⟩) signi,
    TRef.unary (.of main_call0_v0 : TRef sig ⟨S_, .i32⟩) (.of main_call0_v4 : TRef sig ⟨S_, .i32⟩) signi,
    TRef.unary (.of main_call0_v4 : TRef sig ⟨S_, .i32⟩) (.of main_call0_v5 : TRef sig ⟨S1024, .i32⟩) (broadcastInDim S1024 ![] bcast_S_S1024),
    TRef.binary (.of main_call0_v3 : TRef sig ⟨S1024, .i32⟩) (.of main_call0_v5 : TRef sig ⟨S1024, .i32⟩) (.of main_call0_v6 : TRef sig ⟨S1024, .i1⟩) (cmpi .ne),
    TRef.unary (.of main_call0_v0 : TRef sig ⟨S_, .i32⟩) (.of main_call0_v7 : TRef sig ⟨S1024, .i32⟩) (broadcastInDim S1024 ![] bcast_S_S1024),
    TRef.binary (.of main_v2 : TRef sig ⟨S1024, .i32⟩) (.of main_call0_v7 : TRef sig ⟨S1024, .i32⟩) (.of main_call0_v8 : TRef sig ⟨S1024, .i32⟩) Host.remsi,
    TRef.nullary (.of main_call0_c : TRef sig ⟨S_, .i32⟩) (constantI S_ 32 0#32),
    TRef.unary (.of main_call0_c : TRef sig ⟨S_, .i32⟩) (.of main_call0_v9 : TRef sig ⟨S1024, .i32⟩) (broadcastInDim S1024 ![] bcast_S_S1024),
    TRef.binary (.of main_call0_v8 : TRef sig ⟨S1024, .i32⟩) (.of main_call0_v9 : TRef sig ⟨S1024, .i32⟩) (.of main_call0_v10 : TRef sig ⟨S1024, .i1⟩) (cmpi .ne),
    TRef.binary (.of main_call0_v6 : TRef sig ⟨S1024, .i1⟩) (.of main_call0_v10 : TRef sig ⟨S1024, .i1⟩) (.of main_call0_v11 : TRef sig ⟨S1024, .i1⟩) andi,
    TRef.nullary (.of main_call0_c_0 : TRef sig ⟨S_, .i32⟩) (constantI S_ 32 1#32),
    TRef.unary (.of main_call0_c_0 : TRef sig ⟨S_, .i32⟩) (.of main_call0_v12 : TRef sig ⟨S1024, .i32⟩) (broadcastInDim S1024 ![] bcast_S_S1024),
    TRef.binary (.of main_call0_v2 : TRef sig ⟨S1024, .i32⟩) (.of main_call0_v12 : TRef sig ⟨S1024, .i32⟩) (.of main_call0_v13 : TRef sig ⟨S1024, .i32⟩) subi,
    TRef.ternary (.of main_call0_v11 : TRef sig ⟨S1024, .i1⟩) (.of main_call0_v13 : TRef sig ⟨S1024, .i32⟩) (.of main_call0_v2 : TRef sig ⟨S1024, .i32⟩) (.of main_v3 : TRef sig ⟨S1024, .i32⟩) select ]

/-- The buffers that stretch 1 writes, in order. -/
abbrev outs1 : List (Ref sig .tc) :=
  [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v3]

theorem ops1_sub : (ops1 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem ops1_fresh : ∀ op ∈ (ops1 : List (HloOp τ sig (Elt F))), op.fresh = ∅ := by
  intro _ h; (repeat (cases h with | head => rfl | tail _ h => ?_)); exact nomatch h

theorem ops1_writes : (ops1 : List (HloOp τ sig (Elt F))).map HloOp.writes = outs1.map fun w => {Proc.devRef (τ := τ) .tc w} := rfl

/-- Operations of stretch 2: the key positions. -/
abbrev ops2 : List (HloOp τ sig (Elt F)) :=
  [ unary main_v3 main_v4 (broadcastInDim S1024x1 ![0] bcast_S1024_S1024x1_0 : (⟨S1024, .i32⟩ : BufTy).Contents (Elt F) → (⟨S1024x1, .i32⟩ : BufTy).Contents (Elt F)),
    nullary main_v5 (iotaInDim S8192 32 0),
    nullary main_c_0 (constantI S_ 32 64#32) ]

/-- The buffers that stretch 2 writes, in order. -/
abbrev outs2 : List (Ref sig .tc) :=
  [main_v4, main_v5, main_c_0]

theorem ops2_sub : (ops2 : List (HloOp τ sig (Elt F))).Forall fun op => op.bufs ⊆ tcRefs τ sig :=
  ⟨unary_bufs_sub .., nullary_bufs_sub .., nullary_bufs_sub ..⟩

theorem ops2_fresh : ∀ op ∈ (ops2 : List (HloOp τ sig (Elt F))), op.fresh = ∅ := by
  intro _ h; (repeat (cases h with | head => rfl | tail _ h => ?_)); exact nomatch h

theorem ops2_writes : (ops2 : List (HloOp τ sig (Elt F))).map HloOp.writes = outs2.map fun w => {Proc.devRef (τ := τ) .tc w} := rfl

/-- Operations of stretch 3: the block of a key position. -/
abbrev ops3 : List (HloOp τ sig (Elt F)) :=
  [ TRef.unary (.of main_c_0 : TRef sig ⟨S_, .i32⟩) (.of main_call1_v0 : TRef sig ⟨S_, .i32⟩) id,
    TRef.unary (.of main_call1_v0 : TRef sig ⟨S_, .i32⟩) (.of main_call1_v1 : TRef sig ⟨S8192, .i32⟩) (broadcastInDim S8192 ![] bcast_S_S8192),
    TRef.binary (.of main_v5 : TRef sig ⟨S8192, .i32⟩) (.of main_call1_v1 : TRef sig ⟨S8192, .i32⟩) (.of main_call1_v2 : TRef sig ⟨S8192, .i32⟩) Host.divsi,
    TRef.unary (.of main_v5 : TRef sig ⟨S8192, .i32⟩) (.of main_call1_v3 : TRef sig ⟨S8192, .i32⟩) signi,
    TRef.unary (.of main_call1_v0 : TRef sig ⟨S_, .i32⟩) (.of main_call1_v4 : TRef sig ⟨S_, .i32⟩) signi,
    TRef.unary (.of main_call1_v4 : TRef sig ⟨S_, .i32⟩) (.of main_call1_v5 : TRef sig ⟨S8192, .i32⟩) (broadcastInDim S8192 ![] bcast_S_S8192),
    TRef.binary (.of main_call1_v3 : TRef sig ⟨S8192, .i32⟩) (.of main_call1_v5 : TRef sig ⟨S8192, .i32⟩) (.of main_call1_v6 : TRef sig ⟨S8192, .i1⟩) (cmpi .ne),
    TRef.unary (.of main_call1_v0 : TRef sig ⟨S_, .i32⟩) (.of main_call1_v7 : TRef sig ⟨S8192, .i32⟩) (broadcastInDim S8192 ![] bcast_S_S8192),
    TRef.binary (.of main_v5 : TRef sig ⟨S8192, .i32⟩) (.of main_call1_v7 : TRef sig ⟨S8192, .i32⟩) (.of main_call1_v8 : TRef sig ⟨S8192, .i32⟩) Host.remsi,
    TRef.nullary (.of main_call1_c : TRef sig ⟨S_, .i32⟩) (constantI S_ 32 0#32),
    TRef.unary (.of main_call1_c : TRef sig ⟨S_, .i32⟩) (.of main_call1_v9 : TRef sig ⟨S8192, .i32⟩) (broadcastInDim S8192 ![] bcast_S_S8192),
    TRef.binary (.of main_call1_v8 : TRef sig ⟨S8192, .i32⟩) (.of main_call1_v9 : TRef sig ⟨S8192, .i32⟩) (.of main_call1_v10 : TRef sig ⟨S8192, .i1⟩) (cmpi .ne),
    TRef.binary (.of main_call1_v6 : TRef sig ⟨S8192, .i1⟩) (.of main_call1_v10 : TRef sig ⟨S8192, .i1⟩) (.of main_call1_v11 : TRef sig ⟨S8192, .i1⟩) andi,
    TRef.nullary (.of main_call1_c_0 : TRef sig ⟨S_, .i32⟩) (constantI S_ 32 1#32),
    TRef.unary (.of main_call1_c_0 : TRef sig ⟨S_, .i32⟩) (.of main_call1_v12 : TRef sig ⟨S8192, .i32⟩) (broadcastInDim S8192 ![] bcast_S_S8192),
    TRef.binary (.of main_call1_v2 : TRef sig ⟨S8192, .i32⟩) (.of main_call1_v12 : TRef sig ⟨S8192, .i32⟩) (.of main_call1_v13 : TRef sig ⟨S8192, .i32⟩) subi,
    TRef.ternary (.of main_call1_v11 : TRef sig ⟨S8192, .i1⟩) (.of main_call1_v13 : TRef sig ⟨S8192, .i32⟩) (.of main_call1_v2 : TRef sig ⟨S8192, .i32⟩) (.of main_v6 : TRef sig ⟨S8192, .i32⟩) select ]

/-- The buffers that stretch 3 writes, in order. -/
abbrev outs3 : List (Ref sig .tc) :=
  [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v6]

theorem ops3_sub : (ops3 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem ops3_fresh : ∀ op ∈ (ops3 : List (HloOp τ sig (Elt F))), op.fresh = ∅ := by
  intro _ h; (repeat (cases h with | head => rfl | tail _ h => ?_)); exact nomatch h

theorem ops3_writes : (ops3 : List (HloOp τ sig (Elt F))).map HloOp.writes = outs3.map fun w => {Proc.devRef (τ := τ) .tc w} := rfl

/-- Operations of stretch 4: which pairs share a block or begin the keys. -/
abbrev ops4 : List (HloOp τ sig (Elt F)) :=
  [ unary main_v6 main_v7 (broadcastInDim S1x8192 ![1] bcast_S8192_S1x8192_1 : (⟨S8192, .i32⟩ : BufTy).Contents (Elt F) → (⟨S1x8192, .i32⟩ : BufTy).Contents (Elt F)),
    unary main_v4 main_v8 (broadcastInDim S1024x8192 ![0, 1] bcast_S1024x1_S1024x8192_0_1 : (⟨S1024x1, .i32⟩ : BufTy).Contents (Elt F) → (⟨S1024x8192, .i32⟩ : BufTy).Contents (Elt F)),
    unary main_v7 main_v9 (broadcastInDim S1024x8192 ![0, 1] bcast_S1x8192_S1024x8192_0_1 : (⟨S1x8192, .i32⟩ : BufTy).Contents (Elt F) → (⟨S1024x8192, .i32⟩ : BufTy).Contents (Elt F)),
    binary main_v8 main_v9 main_v10 (cmpi .eq : (⟨S1024x8192, .i32⟩ : BufTy).Contents (Elt F) → (⟨S1024x8192, .i32⟩ : BufTy).Contents (Elt F) → (⟨S1024x8192, .i1⟩ : BufTy).Contents (Elt F)),
    nullary main_c_1 (constantI S_ 32 0#32),
    unary main_c_1 main_v11 (broadcastInDim S1x8192 ![] bcast_S_S1x8192 : (⟨S_, .i32⟩ : BufTy).Contents (Elt F) → (⟨S1x8192, .i32⟩ : BufTy).Contents (Elt F)),
    binary main_v7 main_v11 main_v12 (cmpi .eq : (⟨S1x8192, .i32⟩ : BufTy).Contents (Elt F) → (⟨S1x8192, .i32⟩ : BufTy).Contents (Elt F) → (⟨S1x8192, .i1⟩ : BufTy).Contents (Elt F)),
    unary main_v12 main_v13 (broadcastInDim S1024x8192 ![0, 1] bcast_S1x8192_S1024x8192_0_1 : (⟨S1x8192, .i1⟩ : BufTy).Contents (Elt F) → (⟨S1024x8192, .i1⟩ : BufTy).Contents (Elt F)),
    binary main_v10 main_v13 main_v14 (ori : (⟨S1024x8192, .i1⟩ : BufTy).Contents (Elt F) → (⟨S1024x8192, .i1⟩ : BufTy).Contents (Elt F) → (⟨S1024x8192, .i1⟩ : BufTy).Contents (Elt F)),
    unary main_v4 main_v15 (broadcastInDim S1024x8192 ![0, 1] bcast_S1024x1_S1024x8192_0_1 : (⟨S1024x1, .i32⟩ : BufTy).Contents (Elt F) → (⟨S1024x8192, .i32⟩ : BufTy).Contents (Elt F)),
    unary main_v7 main_v16 (broadcastInDim S1024x8192 ![0, 1] bcast_S1x8192_S1024x8192_0_1 : (⟨S1x8192, .i32⟩ : BufTy).Contents (Elt F) → (⟨S1024x8192, .i32⟩ : BufTy).Contents (Elt F)),
    binary main_v15 main_v16 main_v17 (addi : (⟨S1024x8192, .i32⟩ : BufTy).Contents (Elt F) → (⟨S1024x8192, .i32⟩ : BufTy).Contents (Elt F) → (⟨S1024x8192, .i32⟩ : BufTy).Contents (Elt F)),
    nullary main_c_2 (constantI S_ 32 3#32) ]

/-- The buffers that stretch 4 writes, in order. -/
abbrev outs4 : List (Ref sig .tc) :=
  [main_v7, main_v8, main_v9, main_v10, main_c_1, main_v11, main_v12, main_v13, main_v14, main_v15, main_v16, main_v17, main_c_2]

theorem ops4_sub : (ops4 : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub ..⟩

theorem ops4_fresh : ∀ op ∈ (ops4 : List (HloOp τ sig (Elt F))), op.fresh = ∅ := by
  intro _ h; (repeat (cases h with | head => rfl | tail _ h => ?_)); exact nomatch h

theorem ops4_writes : (ops4 : List (HloOp τ sig (Elt F))).map HloOp.writes = outs4.map fun w => {Proc.devRef (τ := τ) .tc w} := rfl

/-- Operations of stretch 5: the sum of the blocks modulo three. -/
abbrev ops5 : List (HloOp τ sig (Elt F)) :=
  [ TRef.unary (.of main_c_2 : TRef sig ⟨S_, .i32⟩) (.of main_call2_v0 : TRef sig ⟨S_, .i32⟩) id,
    TRef.nullary (.of main_call2_c : TRef sig ⟨S_, .i32⟩) (constantI S_ 32 0#32),
    TRef.binary (.of main_call2_v0 : TRef sig ⟨S_, .i32⟩) (.of main_call2_c : TRef sig ⟨S_, .i32⟩) (.of main_call2_v1 : TRef sig ⟨S_, .i1⟩) (cmpi .eq),
    TRef.nullary (.of main_call2_c_0 : TRef sig ⟨S_, .i32⟩) (constantI S_ 32 1#32),
    TRef.ternary (.of main_call2_v1 : TRef sig ⟨S_, .i1⟩) (.of main_call2_c_0 : TRef sig ⟨S_, .i32⟩) (.of main_call2_v0 : TRef sig ⟨S_, .i32⟩) (.of main_call2_v2 : TRef sig ⟨S_, .i32⟩) select,
    TRef.unary (.of main_call2_v2 : TRef sig ⟨S_, .i32⟩) (.of main_call2_v3 : TRef sig ⟨S1024x8192, .i32⟩) (broadcastInDim S1024x8192 ![] bcast_S_S1024x8192),
    TRef.binary (.of main_v17 : TRef sig ⟨S1024x8192, .i32⟩) (.of main_call2_v3 : TRef sig ⟨S1024x8192, .i32⟩) (.of main_call2_v4 : TRef sig ⟨S1024x8192, .i32⟩) Host.remsi,
    TRef.nullary (.of main_call2_c_1 : TRef sig ⟨S_, .i32⟩) (constantI S_ 32 0#32),
    TRef.unary (.of main_call2_c_1 : TRef sig ⟨S_, .i32⟩) (.of main_call2_v5 : TRef sig ⟨S1024x8192, .i32⟩) (broadcastInDim S1024x8192 ![] bcast_S_S1024x8192),
    TRef.binary (.of main_call2_v4 : TRef sig ⟨S1024x8192, .i32⟩) (.of main_call2_v5 : TRef sig ⟨S1024x8192, .i32⟩) (.of main_call2_v6 : TRef sig ⟨S1024x8192, .i1⟩) (cmpi .ne),
    TRef.nullary (.of main_call2_c_2 : TRef sig ⟨S_, .i32⟩) (constantI S_ 32 0#32),
    TRef.unary (.of main_call2_c_2 : TRef sig ⟨S_, .i32⟩) (.of main_call2_v7 : TRef sig ⟨S1024x8192, .i32⟩) (broadcastInDim S1024x8192 ![] bcast_S_S1024x8192),
    TRef.binary (.of main_call2_v4 : TRef sig ⟨S1024x8192, .i32⟩) (.of main_call2_v7 : TRef sig ⟨S1024x8192, .i32⟩) (.of main_call2_v8 : TRef sig ⟨S1024x8192, .i1⟩) (cmpi .slt),
    TRef.nullary (.of main_call2_c_3 : TRef sig ⟨S_, .i32⟩) (constantI S_ 32 0#32),
    TRef.binary (.of main_call2_v2 : TRef sig ⟨S_, .i32⟩) (.of main_call2_c_3 : TRef sig ⟨S_, .i32⟩) (.of main_call2_v9 : TRef sig ⟨S_, .i1⟩) (cmpi .slt),
    TRef.unary (.of main_call2_v9 : TRef sig ⟨S_, .i1⟩) (.of main_call2_v10 : TRef sig ⟨S1024x8192, .i1⟩) (broadcastInDim S1024x8192 ![] bcast_S_S1024x8192),
    TRef.binary (.of main_call2_v8 : TRef sig ⟨S1024x8192, .i1⟩) (.of main_call2_v10 : TRef sig ⟨S1024x8192, .i1⟩) (.of main_call2_v11 : TRef sig ⟨S1024x8192, .i1⟩) (cmpi .ne),
    TRef.binary (.of main_call2_v11 : TRef sig ⟨S1024x8192, .i1⟩) (.of main_call2_v6 : TRef sig ⟨S1024x8192, .i1⟩) (.of main_call2_v12 : TRef sig ⟨S1024x8192, .i1⟩) andi,
    TRef.unary (.of main_call2_v2 : TRef sig ⟨S_, .i32⟩) (.of main_call2_v13 : TRef sig ⟨S1024x8192, .i32⟩) (broadcastInDim S1024x8192 ![] bcast_S_S1024x8192),
    TRef.binary (.of main_call2_v4 : TRef sig ⟨S1024x8192, .i32⟩) (.of main_call2_v13 : TRef sig ⟨S1024x8192, .i32⟩) (.of main_call2_v14 : TRef sig ⟨S1024x8192, .i32⟩) addi,
    TRef.ternary (.of main_call2_v12 : TRef sig ⟨S1024x8192, .i1⟩) (.of main_call2_v14 : TRef sig ⟨S1024x8192, .i32⟩) (.of main_call2_v4 : TRef sig ⟨S1024x8192, .i32⟩) (.of main_v18 : TRef sig ⟨S1024x8192, .i32⟩) select ]

/-- The buffers that stretch 5 writes, in order. -/
abbrev outs5 : List (Ref sig .tc) :=
  [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v18]

theorem ops5_sub : (ops5 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem ops5_fresh : ∀ op ∈ (ops5 : List (HloOp τ sig (Elt F))), op.fresh = ∅ := by
  intro _ h; (repeat (cases h with | head => rfl | tail _ h => ?_)); exact nomatch h

theorem ops5_writes : (ops5 : List (HloOp τ sig (Elt F))).map HloOp.writes = outs5.map fun w => {Proc.devRef (τ := τ) .tc w} := rfl

/-- Operations of stretch 6: the mask and the scaled scores. -/
abbrev ops6 : List (HloOp τ sig (Elt F)) :=
  [ nullary main_c_3 (constantI S_ 32 0#32),
    unary main_c_3 main_v19 (broadcastInDim S1024x8192 ![] bcast_S_S1024x8192 : (⟨S_, .i32⟩ : BufTy).Contents (Elt F) → (⟨S1024x8192, .i32⟩ : BufTy).Contents (Elt F)),
    binary main_v18 main_v19 main_v20 (cmpi .eq : (⟨S1024x8192, .i32⟩ : BufTy).Contents (Elt F) → (⟨S1024x8192, .i32⟩ : BufTy).Contents (Elt F) → (⟨S1024x8192, .i1⟩ : BufTy).Contents (Elt F)),
    binary main_v14 main_v20 main_v21 (ori : (⟨S1024x8192, .i1⟩ : BufTy).Contents (Elt F) → (⟨S1024x8192, .i1⟩ : BufTy).Contents (Elt F) → (⟨S1024x8192, .i1⟩ : BufTy).Contents (Elt F)),
    binary main_v1 main_arg2 main_v22 ((fun l r => Host.dotGeneral dot_S1x1024x64x128_S1x8192x64x128_S1x64x1024x8192_3_3_1_1_02_02 none l r) : (⟨S1x1024x64x128, .f32⟩ : BufTy).Contents (Elt F) → (⟨S1x8192x64x128, .f32⟩ : BufTy).Contents (Elt F) → (⟨S1x64x1024x8192, .f32⟩ : BufTy).Contents (Elt F)),
    nullary main_cst (constant S_ .f32 0x3DB504F3#32),
    unary main_cst main_v23 (broadcastInDim S1x64x1024x8192 ![] bcast_S_S1x64x1024x8192 : (⟨S_, .f32⟩ : BufTy).Contents (Elt F) → (⟨S1x64x1024x8192, .f32⟩ : BufTy).Contents (Elt F)),
    binary main_v22 main_v23 main_v24 (mulf : (⟨S1x64x1024x8192, .f32⟩ : BufTy).Contents (Elt F) → (⟨S1x64x1024x8192, .f32⟩ : BufTy).Contents (Elt F) → (⟨S1x64x1024x8192, .f32⟩ : BufTy).Contents (Elt F)),
    unary main_v21 main_v25 (broadcastInDim S1x1x1024x8192 ![2, 3] bcast_S1024x8192_S1x1x1024x8192_2_3 : (⟨S1024x8192, .i1⟩ : BufTy).Contents (Elt F) → (⟨S1x1x1024x8192, .i1⟩ : BufTy).Contents (Elt F)),
    nullary main_cst_4 (constant S_ .f32 0xFF800000#32) ]

/-- The buffers that stretch 6 writes, in order. -/
abbrev outs6 : List (Ref sig .tc) :=
  [main_c_3, main_v19, main_v20, main_v21, main_v22, main_cst, main_v23, main_v24, main_v25, main_cst_4]

theorem ops6_sub : (ops6 : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., unary_bufs_sub .., nullary_bufs_sub ..⟩

theorem ops6_fresh : ∀ op ∈ (ops6 : List (HloOp τ sig (Elt F))), op.fresh = ∅ := by
  intro _ h; (repeat (cases h with | head => rfl | tail _ h => ?_)); exact nomatch h

theorem ops6_writes : (ops6 : List (HloOp τ sig (Elt F))).map HloOp.writes = outs6.map fun w => {Proc.devRef (τ := τ) .tc w} := rfl

/-- Operations of stretch 7: the masked scores. -/
abbrev ops7 : List (HloOp τ sig (Elt F)) :=
  [ TRef.unary (.of main_cst_4 : TRef sig ⟨S_, .f32⟩) (.of main_call3_v0 : TRef sig ⟨S_, .f32⟩) id,
    TRef.unary (.of main_v25 : TRef sig ⟨S1x1x1024x8192, .i1⟩) (.of main_call3_v1 : TRef sig ⟨S1x64x1024x8192, .i1⟩) (broadcastInDim S1x64x1024x8192 ![0, 1, 2, 3] bcast_S1x1x1024x8192_S1x64x1024x8192_0_1_2_3),
    TRef.unary (.of main_call3_v0 : TRef sig ⟨S_, .f32⟩) (.of main_call3_v2 : TRef sig ⟨S1x64x1024x8192, .f32⟩) (broadcastInDim S1x64x1024x8192 ![] bcast_S_S1x64x1024x8192),
    TRef.ternary (.of main_call3_v1 : TRef sig ⟨S1x64x1024x8192, .i1⟩) (.of main_v24 : TRef sig ⟨S1x64x1024x8192, .f32⟩) (.of main_call3_v2 : TRef sig ⟨S1x64x1024x8192, .f32⟩) (.of main_v26 : TRef sig ⟨S1x64x1024x8192, .f32⟩) select ]

/-- The buffers that stretch 7 writes, in order. -/
abbrev outs7 : List (Ref sig .tc) :=
  [main_call3_v0, main_call3_v1, main_call3_v2, main_v26]

theorem ops7_sub : (ops7 : List (HloOp τ sig (Elt F))).Forall fun op => op.bufs ⊆ tcRefs τ sig :=
  ⟨unary_bufs_sub .., unary_bufs_sub .., unary_bufs_sub .., ternary_bufs_sub ..⟩

theorem ops7_fresh : ∀ op ∈ (ops7 : List (HloOp τ sig (Elt F))), op.fresh = ∅ := by
  intro _ h; (repeat (cases h with | head => rfl | tail _ h => ?_)); exact nomatch h

theorem ops7_writes : (ops7 : List (HloOp τ sig (Elt F))).map HloOp.writes = outs7.map fun w => {Proc.devRef (τ := τ) .tc w} := rfl

/-- Operations of stretch 8: the weights and their sums. -/
abbrev ops8 : List (HloOp τ sig (Elt F)) :=
  [ nullary main_cst_5 (constant S_ .f32 0xFF800000#32),
    binary main_v26 main_cst_5 main_v27 ((fun x v => Host.reduce FloatOps.maximumf x v reducesTo_S1x64x1024x8192_S1x64x1024_d3 h_S_) : (⟨S1x64x1024x8192, .f32⟩ : BufTy).Contents (Elt F) → (⟨S_, .f32⟩ : BufTy).Contents (Elt F) → (⟨S1x64x1024, .f32⟩ : BufTy).Contents (Elt F)),
    unary main_v27 main_v28 (broadcastInDim S1x64x1024x1 ![0, 1, 2] bcast_S1x64x1024_S1x64x1024x1_0_1_2 : (⟨S1x64x1024, .f32⟩ : BufTy).Contents (Elt F) → (⟨S1x64x1024x1, .f32⟩ : BufTy).Contents (Elt F)),
    unary main_v28 main_v29 (broadcastInDim S1x64x1024x8192 ![0, 1, 2, 3] bcast_S1x64x1024x1_S1x64x1024x8192_0_1_2_3 : (⟨S1x64x1024x1, .f32⟩ : BufTy).Contents (Elt F) → (⟨S1x64x1024x8192, .f32⟩ : BufTy).Contents (Elt F)),
    binary main_v26 main_v29 main_v30 (subf : (⟨S1x64x1024x8192, .f32⟩ : BufTy).Contents (Elt F) → (⟨S1x64x1024x8192, .f32⟩ : BufTy).Contents (Elt F) → (⟨S1x64x1024x8192, .f32⟩ : BufTy).Contents (Elt F)),
    unary main_v30 main_v31 (Host.exp : (⟨S1x64x1024x8192, .f32⟩ : BufTy).Contents (Elt F) → (⟨S1x64x1024x8192, .f32⟩ : BufTy).Contents (Elt F)),
    nullary main_c_6 (constantI S_ 1 0#1),
    binary main_v21 main_c_6 main_v32 ((fun x v => Host.reduce IntOp.ori x v reducesTo_S1024x8192_S1024_d1 h_S_) : (⟨S1024x8192, .i1⟩ : BufTy).Contents (Elt F) → (⟨S_, .i1⟩ : BufTy).Contents (Elt F) → (⟨S1024, .i1⟩ : BufTy).Contents (Elt F)),
    unary main_v32 main_v33 (broadcastInDim S1x1x1024x1 ![2] bcast_S1024_S1x1x1024x1_2 : (⟨S1024, .i1⟩ : BufTy).Contents (Elt F) → (⟨S1x1x1024x1, .i1⟩ : BufTy).Contents (Elt F)),
    nullary main_cst_7 (constant S_ .f32 0x00000000#32),
    binary main_v31 main_cst_7 main_v34 ((fun x v => Host.reduceAdd x v reducesTo_S1x64x1024x8192_S1x64x1024_d3 h_S_) : (⟨S1x64x1024x8192, .f32⟩ : BufTy).Contents (Elt F) → (⟨S_, .f32⟩ : BufTy).Contents (Elt F) → (⟨S1x64x1024, .f32⟩ : BufTy).Contents (Elt F)),
    unary main_v34 main_v35 (broadcastInDim S1x64x1024x1 ![0, 1, 2] bcast_S1x64x1024_S1x64x1024x1_0_1_2 : (⟨S1x64x1024, .f32⟩ : BufTy).Contents (Elt F) → (⟨S1x64x1024x1, .f32⟩ : BufTy).Contents (Elt F)),
    nullary main_cst_8 (constant S_ .f32 0x3F800000#32) ]

/-- The buffers that stretch 8 writes, in order. -/
abbrev outs8 : List (Ref sig .tc) :=
  [main_cst_5, main_v27, main_v28, main_v29, main_v30, main_v31, main_c_6, main_v32, main_v33, main_cst_7, main_v34, main_v35, main_cst_8]

theorem ops8_sub : (ops8 : List (HloOp τ sig (Elt F))).Forall fun op => op.bufs ⊆ tcRefs τ sig :=
  ⟨nullary_bufs_sub .., binary_bufs_sub .., unary_bufs_sub .., unary_bufs_sub .., binary_bufs_sub .., unary_bufs_sub .., nullary_bufs_sub .., binary_bufs_sub .., unary_bufs_sub .., nullary_bufs_sub .., binary_bufs_sub .., unary_bufs_sub .., nullary_bufs_sub ..⟩

theorem ops8_fresh : ∀ op ∈ (ops8 : List (HloOp τ sig (Elt F))), op.fresh = ∅ := by
  intro _ h; (repeat (cases h with | head => rfl | tail _ h => ?_)); exact nomatch h

theorem ops8_writes : (ops8 : List (HloOp τ sig (Elt F))).map HloOp.writes = outs8.map fun w => {Proc.devRef (τ := τ) .tc w} := rfl

/-- Operations of stretch 9: the divisors. -/
abbrev ops9 : List (HloOp τ sig (Elt F)) :=
  [ TRef.unary (.of main_cst_8 : TRef sig ⟨S_, .f32⟩) (.of main_call4_v0 : TRef sig ⟨S_, .f32⟩) id,
    TRef.unary (.of main_v33 : TRef sig ⟨S1x1x1024x1, .i1⟩) (.of main_call4_v1 : TRef sig ⟨S1x64x1024x1, .i1⟩) (broadcastInDim S1x64x1024x1 ![0, 1, 2, 3] bcast_S1x1x1024x1_S1x64x1024x1_0_1_2_3),
    TRef.unary (.of main_call4_v0 : TRef sig ⟨S_, .f32⟩) (.of main_call4_v2 : TRef sig ⟨S1x64x1024x1, .f32⟩) (broadcastInDim S1x64x1024x1 ![] bcast_S_S1x64x1024x1),
    TRef.ternary (.of main_call4_v1 : TRef sig ⟨S1x64x1024x1, .i1⟩) (.of main_v35 : TRef sig ⟨S1x64x1024x1, .f32⟩) (.of main_call4_v2 : TRef sig ⟨S1x64x1024x1, .f32⟩) (.of main_v36 : TRef sig ⟨S1x64x1024x1, .f32⟩) select ]

/-- The buffers that stretch 9 writes, in order. -/
abbrev outs9 : List (Ref sig .tc) :=
  [main_call4_v0, main_call4_v1, main_call4_v2, main_v36]

theorem ops9_sub : (ops9 : List (HloOp τ sig (Elt F))).Forall fun op => op.bufs ⊆ tcRefs τ sig :=
  ⟨unary_bufs_sub .., unary_bufs_sub .., unary_bufs_sub .., ternary_bufs_sub ..⟩

theorem ops9_fresh : ∀ op ∈ (ops9 : List (HloOp τ sig (Elt F))), op.fresh = ∅ := by
  intro _ h; (repeat (cases h with | head => rfl | tail _ h => ?_)); exact nomatch h

theorem ops9_writes : (ops9 : List (HloOp τ sig (Elt F))).map HloOp.writes = outs9.map fun w => {Proc.devRef (τ := τ) .tc w} := rfl

/-- Operations of stretch 10: the quotients. -/
abbrev ops10 : List (HloOp τ sig (Elt F)) :=
  [ unary main_v36 main_v37 (broadcastInDim S1x64x1024x8192 ![0, 1, 2, 3] bcast_S1x64x1024x1_S1x64x1024x8192_0_1_2_3 : (⟨S1x64x1024x1, .f32⟩ : BufTy).Contents (Elt F) → (⟨S1x64x1024x8192, .f32⟩ : BufTy).Contents (Elt F)),
    binary main_v31 main_v37 main_v38 (Host.divf : (⟨S1x64x1024x8192, .f32⟩ : BufTy).Contents (Elt F) → (⟨S1x64x1024x8192, .f32⟩ : BufTy).Contents (Elt F) → (⟨S1x64x1024x8192, .f32⟩ : BufTy).Contents (Elt F)),
    unary main_v32 main_v39 (broadcastInDim S1x1x1024x1 ![2] bcast_S1024_S1x1x1024x1_2 : (⟨S1024, .i1⟩ : BufTy).Contents (Elt F) → (⟨S1x1x1024x1, .i1⟩ : BufTy).Contents (Elt F)),
    nullary main_cst_9 (constant S_ .f32 0x00000000#32) ]

/-- The buffers that stretch 10 writes, in order. -/
abbrev outs10 : List (Ref sig .tc) :=
  [main_v37, main_v38, main_v39, main_cst_9]

theorem ops10_sub : (ops10 : List (HloOp τ sig (Elt F))).Forall fun op => op.bufs ⊆ tcRefs τ sig :=
  ⟨unary_bufs_sub .., binary_bufs_sub .., unary_bufs_sub .., nullary_bufs_sub ..⟩

theorem ops10_fresh : ∀ op ∈ (ops10 : List (HloOp τ sig (Elt F))), op.fresh = ∅ := by
  intro _ h; (repeat (cases h with | head => rfl | tail _ h => ?_)); exact nomatch h

theorem ops10_writes : (ops10 : List (HloOp τ sig (Elt F))).map HloOp.writes = outs10.map fun w => {Proc.devRef (τ := τ) .tc w} := rfl

/-- Operations of stretch 11: the attention weights. -/
abbrev ops11 : List (HloOp τ sig (Elt F)) :=
  [ TRef.unary (.of main_cst_9 : TRef sig ⟨S_, .f32⟩) (.of main_call5_v0 : TRef sig ⟨S_, .f32⟩) id,
    TRef.unary (.of main_v39 : TRef sig ⟨S1x1x1024x1, .i1⟩) (.of main_call5_v1 : TRef sig ⟨S1x64x1024x8192, .i1⟩) (broadcastInDim S1x64x1024x8192 ![0, 1, 2, 3] bcast_S1x1x1024x1_S1x64x1024x8192_0_1_2_3),
    TRef.unary (.of main_call5_v0 : TRef sig ⟨S_, .f32⟩) (.of main_call5_v2 : TRef sig ⟨S1x64x1024x8192, .f32⟩) (broadcastInDim S1x64x1024x8192 ![] bcast_S_S1x64x1024x8192),
    TRef.ternary (.of main_call5_v1 : TRef sig ⟨S1x64x1024x8192, .i1⟩) (.of main_v38 : TRef sig ⟨S1x64x1024x8192, .f32⟩) (.of main_call5_v2 : TRef sig ⟨S1x64x1024x8192, .f32⟩) (.of main_v40 : TRef sig ⟨S1x64x1024x8192, .f32⟩) select ]

/-- The buffers that stretch 11 writes, in order. -/
abbrev outs11 : List (Ref sig .tc) :=
  [main_call5_v0, main_call5_v1, main_call5_v2, main_v40]

theorem ops11_sub : (ops11 : List (HloOp τ sig (Elt F))).Forall fun op => op.bufs ⊆ tcRefs τ sig :=
  ⟨unary_bufs_sub .., unary_bufs_sub .., unary_bufs_sub .., ternary_bufs_sub ..⟩

theorem ops11_fresh : ∀ op ∈ (ops11 : List (HloOp τ sig (Elt F))), op.fresh = ∅ := by
  intro _ h; (repeat (cases h with | head => rfl | tail _ h => ?_)); exact nomatch h

theorem ops11_writes : (ops11 : List (HloOp τ sig (Elt F))).map HloOp.writes = outs11.map fun w => {Proc.devRef (τ := τ) .tc w} := rfl

/-- Operations of stretch 12: the two last products. -/
abbrev ops12 : List (HloOp τ sig (Elt F)) :=
  [ binary main_arg3 main_v40 main_v41 ((fun l r => Host.dotGeneral dot_S1x8192x64x128_S1x64x1024x8192_S1x64x128x1024_1_3_3_2_02_01 none l r) : (⟨S1x8192x64x128, .f32⟩ : BufTy).Contents (Elt F) → (⟨S1x64x1024x8192, .f32⟩ : BufTy).Contents (Elt F) → (⟨S1x64x128x1024, .f32⟩ : BufTy).Contents (Elt F)),
    unary main_v41 main_v42 ((transpose S1x1024x64x128 [0, 3, 1, 2] · transposes_S1x64x128x1024_S1x1024x64x128_0_3_1_2) : (⟨S1x64x128x1024, .f32⟩ : BufTy).Contents (Elt F) → (⟨S1x1024x64x128, .f32⟩ : BufTy).Contents (Elt F)),
    reshape main_v42 main_v43 (rfl : (.f32 : EltTy) = .f32) shapeCasts_S1x1024x64x128_S1x1024x8192,
    binary main_v43 main_arg4 main_v44 ((fun l r => Host.dotGeneral dot_S1x1024x8192_S8192x1024_S1x1024x1024_2_0_01_1_n_n none l r) : (⟨S1x1024x8192, .f32⟩ : BufTy).Contents (Elt F) → (⟨S8192x1024, .f32⟩ : BufTy).Contents (Elt F) → (⟨S1x1024x1024, .f32⟩ : BufTy).Contents (Elt F)) ]

/-- The buffers that stretch 12 writes, in order. -/
abbrev outs12 : List (Ref sig .tc) :=
  [main_v41, main_v42, main_v43, main_v44]

theorem ops12_sub : (ops12 : List (HloOp τ sig (Elt F))).Forall fun op => op.bufs ⊆ tcRefs τ sig :=
  ⟨binary_bufs_sub .., unary_bufs_sub .., reshape_bufs_sub .., binary_bufs_sub ..⟩

theorem ops12_fresh : ∀ op ∈ (ops12 : List (HloOp τ sig (Elt F))), op.fresh = ∅ := by
  intro _ h; (repeat (cases h with | head => rfl | tail _ h => ?_)); exact nomatch h

theorem ops12_writes : (ops12 : List (HloOp τ sig (Elt F))).map HloOp.writes = outs12.map fun w => {Proc.devRef (τ := τ) .tc w} := rfl

/-- All the operations of the program, in order. -/
def ops : List (HloOp τ sig (Elt F)) :=
  ops0 ++ (ops1 ++ (ops2 ++ (ops3 ++ (ops4 ++ (ops5 ++ (ops6 ++ (ops7 ++ (ops8 ++ (ops9 ++ (ops10 ++ (ops11 ++ ops12)))))))))))

set_option maxHeartbeats 0 in
/-- The program is that straight line. -/
theorem main_eq (c : Dev nD) : main (F := F) c = seq ops := rfl

theorem forall_append {α : Type _} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

theorem ops_sub : (ops : List (HloOp τ sig (Elt F))).Forall fun op => op.bufs ⊆ tcRefs τ sig :=
  forall_append ops0_sub <| forall_append ops1_sub <| forall_append ops2_sub <| forall_append ops3_sub <|
  forall_append ops4_sub <| forall_append ops5_sub <| forall_append ops6_sub <| forall_append ops7_sub <|
  forall_append ops8_sub <| forall_append ops9_sub <| forall_append ops10_sub <| forall_append ops11_sub ops12_sub

theorem ops_fresh : ∀ op ∈ (ops : List (HloOp τ sig (Elt F))), op.fresh = ∅ := by
  intro op h
  unfold ops at h
  rcases List.mem_append.mp h with h | h
  · exact ops0_fresh op h
  rcases List.mem_append.mp h with h | h
  · exact ops1_fresh op h
  rcases List.mem_append.mp h with h | h
  · exact ops2_fresh op h
  rcases List.mem_append.mp h with h | h
  · exact ops3_fresh op h
  rcases List.mem_append.mp h with h | h
  · exact ops4_fresh op h
  rcases List.mem_append.mp h with h | h
  · exact ops5_fresh op h
  rcases List.mem_append.mp h with h | h
  · exact ops6_fresh op h
  rcases List.mem_append.mp h with h | h
  · exact ops7_fresh op h
  rcases List.mem_append.mp h with h | h
  · exact ops8_fresh op h
  rcases List.mem_append.mp h with h | h
  · exact ops9_fresh op h
  rcases List.mem_append.mp h with h | h
  · exact ops10_fresh op h
  rcases List.mem_append.mp h with h | h
  · exact ops11_fresh op h
  · exact ops12_fresh op h

/-- All the buffers written, in order. -/
abbrev outs : List (Ref sig .tc) :=
  outs0 ++ (outs1 ++ (outs2 ++ (outs3 ++ (outs4 ++ (outs5 ++ (outs6 ++ (outs7 ++ (outs8 ++ (outs9 ++ (outs10 ++ (outs11 ++ outs12)))))))))))

theorem ops_writes : (ops : List (HloOp τ sig (Elt F))).map HloOp.writes = outs.map fun w => {Proc.devRef (τ := τ) .tc w} := by
  simp only [ops, outs, List.map_append, ops0_writes, ops1_writes, ops2_writes, ops3_writes, ops4_writes, ops5_writes,
    ops6_writes, ops7_writes, ops8_writes, ops9_writes, ops10_writes, ops11_writes, ops12_writes]

/-- A buffer that no operation writes keeps its contents. -/
theorem ops_keep (V : Valuation τ sig (Elt F)) {r : Ref sig .tc} (h : r ∉ outs) :
    after ops V (Proc.devRef .tc r) = V (Proc.devRef .tc r) := after_unwritten outs ops_writes h V

theorem scopedRefs_eq : (Finset.univ.filter fun b : Ref sig .tc => b.isScoped) = ∅ := by decide
theorem scopedSems_eq : (Finset.univ.filter fun sm : SemLoc sig => sm.isScoped .tc) = ∅ := by decide

/-- Every run of the reference ends, with every buffer at the fold of the operations and every counter zero. -/
theorem run_all (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = after ops (launchContents m d) (Proc.devRef .tc b))
        ∧ r.2.sem = fun _ => 0 :=
  (θ_run defs _ _).mono (fun r h => ⟨h, Idealize.ShloMosaic.sem_eq_zero_of_no_sems (by decide) r.2⟩)
    (run_seq scopedRefs_eq scopedSems_eq defs main (fun _ => ops) main_eq (fun _ => ops_sub) m ρ (fun _ => ops_fresh))

/-- The five arguments end as they were. -/
theorem run_args (m : (ℓ : Loc nD τ sig) → Buf (Elt F) ℓ) (d : Dev nD) {r : Ref sig .tc} (h : r ∉ outs) :
    after (ops (F := F)) (launchContents m d) (Proc.devRef .tc r) = m ((d.tc : Thread nD τ).loc r) := ops_keep _ h

end Cert.ReferenceIdeal.Hand

end
-- ==== Proof.RefVal.lean ====
/-
  The reference's operations, read element by element: the blocks' numbers, the mask, the scores, the softmax over
  all the keys, and the output projection over all the heads.
-/
module

public import proofs.«01_k».proof.Proof.RefRun
public import proofs.«01_k».proof.Proof.Mask
public import Idealize.ShloMosaic.Lib.StableHlo.RunRead
public import Idealize.ShloMosaic.Lib.Pointwise

@[expose] public section

set_option maxRecDepth 100000

noncomputable section

namespace Cert.Value

open Cert.ReferenceIdeal Cert.ReferenceIdeal.Gen Cert.ReferenceIdeal.Hand
open Idealize.ShloMosaic
open Idealize.ShloMosaic.TcCoe

/-! ## The blocks' numbers and the mask -/

/-- Division by 64 as the reference spells it. -/
def rdiv (x : BitVec 32) : BitVec 32 :=
  Scalar.select (IntOp.andi (IntOp.cmpi .ne (if x = 0 then (0 : BitVec 32) else if x.msb = true then -1 else 1) (if 64#32 = 0 then (0 : BitVec 32) else if (64#32).msb = true then -1 else 1)) (IntOp.cmpi .ne (IntOp.remsi .host x 64#32) 0#32))
    (IntOp.subi (IntOp.divsi .host x 64#32) 1#32) (IntOp.divsi .host x 64#32)

/-- The remainder modulo 3 as the reference spells it. -/
def rmod (x : BitVec 32) : BitVec 32 :=
  Scalar.select (IntOp.andi (IntOp.cmpi .ne (IntOp.cmpi .slt (IntOp.remsi .host x 3#32) 0#32) 0#1) (IntOp.cmpi .ne (IntOp.remsi .host x 3#32) 0#32))
    (IntOp.addi (IntOp.remsi .host x 3#32) 3#32) (IntOp.remsi .host x 3#32)

/-- The condition on the two blocks' numbers, as the reference spells it. -/
def rcomb (a b : BitVec 32) : BitVec 1 :=
  IntOp.ori (IntOp.ori (IntOp.cmpi .eq a b) (IntOp.cmpi .eq b 0#32)) (IntOp.cmpi .eq (rmod (IntOp.addi a b)) 0#32)

/-- The division is the division of natural numbers. -/
theorem rdiv_val (n : Fin 8192) : rdiv (BitVec.ofNat 32 n.val) = BitVec.ofNat 32 (n.val / 64) := by
  revert n; decide +kernel

/-- The condition is that of the mask. -/
theorem rcomb_val : ∀ (a : Fin 16) (b : Fin 128),
    rcomb (BitVec.ofNat 32 a.val) (BitVec.ofNat 32 b.val)
      = if a.val = b.val ∨ b.val = 0 ∨ (a.val + b.val) % 3 = 0 then 1#1 else 0#1 := by
  decide +kernel

/-- The blocks' numbers of the query positions, as the reference spells them. -/
def divQ (x : IVec S1024 32) (b : IVec S_ 32) : IVec S1024 32 :=
  select (andi (cmpi .ne (signi x) (broadcastInDim S1024 ![] bcast_S_S1024 (signi b)))
      (cmpi .ne (Host.remsi x (broadcastInDim S1024 ![] bcast_S_S1024 b)) (broadcastInDim S1024 ![] bcast_S_S1024 (constantI S_ 32 0#32))))
    (subi (Host.divsi x (broadcastInDim S1024 ![] bcast_S_S1024 b)) (broadcastInDim S1024 ![] bcast_S_S1024 (constantI S_ 32 1#32)))
    (Host.divsi x (broadcastInDim S1024 ![] bcast_S_S1024 b))

/-- The blocks' numbers of the key positions, as the reference spells them. -/
def divK (x : IVec S8192 32) (b : IVec S_ 32) : IVec S8192 32 :=
  select (andi (cmpi .ne (signi x) (broadcastInDim S8192 ![] bcast_S_S8192 (signi b)))
      (cmpi .ne (Host.remsi x (broadcastInDim S8192 ![] bcast_S_S8192 b)) (broadcastInDim S8192 ![] bcast_S_S8192 (constantI S_ 32 0#32))))
    (subi (Host.divsi x (broadcastInDim S8192 ![] bcast_S_S8192 b)) (broadcastInDim S8192 ![] bcast_S_S8192 (constantI S_ 32 1#32)))
    (Host.divsi x (broadcastInDim S8192 ![] bcast_S_S8192 b))

/-- The number the remainders are taken by, as the reference spells it. -/
def byT (b : IVec S_ 32) : IVec S_ 32 := select (cmpi .eq b (constantI S_ 32 0#32)) (constantI S_ 32 1#32) b

/-- The remainders of the blocks' numbers added, as the reference spells them. -/
def modT (x : IVec S1024x8192 32) (b : IVec S_ 32) : IVec S1024x8192 32 :=
  have v4 : IVec S1024x8192 32 := Host.remsi x (broadcastInDim S1024x8192 ![] bcast_S_S1024x8192 (byT b))
  have z : IVec S1024x8192 32 := broadcastInDim S1024x8192 ![] bcast_S_S1024x8192 (constantI S_ 32 0#32)
  select (andi (cmpi .ne (cmpi .slt v4 z) (broadcastInDim S1024x8192 ![] bcast_S_S1024x8192 (cmpi .slt (byT b) (constantI S_ 32 0#32)))) (cmpi .ne v4 z))
    (addi v4 (broadcastInDim S1024x8192 ![] bcast_S_S1024x8192 (byT b))) v4

/-- The query blocks' numbers, read at a query. -/
theorem divQ_at (x : IVec S1024 32) (i : Fin 1024) : divQ x (constantI S_ 32 64#32) (ix1 i) = rdiv (x (ix1 i)) := by
  pointwise [divQ, rdiv]

/-- The key blocks' numbers, read at a key. -/
theorem divK_at (x : IVec S8192 32) (i : Fin 8192) : divK x (constantI S_ 32 64#32) (ix1 i) = rdiv (x (ix1 i)) := by
  pointwise [divK, rdiv]

/-- The remainders, read at a query and a key. -/
theorem modT_at (x : IVec S1024x8192 32) (i : Fin 1024) (n : Fin 8192) : modT x (constantI S_ 32 3#32) (ix2 i n) = rmod (x (ix2 i n)) := by
  have e : Scalar.select (IntOp.cmpi .eq 3#32 0#32) 1#32 3#32 = 3#32 := by decide
  have e' : IntOp.cmpi .slt 3#32 0#32 = 0#1 := by decide
  pointwise [modT, byT, rmod, e, e']

variable (V : Valuation τ sig (Elt Ideal))

/-- What the first helper writes. -/
theorem ref_divQ : StableHlo.after (ops1 (F := Ideal)) V main_v3 = divQ (V main_v2) (V main_c) := by
  after_reads_simp
  simp only [StableHlo.TRef.ofBuf_toBuf]
  rfl

/-- What the second helper writes. -/
theorem ref_divK : StableHlo.after (ops3 (F := Ideal)) V main_v6 = divK (V main_v5) (V main_c_0) := by
  after_reads_simp
  simp only [StableHlo.TRef.ofBuf_toBuf]
  rfl

/-- What the third helper writes. -/
theorem ref_mod : StableHlo.after (ops5 (F := Ideal)) V main_v18 = modT (V main_v17) (V main_c_2) := by
  after_reads_simp
  simp only [StableHlo.TRef.ofBuf_toBuf]
  rfl

/-! ## The scores -/

/-- The queries, by heads. -/
theorem ref_proj (i : Fin 1024) (g : Fin 64) (d : Fin 128) :
    StableHlo.after (ops0 (F := Ideal)) V main_v1 (ix4 0 i g d)
      = (∑ e : Fin 1024, (show EReal from V main_arg0 (ix3 0 i e)) * (show EReal from V main_arg1 (ix2 e ⟨g.val * 128 + d.val, by omega⟩)) : EReal) := by
  after_reads_simp
  pointwise

/-- The query positions. -/
theorem ref_pos (i : Fin 1024) : StableHlo.after (ops0 (F := Ideal)) V main_v2 (ix1 i) = BitVec.ofNat 32 i.val := by
  after_reads_simp
  rfl

/-- The query blocks' numbers, as a column. -/
theorem ref_v4 (i : Fin 1024) : StableHlo.after (ops2 (F := Ideal)) V main_v4 (ix2 i 0) = V main_v3 (ix1 i) := by
  after_reads_simp
  pointwise

/-- The key positions. -/
theorem ref_pos2 (i : Fin 8192) : StableHlo.after (ops2 (F := Ideal)) V main_v5 (ix1 i) = BitVec.ofNat 32 i.val := by
  after_reads_simp
  rfl

/-- The mask's first two conditions. -/
theorem ref_v14 (i : Fin 1024) (n : Fin 8192) : StableHlo.after (ops4 (F := Ideal)) V main_v14 (ix2 i n)
    = IntOp.ori (IntOp.cmpi .eq (V main_v4 (ix2 i 0)) (V main_v6 (ix1 n))) (IntOp.cmpi .eq (V main_v6 (ix1 n)) 0#32) := by
  after_reads_simp
  pointwise

/-- The sums of the blocks' numbers. -/
theorem ref_v17 (i : Fin 1024) (n : Fin 8192) : StableHlo.after (ops4 (F := Ideal)) V main_v17 (ix2 i n)
    = IntOp.addi (V main_v4 (ix2 i 0)) (V main_v6 (ix1 n)) := by
  after_reads_simp
  pointwise

/-- The mask. -/
theorem ref_v21 (i : Fin 1024) (n : Fin 8192) : StableHlo.after (ops6 (F := Ideal)) V main_v21 (ix2 i n)
    = IntOp.ori (V main_v14 (ix2 i n)) (IntOp.cmpi .eq (V main_v18 (ix2 i n)) 0#32) := by
  after_reads_simp
  pointwise

/-- The mask, with unit axes before it. -/
theorem ref_v25 (i : Fin 1024) (n : Fin 8192) : StableHlo.after (ops6 (F := Ideal)) V main_v25 (ix4 0 0 i n)
    = IntOp.ori (V main_v14 (ix2 i n)) (IntOp.cmpi .eq (V main_v18 (ix2 i n)) 0#32) := by
  after_reads_simp
  pointwise

/-- The scaled scores. -/
theorem ref_v24 (g : Fin 64) (i : Fin 1024) (n : Fin 8192) : StableHlo.after (ops6 (F := Ideal)) V main_v24 (ix4 0 g i n)
    = ((∑ d : Fin 128, (show EReal from V main_v1 (ix4 0 i g d)) * (show EReal from V main_arg2 (ix4 0 n g d))) * Ideal.ofBits .f32 0x3DB504F3#32 : EReal) := by
  after_reads_simp
  pointwise

/-- The scores under the mask. -/
theorem ref_v26 (g : Fin 64) (i : Fin 1024) (n : Fin 8192) : StableHlo.after (ops7 (F := Ideal)) V main_v26 (ix4 0 g i n)
    = Scalar.select (V main_v25 (ix4 0 0 i n)) (V main_v24 (ix4 0 g i n)) (V main_cst_4 ix0) := by
  after_reads_simp
  simp only [StableHlo.TRef.ofBuf_toBuf]
  have e : ∀ (a : IVec S1x1x1024x8192 1) (x : FVec Ideal S1x64x1024x8192 .f32) (z : FVec Ideal S_ .f32),
      select (broadcastInDim S1x64x1024x8192 ![0, 1, 2, 3] bcast_S1x1x1024x8192_S1x64x1024x8192_0_1_2_3 a) x (broadcastInDim S1x64x1024x8192 ![] bcast_S_S1x64x1024x8192 z) (ix4 0 g i n)
        = Scalar.select (a (ix4 0 0 i n)) (x (ix4 0 g i n)) (z ix0) := by
    intro a x z
    pointwise
  exact e _ _ _

/-! ## The softmax -/

/-- The weights before their division. -/
theorem ref_v31 (g : Fin 64) (i : Fin 1024) (n : Fin 8192) : StableHlo.after (ops8 (F := Ideal)) V main_v31 (ix4 0 g i n)
    = Ideal.exp ((show EReal from V main_v26 (ix4 0 g i n)) - Finset.fold max (Ideal.ofBits .f32 0xFF800000#32) (fun n : Fin 8192 => (show EReal from V main_v26 (ix4 0 g i n))) Finset.univ) := by
  after_reads_simp
  pointwise

/-- Whether any key counts. -/
theorem ref_v32 (i : Fin 1024) : StableHlo.after (ops8 (F := Ideal)) V main_v32 (ix1 i)
    = Finset.fold IntOp.ori 0#1 (fun n : Fin 8192 => V main_v21 (ix2 i n)) Finset.univ := by
  after_reads_simp
  pointwise

/-- Whether any key counts, with unit axes. -/
theorem ref_v33 (i : Fin 1024) : StableHlo.after (ops8 (F := Ideal)) V main_v33 (ix4 0 0 i 0)
    = Finset.fold IntOp.ori 0#1 (fun n : Fin 8192 => V main_v21 (ix2 i n)) Finset.univ := by
  after_reads_simp
  pointwise

/-- The sums of the weights. -/
theorem ref_v35 (g : Fin 64) (i : Fin 1024) : StableHlo.after (ops8 (F := Ideal)) V main_v35 (ix4 0 g i 0)
    = (∑ n : Fin 8192, Ideal.exp ((show EReal from V main_v26 (ix4 0 g i n)) - Finset.fold max (Ideal.ofBits .f32 0xFF800000#32) (fun n : Fin 8192 => (show EReal from V main_v26 (ix4 0 g i n))) Finset.univ) : EReal) := by
  after_reads_simp
  pointwise

/-- The sums of the weights where a key counts. -/
theorem ref_v36 (g : Fin 64) (i : Fin 1024) : StableHlo.after (ops9 (F := Ideal)) V main_v36 (ix4 0 g i 0)
    = Scalar.select (V main_v33 (ix4 0 0 i 0)) (V main_v35 (ix4 0 g i 0)) (V main_cst_8 ix0) := by
  after_reads_simp
  simp only [StableHlo.TRef.ofBuf_toBuf]
  have e : ∀ (a : IVec S1x1x1024x1 1) (x : FVec Ideal S1x64x1024x1 .f32) (z : FVec Ideal S_ .f32),
      select (broadcastInDim S1x64x1024x1 ![0, 1, 2, 3] bcast_S1x1x1024x1_S1x64x1024x1_0_1_2_3 a) x (broadcastInDim S1x64x1024x1 ![] bcast_S_S1x64x1024x1 z) (ix4 0 g i 0)
        = Scalar.select (a (ix4 0 0 i 0)) (x (ix4 0 g i 0)) (z ix0) := by
    intro a x z
    pointwise
  exact e _ _ _

/-- The weights over their sums. -/
theorem ref_v38 (g : Fin 64) (i : Fin 1024) (n : Fin 8192) : StableHlo.after (ops10 (F := Ideal)) V main_v38 (ix4 0 g i n)
    = Ideal.div (V main_v31 (ix4 0 g i n)) (V main_v36 (ix4 0 g i 0)) := by
  after_reads_simp
  pointwise

/-- Whether any key counts, with unit axes, once more. -/
theorem ref_v39 (i : Fin 1024) : StableHlo.after (ops10 (F := Ideal)) V main_v39 (ix4 0 0 i 0) = V main_v32 (ix1 i) := by
  after_reads_simp
  pointwise

/-- The weights where a key counts. -/
theorem ref_v40 (g : Fin 64) (i : Fin 1024) (n : Fin 8192) : StableHlo.after (ops11 (F := Ideal)) V main_v40 (ix4 0 g i n)
    = Scalar.select (V main_v39 (ix4 0 0 i 0)) (V main_v38 (ix4 0 g i n)) (V main_cst_9 ix0) := by
  after_reads_simp
  simp only [StableHlo.TRef.ofBuf_toBuf]
  have e : ∀ (a : IVec S1x1x1024x1 1) (x : FVec Ideal S1x64x1024x8192 .f32) (z : FVec Ideal S_ .f32),
      select (broadcastInDim S1x64x1024x8192 ![0, 1, 2, 3] bcast_S1x1x1024x1_S1x64x1024x8192_0_1_2_3 a) x (broadcastInDim S1x64x1024x8192 ![] bcast_S_S1x64x1024x8192 z) (ix4 0 g i n)
        = Scalar.select (a (ix4 0 0 i 0)) (x (ix4 0 g i n)) (z ix0) := by
    intro a x z
    pointwise
  exact e _ _ _

/-! ## The projection of the results -/

/-- The result, from the weights, the values and the output weights. -/
theorem ref_v44 (i o : Fin 1024) : StableHlo.after (ops12 (F := Ideal)) V main_v44 (ix3 0 i o)
    = (∑ e : Fin 8192, (∑ n : Fin 8192, (show EReal from V main_arg3 (ix4 0 n ⟨e.val / 128, by omega⟩ ⟨e.val % 128, by omega⟩)) * (show EReal from V main_v40 (ix4 0 ⟨e.val / 128, by omega⟩ i n)))
        * (show EReal from V main_arg4 (ix2 e o)) : EReal) := by
  after_reads_simp
  pointwise

/-! ## The whole run -/

/-- The contents after the first stretch; those after the others follow. -/
@[irreducible] def R1 : Valuation τ sig (Elt Ideal) := StableHlo.after ops0 V
@[irreducible] def R2 : Valuation τ sig (Elt Ideal) := StableHlo.after ops1 (R1 V)
@[irreducible] def R3 : Valuation τ sig (Elt Ideal) := StableHlo.after ops2 (R2 V)
@[irreducible] def R4 : Valuation τ sig (Elt Ideal) := StableHlo.after ops3 (R3 V)
@[irreducible] def R5 : Valuation τ sig (Elt Ideal) := StableHlo.after ops4 (R4 V)
@[irreducible] def R6 : Valuation τ sig (Elt Ideal) := StableHlo.after ops5 (R5 V)
@[irreducible] def R7 : Valuation τ sig (Elt Ideal) := StableHlo.after ops6 (R6 V)
@[irreducible] def R8 : Valuation τ sig (Elt Ideal) := StableHlo.after ops7 (R7 V)
@[irreducible] def R9 : Valuation τ sig (Elt Ideal) := StableHlo.after ops8 (R8 V)
@[irreducible] def R10 : Valuation τ sig (Elt Ideal) := StableHlo.after ops9 (R9 V)
@[irreducible] def R11 : Valuation τ sig (Elt Ideal) := StableHlo.after ops10 (R10 V)
@[irreducible] def R12 : Valuation τ sig (Elt Ideal) := StableHlo.after ops11 (R11 V)

/-- The whole run is the last stretch after the others. -/
theorem after_all : StableHlo.after (ops (F := Ideal)) V = StableHlo.after ops12 (R12 V) := by
  unfold ops R12 R11 R10 R9 R8 R7 R6 R5 R4 R3 R2 R1
  simp only [StableHlo.after_append]

/-- What a stretch does not write stays: this theorem and the eleven that follow. -/
theorem R1_of (r : Ref sig .tc) (h : r ∉ outs0) : R1 V r = V r := by
  unfold R1; exact StableHlo.after_unwritten outs0 ops0_writes h _
theorem R2_of (r : Ref sig .tc) (h : r ∉ outs1) : R2 V r = R1 V r := by
  unfold R2; exact StableHlo.after_unwritten outs1 ops1_writes h _
theorem R3_of (r : Ref sig .tc) (h : r ∉ outs2) : R3 V r = R2 V r := by
  unfold R3; exact StableHlo.after_unwritten outs2 ops2_writes h _
theorem R4_of (r : Ref sig .tc) (h : r ∉ outs3) : R4 V r = R3 V r := by
  unfold R4; exact StableHlo.after_unwritten outs3 ops3_writes h _
theorem R5_of (r : Ref sig .tc) (h : r ∉ outs4) : R5 V r = R4 V r := by
  unfold R5; exact StableHlo.after_unwritten outs4 ops4_writes h _
theorem R6_of (r : Ref sig .tc) (h : r ∉ outs5) : R6 V r = R5 V r := by
  unfold R6; exact StableHlo.after_unwritten outs5 ops5_writes h _
theorem R7_of (r : Ref sig .tc) (h : r ∉ outs6) : R7 V r = R6 V r := by
  unfold R7; exact StableHlo.after_unwritten outs6 ops6_writes h _
theorem R8_of (r : Ref sig .tc) (h : r ∉ outs7) : R8 V r = R7 V r := by
  unfold R8; exact StableHlo.after_unwritten outs7 ops7_writes h _
theorem R9_of (r : Ref sig .tc) (h : r ∉ outs8) : R9 V r = R8 V r := by
  unfold R9; exact StableHlo.after_unwritten outs8 ops8_writes h _
theorem R10_of (r : Ref sig .tc) (h : r ∉ outs9) : R10 V r = R9 V r := by
  unfold R10; exact StableHlo.after_unwritten outs9 ops9_writes h _
theorem R11_of (r : Ref sig .tc) (h : r ∉ outs10) : R11 V r = R10 V r := by
  unfold R11; exact StableHlo.after_unwritten outs10 ops10_writes h _
theorem R12_of (r : Ref sig .tc) (h : r ∉ outs11) : R12 V r = R11 V r := by
  unfold R12; exact StableHlo.after_unwritten outs11 ops11_writes h _

/-- A query of the reference, not yet scaled. -/
def refQ (i : Fin 1024) (g : Fin 64) (d : Fin 128) : EReal :=
  ∑ e : Fin 1024, (show EReal from V main_arg0 (ix3 0 i e)) * (show EReal from V main_arg1 (ix2 e ⟨g.val * 128 + d.val, by omega⟩))

/-- A score of the reference: −∞ at a key that does not count. -/
def refS (g : Fin 64) (i : Fin 1024) (n : Fin 8192) : EReal :=
  if keep i.val n.val then (∑ d : Fin 128, refQ V i g d * (show EReal from V main_arg2 (ix4 0 n g d))) * Ideal.ofBits .f32 0x3DB504F3#32 else ⊥

/-- The query blocks' numbers after their stretch. -/
theorem R2_v3 (i : Fin 1024) : R2 V main_v3 (ix1 i) = BitVec.ofNat 32 (i.val / 64) := by
  have ec : R1 V main_c = constantI S_ 32 64#32 := by
    unfold R1; after_reads_simp
  unfold R2
  rw [ref_divQ, ec, divQ_at]
  have e : R1 V main_v2 (ix1 i) = BitVec.ofNat 32 i.val := by unfold R1; exact ref_pos V i
  rw [e]
  exact rdiv_val ⟨i.val, by omega⟩

/-- The key blocks' numbers after their stretch. -/
theorem R4_v6 (n : Fin 8192) : R4 V main_v6 (ix1 n) = BitVec.ofNat 32 (n.val / 64) := by
  have ec : R3 V main_c_0 = constantI S_ 32 64#32 := by
    unfold R3; after_reads_simp
  unfold R4
  rw [ref_divK, ec, divK_at]
  have e : R3 V main_v5 (ix1 n) = BitVec.ofNat 32 n.val := by unfold R3; exact ref_pos2 (R2 V) n
  rw [e]
  exact rdiv_val n

/-- The query blocks' numbers when the mask is made. -/
theorem R4_v4 (i : Fin 1024) : R4 V main_v4 (ix2 i 0) = BitVec.ofNat 32 (i.val / 64) := by
  rw [R4_of V main_v4 (by decide)]
  unfold R3
  exact (ref_v4 (R2 V) i).trans (R2_v3 V i)

/-- The mask of the reference before its use. -/
theorem mask_ref (i : Fin 1024) (n : Fin 8192) :
    IntOp.ori (R6 V main_v14 (ix2 i n)) (IntOp.cmpi .eq (R6 V main_v18 (ix2 i n)) 0#32) = if keep i.val n.val then 1#1 else 0#1 := by
  have ec : R5 V main_c_2 = constantI S_ 32 3#32 := by
    unfold R5; after_reads_simp
  have e14 : R6 V main_v14 (ix2 i n) = IntOp.ori (IntOp.cmpi .eq (R4 V main_v4 (ix2 i 0)) (R4 V main_v6 (ix1 n))) (IntOp.cmpi .eq (R4 V main_v6 (ix1 n)) 0#32) := by
    rw [R6_of V main_v14 (by decide)]
    unfold R5
    exact ref_v14 (R4 V) i n
  have e18 : R6 V main_v18 (ix2 i n) = rmod (IntOp.addi (R4 V main_v4 (ix2 i 0)) (R4 V main_v6 (ix1 n))) := by
    unfold R6
    rw [ref_mod, ec, modT_at]
    unfold R5
    exact congrArg rmod (ref_v17 (R4 V) i n)
  rw [e14, e18, R4_v4, R4_v6]
  exact rcomb_val ⟨i.val / 64, by omega⟩ ⟨n.val / 64, by omega⟩

/-- The scores of the run. -/
theorem R8_v26 (g : Fin 64) (i : Fin 1024) (n : Fin 8192) : R8 V main_v26 (ix4 0 g i n) = refS V g i n := by
  have e25 : R7 V main_v25 (ix4 0 0 i n) = if keep i.val n.val then 1#1 else 0#1 := by
    unfold R7
    exact (ref_v25 (R6 V) i n).trans (mask_ref V i n)
  have ec : R7 V main_cst_4 = constant (F := Ideal) S_ .f32 0xFF800000#32 := by
    unfold R7; after_reads_simp
  have e1 : ∀ d, R6 V main_v1 (ix4 0 i g d) = refQ V i g d := by
    intro d
    rw [R6_of V main_v1 (by decide), R5_of V main_v1 (by decide), R4_of V main_v1 (by decide), R3_of V main_v1 (by decide), R2_of V main_v1 (by decide)]
    unfold R1
    exact ref_proj V i g d
  have e2 : R6 V main_arg2 = V main_arg2 := by
    rw [R6_of V main_arg2 (by decide), R5_of V main_arg2 (by decide), R4_of V main_arg2 (by decide), R3_of V main_arg2 (by decide), R2_of V main_arg2 (by decide), R1_of V main_arg2 (by decide)]
  have e24 : R7 V main_v24 (ix4 0 g i n) = ((∑ d : Fin 128, refQ V i g d * (show EReal from V main_arg2 (ix4 0 n g d))) * Ideal.ofBits .f32 0x3DB504F3#32 : EReal) := by
    unfold R7
    refine (ref_v24 (R6 V) g i n).trans ?_
    rw [e2]
    simp only [e1]
  unfold R8
  rw [ref_v26, e25, e24, ec]
  unfold refS
  by_cases h : keep i.val n.val
  · simp only [h, if_true]; rfl
  · simp only [h, if_false]
    show Ideal.ofBits .f32 0xFF800000#32 = ⊥
    simp [Ideal.ofBits, Ideal.ieee, -EReal.coe_mul]

/-- Key 0 counts for every query. -/
theorem any_ref (i : Fin 1024) (f : Fin 8192 → BitVec 1) (hf : ∀ n, f n = if keep i.val n.val then 1#1 else 0#1) :
    Finset.fold IntOp.ori 0#1 f Finset.univ = 1#1 := by
  rw [← Finset.insert_erase (Finset.mem_univ (0 : Fin 8192)), Finset.fold_insert (Finset.notMem_erase _ _), hf 0,
    if_pos (show keep i.val (0 : Fin 8192).val from .inr (.inl rfl))]
  generalize Finset.fold IntOp.ori 0#1 f _ = b
  revert b; decide

/-- Equal terms have equal sums. -/
theorem sum_eq {f g : Fin 8192 → EReal} (h : ∀ n, f n = g n) : ∑ n, f n = ∑ n, g n := Finset.sum_congr rfl fun n _ => h n

/-- A weight from equal scores, with the maximum as a supremum. -/
theorem weight_eq {f s : Fin 8192 → EReal} (h : ∀ n, f n = s n) (n : Fin 8192) :
    Ideal.exp (f n - Finset.fold max (Ideal.ofBits .f32 0xFF800000#32) f Finset.univ) = Ideal.exp (s n - Finset.univ.sup s) := by
  have eb : Ideal.ofBits .f32 0xFF800000#32 = (⊥ : EReal) := by simp [Ideal.ofBits, Ideal.ieee, -EReal.coe_mul]
  rw [show f = s from funext h, eb]
  rfl

/-- A weight of the reference. -/
def refP (g : Fin 64) (i : Fin 1024) (n : Fin 8192) : EReal :=
  Ideal.div (Ideal.exp (refS V g i n - Finset.univ.sup (refS V g i))) (∑ n, Ideal.exp (refS V g i n - Finset.univ.sup (refS V g i)))

/-- The weights of the run. -/
theorem R12_v40 (g : Fin 64) (i : Fin 1024) (n : Fin 8192) : R12 V main_v40 (ix4 0 g i n) = refP V g i n := by
  have e21 : ∀ n, R8 V main_v21 (ix2 i n) = if keep i.val n.val then 1#1 else 0#1 := by
    intro n
    rw [R8_of V main_v21 (by decide)]
    unfold R7
    exact (ref_v21 (R6 V) i n).trans (mask_ref V i n)
  have e31 : ∀ n, R11 V main_v31 (ix4 0 g i n) = Ideal.exp (refS V g i n - Finset.univ.sup (refS V g i)) := by
    intro n
    rw [R11_of V main_v31 (by decide), R10_of V main_v31 (by decide)]
    unfold R9
    exact (ref_v31 (R8 V) g i n).trans (weight_eq (R8_v26 V g i) n)
  have e33 : R9 V main_v33 (ix4 0 0 i 0) = 1#1 := by
    unfold R9
    exact (ref_v33 (R8 V) i).trans (any_ref i _ e21)
  have e39 : R11 V main_v39 (ix4 0 0 i 0) = 1#1 := by
    unfold R11
    refine (ref_v39 (R10 V) i).trans ?_
    rw [R10_of V main_v32 (by decide)]
    unfold R9
    exact (ref_v32 (R8 V) i).trans (any_ref i _ e21)
  have e36 : R10 V main_v36 (ix4 0 g i 0) = (∑ n, Ideal.exp (refS V g i n - Finset.univ.sup (refS V g i)) : EReal) := by
    unfold R10
    rw [ref_v36, e33]
    show R9 V main_v35 (ix4 0 g i 0) = _
    unfold R9
    exact (ref_v35 (R8 V) g i).trans (sum_eq fun n => weight_eq (R8_v26 V g i) n)
  have e38 : R11 V main_v38 (ix4 0 g i n) = refP V g i n := by
    have e31' : R10 V main_v31 (ix4 0 g i n) = Ideal.exp (refS V g i n - Finset.univ.sup (refS V g i)) := by
      rw [← R11_of V main_v31 (by decide)]; exact e31 n
    unfold R11
    rw [ref_v38, e31', e36]
    rfl
  unfold R12
  rw [ref_v40, e39, e38]
  rfl

/-- The reference's result, element by element. -/
theorem ref_result (i o : Fin 1024) : StableHlo.after (ops (F := Ideal)) V main_v44 (ix3 0 i o)
    = (∑ e : Fin 8192, (∑ n : Fin 8192, (show EReal from V main_arg3 (ix4 0 n ⟨e.val / 128, by omega⟩ ⟨e.val % 128, by omega⟩)) * refP V ⟨e.val / 128, by omega⟩ i n)
        * (show EReal from V main_arg4 (ix2 e o)) : EReal) := by
  have e3 : R12 V main_arg3 = V main_arg3 := by
    rw [R12_of V main_arg3 (by decide), R11_of V main_arg3 (by decide), R10_of V main_arg3 (by decide), R9_of V main_arg3 (by decide), R8_of V main_arg3 (by decide), R7_of V main_arg3 (by decide), R6_of V main_arg3 (by decide), R5_of V main_arg3 (by decide), R4_of V main_arg3 (by decide), R3_of V main_arg3 (by decide), R2_of V main_arg3 (by decide), R1_of V main_arg3 (by decide)]
  have e4 : R12 V main_arg4 = V main_arg4 := by
    rw [R12_of V main_arg4 (by decide), R11_of V main_arg4 (by decide), R10_of V main_arg4 (by decide), R9_of V main_arg4 (by decide), R8_of V main_arg4 (by decide), R7_of V main_arg4 (by decide), R6_of V main_arg4 (by decide), R5_of V main_arg4 (by decide), R4_of V main_arg4 (by decide), R3_of V main_arg4 (by decide), R2_of V main_arg4 (by decide), R1_of V main_arg4 (by decide)]
  rw [after_all]
  refine (ref_v44 (R12 V) i o).trans ?_
  rw [e3, e4]
  exact sum_eq fun e => congrArg (· * (show EReal from V main_arg4 (ix2 e o)))
    (sum_eq fun n => congrArg ((show EReal from V main_arg3 (ix4 0 n ⟨e.val / 128, by omega⟩ ⟨e.val % 128, by omega⟩)) * ·) (R12_v40 V _ i n))

end Cert.Value
-- ==== Proof.Join.lean ====
/-
  The mathematics that joins the kernel and the reference: the two scores agree on real arrays, the sum over all the
  keys is the sum over the devices' keys, and the sum over all the columns of the heads is the sum over the devices,
  their heads and a head's columns.
-/
module

public import proofs.«01_k».proof.Proof.HostVal

@[expose] public section

noncomputable section

namespace Cert.Value

open Idealize.ShloMosaic

/-- Entry `j` of the part that device `p` holds of an array of 8192. -/
def cat (p : Fin 8) (j : Fin 1024) : Fin 8192 := ⟨1024 * p.val + j.val, by omega⟩

/-- The devices' entries are all the entries. -/
def catE : Fin 8 × Fin 1024 ≃ Fin 8192 where
  toFun x := cat x.1 x.2
  invFun n := (⟨n.val / 1024, by omega⟩, ⟨n.val % 1024, by omega⟩)
  left_inv := by
    rintro ⟨p, j⟩
    refine Prod.ext (Fin.ext ?_) (Fin.ext ?_)
    · show (1024 * p.val + j.val) / 1024 = p.val; omega
    · show (1024 * p.val + j.val) % 1024 = j.val; omega
  right_inv := by
    intro n
    refine Fin.ext ?_
    show 1024 * (n.val / 1024) + n.val % 1024 = n.val
    omega

/-- The heads' columns are all the columns of a device. -/
def rowE : Fin 8 × Fin 128 ≃ Fin 1024 where
  toFun x := row x.1 x.2
  invFun n := (⟨n.val / 128, by omega⟩, ⟨n.val % 128, by omega⟩)
  left_inv := by
    rintro ⟨p, j⟩
    refine Prod.ext (Fin.ext ?_) (Fin.ext ?_)
    · show (p.val * 128 + j.val) / 128 = p.val; omega
    · show (p.val * 128 + j.val) % 128 = j.val; omega
  right_inv := by
    intro n
    refine Fin.ext ?_
    show n.val / 128 * 128 + n.val % 128 = n.val
    omega

/-- A sum over the columns of all the heads, as a sum over the devices, a device's heads and a head's columns. -/
theorem sum_cols (F : Fin 64 → Fin 128 → Fin 8192 → EReal) :
    ∑ p : Fin 8, ∑ h : Fin 8, ∑ d : Fin 128, F (head p h) d (cat p (row h d))
      = ∑ e : Fin 8192, F ⟨e.val / 128, by omega⟩ ⟨e.val % 128, by omega⟩ e := by
  rw [← Equiv.sum_comp catE, Fintype.sum_prod_type]
  refine Finset.sum_congr rfl fun p _ => ?_
  rw [← Equiv.sum_comp rowE, Fintype.sum_prod_type]
  refine Finset.sum_congr rfl fun h _ => Finset.sum_congr rfl fun d _ => ?_
  have e1 : (⟨(cat p (row h d)).val / 128, by omega⟩ : Fin 64) = head p h := by
    refine Fin.ext ?_
    show (1024 * p.val + (h.val * 128 + d.val)) / 128 = p.val * 8 + h.val
    omega
  have e2 : (⟨(cat p (row h d)).val % 128, by omega⟩ : Fin 128) = d := by
    refine Fin.ext ?_
    show (1024 * p.val + (h.val * 128 + d.val)) % 128 = d.val
    omega
  show F (head p h) d (cat p (row h d)) = F ⟨(cat p (row h d)).val / 128, _⟩ ⟨(cat p (row h d)).val % 128, _⟩ (cat p (row h d))
  rw [e1, e2]

/-- The maximum over the devices' keys is that over all the keys. -/
theorem sup_cat (f : Fin 8192 → EReal) : (Finset.univ.sup fun x : Fin 8 × Fin 1024 => f (cat x.1 x.2)) = Finset.univ.sup f := by
  rw [← Finset.map_univ_equiv catE, Finset.sup_map]
  rfl

/-- The sum over the devices' keys is that over all the keys. -/
theorem sum_cat (f : Fin 8192 → EReal) : ∑ x : Fin 8 × Fin 1024, f (cat x.1 x.2) = ∑ n, f n := Equiv.sum_comp catE f

/-- The softmax over the devices' keys is the softmax over all the keys. -/
theorem softmax_cat (s v : Fin 8192 → EReal) :
    ∑ x : Fin 8 × Fin 1024, Ideal.div (wt (s (cat x.1 x.2)) (Finset.univ.sup fun y : Fin 8 × Fin 1024 => s (cat y.1 y.2)))
        (∑ y : Fin 8 × Fin 1024, wt (s (cat y.1 y.2)) (Finset.univ.sup fun y : Fin 8 × Fin 1024 => s (cat y.1 y.2))) * v (cat x.1 x.2)
      = ∑ n, v n * Ideal.div (wt (s n) (Finset.univ.sup s)) (∑ n, wt (s n) (Finset.univ.sup s)) := by
  rw [sup_cat, sum_cat fun n => wt (s n) (Finset.univ.sup s)]
  rw [sum_cat fun n => Ideal.div (wt (s n) (Finset.univ.sup s)) (∑ n, wt (s n) (Finset.univ.sup s)) * v n]
  exact Finset.sum_congr rfl fun n _ => mul_comm _ _

/-- Scaling the weights scales the score: on reals. -/
theorem score_scale (x : Fin 1024 → EReal) (w : Fin 128 → Fin 1024 → EReal) (k : Fin 128 → EReal) (s : EReal)
    (hx : ∀ e, ∃ r : ℝ, x e = r) (hw : ∀ d e, ∃ r : ℝ, w d e = r) (hk : ∀ d, ∃ r : ℝ, k d = r) (hs : ∃ r : ℝ, s = r) :
    ∑ d, (∑ e, x e * (w d e * s)) * k d = (∑ d, (∑ e, x e * w d e) * k d) * s
      ∧ ∃ r : ℝ, (∑ d, (∑ e, x e * w d e) * k d) * s = r := by
  choose xr hx using hx
  choose wr hw using hw
  choose kr hk using hk
  obtain ⟨sr, rfl⟩ := hs
  have a : ∑ d, (∑ e, x e * (w d e * sr)) * k d = ((∑ d, (∑ e, xr e * (wr d e * sr)) * kr d : ℝ) : EReal) := by
    simp only [hx, hw, hk, coe_sum_real, EReal.coe_mul]
  have b : (∑ d, (∑ e, x e * w d e) * k d) * sr = (((∑ d, (∑ e, xr e * wr d e) * kr d) * sr : ℝ) : EReal) := by
    simp only [hx, hw, hk, coe_sum_real, EReal.coe_mul]
  refine ⟨?_, _, b⟩
  rw [a, b]
  congr 1
  simp only [Finset.sum_mul]
  exact Finset.sum_congr rfl fun d _ => Finset.sum_congr rfl fun e _ => by ring

/-- Among the keys of any device there is one that counts. -/
theorem keep_some (i : Fin 1024) (p : Fin 8) : ∃ j : Fin 1024, keep i.val (1024 * p.val + j.val) := by
  refine ⟨⟨64 * ((3 - (i.val / 64 + 16 * p.val) % 3) % 3), by omega⟩, .inr (.inr ?_)⟩
  show (i.val / 64 + (1024 * p.val + 64 * ((3 - (i.val / 64 + 16 * p.val) % 3) % 3)) / 64) % 3 = 0
  omega

end Cert.Value
-- ==== Proof.Transfer.lean ====
/-
  The kernel as submitted and the kernel with its constants named are one program when a named constant
  reads as the number written: equal programs and equal definitions.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

/-- A named constant, read as the number written. -/
abbrev namedBits : Named Bits where
  named _ _ {φ} b := Scalar.ofBits φ b

set_option maxRecDepth 100000
set_option maxHeartbeats 0

theorem main_eq : @Cert.Kernel.main Bits _ Cert.Kernel.Gen.facts = @Cert.KernelIdeal.main Bits _ Cert.KernelIdeal.Gen.facts := rfl
theorem body_eq : @Cert.Kernel.cc0__body Bits _ Cert.Kernel.Gen.facts = @Cert.KernelIdeal.cc0__body Bits _ namedBits Cert.KernelIdeal.Gen.facts := rfl
theorem defs₀_eq : @Cert.Kernel.defs₀ Bits _ Cert.Kernel.Gen.facts = @Cert.KernelIdeal.defs₀ Bits _ namedBits Cert.KernelIdeal.Gen.facts := by
  unfold Cert.Kernel.defs₀ Cert.KernelIdeal.defs₀
  refine congrArg Defs.onTc (funext fun l => funext fun a => ?_)
  match l, a with
  | ⟨0, _⟩, (t, s) => rw [← body_eq]
theorem defs_eq : @Cert.Kernel.defs Bits _ Cert.Kernel.Gen.facts = @Cert.KernelIdeal.defs Bits _ namedBits Cert.KernelIdeal.Gen.facts := by
  unfold Cert.Kernel.defs Cert.KernelIdeal.defs
  rw [← defs₀_eq]
  rfl

end Cert.Proof
-- ==== Proof.Frames.lean ====
/-
  The frames: the submitted kernel at the bits, the kernel with named constants at the extended reals, and the
  reference each run to the end, with their arguments unchanged and every semaphore back at zero.
-/
module

public import proofs.«01_k».proof.Proof.Run
public import proofs.«01_k».proof.Proof.RefRun
public import proofs.«01_k».proof.Proof.Transfer

@[expose] public section

noncomputable section

namespace Cert.Proof

open Idealize.ShloMosaic Idealize.ShloMosaic.TcCoe Idealize.SL.Sem

section
open Cert.KernelIdeal Cert.KernelIdeal.Gen Cert.KernelIdeal.Hand
variable {F : FTy → Type} [FloatOps F] [Named F]

/-- The kernel's run, read at its five arguments and its result. -/
theorem run_kernel (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.mem ((c.tc : Thread nD τ).loc main_v32) = Vend m c main_v32)
      ∧ r.2.sem = fun _ => 0) := by
  refine (θ_run _ _ _).mono (fun r h => ⟨fun c => ⟨⟨?_, ?_, ?_, ?_, ?_⟩, ?_⟩, h.2⟩) (run_all m ρ)
  · exact (h.1 c _ (Finset.mem_filter.mpr ⟨StableHlo.devRef_mem_tcRefs main_arg0, by decide⟩)).trans (V9_main_arg0 m (outs m) c)
  · exact (h.1 c _ (Finset.mem_filter.mpr ⟨StableHlo.devRef_mem_tcRefs main_arg1, by decide⟩)).trans (V9_main_arg1 m (outs m) c)
  · exact (h.1 c _ (Finset.mem_filter.mpr ⟨StableHlo.devRef_mem_tcRefs main_arg2, by decide⟩)).trans (V9_main_arg2 m (outs m) c)
  · exact (h.1 c _ (Finset.mem_filter.mpr ⟨StableHlo.devRef_mem_tcRefs main_arg3, by decide⟩)).trans (V9_main_arg3 m (outs m) c)
  · exact (h.1 c _ (Finset.mem_filter.mpr ⟨StableHlo.devRef_mem_tcRefs main_arg4, by decide⟩)).trans (V9_main_arg4 m (outs m) c)
  · exact h.1 c (Proc.devRef .tc main_v32) (Finset.mem_filter.mpr ⟨StableHlo.devRef_mem_tcRefs main_v32, by decide⟩)

theorem frame_ideal : Cert.quiescent_KernelIdeal := fun m g _ =>
  (θ_run _ _ _).mono (fun _ h => ⟨fun c => (h.1 c).1, h.2⟩) (run_kernel (F := Ideal) m g)
end

theorem frame_kernel : Cert.quiescent_Kernel := by
  intro m g _
  rw [main_eq, defs_eq]
  letI : Named Bits := namedBits
  exact (θ_run _ _ _).mono (fun _ h => ⟨fun c => (h.1 c).1, h.2⟩) (run_kernel (F := Bits) m g)

section
open Cert.ReferenceIdeal Cert.ReferenceIdeal.Gen Cert.ReferenceIdeal.Hand

/-- The reference's run, read at its five arguments and its result. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.mem ((c.tc : Thread nD τ).loc main_v44) = StableHlo.after ops (StableHlo.launchContents m c) (Proc.devRef .tc main_v44))
      ∧ r.2.sem = fun _ => 0) :=
  (θ_run _ _ _).mono (fun r h => ⟨fun c =>
    ⟨⟨(h.1 c main_arg0).trans (run_args m c (by decide)), (h.1 c main_arg1).trans (run_args m c (by decide)),
      (h.1 c main_arg2).trans (run_args m c (by decide)), (h.1 c main_arg3).trans (run_args m c (by decide)),
      (h.1 c main_arg4).trans (run_args m c (by decide))⟩, h.1 c main_v44⟩, h.2⟩) (run_all m ρ)

theorem frame_ref : Cert.quiescent_ReferenceIdeal := fun m g _ =>
  (θ_run _ _ _).mono (fun _ h => ⟨fun c => (h.1 c).1, h.2⟩) (run_reference m g)
end

/-- The two constants that stand for minus infinity are named as such. -/
theorem preserves : Cert.preserves_Kernel_KernelIdeal :=
  ⟨IdealRules.named_const.statement Cert.KernelIdeal.κ "start" .f32 0xF149F2CA#32 ⊥ rfl,
   IdealRules.named_const.statement Cert.KernelIdeal.κ "mask" .f32 0xCE6E6B28#32 ⊥ rfl⟩

end Cert.Proof

end
-- ==== Proof.Pre.lean ====
/-
  The precondition: its side conditions, the frames under it, and what it says of the arrays — every element of the
  input, of the query weights and of the keys is a real number.
-/
module

public import proofs.«01_k».proof.Proof.Frames
public import Idealize.ShloMosaic.Lib.ReduceAll

@[expose] public section

noncomputable section

namespace Cert.Proof

open Idealize.ShloMosaic Idealize.ShloMosaic.TcCoe Idealize.SL.Sem

/-- The side conditions of the precondition, read of a device's blocks. -/
instance preKernelFacts : Cert.Pre_finite_KernelIdeal.Facts := by
  constructor <;> decide

/-- The side conditions of the precondition, read of the whole arrays. -/
instance preRefFacts : Cert.Pre_finite_ReferenceIdeal.Facts := by
  constructor <;> decide

/-- The kernel's frame, under the precondition. -/
theorem frame_ideal_pre : Cert.quiescent_KernelIdeal_pre_finite_KernelIdeal := fun m g _ =>
  (θ_run _ _ _).mono (fun _ h => ⟨fun c => (h.1 c).1, h.2⟩) (run_kernel (F := Ideal) m g)

/-- The reference's frame, under the precondition. -/
theorem frame_ref_pre : Cert.quiescent_ReferenceIdeal_pre_finite_ReferenceIdeal := fun m g _ =>
  (θ_run _ _ _).mono (fun _ h => ⟨fun c => (h.1 c).1, h.2⟩) (run_reference m g)

/-- An absolute value below +∞ is a real number's. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = r := by
  have e : FloatOps.ofBits (F := Ideal) .f32 0x7F800000#32 = (⊤ : EReal) := by
    show Ideal.ofBits .f32 0x7F800000#32 = ⊤
    simp [Ideal.ofBits, Ideal.ieee, -EReal.coe_mul]
  rw [e] at h
  have h' : max x (-x) < ⊤ := by
    by_contra hn
    have : FloatOps.cmpf (F := Ideal) (φ := .f32) .olt (FloatOps.hostAbsf (F := Ideal) (φ := .f32) x) (⊤ : EReal) = 0#1 := by
      show Ideal.cmp .olt (max x (-x)) ⊤ = 0#1
      simp [Ideal.cmp, hn]
    rw [this] at h
    exact absurd h (by decide)
  induction x with
  | bot => simp at h'
  | coe r => exact ⟨r, rfl⟩
  | top => simp at h'

instance : Subsingleton (Cert.Pre_finite_KernelIdeal.S_).Idx := ⟨fun a b => funext fun i => i.elim0⟩

/-- The precondition makes the input, the query weights and the keys real. -/
theorem pre_real (a0 : FVec Ideal Cert.Pre_finite_KernelIdeal.S1x1024x1024 .f32) (a1 : FVec Ideal Cert.Pre_finite_KernelIdeal.S1024x1024 .f32)
    (a2 a3 : FVec Ideal Cert.Pre_finite_KernelIdeal.S1x1024x64x128 .f32) (a4 : FVec Ideal Cert.Pre_finite_KernelIdeal.S1024x1024 .f32)
    (h : Cert.Pre_finite_KernelIdeal.fn (F := Ideal) a0 a1 a2 a3 a4 = fun _ => 1#1) :
    (∀ i, ∃ r : ℝ, (a0 i : EReal) = r) ∧ (∀ i, ∃ r : ℝ, (a1 i : EReal) = r) ∧ (∀ i, ∃ r : ℝ, (a2 i : EReal) = r) := by
  have h0 := congrFun h (fun i => i.elim0)
  obtain ⟨h01, h2⟩ := IntOp.andi_eq_one.1 (show IntOp.andi _ _ = 1#1 from h0)
  obtain ⟨h0, h1⟩ := IntOp.andi_eq_one.1 (show IntOp.andi _ _ = 1#1 from h01)
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Proof
-- ==== Proof.Value.lean ====
/-
  The value: on real arrays, the result on every device is the reference's result, element by element.
-/
module

public import proofs.«01_k».proof.Proof.ChainVal
public import proofs.«01_k».proof.Proof.RefVal
public import proofs.«01_k».proof.Proof.Join
public import proofs.«01_k».proof.Proof.Pre

@[expose] public section

noncomputable section

namespace Cert.Value

open Idealize.ShloMosaic Idealize.ShloMosaic.TcCoe Idealize.SL.Sem
open Cert.KernelIdeal.Hand (hst outFn projO cont Vp Vend cont_O)

/-- The scale is a real number. -/
theorem scale_real : ∃ r : ℝ, Ideal.ofBits .f32 0x3DB504F3#32 = (r : EReal) := by
  unfold Ideal.ofBits Ideal.ieee
  simp [-EReal.coe_mul]

variable (m : (ℓ : Loc Cert.KernelIdeal.nD Cert.KernelIdeal.τ Cert.KernelIdeal.sig) → Buf (Elt Ideal) ℓ)
variable (R : Valuation Cert.ReferenceIdeal.τ Cert.ReferenceIdeal.sig (Elt Ideal))

/-- A device holds the input and its blocks of the reference's other arrays, and the first three are real. -/
structure Holds (p : Fin 8) : Prop where
  x (i e : Fin 1024) : (show EReal from Cert.KernelIdeal.Gen.V0 m p Cert.KernelIdeal.main_arg0 (ix3 0 i e)) = (show EReal from R Cert.ReferenceIdeal.main_arg0 (ix3 0 i e))
  w (e r : Fin 1024) : (show EReal from Cert.KernelIdeal.Gen.V0 m p Cert.KernelIdeal.main_arg1 (ix2 e r)) = (show EReal from R Cert.ReferenceIdeal.main_arg1 (ix2 e (cat p r)))
  k (j : Fin 1024) (g : Fin 64) (d : Fin 128) : (show EReal from Cert.KernelIdeal.Gen.V0 m p Cert.KernelIdeal.main_arg2 (ix4 0 j g d)) = (show EReal from R Cert.ReferenceIdeal.main_arg2 (ix4 0 (cat p j) g d))
  v (j : Fin 1024) (g : Fin 64) (d : Fin 128) : (show EReal from Cert.KernelIdeal.Gen.V0 m p Cert.KernelIdeal.main_arg3 (ix4 0 j g d)) = (show EReal from R Cert.ReferenceIdeal.main_arg3 (ix4 0 (cat p j) g d))
  o (r o : Fin 1024) : (show EReal from Cert.KernelIdeal.Gen.V0 m p Cert.KernelIdeal.main_arg4 (ix2 r o)) = (show EReal from R Cert.ReferenceIdeal.main_arg4 (ix2 (cat p r) o))
  xr (i e : Fin 1024) : ∃ a : ℝ, (show EReal from R Cert.ReferenceIdeal.main_arg0 (ix3 0 i e)) = a
  wr (e r : Fin 1024) : ∃ a : ℝ, (show EReal from R Cert.ReferenceIdeal.main_arg1 (ix2 e (cat p r))) = a
  kr (j : Fin 1024) (g : Fin 64) (d : Fin 128) : ∃ a : ℝ, (show EReal from R Cert.ReferenceIdeal.main_arg2 (ix4 0 (cat p j) g d)) = a

/-- Equal terms have equal sums. -/
theorem sum_congr' {ι : Type*} [Fintype ι] {f g : ι → EReal} (h : ∀ e, f e = g e) : ∑ e, f e = ∑ e, g e := Finset.sum_congr rfl fun e _ => h e

/-- The block of device `p` for device `c` is as many places on from `p` as `c` is. -/
theorem add_grp : ∀ c p : Fin 8, p + grp c p = c := by decide +kernel

/-- The keys and the values of the launch. -/
abbrev Ks : Dev Cert.KernelIdeal.nD → Cert.KernelIdeal.Hand.KVc Ideal := fun c => Vp m c Cert.KernelIdeal.main_v21
abbrev Vs : Dev Cert.KernelIdeal.nD → Cert.KernelIdeal.Hand.KVc Ideal := fun c => Vp m c Cert.KernelIdeal.main_v30

variable {m R}

/-- The keys that device `c` gets from device `p`, in the reference's array. -/
theorem key_eq (H : ∀ p, Holds m R p) (c p h : Fin 8) (j : Fin 1024) (d : Fin 128) :
    (show EReal from Ks m p (ix4 (grp c p) h j d)) = (show EReal from R Cert.ReferenceIdeal.main_arg2 (ix4 0 (cat p j) (head c h) d)) := by
  refine (keys_at m p (grp c p) h j d).trans ?_
  rw [add_grp]
  exact (H p).k j (head c h) d

/-- The values that device `c` gets from device `p`, in the reference's array. -/
theorem val_eq (H : ∀ p, Holds m R p) (c p h : Fin 8) (j : Fin 1024) (d : Fin 128) :
    (show EReal from Vs m p (ix4 (grp c p) h j d)) = (show EReal from R Cert.ReferenceIdeal.main_arg3 (ix4 0 (cat p j) (head c h) d)) := by
  refine (vals_at m p (grp c p) h j d).trans ?_
  rw [add_grp]
  exact (H p).v j (head c h) d

/-- The queries of device `c`, in the reference's arrays. -/
theorem q_eq (H : ∀ p, Holds m R p) (c h : Fin 8) (i : Fin 1024) (d : Fin 128) :
    (show EReal from Vp m c Cert.KernelIdeal.main_v11 (ix3 h i d))
      = ∑ e : Fin 1024, (show EReal from R Cert.ReferenceIdeal.main_arg0 (ix3 0 i e)) * ((show EReal from R Cert.ReferenceIdeal.main_arg1 (ix2 e (cat c (row h d)))) * Ideal.ofBits .f32 0x3DB504F3#32) := by
  refine (query_at m c h i d).trans (sum_congr' fun e => ?_)
  exact congrArg₂ (· * ·) ((H c).x i e) (congrArg (· * Ideal.ofBits .f32 0x3DB504F3#32) ((H c).w e (row h d)))

/-- The reference's queries at a head of device `c`. -/
theorem refQ_eq (c h : Fin 8) (i : Fin 1024) (d : Fin 128) :
    refQ R i (head c h) d = ∑ e : Fin 1024, (show EReal from R Cert.ReferenceIdeal.main_arg0 (ix3 0 i e)) * (show EReal from R Cert.ReferenceIdeal.main_arg1 (ix2 e (cat c (row h d)))) := by
  have e : (⟨(head c h).val * 128 + d.val, by omega⟩ : Fin 8192) = cat c (row h d) := by
    refine Fin.ext ?_
    show (c.val * 8 + h.val) * 128 + d.val = 1024 * c.val + (h.val * 128 + d.val)
    omega
  unfold refQ
  rw [e]

/-- The kernel's score is the reference's; it is not +∞, and it is real where the key counts. -/
theorem score_all (H : ∀ p, Holds m R p) (c h : Fin 8) (i : Fin 1024) (p : Fin 8) (j : Fin 1024) :
    scoreK (Ks m) (Vp m c Cert.KernelIdeal.main_v11) c h i p j = refS R (head c h) i (cat p j)
      ∧ refS R (head c h) i (cat p j) ≠ ⊤ ∧ (keep i.val (cat p j).val → refS R (head c h) i (cat p j) ≠ ⊥) := by
  obtain ⟨e, r, hr⟩ := score_scale (fun e => (show EReal from R Cert.ReferenceIdeal.main_arg0 (ix3 0 i e)))
    (fun d e => (show EReal from R Cert.ReferenceIdeal.main_arg1 (ix2 e (cat c (row h d)))))
    (fun d => (show EReal from R Cert.ReferenceIdeal.main_arg2 (ix4 0 (cat p j) (head c h) d))) (Ideal.ofBits .f32 0x3DB504F3#32)
    (fun e => (H c).xr i e) (fun d e => (H c).wr e (row h d)) (fun d => (H p).kr j (head c h) d) scale_real
  have a : (∑ d : Fin 128, ((show EReal from Vp m c Cert.KernelIdeal.main_v11 (ix3 h i d)) : EReal) * (show EReal from Ks m p (ix4 (grp c p) h j d))) = r := by
    rw [← hr, ← e]
    exact Finset.sum_congr rfl fun d _ => congrArg₂ (· * ·) (q_eq H c h i d) (key_eq H c p h j d)
  have b : (∑ d : Fin 128, refQ R i (head c h) d * (show EReal from R Cert.ReferenceIdeal.main_arg2 (ix4 0 (cat p j) (head c h) d))) * Ideal.ofBits .f32 0x3DB504F3#32 = (r : EReal) := by
    rw [← hr]
    exact congrArg (· * _) (Finset.sum_congr rfl fun d _ => congrArg (· * _) (refQ_eq c h i d))
  have ek : scoreK (Ks m) (Vp m c Cert.KernelIdeal.main_v11) c h i p j = (r : EReal) + if keep i.val (cat p j).val then (0 : EReal) else ⊥ :=
    congrArg (· + _) a
  have er : refS R (head c h) i (cat p j) = if keep i.val (cat p j).val then (r : EReal) else ⊥ := by
    unfold refS
    rw [b]
  rw [ek, er]
  by_cases hk : keep i.val (cat p j).val
  · simp [hk]
  · simp [hk]

/-- A head's result at a query and a column is the reference's. -/
theorem ctx_eq (H : ∀ p, Holds m R p) (c h : Fin 8) (i : Fin 1024) (d : Fin 128) :
    Ideal.div ((hst (Ks m) (Vs m) (Vp m c Cert.KernelIdeal.main_v11) c h 8).a (ix3 0 i d)) ((hst (Ks m) (Vs m) (Vp m c Cert.KernelIdeal.main_v11) c h 8).l (ix2 i 0))
      = ∑ n : Fin 8192, (show EReal from R Cert.ReferenceIdeal.main_arg3 (ix4 0 n (head c h) d)) * refP R (head c h) i n := by
  have es : scoreK (Ks m) (Vp m c Cert.KernelIdeal.main_v11) c h i = fun p j => refS R (head c h) i (cat p j) :=
    funext fun p => funext fun j => (score_all H c h i p j).1
  have h1 : ∀ p j, scoreK (Ks m) (Vp m c Cert.KernelIdeal.main_v11) c h i p j ≠ ⊤ := by
    intro p j
    rw [(score_all H c h i p j).1]; exact (score_all H c h i p j).2.1
  have h2 : ∀ p, ∃ j, scoreK (Ks m) (Vp m c Cert.KernelIdeal.main_v11) c h i p j ≠ ⊥ := by
    intro p
    obtain ⟨j, hj⟩ := keep_some i p
    refine ⟨j, ?_⟩
    rw [(score_all H c h i p j).1]; exact (score_all H c h i p j).2.2 hj
  rw [hst_ctx (Ks m) (Vs m) (Vp m c Cert.KernelIdeal.main_v11) c h i d h1 h2]
  unfold ctxK
  rw [es]
  refine Eq.trans (Finset.sum_congr rfl fun x _ => congrArg (Ideal.div _ _ * ·) (val_eq H c x.1 h x.2 d)) ?_
  exact softmax_cat (refS R (head c h) i) (fun n => (show EReal from R Cert.ReferenceIdeal.main_arg3 (ix4 0 n (head c h) d)))

/-- The result on a device, element by element, is the reference's. -/
theorem value_at (H : ∀ p, Holds m R p) (c : Fin 8) (i o : Fin 1024) :
    (show EReal from Vend m c Cert.KernelIdeal.main_v32 (ix3 0 i o))
      = (show EReal from StableHlo.after (Cert.ReferenceIdeal.Hand.ops (F := Ideal)) R Cert.ReferenceIdeal.main_v44 (ix3 0 i o)) := by
  refine (result_at m c i o).trans ?_
  refine (out_at (cont m).O c i o).trans ?_
  refine Eq.trans ?_ (ref_result R i o).symm
  refine Eq.trans ?_ (sum_cols fun g d e => (∑ n : Fin 8192, (show EReal from R Cert.ReferenceIdeal.main_arg3 (ix4 0 n g d)) * refP R g i n) * (show EReal from R Cert.ReferenceIdeal.main_arg4 (ix2 e o)))
  refine Finset.sum_congr rfl fun p _ => ?_
  rw [cont_O]
  refine (proj_all _ _ i o).trans ?_
  refine Finset.sum_congr rfl fun h _ => Finset.sum_congr rfl fun d _ => ?_
  refine congrArg₂ (· * ·) (ctx_eq H p h i d) ?_
  rw [wo_val]
  exact (H p).o (row h d) o

end Cert.Value
-- ==== Proof.Algebraic.lean ====
/-
  The claim of the value: with the reference's arrays cut over the devices as the launch cuts them, every device's
  result is the reference's.
-/
module

public import proofs.«01_k».proof.Proof.Value

@[expose] public section

noncomputable section

namespace Cert.Proof

open Idealize.ShloMosaic Idealize.ShloMosaic.TcCoe Idealize.SL.Sem
open Cert.Value

/-- Every index of the result is a query and an output column. -/
theorem ix3_all (j : (⟨3, ![1, 1024, 1024]⟩ : Shape).Idx) : ∃ i o : Fin 1024, j = ix3 0 i o := by
  refine ⟨j 1, j 2, funext fun a => ?_⟩
  match a with
  | ⟨0, _⟩ => exact Fin.ext (Nat.lt_one_iff.mp (j 0).isLt)
  | ⟨1, _⟩ => rfl
  | ⟨2, _⟩ => rfl

/-- A device's columns of the query weights. -/
theorem block_w (p : Fin 8) (e r : Fin 1024) (h : Layout.Tiles ⟨2, ![1024, 1024]⟩ ⟨2, ![1024, 8192]⟩ 1 8) :
    h.idx p (ix2 e r) = ix2 e (cat p r) := by
  refine funext fun b => Fin.ext ?_
  rw [Layout.Tiles.idx_val]
  match b with
  | ⟨0, _⟩ => rfl
  | ⟨1, _⟩ => exact congrArg (· + r.val) (Nat.mul_comm p.val 1024)

/-- A device's keys. -/
theorem block_k (p : Fin 8) (j : Fin 1024) (g : Fin 64) (d : Fin 128) (h : Layout.Tiles ⟨4, ![1, 1024, 64, 128]⟩ ⟨4, ![1, 8192, 64, 128]⟩ 1 8) :
    h.idx p (ix4 0 j g d) = ix4 0 (cat p j) g d := by
  refine funext fun b => Fin.ext ?_
  rw [Layout.Tiles.idx_val]
  match b with
  | ⟨0, _⟩ => rfl
  | ⟨1, _⟩ => exact congrArg (· + j.val) (Nat.mul_comm p.val 1024)
  | ⟨2, _⟩ => rfl
  | ⟨3, _⟩ => rfl

/-- A device's rows of the output weights. -/
theorem block_o (p : Fin 8) (r o : Fin 1024) (h : Layout.Tiles ⟨2, ![1024, 1024]⟩ ⟨2, ![8192, 1024]⟩ 0 8) :
    h.idx p (ix2 r o) = ix2 (cat p r) o := by
  refine funext fun b => Fin.ext ?_
  rw [Layout.Tiles.idx_val]
  match b with
  | ⟨0, _⟩ => exact congrArg (· + r.val) (Nat.mul_comm p.val 1024)
  | ⟨1, _⟩ => rfl

/-- Over the extended reals, from arrays whose input, query weights and keys are finite, every device's result is the reference's. -/
theorem algebraic : Cert.algebraic_KernelIdeal_ReferenceIdeal_pre_finite_KernelIdeal := by
  intro m g m' g' hpre hin
  have H : ∀ p, Holds m (StableHlo.launchContents m' 0) p := by
    intro p
    obtain ⟨r0, r1, r2⟩ := pre_real _ _ _ _ _ (hpre p)
    obtain ⟨e0, e1, e2, e3, e4⟩ := hin p
    have x (i e : Fin 1024) := congrFun e0 (ix3 0 i e)
    have w (e r : Fin 1024) := (congrFun e1 (ix2 e r)).trans (congrArg (m' _) (block_w p e r _))
    have k (j : Fin 1024) (g : Fin 64) (d : Fin 128) := (congrFun e2 (ix4 0 j g d)).trans (congrArg (m' _) (block_k p j g d _))
    have v (j : Fin 1024) (g : Fin 64) (d : Fin 128) := (congrFun e3 (ix4 0 j g d)).trans (congrArg (m' _) (block_k p j g d _))
    have o (r o : Fin 1024) := (congrFun e4 (ix2 r o)).trans (congrArg (m' _) (block_o p r o _))
    refine ⟨x, w, k, v, o, fun i e => ?_, fun e r => ?_, fun j g d => ?_⟩
    · obtain ⟨a, ha⟩ := r0 (ix3 0 i e)
      exact ⟨a, (x i e).symm.trans ha⟩
    · obtain ⟨a, ha⟩ := r1 (ix2 e r)
      exact ⟨a, (w e r).symm.trans ha⟩
    · obtain ⟨a, ha⟩ := r2 (ix4 0 j g d)
      exact ⟨a, (k j g d).symm.trans ha⟩
  have hv : ∀ c : Fin 8, Cert.KernelIdeal.Hand.Vend m c Cert.KernelIdeal.main_v32
      = StableHlo.after (Cert.ReferenceIdeal.Hand.ops (F := Ideal)) (StableHlo.launchContents m' 0) Cert.ReferenceIdeal.main_v44 := by
    intro c
    funext j
    obtain ⟨i, o, rfl⟩ := ix3_all j
    exact value_at H c i o
  refine ⟨StableHlo.after (Cert.ReferenceIdeal.Hand.ops (F := Ideal)) (StableHlo.launchContents m' 0) (Proc.devRef .tc Cert.ReferenceIdeal.main_v44), ?_, ?_⟩
  · exact (θ_run _ _ _).mono (fun r h c => ⟨(h.1 c).2.trans (hv c), (h.1 c).1⟩) (run_kernel (F := Ideal) m g)
  · exact (θ_run _ _ _).mono (fun r h => ⟨(h.1 0).2, (h.1 0).1⟩) (run_reference m' g')

end Cert.Proof
-- ==== Proof.lean ====
/-
  The claims, put together.
-/
module

public import proofs.«01_k».proof.Defs
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, preKernelFacts, preRefFacts,
    frame_kernel, frame_ideal, frame_ideal_pre, frame_ref, frame_ref_pre, preserves, algebraic⟩

end Cert.Proof

end
